-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_cst_2)) (v3 : (c : Dev Cert.KernelIdeal.nD) → Buf (Elt Ideal) ((c.tc : Thread Cert.KernelIdeal.nD Cert.KernelIdeal.τ).loc Cert.KernelIdeal.main_cst_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_cst_2) = v2 c
          ∧ r.2.mem ((c.tc : Thread Cert.KernelIdeal.nD Cert.KernelIdeal.τ).loc Cert.KernelIdeal.main_cst_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v441) = v0 c
          ∧ r.2.mem ((c.tc : Thread Cert.ReferenceIdeal.nD Cert.ReferenceIdeal.τ).loc Cert.ReferenceIdeal.main_v447) = v1 c
          ∧ r.2.mem ((c.tc : Thread Cert.ReferenceIdeal.nD Cert.ReferenceIdeal.τ).loc Cert.ReferenceIdeal.main_cst) = v2 c
          ∧ r.2.mem ((c.tc : Thread Cert.ReferenceIdeal.nD Cert.ReferenceIdeal.τ).loc Cert.ReferenceIdeal.main_cst_1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8x16 : Shape := ⟨2, ![8, 16]⟩
abbrev S8x16x4 : Shape := ⟨3, ![8, 16, 4]⟩
abbrev S8x4x17x5456 : Shape := ⟨4, ![8, 4, 17, 5456]⟩
abbrev S5456x2 : Shape := ⟨2, ![5456, 2]⟩
abbrev S8x16x2 : Shape := ⟨3, ![8, 16, 2]⟩
abbrev S_ : Shape := ⟨0, ![]⟩
abbrev S8x16x1x2 : Shape := ⟨4, ![8, 16, 1, 2]⟩
abbrev S1x1x5456x2 : Shape := ⟨4, ![1, 1, 5456, 2]⟩
abbrev S8x16x5456x2 : Shape := ⟨4, ![8, 16, 5456, 2]⟩
abbrev S8x16x5456 : Shape := ⟨3, ![8, 16, 5456]⟩
abbrev S8x16x46 : Shape := ⟨3, ![8, 16, 46]⟩
abbrev S8x16x1 : Shape := ⟨3, ![8, 16, 1]⟩

class Facts : Prop where
  slices_S8x16x4_S8x16x2_0_0_0 : S8x16x4.Slices ![0, 0, 0] S8x16x2
  slices_S8x16x4_S8x16x2_0_0_2 : S8x16x4.Slices ![0, 0, 2] S8x16x2
  bcast_S_S8x16x2 : S_.BroadcastsInDim S8x16x2 (![] : Fin 0 → Fin S8x16x2.rank)
  bcast_S8x16x2_S8x16x1x2_0_1_3 : S8x16x2.BroadcastsInDim S8x16x1x2 (![0, 1, 3] : Fin 3 → Fin S8x16x1x2.rank)
  bcast_S5456x2_S1x1x5456x2_2_3 : S5456x2.BroadcastsInDim S1x1x5456x2 (![2, 3] : Fin 2 → Fin S1x1x5456x2.rank)
  bcast_S8x16x1x2_S8x16x5456x2_0_1_2_3 : S8x16x1x2.BroadcastsInDim S8x16x5456x2 (![0, 1, 2, 3] : Fin 4 → Fin S8x16x5456x2.rank)
  bcast_S1x1x5456x2_S8x16x5456x2_0_1_2_3 : S1x1x5456x2.BroadcastsInDim S8x16x5456x2 (![0, 1, 2, 3] : Fin 4 → Fin S8x16x5456x2.rank)
  reducesTo_S8x16x5456x2_S8x16x5456_d3 : S8x16x5456x2.ReducesTo [3] S8x16x5456
  h_S_ : 0 < S_.numel
  sliceFits_S8x16x5456_S8x16x46 : S8x16x5456.Slices (fun _ => 0) S8x16x46
  slices_S8x16x46_S8x16x1_0_0_44 : S8x16x46.Slices ![0, 0, 44] S8x16x1
  shapeCasts_S8x16x1_S8x16 : S8x16x1.ShapeCasts S8x16
  slices_S8x16x46_S8x16x1_0_0_45 : S8x16x46.Slices ![0, 0, 45] S8x16x1
  bcast_S_S8x4x17x5456 : S_.BroadcastsInDim S8x4x17x5456 (![] : Fin 0 → Fin S8x4x17x5456.rank)
  reducesTo_S8x4x17x5456_S_d0_1_2_3 : S8x4x17x5456.ReducesTo [0, 1, 2, 3] S_
  bcast_S_S8x16 : S_.BroadcastsInDim S8x16 (![] : Fin 0 → Fin S8x16.rank)
  reducesTo_S8x16_S_d0_1 : S8x16.ReducesTo [0, 1] S_

variable [Facts]

noncomputable abbrev lit0t0_0 (i : Nat) : BitVec 32 := match i % 128 with
  | 0 => 0x40800000#32
  | 1 => 0x40800000#32
  | 2 => 0x40800000#32
  | 3 => 0x41400000#32
  | 4 => 0x40800000#32
  | 5 => 0x41A00000#32
  | 6 => 0x40800000#32
  | 7 => 0x41E00000#32
  | 8 => 0x40800000#32
  | 9 => 0x42100000#32
  | 10 => 0x40800000#32
  | 11 => 0x42300000#32
  | 12 => 0x40800000#32
  | 13 => 0x42500000#32
  | 14 => 0x40800000#32
  | 15 => 0x42700000#32
  | 16 => 0x40800000#32
  | 17 => 0x42880000#32
  | 18 => 0x40800000#32
  | 19 => 0x42980000#32
  | 20 => 0x40800000#32
  | 21 => 0x42A80000#32
  | 22 => 0x40800000#32
  | 23 => 0x42B80000#32
  | 24 => 0x40800000#32
  | 25 => 0x42C80000#32
  | 26 => 0x40800000#32
  | 27 => 0x42D80000#32
  | 28 => 0x40800000#32
  | 29 => 0x42E80000#32
  | 30 => 0x40800000#32
  | 31 => 0x42F80000#32
  | 32 => 0x40800000#32
  | 33 => 0x43040000#32
  | 34 => 0x40800000#32
  | 35 => 0x430C0000#32
  | 36 => 0x40800000#32
  | 37 => 0x43140000#32
  | 38 => 0x40800000#32
  | 39 => 0x431C0000#32
  | 40 => 0x40800000#32
  | 41 => 0x43240000#32
  | 42 => 0x40800000#32
  | 43 => 0x432C0000#32
  | 44 => 0x40800000#32
  | 45 => 0x43340000#32
  | 46 => 0x40800000#32
  | 47 => 0x433C0000#32
  | 48 => 0x40800000#32
  | 49 => 0x43440000#32
  | 50 => 0x40800000#32
  | 51 => 0x434C0000#32
  | 52 => 0x40800000#32
  | 53 => 0x43540000#32
  | 54 => 0x40800000#32
  | 55 => 0x435C0000#32
  | 56 => 0x40800000#32
  | 57 => 0x43640000#32
  | 58 => 0x40800000#32
  | 59 => 0x436C0000#32
  | 60 => 0x40800000#32
  | 61 => 0x43740000#32
  | 62 => 0x40800000#32
  | 63 => 0x437C0000#32
  | 64 => 0x40800000#32
  | 65 => 0x43820000#32
  | 66 => 0x40800000#32
  | 67 => 0x43860000#32
  | 68 => 0x40800000#32
  | 69 => 0x438A0000#32
  | 70 => 0x40800000#32
  | 71 => 0x438E0000#32
  | 72 => 0x40800000#32
  | 73 => 0x43920000#32
  | 74 => 0x40800000#32
  | 75 => 0x43960000#32
  | 76 => 0x40800000#32
  | 77 => 0x439A0000#32
  | 78 => 0x40800000#32
  | 79 => 0x439E0000#32
  | 80 => 0x40800000#32
  | 81 => 0x43A20000#32
  | 82 => 0x40800000#32
  | 83 => 0x43A60000#32
  | 84 => 0x40800000#32
  | 85 => 0x43AA0000#32
  | 86 => 0x40800000#32
  | 87 => 0x43AE0000#32
  | 88 => 0x40800000#32
  | 89 => 0x43B20000#32
  | 90 => 0x40800000#32
  | 91 => 0x43B60000#32
  | 92 => 0x40800000#32
  | 93 => 0x43BA0000#32
  | 94 => 0x40800000#32
  | 95 => 0x43BE0000#32
  | 96 => 0x40800000#32
  | 97 => 0x43C20000#32
  | 98 => 0x40800000#32
  | 99 => 0x43C60000#32
  | 100 => 0x40800000#32
  | 101 => 0x43CA0000#32
  | 102 => 0x40800000#32
  | 103 => 0x43CE0000#32
  | 104 => 0x40800000#32
  | 105 => 0x43D20000#32
  | 106 => 0x40800000#32
  | 107 => 0x43D60000#32
  | 108 => 0x40800000#32
  | 109 => 0x43DA0000#32
  | 110 => 0x40800000#32
  | 111 => 0x43DE0000#32
  | 112 => 0x40800000#32
  | 113 => 0x43E20000#32
  | 114 => 0x40800000#32
  | 115 => 0x43E60000#32
  | 116 => 0x40800000#32
  | 117 => 0x43EA0000#32
  | 118 => 0x40800000#32
  | 119 => 0x43EE0000#32
  | 120 => 0x40800000#32
  | 121 => 0x43F20000#32
  | 122 => 0x40800000#32
  | 123 => 0x43F60000#32
  | 124 => 0x40800000#32
  | 125 => 0x43FA0000#32
  | 126 => 0x40800000#32
  | 127 => 0x43FE0000#32
  | _ => 0#32

noncomputable abbrev lit0t0_1 (i : Nat) : BitVec 32 := match i % 128 with
  | 0 => 0x41400000#32
  | 1 => 0x40800000#32
  | 2 => 0x41400000#32
  | 3 => 0x41400000#32
  | 4 => 0x41400000#32
  | 5 => 0x41A00000#32
  | 6 => 0x41400000#32
  | 7 => 0x41E00000#32
  | 8 => 0x41400000#32
  | 9 => 0x42100000#32
  | 10 => 0x41400000#32
  | 11 => 0x42300000#32
  | 12 => 0x41400000#32
  | 13 => 0x42500000#32
  | 14 => 0x41400000#32
  | 15 => 0x42700000#32
  | 16 => 0x41400000#32
  | 17 => 0x42880000#32
  | 18 => 0x41400000#32
  | 19 => 0x42980000#32
  | 20 => 0x41400000#32
  | 21 => 0x42A80000#32
  | 22 => 0x41400000#32
  | 23 => 0x42B80000#32
  | 24 => 0x41400000#32
  | 25 => 0x42C80000#32
  | 26 => 0x41400000#32
  | 27 => 0x42D80000#32
  | 28 => 0x41400000#32
  | 29 => 0x42E80000#32
  | 30 => 0x41400000#32
  | 31 => 0x42F80000#32
  | 32 => 0x41400000#32
  | 33 => 0x43040000#32
  | 34 => 0x41400000#32
  | 35 => 0x430C0000#32
  | 36 => 0x41400000#32
  | 37 => 0x43140000#32
  | 38 => 0x41400000#32
  | 39 => 0x431C0000#32
  | 40 => 0x41400000#32
  | 41 => 0x43240000#32
  | 42 => 0x41400000#32
  | 43 => 0x432C0000#32
  | 44 => 0x41400000#32
  | 45 => 0x43340000#32
  | 46 => 0x41400000#32
  | 47 => 0x433C0000#32
  | 48 => 0x41400000#32
  | 49 => 0x43440000#32
  | 50 => 0x41400000#32
  | 51 => 0x434C0000#32
  | 52 => 0x41400000#32
  | 53 => 0x43540000#32
  | 54 => 0x41400000#32
  | 55 => 0x435C0000#32
  | 56 => 0x41400000#32
  | 57 => 0x43640000#32
  | 58 => 0x41400000#32
  | 59 => 0x436C0000#32
  | 60 => 0x41400000#32
  | 61 => 0x43740000#32
  | 62 => 0x41400000#32
  | 63 => 0x437C0000#32
  | 64 => 0x41400000#32
  | 65 => 0x43820000#32
  | 66 => 0x41400000#32
  | 67 => 0x43860000#32
  | 68 => 0x41400000#32
  | 69 => 0x438A0000#32
  | 70 => 0x41400000#32
  | 71 => 0x438E0000#32
  | 72 => 0x41400000#32
  | 73 => 0x43920000#32
  | 74 => 0x41400000#32
  | 75 => 0x43960000#32
  | 76 => 0x41400000#32
  | 77 => 0x439A0000#32
  | 78 => 0x41400000#32
  | 79 => 0x439E0000#32
  | 80 => 0x41400000#32
  | 81 => 0x43A20000#32
  | 82 => 0x41400000#32
  | 83 => 0x43A60000#32
  | 84 => 0x41400000#32
  | 85 => 0x43AA0000#32
  | 86 => 0x41400000#32
  | 87 => 0x43AE0000#32
  | 88 => 0x41400000#32
  | 89 => 0x43B20000#32
  | 90 => 0x41400000#32
  | 91 => 0x43B60000#32
  | 92 => 0x41400000#32
  | 93 => 0x43BA0000#32
  | 94 => 0x41400000#32
  | 95 => 0x43BE0000#32
  | 96 => 0x41400000#32
  | 97 => 0x43C20000#32
  | 98 => 0x41400000#32
  | 99 => 0x43C60000#32
  | 100 => 0x41400000#32
  | 101 => 0x43CA0000#32
  | 102 => 0x41400000#32
  | 103 => 0x43CE0000#32
  | 104 => 0x41400000#32
  | 105 => 0x43D20000#32
  | 106 => 0x41400000#32
  | 107 => 0x43D60000#32
  | 108 => 0x41400000#32
  | 109 => 0x43DA0000#32
  | 110 => 0x41400000#32
  | 111 => 0x43DE0000#32
  | 112 => 0x41400000#32
  | 113 => 0x43E20000#32
  | 114 => 0x41400000#32
  | 115 => 0x43E60000#32
  | 116 => 0x41400000#32
  | 117 => 0x43EA0000#32
  | 118 => 0x41400000#32
  | 119 => 0x43EE0000#32
  | 120 => 0x41400000#32
  | 121 => 0x43F20000#32
  | 122 => 0x41400000#32
  | 123 => 0x43F60000#32
  | 124 => 0x41400000#32
  | 125 => 0x43FA0000#32
  | 126 => 0x41400000#32
  | 127 => 0x43FE0000#32
  | _ => 0#32

noncomputable abbrev lit0t0_2 (i : Nat) : BitVec 32 := match i % 128 with
  | 0 => 0x41A00000#32
  | 1 => 0x40800000#32
  | 2 => 0x41A00000#32
  | 3 => 0x41400000#32
  | 4 => 0x41A00000#32
  | 5 => 0x41A00000#32
  | 6 => 0x41A00000#32
  | 7 => 0x41E00000#32
  | 8 => 0x41A00000#32
  | 9 => 0x42100000#32
  | 10 => 0x41A00000#32
  | 11 => 0x42300000#32
  | 12 => 0x41A00000#32
  | 13 => 0x42500000#32
  | 14 => 0x41A00000#32
  | 15 => 0x42700000#32
  | 16 => 0x41A00000#32
  | 17 => 0x42880000#32
  | 18 => 0x41A00000#32
  | 19 => 0x42980000#32
  | 20 => 0x41A00000#32
  | 21 => 0x42A80000#32
  | 22 => 0x41A00000#32
  | 23 => 0x42B80000#32
  | 24 => 0x41A00000#32
  | 25 => 0x42C80000#32
  | 26 => 0x41A00000#32
  | 27 => 0x42D80000#32
  | 28 => 0x41A00000#32
  | 29 => 0x42E80000#32
  | 30 => 0x41A00000#32
  | 31 => 0x42F80000#32
  | 32 => 0x41A00000#32
  | 33 => 0x43040000#32
  | 34 => 0x41A00000#32
  | 35 => 0x430C0000#32
  | 36 => 0x41A00000#32
  | 37 => 0x43140000#32
  | 38 => 0x41A00000#32
  | 39 => 0x431C0000#32
  | 40 => 0x41A00000#32
  | 41 => 0x43240000#32
  | 42 => 0x41A00000#32
  | 43 => 0x432C0000#32
  | 44 => 0x41A00000#32
  | 45 => 0x43340000#32
  | 46 => 0x41A00000#32
  | 47 => 0x433C0000#32
  | 48 => 0x41A00000#32
  | 49 => 0x43440000#32
  | 50 => 0x41A00000#32
  | 51 => 0x434C0000#32
  | 52 => 0x41A00000#32
  | 53 => 0x43540000#32
  | 54 => 0x41A00000#32
  | 55 => 0x435C0000#32
  | 56 => 0x41A00000#32
  | 57 => 0x43640000#32
  | 58 => 0x41A00000#32
  | 59 => 0x436C0000#32
  | 60 => 0x41A00000#32
  | 61 => 0x43740000#32
  | 62 => 0x41A00000#32
  | 63 => 0x437C0000#32
  | 64 => 0x41A00000#32
  | 65 => 0x43820000#32
  | 66 => 0x41A00000#32
  | 67 => 0x43860000#32
  | 68 => 0x41A00000#32
  | 69 => 0x438A0000#32
  | 70 => 0x41A00000#32
  | 71 => 0x438E0000#32
  | 72 => 0x41A00000#32
  | 73 => 0x43920000#32
  | 74 => 0x41A00000#32
  | 75 => 0x43960000#32
  | 76 => 0x41A00000#32
  | 77 => 0x439A0000#32
  | 78 => 0x41A00000#32
  | 79 => 0x439E0000#32
  | 80 => 0x41A00000#32
  | 81 => 0x43A20000#32
  | 82 => 0x41A00000#32
  | 83 => 0x43A60000#32
  | 84 => 0x41A00000#32
  | 85 => 0x43AA0000#32
  | 86 => 0x41A00000#32
  | 87 => 0x43AE0000#32
  | 88 => 0x41A00000#32
  | 89 => 0x43B20000#32
  | 90 => 0x41A00000#32
  | 91 => 0x43B60000#32
  | 92 => 0x41A00000#32
  | 93 => 0x43BA0000#32
  | 94 => 0x41A00000#32
  | 95 => 0x43BE0000#32
  | 96 => 0x41A00000#32
  | 97 => 0x43C20000#32
  | 98 => 0x41A00000#32
  | 99 => 0x43C60000#32
  | 100 => 0x41A00000#32
  | 101 => 0x43CA0000#32
  | 102 => 0x41A00000#32
  | 103 => 0x43CE0000#32
  | 104 => 0x41A00000#32
  | 105 => 0x43D20000#32
  | 106 => 0x41A00000#32
  | 107 => 0x43D60000#32
  | 108 => 0x41A00000#32
  | 109 => 0x43DA0000#32
  | 110 => 0x41A00000#32
  | 111 => 0x43DE0000#32
  | 112 => 0x41A00000#32
  | 113 => 0x43E20000#32
  | 114 => 0x41A00000#32
  | 115 => 0x43E60000#32
  | 116 => 0x41A00000#32
  | 117 => 0x43EA0000#32
  | 118 => 0x41A00000#32
  | 119 => 0x43EE0000#32
  | 120 => 0x41A00000#32
  | 121 => 0x43F20000#32
  | 122 => 0x41A00000#32
  | 123 => 0x43F60000#32
  | 124 => 0x41A00000#32
  | 125 => 0x43FA0000#32
  | 126 => 0x41A00000#32
  | 127 => 0x43FE0000#32
  | _ => 0#32

noncomputable abbrev lit0t0_3 (i : Nat) : BitVec 32 := match i % 128 with
  | 0 => 0x41E00000#32
  | 1 => 0x40800000#32
  | 2 => 0x41E00000#32
  | 3 => 0x41400000#32
  | 4 => 0x41E00000#32
  | 5 => 0x41A00000#32
  | 6 => 0x41E00000#32
  | 7 => 0x41E00000#32
  | 8 => 0x41E00000#32
  | 9 => 0x42100000#32
  | 10 => 0x41E00000#32
  | 11 => 0x42300000#32
  | 12 => 0x41E00000#32
  | 13 => 0x42500000#32
  | 14 => 0x41E00000#32
  | 15 => 0x42700000#32
  | 16 => 0x41E00000#32
  | 17 => 0x42880000#32
  | 18 => 0x41E00000#32
  | 19 => 0x42980000#32
  | 20 => 0x41E00000#32
  | 21 => 0x42A80000#32
  | 22 => 0x41E00000#32
  | 23 => 0x42B80000#32
  | 24 => 0x41E00000#32
  | 25 => 0x42C80000#32
  | 26 => 0x41E00000#32
  | 27 => 0x42D80000#32
  | 28 => 0x41E00000#32
  | 29 => 0x42E80000#32
  | 30 => 0x41E00000#32
  | 31 => 0x42F80000#32
  | 32 => 0x41E00000#32
  | 33 => 0x43040000#32
  | 34 => 0x41E00000#32
  | 35 => 0x430C0000#32
  | 36 => 0x41E00000#32
  | 37 => 0x43140000#32
  | 38 => 0x41E00000#32
  | 39 => 0x431C0000#32
  | 40 => 0x41E00000#32
  | 41 => 0x43240000#32
  | 42 => 0x41E00000#32
  | 43 => 0x432C0000#32
  | 44 => 0x41E00000#32
  | 45 => 0x43340000#32
  | 46 => 0x41E00000#32
  | 47 => 0x433C0000#32
  | 48 => 0x41E00000#32
  | 49 => 0x43440000#32
  | 50 => 0x41E00000#32
  | 51 => 0x434C0000#32
  | 52 => 0x41E00000#32
  | 53 => 0x43540000#32
  | 54 => 0x41E00000#32
  | 55 => 0x435C0000#32
  | 56 => 0x41E00000#32
  | 57 => 0x43640000#32
  | 58 => 0x41E00000#32
  | 59 => 0x436C0000#32
  | 60 => 0x41E00000#32
  | 61 => 0x43740000#32
  | 62 => 0x41E00000#32
  | 63 => 0x437C0000#32
  | 64 => 0x41E00000#32
  | 65 => 0x43820000#32
  | 66 => 0x41E00000#32
  | 67 => 0x43860000#32
  | 68 => 0x41E00000#32
  | 69 => 0x438A0000#32
  | 70 => 0x41E00000#32
  | 71 => 0x438E0000#32
  | 72 => 0x41E00000#32
  | 73 => 0x43920000#32
  | 74 => 0x41E00000#32
  | 75 => 0x43960000#32
  | 76 => 0x41E00000#32
  | 77 => 0x439A0000#32
  | 78 => 0x41E00000#32
  | 79 => 0x439E0000#32
  | 80 => 0x41E00000#32
  | 81 => 0x43A20000#32
  | 82 => 0x41E00000#32
  | 83 => 0x43A60000#32
  | 84 => 0x41E00000#32
  | 85 => 0x43AA0000#32
  | 86 => 0x41E00000#32
  | 87 => 0x43AE0000#32
  | 88 => 0x41E00000#32
  | 89 => 0x43B20000#32
  | 90 => 0x41E00000#32
  | 91 => 0x43B60000#32
  | 92 => 0x41E00000#32
  | 93 => 0x43BA0000#32
  | 94 => 0x41E00000#32
  | 95 => 0x43BE0000#32
  | 96 => 0x41E00000#32
  | 97 => 0x43C20000#32
  | 98 => 0x41E00000#32
  | 99 => 0x43C60000#32
  | 100 => 0x41E00000#32
  | 101 => 0x43CA0000#32
  | 102 => 0x41E00000#32
  | 103 => 0x43CE0000#32
  | 104 => 0x41E00000#32
  | 105 => 0x43D20000#32
  | 106 => 0x41E00000#32
  | 107 => 0x43D60000#32
  | 108 => 0x41E00000#32
  | 109 => 0x43DA0000#32
  | 110 => 0x41E00000#32
  | 111 => 0x43DE0000#32
  | 112 => 0x41E00000#32
  | 113 => 0x43E20000#32
  | 114 => 0x41E00000#32
  | 115 => 0x43E60000#32
  | 116 => 0x41E00000#32
  | 117 => 0x43EA0000#32
  | 118 => 0x41E00000#32
  | 119 => 0x43EE0000#32
  | 120 => 0x41E00000#32
  | 121 => 0x43F20000#32
  | 122 => 0x41E00000#32
  | 123 => 0x43F60000#32
  | 124 => 0x41E00000#32
  | 125 => 0x43FA0000#32
  | 126 => 0x41E00000#32
  | 127 => 0x43FE0000#32
  | _ => 0#32

noncomputable abbrev lit0t0_4 (i : Nat) : BitVec 32 := match i % 128 with
  | 0 => 0x42100000#32
  | 1 => 0x40800000#32
  | 2 => 0x42100000#32
  | 3 => 0x41400000#32
  | 4 => 0x42100000#32
  | 5 => 0x41A00000#32
  | 6 => 0x42100000#32
  | 7 => 0x41E00000#32
  | 8 => 0x42100000#32
  | 9 => 0x42100000#32
  | 10 => 0x42100000#32
  | 11 => 0x42300000#32
  | 12 => 0x42100000#32
  | 13 => 0x42500000#32
  | 14 => 0x42100000#32
  | 15 => 0x42700000#32
  | 16 => 0x42100000#32
  | 17 => 0x42880000#32
  | 18 => 0x42100000#32
  | 19 => 0x42980000#32
  | 20 => 0x42100000#32
  | 21 => 0x42A80000#32
  | 22 => 0x42100000#32
  | 23 => 0x42B80000#32
  | 24 => 0x42100000#32
  | 25 => 0x42C80000#32
  | 26 => 0x42100000#32
  | 27 => 0x42D80000#32
  | 28 => 0x42100000#32
  | 29 => 0x42E80000#32
  | 30 => 0x42100000#32
  | 31 => 0x42F80000#32
  | 32 => 0x42100000#32
  | 33 => 0x43040000#32
  | 34 => 0x42100000#32
  | 35 => 0x430C0000#32
  | 36 => 0x42100000#32
  | 37 => 0x43140000#32
  | 38 => 0x42100000#32
  | 39 => 0x431C0000#32
  | 40 => 0x42100000#32
  | 41 => 0x43240000#32
  | 42 => 0x42100000#32
  | 43 => 0x432C0000#32
  | 44 => 0x42100000#32
  | 45 => 0x43340000#32
  | 46 => 0x42100000#32
  | 47 => 0x433C0000#32
  | 48 => 0x42100000#32
  | 49 => 0x43440000#32
  | 50 => 0x42100000#32
  | 51 => 0x434C0000#32
  | 52 => 0x42100000#32
  | 53 => 0x43540000#32
  | 54 => 0x42100000#32
  | 55 => 0x435C0000#32
  | 56 => 0x42100000#32
  | 57 => 0x43640000#32
  | 58 => 0x42100000#32
  | 59 => 0x436C0000#32
  | 60 => 0x42100000#32
  | 61 => 0x43740000#32
  | 62 => 0x42100000#32
  | 63 => 0x437C0000#32
  | 64 => 0x42100000#32
  | 65 => 0x43820000#32
  | 66 => 0x42100000#32
  | 67 => 0x43860000#32
  | 68 => 0x42100000#32
  | 69 => 0x438A0000#32
  | 70 => 0x42100000#32
  | 71 => 0x438E0000#32
  | 72 => 0x42100000#32
  | 73 => 0x43920000#32
  | 74 => 0x42100000#32
  | 75 => 0x43960000#32
  | 76 => 0x42100000#32
  | 77 => 0x439A0000#32
  | 78 => 0x42100000#32
  | 79 => 0x439E0000#32
  | 80 => 0x42100000#32
  | 81 => 0x43A20000#32
  | 82 => 0x42100000#32
  | 83 => 0x43A60000#32
  | 84 => 0x42100000#32
  | 85 => 0x43AA0000#32
  | 86 => 0x42100000#32
  | 87 => 0x43AE0000#32
  | 88 => 0x42100000#32
  | 89 => 0x43B20000#32
  | 90 => 0x42100000#32
  | 91 => 0x43B60000#32
  | 92 => 0x42100000#32
  | 93 => 0x43BA0000#32
  | 94 => 0x42100000#32
  | 95 => 0x43BE0000#32
  | 96 => 0x42100000#32
  | 97 => 0x43C20000#32
  | 98 => 0x42100000#32
  | 99 => 0x43C60000#32
  | 100 => 0x42100000#32
  | 101 => 0x43CA0000#32
  | 102 => 0x42100000#32
  | 103 => 0x43CE0000#32
  | 104 => 0x42100000#32
  | 105 => 0x43D20000#32
  | 106 => 0x42100000#32
  | 107 => 0x43D60000#32
  | 108 => 0x42100000#32
  | 109 => 0x43DA0000#32
  | 110 => 0x42100000#32
  | 111 => 0x43DE0000#32
  | 112 => 0x42100000#32
  | 113 => 0x43E20000#32
  | 114 => 0x42100000#32
  | 115 => 0x43E60000#32
  | 116 => 0x42100000#32
  | 117 => 0x43EA0000#32
  | 118 => 0x42100000#32
  | 119 => 0x43EE0000#32
  | 120 => 0x42100000#32
  | 121 => 0x43F20000#32
  | 122 => 0x42100000#32
  | 123 => 0x43F60000#32
  | 124 => 0x42100000#32
  | 125 => 0x43FA0000#32
  | 126 => 0x42100000#32
  | 127 => 0x43FE0000#32
  | _ => 0#32

noncomputable abbrev lit0t0_5 (i : Nat) : BitVec 32 := match i % 128 with
  | 0 => 0x42300000#32
  | 1 => 0x40800000#32
  | 2 => 0x42300000#32
  | 3 => 0x41400000#32
  | 4 => 0x42300000#32
  | 5 => 0x41A00000#32
  | 6 => 0x42300000#32
  | 7 => 0x41E00000#32
  | 8 => 0x42300000#32
  | 9 => 0x42100000#32
  | 10 => 0x42300000#32
  | 11 => 0x42300000#32
  | 12 => 0x42300000#32
  | 13 => 0x42500000#32
  | 14 => 0x42300000#32
  | 15 => 0x42700000#32
  | 16 => 0x42300000#32
  | 17 => 0x42880000#32
  | 18 => 0x42300000#32
  | 19 => 0x42980000#32
  | 20 => 0x42300000#32
  | 21 => 0x42A80000#32
  | 22 => 0x42300000#32
  | 23 => 0x42B80000#32
  | 24 => 0x42300000#32
  | 25 => 0x42C80000#32
  | 26 => 0x42300000#32
  | 27 => 0x42D80000#32
  | 28 => 0x42300000#32
  | 29 => 0x42E80000#32
  | 30 => 0x42300000#32
  | 31 => 0x42F80000#32
  | 32 => 0x42300000#32
  | 33 => 0x43040000#32
  | 34 => 0x42300000#32
  | 35 => 0x430C0000#32
  | 36 => 0x42300000#32
  | 37 => 0x43140000#32
  | 38 => 0x42300000#32
  | 39 => 0x431C0000#32
  | 40 => 0x42300000#32
  | 41 => 0x43240000#32
  | 42 => 0x42300000#32
  | 43 => 0x432C0000#32
  | 44 => 0x42300000#32
  | 45 => 0x43340000#32
  | 46 => 0x42300000#32
  | 47 => 0x433C0000#32
  | 48 => 0x42300000#32
  | 49 => 0x43440000#32
  | 50 => 0x42300000#32
  | 51 => 0x434C0000#32
  | 52 => 0x42300000#32
  | 53 => 0x43540000#32
  | 54 => 0x42300000#32
  | 55 => 0x435C0000#32
  | 56 => 0x42300000#32
  | 57 => 0x43640000#32
  | 58 => 0x42300000#32
  | 59 => 0x436C0000#32
  | 60 => 0x42300000#32
  | 61 => 0x43740000#32
  | 62 => 0x42300000#32
  | 63 => 0x437C0000#32
  | 64 => 0x42300000#32
  | 65 => 0x43820000#32
  | 66 => 0x42300000#32
  | 67 => 0x43860000#32
  | 68 => 0x42300000#32
  | 69 => 0x438A0000#32
  | 70 => 0x42300000#32
  | 71 => 0x438E0000#32
  | 72 => 0x42300000#32
  | 73 => 0x43920000#32
  | 74 => 0x42300000#32
  | 75 => 0x43960000#32
  | 76 => 0x42300000#32
  | 77 => 0x439A0000#32
  | 78 => 0x42300000#32
  | 79 => 0x439E0000#32
  | 80 => 0x42300000#32
  | 81 => 0x43A20000#32
  | 82 => 0x42300000#32
  | 83 => 0x43A60000#32
  | 84 => 0x42300000#32
  | 85 => 0x43AA0000#32
  | 86 => 0x42300000#32
  | 87 => 0x43AE0000#32
  | 88 => 0x42300000#32
  | 89 => 0x43B20000#32
  | 90 => 0x42300000#32
  | 91 => 0x43B60000#32
  | 92 => 0x42300000#32
  | 93 => 0x43BA0000#32
  | 94 => 0x42300000#32
  | 95 => 0x43BE0000#32
  | 96 => 0x42300000#32
  | 97 => 0x43C20000#32
  | 98 => 0x42300000#32
  | 99 => 0x43C60000#32
  | 100 => 0x42300000#32
  | 101 => 0x43CA0000#32
  | 102 => 0x42300000#32
  | 103 => 0x43CE0000#32
  | 104 => 0x42300000#32
  | 105 => 0x43D20000#32
  | 106 => 0x42300000#32
  | 107 => 0x43D60000#32
  | 108 => 0x42300000#32
  | 109 => 0x43DA0000#32
  | 110 => 0x42300000#32
  | 111 => 0x43DE0000#32
  | 112 => 0x42300000#32
  | 113 => 0x43E20000#32
  | 114 => 0x42300000#32
  | 115 => 0x43E60000#32
  | 116 => 0x42300000#32
  | 117 => 0x43EA0000#32
  | 118 => 0x42300000#32
  | 119 => 0x43EE0000#32
  | 120 => 0x42300000#32
  | 121 => 0x43F20000#32
  | 122 => 0x42300000#32
  | 123 => 0x43F60000#32
  | 124 => 0x42300000#32
  | 125 => 0x43FA0000#32
  | 126 => 0x42300000#32
  | 127 => 0x43FE0000#32
  | _ => 0#32

noncomputable abbrev lit0t0_6 (i : Nat) : BitVec 32 := match i % 128 with
  | 0 => 0x42500000#32
  | 1 => 0x40800000#32
  | 2 => 0x42500000#32
  | 3 => 0x41400000#32
  | 4 => 0x42500000#32
  | 5 => 0x41A00000#32
  | 6 => 0x42500000#32
  | 7 => 0x41E00000#32
  | 8 => 0x42500000#32
  | 9 => 0x42100000#32
  | 10 => 0x42500000#32
  | 11 => 0x42300000#32
  | 12 => 0x42500000#32
  | 13 => 0x42500000#32
  | 14 => 0x42500000#32
  | 15 => 0x42700000#32
  | 16 => 0x42500000#32
  | 17 => 0x42880000#32
  | 18 => 0x42500000#32
  | 19 => 0x42980000#32
  | 20 => 0x42500000#32
  | 21 => 0x42A80000#32
  | 22 => 0x42500000#32
  | 23 => 0x42B80000#32
  | 24 => 0x42500000#32
  | 25 => 0x42C80000#32
  | 26 => 0x42500000#32
  | 27 => 0x42D80000#32
  | 28 => 0x42500000#32
  | 29 => 0x42E80000#32
  | 30 => 0x42500000#32
  | 31 => 0x42F80000#32
  | 32 => 0x42500000#32
  | 33 => 0x43040000#32
  | 34 => 0x42500000#32
  | 35 => 0x430C0000#32
  | 36 => 0x42500000#32
  | 37 => 0x43140000#32
  | 38 => 0x42500000#32
  | 39 => 0x431C0000#32
  | 40 => 0x42500000#32
  | 41 => 0x43240000#32
  | 42 => 0x42500000#32
  | 43 => 0x432C0000#32
  | 44 => 0x42500000#32
  | 45 => 0x43340000#32
  | 46 => 0x42500000#32
  | 47 => 0x433C0000#32
  | 48 => 0x42500000#32
  | 49 => 0x43440000#32
  | 50 => 0x42500000#32
  | 51 => 0x434C0000#32
  | 52 => 0x42500000#32
  | 53 => 0x43540000#32
  | 54 => 0x42500000#32
  | 55 => 0x435C0000#32
  | 56 => 0x42500000#32
  | 57 => 0x43640000#32
  | 58 => 0x42500000#32
  | 59 => 0x436C0000#32
  | 60 => 0x42500000#32
  | 61 => 0x43740000#32
  | 62 => 0x42500000#32
  | 63 => 0x437C0000#32
  | 64 => 0x42500000#32
  | 65 => 0x43820000#32
  | 66 => 0x42500000#32
  | 67 => 0x43860000#32
  | 68 => 0x42500000#32
  | 69 => 0x438A0000#32
  | 70 => 0x42500000#32
  | 71 => 0x438E0000#32
  | 72 => 0x42500000#32
  | 73 => 0x43920000#32
  | 74 => 0x42500000#32
  | 75 => 0x43960000#32
  | 76 => 0x42500000#32
  | 77 => 0x439A0000#32
  | 78 => 0x42500000#32
  | 79 => 0x439E0000#32
  | 80 => 0x42500000#32
  | 81 => 0x43A20000#32
  | 82 => 0x42500000#32
  | 83 => 0x43A60000#32
  | 84 => 0x42500000#32
  | 85 => 0x43AA0000#32
  | 86 => 0x42500000#32
  | 87 => 0x43AE0000#32
  | 88 => 0x42500000#32
  | 89 => 0x43B20000#32
  | 90 => 0x42500000#32
  | 91 => 0x43B60000#32
  | 92 => 0x42500000#32
  | 93 => 0x43BA0000#32
  | 94 => 0x42500000#32
  | 95 => 0x43BE0000#32
  | 96 => 0x42500000#32
  | 97 => 0x43C20000#32
  | 98 => 0x42500000#32
  | 99 => 0x43C60000#32
  | 100 => 0x42500000#32
  | 101 => 0x43CA0000#32
  | 102 => 0x42500000#32
  | 103 => 0x43CE0000#32
  | 104 => 0x42500000#32
  | 105 => 0x43D20000#32
  | 106 => 0x42500000#32
  | 107 => 0x43D60000#32
  | 108 => 0x42500000#32
  | 109 => 0x43DA0000#32
  | 110 => 0x42500000#32
  | 111 => 0x43DE0000#32
  | 112 => 0x42500000#32
  | 113 => 0x43E20000#32
  | 114 => 0x42500000#32
  | 115 => 0x43E60000#32
  | 116 => 0x42500000#32
  | 117 => 0x43EA0000#32
  | 118 => 0x42500000#32
  | 119 => 0x43EE0000#32
  | 120 => 0x42500000#32
  | 121 => 0x43F20000#32
  | 122 => 0x42500000#32
  | 123 => 0x43F60000#32
  | 124 => 0x42500000#32
  | 125 => 0x43FA0000#32
  | 126 => 0x42500000#32
  | 127 => 0x43FE0000#32
  | _ => 0#32

noncomputable abbrev lit0t0_7 (i : Nat) : BitVec 32 := match i % 128 with
  | 0 => 0x42700000#32
  | 1 => 0x40800000#32
  | 2 => 0x42700000#32
  | 3 => 0x41400000#32
  | 4 => 0x42700000#32
  | 5 => 0x41A00000#32
  | 6 => 0x42700000#32
  | 7 => 0x41E00000#32
  | 8 => 0x42700000#32
  | 9 => 0x42100000#32
  | 10 => 0x42700000#32
  | 11 => 0x42300000#32
  | 12 => 0x42700000#32
  | 13 => 0x42500000#32
  | 14 => 0x42700000#32
  | 15 => 0x42700000#32
  | 16 => 0x42700000#32
  | 17 => 0x42880000#32
  | 18 => 0x42700000#32
  | 19 => 0x42980000#32
  | 20 => 0x42700000#32
  | 21 => 0x42A80000#32
  | 22 => 0x42700000#32
  | 23 => 0x42B80000#32
  | 24 => 0x42700000#32
  | 25 => 0x42C80000#32
  | 26 => 0x42700000#32
  | 27 => 0x42D80000#32
  | 28 => 0x42700000#32
  | 29 => 0x42E80000#32
  | 30 => 0x42700000#32
  | 31 => 0x42F80000#32
  | 32 => 0x42700000#32
  | 33 => 0x43040000#32
  | 34 => 0x42700000#32
  | 35 => 0x430C0000#32
  | 36 => 0x42700000#32
  | 37 => 0x43140000#32
  | 38 => 0x42700000#32
  | 39 => 0x431C0000#32
  | 40 => 0x42700000#32
  | 41 => 0x43240000#32
  | 42 => 0x42700000#32
  | 43 => 0x432C0000#32
  | 44 => 0x42700000#32
  | 45 => 0x43340000#32
  | 46 => 0x42700000#32
  | 47 => 0x433C0000#32
  | 48 => 0x42700000#32
  | 49 => 0x43440000#32
  | 50 => 0x42700000#32
  | 51 => 0x434C0000#32
  | 52 => 0x42700000#32
  | 53 => 0x43540000#32
  | 54 => 0x42700000#32
  | 55 => 0x435C0000#32
  | 56 => 0x42700000#32
  | 57 => 0x43640000#32
  | 58 => 0x42700000#32
  | 59 => 0x436C0000#32
  | 60 => 0x42700000#32
  | 61 => 0x43740000#32
  | 62 => 0x42700000#32
  | 63 => 0x437C0000#32
  | 64 => 0x42700000#32
  | 65 => 0x43820000#32
  | 66 => 0x42700000#32
  | 67 => 0x43860000#32
  | 68 => 0x42700000#32
  | 69 => 0x438A0000#32
  | 70 => 0x42700000#32
  | 71 => 0x438E0000#32
  | 72 => 0x42700000#32
  | 73 => 0x43920000#32
  | 74 => 0x42700000#32
  | 75 => 0x43960000#32
  | 76 => 0x42700000#32
  | 77 => 0x439A0000#32
  | 78 => 0x42700000#32
  | 79 => 0x439E0000#32
  | 80 => 0x42700000#32
  | 81 => 0x43A20000#32
  | 82 => 0x42700000#32
  | 83 => 0x43A60000#32
  | 84 => 0x42700000#32
  | 85 => 0x43AA0000#32
  | 86 => 0x42700000#32
  | 87 => 0x43AE0000#32
  | 88 => 0x42700000#32
  | 89 => 0x43B20000#32
  | 90 => 0x42700000#32
  | 91 => 0x43B60000#32
  | 92 => 0x42700000#32
  | 93 => 0x43BA0000#32
  | 94 => 0x42700000#32
  | 95 => 0x43BE0000#32
  | 96 => 0x42700000#32
  | 97 => 0x43C20000#32
  | 98 => 0x42700000#32
  | 99 => 0x43C60000#32
  | 100 => 0x42700000#32
  | 101 => 0x43CA0000#32
  | 102 => 0x42700000#32
  | 103 => 0x43CE0000#32
  | 104 => 0x42700000#32
  | 105 => 0x43D20000#32
  | 106 => 0x42700000#32
  | 107 => 0x43D60000#32
  | 108 => 0x42700000#32
  | 109 => 0x43DA0000#32
  | 110 => 0x42700000#32
  | 111 => 0x43DE0000#32
  | 112 => 0x42700000#32
  | 113 => 0x43E20000#32
  | 114 => 0x42700000#32
  | 115 => 0x43E60000#32
  | 116 => 0x42700000#32
  | 117 => 0x43EA0000#32
  | 118 => 0x42700000#32
  | 119 => 0x43EE0000#32
  | 120 => 0x42700000#32
  | 121 => 0x43F20000#32
  | 122 => 0x42700000#32
  | 123 => 0x43F60000#32
  | 124 => 0x42700000#32
  | 125 => 0x43FA0000#32
  | 126 => 0x42700000#32
  | 127 => 0x43FE0000#32
  | _ => 0#32

noncomputable abbrev lit0t0_8 (i : Nat) : BitVec 32 := match i % 128 with
  | 0 => 0x42880000#32
  | 1 => 0x40800000#32
  | 2 => 0x42880000#32
  | 3 => 0x41400000#32
  | 4 => 0x42880000#32
  | 5 => 0x41A00000#32
  | 6 => 0x42880000#32
  | 7 => 0x41E00000#32
  | 8 => 0x42880000#32
  | 9 => 0x42100000#32
  | 10 => 0x42880000#32
  | 11 => 0x42300000#32
  | 12 => 0x42880000#32
  | 13 => 0x42500000#32
  | 14 => 0x42880000#32
  | 15 => 0x42700000#32
  | 16 => 0x42880000#32
  | 17 => 0x42880000#32
  | 18 => 0x42880000#32
  | 19 => 0x42980000#32
  | 20 => 0x42880000#32
  | 21 => 0x42A80000#32
  | 22 => 0x42880000#32
  | 23 => 0x42B80000#32
  | 24 => 0x42880000#32
  | 25 => 0x42C80000#32
  | 26 => 0x42880000#32
  | 27 => 0x42D80000#32
  | 28 => 0x42880000#32
  | 29 => 0x42E80000#32
  | 30 => 0x42880000#32
  | 31 => 0x42F80000#32
  | 32 => 0x42880000#32
  | 33 => 0x43040000#32
  | 34 => 0x42880000#32
  | 35 => 0x430C0000#32
  | 36 => 0x42880000#32
  | 37 => 0x43140000#32
  | 38 => 0x42880000#32
  | 39 => 0x431C0000#32
  | 40 => 0x42880000#32
  | 41 => 0x43240000#32
  | 42 => 0x42880000#32
  | 43 => 0x432C0000#32
  | 44 => 0x42880000#32
  | 45 => 0x43340000#32
  | 46 => 0x42880000#32
  | 47 => 0x433C0000#32
  | 48 => 0x42880000#32
  | 49 => 0x43440000#32
  | 50 => 0x42880000#32
  | 51 => 0x434C0000#32
  | 52 => 0x42880000#32
  | 53 => 0x43540000#32
  | 54 => 0x42880000#32
  | 55 => 0x435C0000#32
  | 56 => 0x42880000#32
  | 57 => 0x43640000#32
  | 58 => 0x42880000#32
  | 59 => 0x436C0000#32
  | 60 => 0x42880000#32
  | 61 => 0x43740000#32
  | 62 => 0x42880000#32
  | 63 => 0x437C0000#32
  | 64 => 0x42880000#32
  | 65 => 0x43820000#32
  | 66 => 0x42880000#32
  | 67 => 0x43860000#32
  | 68 => 0x42880000#32
  | 69 => 0x438A0000#32
  | 70 => 0x42880000#32
  | 71 => 0x438E0000#32
  | 72 => 0x42880000#32
  | 73 => 0x43920000#32
  | 74 => 0x42880000#32
  | 75 => 0x43960000#32
  | 76 => 0x42880000#32
  | 77 => 0x439A0000#32
  | 78 => 0x42880000#32
  | 79 => 0x439E0000#32
  | 80 => 0x42880000#32
  | 81 => 0x43A20000#32
  | 82 => 0x42880000#32
  | 83 => 0x43A60000#32
  | 84 => 0x42880000#32
  | 85 => 0x43AA0000#32
  | 86 => 0x42880000#32
  | 87 => 0x43AE0000#32
  | 88 => 0x42880000#32
  | 89 => 0x43B20000#32
  | 90 => 0x42880000#32
  | 91 => 0x43B60000#32
  | 92 => 0x42880000#32
  | 93 => 0x43BA0000#32
  | 94 => 0x42880000#32
  | 95 => 0x43BE0000#32
  | 96 => 0x42880000#32
  | 97 => 0x43C20000#32
  | 98 => 0x42880000#32
  | 99 => 0x43C60000#32
  | 100 => 0x42880000#32
  | 101 => 0x43CA0000#32
  | 102 => 0x42880000#32
  | 103 => 0x43CE0000#32
  | 104 => 0x42880000#32
  | 105 => 0x43D20000#32
  | 106 => 0x42880000#32
  | 107 => 0x43D60000#32
  | 108 => 0x42880000#32
  | 109 => 0x43DA0000#32
  | 110 => 0x42880000#32
  | 111 => 0x43DE0000#32
  | 112 => 0x42880000#32
  | 113 => 0x43E20000#32
  | 114 => 0x42880000#32
  | 115 => 0x43E60000#32
  | 116 => 0x42880000#32
  | 117 => 0x43EA0000#32
  | 118 => 0x42880000#32
  | 119 => 0x43EE0000#32
  | 120 => 0x42880000#32
  | 121 => 0x43F20000#32
  | 122 => 0x42880000#32
  | 123 => 0x43F60000#32
  | 124 => 0x42880000#32
  | 125 => 0x43FA0000#32
  | 126 => 0x42880000#32
  | 127 => 0x43FE0000#32
  | _ => 0#32

noncomputable abbrev lit0t0_9 (i : Nat) : BitVec 32 := match i % 128 with
  | 0 => 0x42980000#32
  | 1 => 0x40800000#32
  | 2 => 0x42980000#32
  | 3 => 0x41400000#32
  | 4 => 0x42980000#32
  | 5 => 0x41A00000#32
  | 6 => 0x42980000#32
  | 7 => 0x41E00000#32
  | 8 => 0x42980000#32
  | 9 => 0x42100000#32
  | 10 => 0x42980000#32
  | 11 => 0x42300000#32
  | 12 => 0x42980000#32
  | 13 => 0x42500000#32
  | 14 => 0x42980000#32
  | 15 => 0x42700000#32
  | 16 => 0x42980000#32
  | 17 => 0x42880000#32
  | 18 => 0x42980000#32
  | 19 => 0x42980000#32
  | 20 => 0x42980000#32
  | 21 => 0x42A80000#32
  | 22 => 0x42980000#32
  | 23 => 0x42B80000#32
  | 24 => 0x42980000#32
  | 25 => 0x42C80000#32
  | 26 => 0x42980000#32
  | 27 => 0x42D80000#32
  | 28 => 0x42980000#32
  | 29 => 0x42E80000#32
  | 30 => 0x42980000#32
  | 31 => 0x42F80000#32
  | 32 => 0x42980000#32
  | 33 => 0x43040000#32
  | 34 => 0x42980000#32
  | 35 => 0x430C0000#32
  | 36 => 0x42980000#32
  | 37 => 0x43140000#32
  | 38 => 0x42980000#32
  | 39 => 0x431C0000#32
  | 40 => 0x42980000#32
  | 41 => 0x43240000#32
  | 42 => 0x42980000#32
  | 43 => 0x432C0000#32
  | 44 => 0x42980000#32
  | 45 => 0x43340000#32
  | 46 => 0x42980000#32
  | 47 => 0x433C0000#32
  | 48 => 0x42980000#32
  | 49 => 0x43440000#32
  | 50 => 0x42980000#32
  | 51 => 0x434C0000#32
  | 52 => 0x42980000#32
  | 53 => 0x43540000#32
  | 54 => 0x42980000#32
  | 55 => 0x435C0000#32
  | 56 => 0x42980000#32
  | 57 => 0x43640000#32
  | 58 => 0x42980000#32
  | 59 => 0x436C0000#32
  | 60 => 0x42980000#32
  | 61 => 0x43740000#32
  | 62 => 0x42980000#32
  | 63 => 0x437C0000#32
  | 64 => 0x42980000#32
  | 65 => 0x43820000#32
  | 66 => 0x42980000#32
  | 67 => 0x43860000#32
  | 68 => 0x42980000#32
  | 69 => 0x438A0000#32
  | 70 => 0x42980000#32
  | 71 => 0x438E0000#32
  | 72 => 0x42980000#32
  | 73 => 0x43920000#32
  | 74 => 0x42980000#32
  | 75 => 0x43960000#32
  | 76 => 0x42980000#32
  | 77 => 0x439A0000#32
  | 78 => 0x42980000#32
  | 79 => 0x439E0000#32
  | 80 => 0x42980000#32
  | 81 => 0x43A20000#32
  | 82 => 0x42980000#32
  | 83 => 0x43A60000#32
  | 84 => 0x42980000#32
  | 85 => 0x43AA0000#32
  | 86 => 0x42980000#32
  | 87 => 0x43AE0000#32
  | 88 => 0x42980000#32
  | 89 => 0x43B20000#32
  | 90 => 0x42980000#32
  | 91 => 0x43B60000#32
  | 92 => 0x42980000#32
  | 93 => 0x43BA0000#32
  | 94 => 0x42980000#32
  | 95 => 0x43BE0000#32
  | 96 => 0x42980000#32
  | 97 => 0x43C20000#32
  | 98 => 0x42980000#32
  | 99 => 0x43C60000#32
  | 100 => 0x42980000#32
  | 101 => 0x43CA0000#32
  | 102 => 0x42980000#32
  | 103 => 0x43CE0000#32
  | 104 => 0x42980000#32
  | 105 => 0x43D20000#32
  | 106 => 0x42980000#32
  | 107 => 0x43D60000#32
  | 108 => 0x42980000#32
  | 109 => 0x43DA0000#32
  | 110 => 0x42980000#32
  | 111 => 0x43DE0000#32
  | 112 => 0x42980000#32
  | 113 => 0x43E20000#32
  | 114 => 0x42980000#32
  | 115 => 0x43E60000#32
  | 116 => 0x42980000#32
  | 117 => 0x43EA0000#32
  | 118 => 0x42980000#32
  | 119 => 0x43EE0000#32
  | 120 => 0x42980000#32
  | 121 => 0x43F20000#32
  | 122 => 0x42980000#32
  | 123 => 0x43F60000#32
  | 124 => 0x42980000#32
  | 125 => 0x43FA0000#32
  | 126 => 0x42980000#32
  | 127 => 0x43FE0000#32
  | _ => 0#32

noncomputable abbrev lit0t0_10 (i : Nat) : BitVec 32 := match i % 128 with
  | 0 => 0x42A80000#32
  | 1 => 0x40800000#32
  | 2 => 0x42A80000#32
  | 3 => 0x41400000#32
  | 4 => 0x42A80000#32
  | 5 => 0x41A00000#32
  | 6 => 0x42A80000#32
  | 7 => 0x41E00000#32
  | 8 => 0x42A80000#32
  | 9 => 0x42100000#32
  | 10 => 0x42A80000#32
  | 11 => 0x42300000#32
  | 12 => 0x42A80000#32
  | 13 => 0x42500000#32
  | 14 => 0x42A80000#32
  | 15 => 0x42700000#32
  | 16 => 0x42A80000#32
  | 17 => 0x42880000#32
  | 18 => 0x42A80000#32
  | 19 => 0x42980000#32
  | 20 => 0x42A80000#32
  | 21 => 0x42A80000#32
  | 22 => 0x42A80000#32
  | 23 => 0x42B80000#32
  | 24 => 0x42A80000#32
  | 25 => 0x42C80000#32
  | 26 => 0x42A80000#32
  | 27 => 0x42D80000#32
  | 28 => 0x42A80000#32
  | 29 => 0x42E80000#32
  | 30 => 0x42A80000#32
  | 31 => 0x42F80000#32
  | 32 => 0x42A80000#32
  | 33 => 0x43040000#32
  | 34 => 0x42A80000#32
  | 35 => 0x430C0000#32
  | 36 => 0x42A80000#32
  | 37 => 0x43140000#32
  | 38 => 0x42A80000#32
  | 39 => 0x431C0000#32
  | 40 => 0x42A80000#32
  | 41 => 0x43240000#32
  | 42 => 0x42A80000#32
  | 43 => 0x432C0000#32
  | 44 => 0x42A80000#32
  | 45 => 0x43340000#32
  | 46 => 0x42A80000#32
  | 47 => 0x433C0000#32
  | 48 => 0x42A80000#32
  | 49 => 0x43440000#32
  | 50 => 0x42A80000#32
  | 51 => 0x434C0000#32
  | 52 => 0x42A80000#32
  | 53 => 0x43540000#32
  | 54 => 0x42A80000#32
  | 55 => 0x435C0000#32
  | 56 => 0x42A80000#32
  | 57 => 0x43640000#32
  | 58 => 0x42A80000#32
  | 59 => 0x436C0000#32
  | 60 => 0x42A80000#32
  | 61 => 0x43740000#32
  | 62 => 0x42A80000#32
  | 63 => 0x437C0000#32
  | 64 => 0x42A80000#32
  | 65 => 0x43820000#32
  | 66 => 0x42A80000#32
  | 67 => 0x43860000#32
  | 68 => 0x42A80000#32
  | 69 => 0x438A0000#32
  | 70 => 0x42A80000#32
  | 71 => 0x438E0000#32
  | 72 => 0x42A80000#32
  | 73 => 0x43920000#32
  | 74 => 0x42A80000#32
  | 75 => 0x43960000#32
  | 76 => 0x42A80000#32
  | 77 => 0x439A0000#32
  | 78 => 0x42A80000#32
  | 79 => 0x439E0000#32
  | 80 => 0x42A80000#32
  | 81 => 0x43A20000#32
  | 82 => 0x42A80000#32
  | 83 => 0x43A60000#32
  | 84 => 0x42A80000#32
  | 85 => 0x43AA0000#32
  | 86 => 0x42A80000#32
  | 87 => 0x43AE0000#32
  | 88 => 0x42A80000#32
  | 89 => 0x43B20000#32
  | 90 => 0x42A80000#32
  | 91 => 0x43B60000#32
  | 92 => 0x42A80000#32
  | 93 => 0x43BA0000#32
  | 94 => 0x42A80000#32
  | 95 => 0x43BE0000#32
  | 96 => 0x42A80000#32
  | 97 => 0x43C20000#32
  | 98 => 0x42A80000#32
  | 99 => 0x43C60000#32
  | 100 => 0x42A80000#32
  | 101 => 0x43CA0000#32
  | 102 => 0x42A80000#32
  | 103 => 0x43CE0000#32
  | 104 => 0x42A80000#32
  | 105 => 0x43D20000#32
  | 106 => 0x42A80000#32
  | 107 => 0x43D60000#32
  | 108 => 0x42A80000#32
  | 109 => 0x43DA0000#32
  | 110 => 0x42A80000#32
  | 111 => 0x43DE0000#32
  | 112 => 0x42A80000#32
  | 113 => 0x43E20000#32
  | 114 => 0x42A80000#32
  | 115 => 0x43E60000#32
  | 116 => 0x42A80000#32
  | 117 => 0x43EA0000#32
  | 118 => 0x42A80000#32
  | 119 => 0x43EE0000#32
  | 120 => 0x42A80000#32
  | 121 => 0x43F20000#32
  | 122 => 0x42A80000#32
  | 123 => 0x43F60000#32
  | 124 => 0x42A80000#32
  | 125 => 0x43FA0000#32
  | 126 => 0x42A80000#32
  | 127 => 0x43FE0000#32
  | _ => 0#32

noncomputable abbrev lit0t0_11 (i : Nat) : BitVec 32 := match i % 128 with
  | 0 => 0x42B80000#32
  | 1 => 0x40800000#32
  | 2 => 0x42B80000#32
  | 3 => 0x41400000#32
  | 4 => 0x42B80000#32
  | 5 => 0x41A00000#32
  | 6 => 0x42B80000#32
  | 7 => 0x41E00000#32
  | 8 => 0x42B80000#32
  | 9 => 0x42100000#32
  | 10 => 0x42B80000#32
  | 11 => 0x42300000#32
  | 12 => 0x42B80000#32
  | 13 => 0x42500000#32
  | 14 => 0x42B80000#32
  | 15 => 0x42700000#32
  | 16 => 0x42B80000#32
  | 17 => 0x42880000#32
  | 18 => 0x42B80000#32
  | 19 => 0x42980000#32
  | 20 => 0x42B80000#32
  | 21 => 0x42A80000#32
  | 22 => 0x42B80000#32
  | 23 => 0x42B80000#32
  | 24 => 0x42B80000#32
  | 25 => 0x42C80000#32
  | 26 => 0x42B80000#32
  | 27 => 0x42D80000#32
  | 28 => 0x42B80000#32
  | 29 => 0x42E80000#32
  | 30 => 0x42B80000#32
  | 31 => 0x42F80000#32
  | 32 => 0x42B80000#32
  | 33 => 0x43040000#32
  | 34 => 0x42B80000#32
  | 35 => 0x430C0000#32
  | 36 => 0x42B80000#32
  | 37 => 0x43140000#32
  | 38 => 0x42B80000#32
  | 39 => 0x431C0000#32
  | 40 => 0x42B80000#32
  | 41 => 0x43240000#32
  | 42 => 0x42B80000#32
  | 43 => 0x432C0000#32
  | 44 => 0x42B80000#32
  | 45 => 0x43340000#32
  | 46 => 0x42B80000#32
  | 47 => 0x433C0000#32
  | 48 => 0x42B80000#32
  | 49 => 0x43440000#32
  | 50 => 0x42B80000#32
  | 51 => 0x434C0000#32
  | 52 => 0x42B80000#32
  | 53 => 0x43540000#32
  | 54 => 0x42B80000#32
  | 55 => 0x435C0000#32
  | 56 => 0x42B80000#32
  | 57 => 0x43640000#32
  | 58 => 0x42B80000#32
  | 59 => 0x436C0000#32
  | 60 => 0x42B80000#32
  | 61 => 0x43740000#32
  | 62 => 0x42B80000#32
  | 63 => 0x437C0000#32
  | 64 => 0x42B80000#32
  | 65 => 0x43820000#32
  | 66 => 0x42B80000#32
  | 67 => 0x43860000#32
  | 68 => 0x42B80000#32
  | 69 => 0x438A0000#32
  | 70 => 0x42B80000#32
  | 71 => 0x438E0000#32
  | 72 => 0x42B80000#32
  | 73 => 0x43920000#32
  | 74 => 0x42B80000#32
  | 75 => 0x43960000#32
  | 76 => 0x42B80000#32
  | 77 => 0x439A0000#32
  | 78 => 0x42B80000#32
  | 79 => 0x439E0000#32
  | 80 => 0x42B80000#32
  | 81 => 0x43A20000#32
  | 82 => 0x42B80000#32
  | 83 => 0x43A60000#32
  | 84 => 0x42B80000#32
  | 85 => 0x43AA0000#32
  | 86 => 0x42B80000#32
  | 87 => 0x43AE0000#32
  | 88 => 0x42B80000#32
  | 89 => 0x43B20000#32
  | 90 => 0x42B80000#32
  | 91 => 0x43B60000#32
  | 92 => 0x42B80000#32
  | 93 => 0x43BA0000#32
  | 94 => 0x42B80000#32
  | 95 => 0x43BE0000#32
  | 96 => 0x42B80000#32
  | 97 => 0x43C20000#32
  | 98 => 0x42B80000#32
  | 99 => 0x43C60000#32
  | 100 => 0x42B80000#32
  | 101 => 0x43CA0000#32
  | 102 => 0x42B80000#32
  | 103 => 0x43CE0000#32
  | 104 => 0x42B80000#32
  | 105 => 0x43D20000#32
  | 106 => 0x42B80000#32
  | 107 => 0x43D60000#32
  | 108 => 0x42B80000#32
  | 109 => 0x43DA0000#32
  | 110 => 0x42B80000#32
  | 111 => 0x43DE0000#32
  | 112 => 0x42B80000#32
  | 113 => 0x43E20000#32
  | 114 => 0x42B80000#32
  | 115 => 0x43E60000#32
  | 116 => 0x42B80000#32
  | 117 => 0x43EA0000#32
  | 118 => 0x42B80000#32
  | 119 => 0x43EE0000#32
  | 120 => 0x42B80000#32
  | 121 => 0x43F20000#32
  | 122 => 0x42B80000#32
  | 123 => 0x43F60000#32
  | 124 => 0x42B80000#32
  | 125 => 0x43FA0000#32
  | 126 => 0x42B80000#32
  | 127 => 0x43FE0000#32
  | _ => 0#32

noncomputable abbrev lit0t0_12 (i : Nat) : BitVec 32 := match i % 128 with
  | 0 => 0x42C80000#32
  | 1 => 0x40800000#32
  | 2 => 0x42C80000#32
  | 3 => 0x41400000#32
  | 4 => 0x42C80000#32
  | 5 => 0x41A00000#32
  | 6 => 0x42C80000#32
  | 7 => 0x41E00000#32
  | 8 => 0x42C80000#32
  | 9 => 0x42100000#32
  | 10 => 0x42C80000#32
  | 11 => 0x42300000#32
  | 12 => 0x42C80000#32
  | 13 => 0x42500000#32
  | 14 => 0x42C80000#32
  | 15 => 0x42700000#32
  | 16 => 0x42C80000#32
  | 17 => 0x42880000#32
  | 18 => 0x42C80000#32
  | 19 => 0x42980000#32
  | 20 => 0x42C80000#32
  | 21 => 0x42A80000#32
  | 22 => 0x42C80000#32
  | 23 => 0x42B80000#32
  | 24 => 0x42C80000#32
  | 25 => 0x42C80000#32
  | 26 => 0x42C80000#32
  | 27 => 0x42D80000#32
  | 28 => 0x42C80000#32
  | 29 => 0x42E80000#32
  | 30 => 0x42C80000#32
  | 31 => 0x42F80000#32
  | 32 => 0x42C80000#32
  | 33 => 0x43040000#32
  | 34 => 0x42C80000#32
  | 35 => 0x430C0000#32
  | 36 => 0x42C80000#32
  | 37 => 0x43140000#32
  | 38 => 0x42C80000#32
  | 39 => 0x431C0000#32
  | 40 => 0x42C80000#32
  | 41 => 0x43240000#32
  | 42 => 0x42C80000#32
  | 43 => 0x432C0000#32
  | 44 => 0x42C80000#32
  | 45 => 0x43340000#32
  | 46 => 0x42C80000#32
  | 47 => 0x433C0000#32
  | 48 => 0x42C80000#32
  | 49 => 0x43440000#32
  | 50 => 0x42C80000#32
  | 51 => 0x434C0000#32
  | 52 => 0x42C80000#32
  | 53 => 0x43540000#32
  | 54 => 0x42C80000#32
  | 55 => 0x435C0000#32
  | 56 => 0x42C80000#32
  | 57 => 0x43640000#32
  | 58 => 0x42C80000#32
  | 59 => 0x436C0000#32
  | 60 => 0x42C80000#32
  | 61 => 0x43740000#32
  | 62 => 0x42C80000#32
  | 63 => 0x437C0000#32
  | 64 => 0x42C80000#32
  | 65 => 0x43820000#32
  | 66 => 0x42C80000#32
  | 67 => 0x43860000#32
  | 68 => 0x42C80000#32
  | 69 => 0x438A0000#32
  | 70 => 0x42C80000#32
  | 71 => 0x438E0000#32
  | 72 => 0x42C80000#32
  | 73 => 0x43920000#32
  | 74 => 0x42C80000#32
  | 75 => 0x43960000#32
  | 76 => 0x42C80000#32
  | 77 => 0x439A0000#32
  | 78 => 0x42C80000#32
  | 79 => 0x439E0000#32
  | 80 => 0x42C80000#32
  | 81 => 0x43A20000#32
  | 82 => 0x42C80000#32
  | 83 => 0x43A60000#32
  | 84 => 0x42C80000#32
  | 85 => 0x43AA0000#32
  | 86 => 0x42C80000#32
  | 87 => 0x43AE0000#32
  | 88 => 0x42C80000#32
  | 89 => 0x43B20000#32
  | 90 => 0x42C80000#32
  | 91 => 0x43B60000#32
  | 92 => 0x42C80000#32
  | 93 => 0x43BA0000#32
  | 94 => 0x42C80000#32
  | 95 => 0x43BE0000#32
  | 96 => 0x42C80000#32
  | 97 => 0x43C20000#32
  | 98 => 0x42C80000#32
  | 99 => 0x43C60000#32
  | 100 => 0x42C80000#32
  | 101 => 0x43CA0000#32
  | 102 => 0x42C80000#32
  | 103 => 0x43CE0000#32
  | 104 => 0x42C80000#32
  | 105 => 0x43D20000#32
  | 106 => 0x42C80000#32
  | 107 => 0x43D60000#32
  | 108 => 0x42C80000#32
  | 109 => 0x43DA0000#32
  | 110 => 0x42C80000#32
  | 111 => 0x43DE0000#32
  | 112 => 0x42C80000#32
  | 113 => 0x43E20000#32
  | 114 => 0x42C80000#32
  | 115 => 0x43E60000#32
  | 116 => 0x42C80000#32
  | 117 => 0x43EA0000#32
  | 118 => 0x42C80000#32
  | 119 => 0x43EE0000#32
  | 120 => 0x42C80000#32
  | 121 => 0x43F20000#32
  | 122 => 0x42C80000#32
  | 123 => 0x43F60000#32
  | 124 => 0x42C80000#32
  | 125 => 0x43FA0000#32
  | 126 => 0x42C80000#32
  | 127 => 0x43FE0000#32
  | _ => 0#32

noncomputable abbrev lit0t0_13 (i : Nat) : BitVec 32 := match i % 128 with
  | 0 => 0x42D80000#32
  | 1 => 0x40800000#32
  | 2 => 0x42D80000#32
  | 3 => 0x41400000#32
  | 4 => 0x42D80000#32
  | 5 => 0x41A00000#32
  | 6 => 0x42D80000#32
  | 7 => 0x41E00000#32
  | 8 => 0x42D80000#32
  | 9 => 0x42100000#32
  | 10 => 0x42D80000#32
  | 11 => 0x42300000#32
  | 12 => 0x42D80000#32
  | 13 => 0x42500000#32
  | 14 => 0x42D80000#32
  | 15 => 0x42700000#32
  | 16 => 0x42D80000#32
  | 17 => 0x42880000#32
  | 18 => 0x42D80000#32
  | 19 => 0x42980000#32
  | 20 => 0x42D80000#32
  | 21 => 0x42A80000#32
  | 22 => 0x42D80000#32
  | 23 => 0x42B80000#32
  | 24 => 0x42D80000#32
  | 25 => 0x42C80000#32
  | 26 => 0x42D80000#32
  | 27 => 0x42D80000#32
  | 28 => 0x42D80000#32
  | 29 => 0x42E80000#32
  | 30 => 0x42D80000#32
  | 31 => 0x42F80000#32
  | 32 => 0x42D80000#32
  | 33 => 0x43040000#32
  | 34 => 0x42D80000#32
  | 35 => 0x430C0000#32
  | 36 => 0x42D80000#32
  | 37 => 0x43140000#32
  | 38 => 0x42D80000#32
  | 39 => 0x431C0000#32
  | 40 => 0x42D80000#32
  | 41 => 0x43240000#32
  | 42 => 0x42D80000#32
  | 43 => 0x432C0000#32
  | 44 => 0x42D80000#32
  | 45 => 0x43340000#32
  | 46 => 0x42D80000#32
  | 47 => 0x433C0000#32
  | 48 => 0x42D80000#32
  | 49 => 0x43440000#32
  | 50 => 0x42D80000#32
  | 51 => 0x434C0000#32
  | 52 => 0x42D80000#32
  | 53 => 0x43540000#32
  | 54 => 0x42D80000#32
  | 55 => 0x435C0000#32
  | 56 => 0x42D80000#32
  | 57 => 0x43640000#32
  | 58 => 0x42D80000#32
  | 59 => 0x436C0000#32
  | 60 => 0x42D80000#32
  | 61 => 0x43740000#32
  | 62 => 0x42D80000#32
  | 63 => 0x437C0000#32
  | 64 => 0x42D80000#32
  | 65 => 0x43820000#32
  | 66 => 0x42D80000#32
  | 67 => 0x43860000#32
  | 68 => 0x42D80000#32
  | 69 => 0x438A0000#32
  | 70 => 0x42D80000#32
  | 71 => 0x438E0000#32
  | 72 => 0x42D80000#32
  | 73 => 0x43920000#32
  | 74 => 0x42D80000#32
  | 75 => 0x43960000#32
  | 76 => 0x42D80000#32
  | 77 => 0x439A0000#32
  | 78 => 0x42D80000#32
  | 79 => 0x439E0000#32
  | 80 => 0x42D80000#32
  | 81 => 0x43A20000#32
  | 82 => 0x42D80000#32
  | 83 => 0x43A60000#32
  | 84 => 0x42D80000#32
  | 85 => 0x43AA0000#32
  | 86 => 0x42D80000#32
  | 87 => 0x43AE0000#32
  | 88 => 0x42D80000#32
  | 89 => 0x43B20000#32
  | 90 => 0x42D80000#32
  | 91 => 0x43B60000#32
  | 92 => 0x42D80000#32
  | 93 => 0x43BA0000#32
  | 94 => 0x42D80000#32
  | 95 => 0x43BE0000#32
  | 96 => 0x42D80000#32
  | 97 => 0x43C20000#32
  | 98 => 0x42D80000#32
  | 99 => 0x43C60000#32
  | 100 => 0x42D80000#32
  | 101 => 0x43CA0000#32
  | 102 => 0x42D80000#32
  | 103 => 0x43CE0000#32
  | 104 => 0x42D80000#32
  | 105 => 0x43D20000#32
  | 106 => 0x42D80000#32
  | 107 => 0x43D60000#32
  | 108 => 0x42D80000#32
  | 109 => 0x43DA0000#32
  | 110 => 0x42D80000#32
  | 111 => 0x43DE0000#32
  | 112 => 0x42D80000#32
  | 113 => 0x43E20000#32
  | 114 => 0x42D80000#32
  | 115 => 0x43E60000#32
  | 116 => 0x42D80000#32
  | 117 => 0x43EA0000#32
  | 118 => 0x42D80000#32
  | 119 => 0x43EE0000#32
  | 120 => 0x42D80000#32
  | 121 => 0x43F20000#32
  | 122 => 0x42D80000#32
  | 123 => 0x43F60000#32
  | 124 => 0x42D80000#32
  | 125 => 0x43FA0000#32
  | 126 => 0x42D80000#32
  | 127 => 0x43FE0000#32
  | _ => 0#32

noncomputable abbrev lit0t0_14 (i : Nat) : BitVec 32 := match i % 128 with
  | 0 => 0x42E80000#32
  | 1 => 0x40800000#32
  | 2 => 0x42E80000#32
  | 3 => 0x41400000#32
  | 4 => 0x42E80000#32
  | 5 => 0x41A00000#32
  | 6 => 0x42E80000#32
  | 7 => 0x41E00000#32
  | 8 => 0x42E80000#32
  | 9 => 0x42100000#32
  | 10 => 0x42E80000#32
  | 11 => 0x42300000#32
  | 12 => 0x42E80000#32
  | 13 => 0x42500000#32
  | 14 => 0x42E80000#32
  | 15 => 0x42700000#32
  | 16 => 0x42E80000#32
  | 17 => 0x42880000#32
  | 18 => 0x42E80000#32
  | 19 => 0x42980000#32
  | 20 => 0x42E80000#32
  | 21 => 0x42A80000#32
  | 22 => 0x42E80000#32
  | 23 => 0x42B80000#32
  | 24 => 0x42E80000#32
  | 25 => 0x42C80000#32
  | 26 => 0x42E80000#32
  | 27 => 0x42D80000#32
  | 28 => 0x42E80000#32
  | 29 => 0x42E80000#32
  | 30 => 0x42E80000#32
  | 31 => 0x42F80000#32
  | 32 => 0x42E80000#32
  | 33 => 0x43040000#32
  | 34 => 0x42E80000#32
  | 35 => 0x430C0000#32
  | 36 => 0x42E80000#32
  | 37 => 0x43140000#32
  | 38 => 0x42E80000#32
  | 39 => 0x431C0000#32
  | 40 => 0x42E80000#32
  | 41 => 0x43240000#32
  | 42 => 0x42E80000#32
  | 43 => 0x432C0000#32
  | 44 => 0x42E80000#32
  | 45 => 0x43340000#32
  | 46 => 0x42E80000#32
  | 47 => 0x433C0000#32
  | 48 => 0x42E80000#32
  | 49 => 0x43440000#32
  | 50 => 0x42E80000#32
  | 51 => 0x434C0000#32
  | 52 => 0x42E80000#32
  | 53 => 0x43540000#32
  | 54 => 0x42E80000#32
  | 55 => 0x435C0000#32
  | 56 => 0x42E80000#32
  | 57 => 0x43640000#32
  | 58 => 0x42E80000#32
  | 59 => 0x436C0000#32
  | 60 => 0x42E80000#32
  | 61 => 0x43740000#32
  | 62 => 0x42E80000#32
  | 63 => 0x437C0000#32
  | 64 => 0x42E80000#32
  | 65 => 0x43820000#32
  | 66 => 0x42E80000#32
  | 67 => 0x43860000#32
  | 68 => 0x42E80000#32
  | 69 => 0x438A0000#32
  | 70 => 0x42E80000#32
  | 71 => 0x438E0000#32
  | 72 => 0x42E80000#32
  | 73 => 0x43920000#32
  | 74 => 0x42E80000#32
  | 75 => 0x43960000#32
  | 76 => 0x42E80000#32
  | 77 => 0x439A0000#32
  | 78 => 0x42E80000#32
  | 79 => 0x439E0000#32
  | 80 => 0x42E80000#32
  | 81 => 0x43A20000#32
  | 82 => 0x42E80000#32
  | 83 => 0x43A60000#32
  | 84 => 0x42E80000#32
  | 85 => 0x43AA0000#32
  | 86 => 0x42E80000#32
  | 87 => 0x43AE0000#32
  | 88 => 0x42E80000#32
  | 89 => 0x43B20000#32
  | 90 => 0x42E80000#32
  | 91 => 0x43B60000#32
  | 92 => 0x42E80000#32
  | 93 => 0x43BA0000#32
  | 94 => 0x42E80000#32
  | 95 => 0x43BE0000#32
  | 96 => 0x42E80000#32
  | 97 => 0x43C20000#32
  | 98 => 0x42E80000#32
  | 99 => 0x43C60000#32
  | 100 => 0x42E80000#32
  | 101 => 0x43CA0000#32
  | 102 => 0x42E80000#32
  | 103 => 0x43CE0000#32
  | 104 => 0x42E80000#32
  | 105 => 0x43D20000#32
  | 106 => 0x42E80000#32
  | 107 => 0x43D60000#32
  | 108 => 0x42E80000#32
  | 109 => 0x43DA0000#32
  | 110 => 0x42E80000#32
  | 111 => 0x43DE0000#32
  | 112 => 0x42E80000#32
  | 113 => 0x43E20000#32
  | 114 => 0x42E80000#32
  | 115 => 0x43E60000#32
  | 116 => 0x42E80000#32
  | 117 => 0x43EA0000#32
  | 118 => 0x42E80000#32
  | 119 => 0x43EE0000#32
  | 120 => 0x42E80000#32
  | 121 => 0x43F20000#32
  | 122 => 0x42E80000#32
  | 123 => 0x43F60000#32
  | 124 => 0x42E80000#32
  | 125 => 0x43FA0000#32
  | 126 => 0x42E80000#32
  | 127 => 0x43FE0000#32
  | _ => 0#32

noncomputable abbrev lit0t0_15 (i : Nat) : BitVec 32 := match i % 128 with
  | 0 => 0x42F80000#32
  | 1 => 0x40800000#32
  | 2 => 0x42F80000#32
  | 3 => 0x41400000#32
  | 4 => 0x42F80000#32
  | 5 => 0x41A00000#32
  | 6 => 0x42F80000#32
  | 7 => 0x41E00000#32
  | 8 => 0x42F80000#32
  | 9 => 0x42100000#32
  | 10 => 0x42F80000#32
  | 11 => 0x42300000#32
  | 12 => 0x42F80000#32
  | 13 => 0x42500000#32
  | 14 => 0x42F80000#32
  | 15 => 0x42700000#32
  | 16 => 0x42F80000#32
  | 17 => 0x42880000#32
  | 18 => 0x42F80000#32
  | 19 => 0x42980000#32
  | 20 => 0x42F80000#32
  | 21 => 0x42A80000#32
  | 22 => 0x42F80000#32
  | 23 => 0x42B80000#32
  | 24 => 0x42F80000#32
  | 25 => 0x42C80000#32
  | 26 => 0x42F80000#32
  | 27 => 0x42D80000#32
  | 28 => 0x42F80000#32
  | 29 => 0x42E80000#32
  | 30 => 0x42F80000#32
  | 31 => 0x42F80000#32
  | 32 => 0x42F80000#32
  | 33 => 0x43040000#32
  | 34 => 0x42F80000#32
  | 35 => 0x430C0000#32
  | 36 => 0x42F80000#32
  | 37 => 0x43140000#32
  | 38 => 0x42F80000#32
  | 39 => 0x431C0000#32
  | 40 => 0x42F80000#32
  | 41 => 0x43240000#32
  | 42 => 0x42F80000#32
  | 43 => 0x432C0000#32
  | 44 => 0x42F80000#32
  | 45 => 0x43340000#32
  | 46 => 0x42F80000#32
  | 47 => 0x433C0000#32
  | 48 => 0x42F80000#32
  | 49 => 0x43440000#32
  | 50 => 0x42F80000#32
  | 51 => 0x434C0000#32
  | 52 => 0x42F80000#32
  | 53 => 0x43540000#32
  | 54 => 0x42F80000#32
  | 55 => 0x435C0000#32
  | 56 => 0x42F80000#32
  | 57 => 0x43640000#32
  | 58 => 0x42F80000#32
  | 59 => 0x436C0000#32
  | 60 => 0x42F80000#32
  | 61 => 0x43740000#32
  | 62 => 0x42F80000#32
  | 63 => 0x437C0000#32
  | 64 => 0x42F80000#32
  | 65 => 0x43820000#32
  | 66 => 0x42F80000#32
  | 67 => 0x43860000#32
  | 68 => 0x42F80000#32
  | 69 => 0x438A0000#32
  | 70 => 0x42F80000#32
  | 71 => 0x438E0000#32
  | 72 => 0x42F80000#32
  | 73 => 0x43920000#32
  | 74 => 0x42F80000#32
  | 75 => 0x43960000#32
  | 76 => 0x42F80000#32
  | 77 => 0x439A0000#32
  | 78 => 0x42F80000#32
  | 79 => 0x439E0000#32
  | 80 => 0x42F80000#32
  | 81 => 0x43A20000#32
  | 82 => 0x42F80000#32
  | 83 => 0x43A60000#32
  | 84 => 0x42F80000#32
  | 85 => 0x43AA0000#32
  | 86 => 0x42F80000#32
  | 87 => 0x43AE0000#32
  | 88 => 0x42F80000#32
  | 89 => 0x43B20000#32
  | 90 => 0x42F80000#32
  | 91 => 0x43B60000#32
  | 92 => 0x42F80000#32
  | 93 => 0x43BA0000#32
  | 94 => 0x42F80000#32
  | 95 => 0x43BE0000#32
  | 96 => 0x42F80000#32
  | 97 => 0x43C20000#32
  | 98 => 0x42F80000#32
  | 99 => 0x43C60000#32
  | 100 => 0x42F80000#32
  | 101 => 0x43CA0000#32
  | 102 => 0x42F80000#32
  | 103 => 0x43CE0000#32
  | 104 => 0x42F80000#32
  | 105 => 0x43D20000#32
  | 106 => 0x42F80000#32
  | 107 => 0x43D60000#32
  | 108 => 0x42F80000#32
  | 109 => 0x43DA0000#32
  | 110 => 0x42F80000#32
  | 111 => 0x43DE0000#32
  | 112 => 0x42F80000#32
  | 113 => 0x43E20000#32
  | 114 => 0x42F80000#32
  | 115 => 0x43E60000#32
  | 116 => 0x42F80000#32
  | 117 => 0x43EA0000#32
  | 118 => 0x42F80000#32
  | 119 => 0x43EE0000#32
  | 120 => 0x42F80000#32
  | 121 => 0x43F20000#32
  | 122 => 0x42F80000#32
  | 123 => 0x43F60000#32
  | 124 => 0x42F80000#32
  | 125 => 0x43FA0000#32
  | 126 => 0x42F80000#32
  | 127 => 0x43FE0000#32
  | _ => 0#32

noncomputable abbrev lit0t0_16 (i : Nat) : BitVec 32 := match i % 128 with
  | 0 => 0x43040000#32
  | 1 => 0x40800000#32
  | 2 => 0x43040000#32
  | 3 => 0x41400000#32
  | 4 => 0x43040000#32
  | 5 => 0x41A00000#32
  | 6 => 0x43040000#32
  | 7 => 0x41E00000#32
  | 8 => 0x43040000#32
  | 9 => 0x42100000#32
  | 10 => 0x43040000#32
  | 11 => 0x42300000#32
  | 12 => 0x43040000#32
  | 13 => 0x42500000#32
  | 14 => 0x43040000#32
  | 15 => 0x42700000#32
  | 16 => 0x43040000#32
  | 17 => 0x42880000#32
  | 18 => 0x43040000#32
  | 19 => 0x42980000#32
  | 20 => 0x43040000#32
  | 21 => 0x42A80000#32
  | 22 => 0x43040000#32
  | 23 => 0x42B80000#32
  | 24 => 0x43040000#32
  | 25 => 0x42C80000#32
  | 26 => 0x43040000#32
  | 27 => 0x42D80000#32
  | 28 => 0x43040000#32
  | 29 => 0x42E80000#32
  | 30 => 0x43040000#32
  | 31 => 0x42F80000#32
  | 32 => 0x43040000#32
  | 33 => 0x43040000#32
  | 34 => 0x43040000#32
  | 35 => 0x430C0000#32
  | 36 => 0x43040000#32
  | 37 => 0x43140000#32
  | 38 => 0x43040000#32
  | 39 => 0x431C0000#32
  | 40 => 0x43040000#32
  | 41 => 0x43240000#32
  | 42 => 0x43040000#32
  | 43 => 0x432C0000#32
  | 44 => 0x43040000#32
  | 45 => 0x43340000#32
  | 46 => 0x43040000#32
  | 47 => 0x433C0000#32
  | 48 => 0x43040000#32
  | 49 => 0x43440000#32
  | 50 => 0x43040000#32
  | 51 => 0x434C0000#32
  | 52 => 0x43040000#32
  | 53 => 0x43540000#32
  | 54 => 0x43040000#32
  | 55 => 0x435C0000#32
  | 56 => 0x43040000#32
  | 57 => 0x43640000#32
  | 58 => 0x43040000#32
  | 59 => 0x436C0000#32
  | 60 => 0x43040000#32
  | 61 => 0x43740000#32
  | 62 => 0x43040000#32
  | 63 => 0x437C0000#32
  | 64 => 0x43040000#32
  | 65 => 0x43820000#32
  | 66 => 0x43040000#32
  | 67 => 0x43860000#32
  | 68 => 0x43040000#32
  | 69 => 0x438A0000#32
  | 70 => 0x43040000#32
  | 71 => 0x438E0000#32
  | 72 => 0x43040000#32
  | 73 => 0x43920000#32
  | 74 => 0x43040000#32
  | 75 => 0x43960000#32
  | 76 => 0x43040000#32
  | 77 => 0x439A0000#32
  | 78 => 0x43040000#32
  | 79 => 0x439E0000#32
  | 80 => 0x43040000#32
  | 81 => 0x43A20000#32
  | 82 => 0x43040000#32
  | 83 => 0x43A60000#32
  | 84 => 0x43040000#32
  | 85 => 0x43AA0000#32
  | 86 => 0x43040000#32
  | 87 => 0x43AE0000#32
  | 88 => 0x43040000#32
  | 89 => 0x43B20000#32
  | 90 => 0x43040000#32
  | 91 => 0x43B60000#32
  | 92 => 0x43040000#32
  | 93 => 0x43BA0000#32
  | 94 => 0x43040000#32
  | 95 => 0x43BE0000#32
  | 96 => 0x43040000#32
  | 97 => 0x43C20000#32
  | 98 => 0x43040000#32
  | 99 => 0x43C60000#32
  | 100 => 0x43040000#32
  | 101 => 0x43CA0000#32
  | 102 => 0x43040000#32
  | 103 => 0x43CE0000#32
  | 104 => 0x43040000#32
  | 105 => 0x43D20000#32
  | 106 => 0x43040000#32
  | 107 => 0x43D60000#32
  | 108 => 0x43040000#32
  | 109 => 0x43DA0000#32
  | 110 => 0x43040000#32
  | 111 => 0x43DE0000#32
  | 112 => 0x43040000#32
  | 113 => 0x43E20000#32
  | 114 => 0x43040000#32
  | 115 => 0x43E60000#32
  | 116 => 0x43040000#32
  | 117 => 0x43EA0000#32
  | 118 => 0x43040000#32
  | 119 => 0x43EE0000#32
  | 120 => 0x43040000#32
  | 121 => 0x43F20000#32
  | 122 => 0x43040000#32
  | 123 => 0x43F60000#32
  | 124 => 0x43040000#32
  | 125 => 0x43FA0000#32
  | 126 => 0x43040000#32
  | 127 => 0x43FE0000#32
  | _ => 0#32

noncomputable abbrev lit0t0_17 (i : Nat) : BitVec 32 := match i % 128 with
  | 0 => 0x430C0000#32
  | 1 => 0x40800000#32
  | 2 => 0x430C0000#32
  | 3 => 0x41400000#32
  | 4 => 0x430C0000#32
  | 5 => 0x41A00000#32
  | 6 => 0x430C0000#32
  | 7 => 0x41E00000#32
  | 8 => 0x430C0000#32
  | 9 => 0x42100000#32
  | 10 => 0x430C0000#32
  | 11 => 0x42300000#32
  | 12 => 0x430C0000#32
  | 13 => 0x42500000#32
  | 14 => 0x430C0000#32
  | 15 => 0x42700000#32
  | 16 => 0x430C0000#32
  | 17 => 0x42880000#32
  | 18 => 0x430C0000#32
  | 19 => 0x42980000#32
  | 20 => 0x430C0000#32
  | 21 => 0x42A80000#32
  | 22 => 0x430C0000#32
  | 23 => 0x42B80000#32
  | 24 => 0x430C0000#32
  | 25 => 0x42C80000#32
  | 26 => 0x430C0000#32
  | 27 => 0x42D80000#32
  | 28 => 0x430C0000#32
  | 29 => 0x42E80000#32
  | 30 => 0x430C0000#32
  | 31 => 0x42F80000#32
  | 32 => 0x430C0000#32
  | 33 => 0x43040000#32
  | 34 => 0x430C0000#32
  | 35 => 0x430C0000#32
  | 36 => 0x430C0000#32
  | 37 => 0x43140000#32
  | 38 => 0x430C0000#32
  | 39 => 0x431C0000#32
  | 40 => 0x430C0000#32
  | 41 => 0x43240000#32
  | 42 => 0x430C0000#32
  | 43 => 0x432C0000#32
  | 44 => 0x430C0000#32
  | 45 => 0x43340000#32
  | 46 => 0x430C0000#32
  | 47 => 0x433C0000#32
  | 48 => 0x430C0000#32
  | 49 => 0x43440000#32
  | 50 => 0x430C0000#32
  | 51 => 0x434C0000#32
  | 52 => 0x430C0000#32
  | 53 => 0x43540000#32
  | 54 => 0x430C0000#32
  | 55 => 0x435C0000#32
  | 56 => 0x430C0000#32
  | 57 => 0x43640000#32
  | 58 => 0x430C0000#32
  | 59 => 0x436C0000#32
  | 60 => 0x430C0000#32
  | 61 => 0x43740000#32
  | 62 => 0x430C0000#32
  | 63 => 0x437C0000#32
  | 64 => 0x430C0000#32
  | 65 => 0x43820000#32
  | 66 => 0x430C0000#32
  | 67 => 0x43860000#32
  | 68 => 0x430C0000#32
  | 69 => 0x438A0000#32
  | 70 => 0x430C0000#32
  | 71 => 0x438E0000#32
  | 72 => 0x430C0000#32
  | 73 => 0x43920000#32
  | 74 => 0x430C0000#32
  | 75 => 0x43960000#32
  | 76 => 0x430C0000#32
  | 77 => 0x439A0000#32
  | 78 => 0x430C0000#32
  | 79 => 0x439E0000#32
  | 80 => 0x430C0000#32
  | 81 => 0x43A20000#32
  | 82 => 0x430C0000#32
  | 83 => 0x43A60000#32
  | 84 => 0x430C0000#32
  | 85 => 0x43AA0000#32
  | 86 => 0x430C0000#32
  | 87 => 0x43AE0000#32
  | 88 => 0x430C0000#32
  | 89 => 0x43B20000#32
  | 90 => 0x430C0000#32
  | 91 => 0x43B60000#32
  | 92 => 0x430C0000#32
  | 93 => 0x43BA0000#32
  | 94 => 0x430C0000#32
  | 95 => 0x43BE0000#32
  | 96 => 0x430C0000#32
  | 97 => 0x43C20000#32
  | 98 => 0x430C0000#32
  | 99 => 0x43C60000#32
  | 100 => 0x430C0000#32
  | 101 => 0x43CA0000#32
  | 102 => 0x430C0000#32
  | 103 => 0x43CE0000#32
  | 104 => 0x430C0000#32
  | 105 => 0x43D20000#32
  | 106 => 0x430C0000#32
  | 107 => 0x43D60000#32
  | 108 => 0x430C0000#32
  | 109 => 0x43DA0000#32
  | 110 => 0x430C0000#32
  | 111 => 0x43DE0000#32
  | 112 => 0x430C0000#32
  | 113 => 0x43E20000#32
  | 114 => 0x430C0000#32
  | 115 => 0x43E60000#32
  | 116 => 0x430C0000#32
  | 117 => 0x43EA0000#32
  | 118 => 0x430C0000#32
  | 119 => 0x43EE0000#32
  | 120 => 0x430C0000#32
  | 121 => 0x43F20000#32
  | 122 => 0x430C0000#32
  | 123 => 0x43F60000#32
  | 124 => 0x430C0000#32
  | 125 => 0x43FA0000#32
  | 126 => 0x430C0000#32
  | 127 => 0x43FE0000#32
  | _ => 0#32

noncomputable abbrev lit0t0_18 (i : Nat) : BitVec 32 := match i % 128 with
  | 0 => 0x43140000#32
  | 1 => 0x40800000#32
  | 2 => 0x43140000#32
  | 3 => 0x41400000#32
  | 4 => 0x43140000#32
  | 5 => 0x41A00000#32
  | 6 => 0x43140000#32
  | 7 => 0x41E00000#32
  | 8 => 0x43140000#32
  | 9 => 0x42100000#32
  | 10 => 0x43140000#32
  | 11 => 0x42300000#32
  | 12 => 0x43140000#32
  | 13 => 0x42500000#32
  | 14 => 0x43140000#32
  | 15 => 0x42700000#32
  | 16 => 0x43140000#32
  | 17 => 0x42880000#32
  | 18 => 0x43140000#32
  | 19 => 0x42980000#32
  | 20 => 0x43140000#32
  | 21 => 0x42A80000#32
  | 22 => 0x43140000#32
  | 23 => 0x42B80000#32
  | 24 => 0x43140000#32
  | 25 => 0x42C80000#32
  | 26 => 0x43140000#32
  | 27 => 0x42D80000#32
  | 28 => 0x43140000#32
  | 29 => 0x42E80000#32
  | 30 => 0x43140000#32
  | 31 => 0x42F80000#32
  | 32 => 0x43140000#32
  | 33 => 0x43040000#32
  | 34 => 0x43140000#32
  | 35 => 0x430C0000#32
  | 36 => 0x43140000#32
  | 37 => 0x43140000#32
  | 38 => 0x43140000#32
  | 39 => 0x431C0000#32
  | 40 => 0x43140000#32
  | 41 => 0x43240000#32
  | 42 => 0x43140000#32
  | 43 => 0x432C0000#32
  | 44 => 0x43140000#32
  | 45 => 0x43340000#32
  | 46 => 0x43140000#32
  | 47 => 0x433C0000#32
  | 48 => 0x43140000#32
  | 49 => 0x43440000#32
  | 50 => 0x43140000#32
  | 51 => 0x434C0000#32
  | 52 => 0x43140000#32
  | 53 => 0x43540000#32
  | 54 => 0x43140000#32
  | 55 => 0x435C0000#32
  | 56 => 0x43140000#32
  | 57 => 0x43640000#32
  | 58 => 0x43140000#32
  | 59 => 0x436C0000#32
  | 60 => 0x43140000#32
  | 61 => 0x43740000#32
  | 62 => 0x43140000#32
  | 63 => 0x437C0000#32
  | 64 => 0x43140000#32
  | 65 => 0x43820000#32
  | 66 => 0x43140000#32
  | 67 => 0x43860000#32
  | 68 => 0x43140000#32
  | 69 => 0x438A0000#32
  | 70 => 0x43140000#32
  | 71 => 0x438E0000#32
  | 72 => 0x43140000#32
  | 73 => 0x43920000#32
  | 74 => 0x43140000#32
  | 75 => 0x43960000#32
  | 76 => 0x43140000#32
  | 77 => 0x439A0000#32
  | 78 => 0x43140000#32
  | 79 => 0x439E0000#32
  | 80 => 0x43140000#32
  | 81 => 0x43A20000#32
  | 82 => 0x43140000#32
  | 83 => 0x43A60000#32
  | 84 => 0x43140000#32
  | 85 => 0x43AA0000#32
  | 86 => 0x43140000#32
  | 87 => 0x43AE0000#32
  | 88 => 0x43140000#32
  | 89 => 0x43B20000#32
  | 90 => 0x43140000#32
  | 91 => 0x43B60000#32
  | 92 => 0x43140000#32
  | 93 => 0x43BA0000#32
  | 94 => 0x43140000#32
  | 95 => 0x43BE0000#32
  | 96 => 0x43140000#32
  | 97 => 0x43C20000#32
  | 98 => 0x43140000#32
  | 99 => 0x43C60000#32
  | 100 => 0x43140000#32
  | 101 => 0x43CA0000#32
  | 102 => 0x43140000#32
  | 103 => 0x43CE0000#32
  | 104 => 0x43140000#32
  | 105 => 0x43D20000#32
  | 106 => 0x43140000#32
  | 107 => 0x43D60000#32
  | 108 => 0x43140000#32
  | 109 => 0x43DA0000#32
  | 110 => 0x43140000#32
  | 111 => 0x43DE0000#32
  | 112 => 0x43140000#32
  | 113 => 0x43E20000#32
  | 114 => 0x43140000#32
  | 115 => 0x43E60000#32
  | 116 => 0x43140000#32
  | 117 => 0x43EA0000#32
  | 118 => 0x43140000#32
  | 119 => 0x43EE0000#32
  | 120 => 0x43140000#32
  | 121 => 0x43F20000#32
  | 122 => 0x43140000#32
  | 123 => 0x43F60000#32
  | 124 => 0x43140000#32
  | 125 => 0x43FA0000#32
  | 126 => 0x43140000#32
  | 127 => 0x43FE0000#32
  | _ => 0#32

noncomputable abbrev lit0t0_19 (i : Nat) : BitVec 32 := match i % 128 with
  | 0 => 0x431C0000#32
  | 1 => 0x40800000#32
  | 2 => 0x431C0000#32
  | 3 => 0x41400000#32
  | 4 => 0x431C0000#32
  | 5 => 0x41A00000#32
  | 6 => 0x431C0000#32
  | 7 => 0x41E00000#32
  | 8 => 0x431C0000#32
  | 9 => 0x42100000#32
  | 10 => 0x431C0000#32
  | 11 => 0x42300000#32
  | 12 => 0x431C0000#32
  | 13 => 0x42500000#32
  | 14 => 0x431C0000#32
  | 15 => 0x42700000#32
  | 16 => 0x431C0000#32
  | 17 => 0x42880000#32
  | 18 => 0x431C0000#32
  | 19 => 0x42980000#32
  | 20 => 0x431C0000#32
  | 21 => 0x42A80000#32
  | 22 => 0x431C0000#32
  | 23 => 0x42B80000#32
  | 24 => 0x431C0000#32
  | 25 => 0x42C80000#32
  | 26 => 0x431C0000#32
  | 27 => 0x42D80000#32
  | 28 => 0x431C0000#32
  | 29 => 0x42E80000#32
  | 30 => 0x431C0000#32
  | 31 => 0x42F80000#32
  | 32 => 0x431C0000#32
  | 33 => 0x43040000#32
  | 34 => 0x431C0000#32
  | 35 => 0x430C0000#32
  | 36 => 0x431C0000#32
  | 37 => 0x43140000#32
  | 38 => 0x431C0000#32
  | 39 => 0x431C0000#32
  | 40 => 0x431C0000#32
  | 41 => 0x43240000#32
  | 42 => 0x431C0000#32
  | 43 => 0x432C0000#32
  | 44 => 0x431C0000#32
  | 45 => 0x43340000#32
  | 46 => 0x431C0000#32
  | 47 => 0x433C0000#32
  | 48 => 0x431C0000#32
  | 49 => 0x43440000#32
  | 50 => 0x431C0000#32
  | 51 => 0x434C0000#32
  | 52 => 0x431C0000#32
  | 53 => 0x43540000#32
  | 54 => 0x431C0000#32
  | 55 => 0x435C0000#32
  | 56 => 0x431C0000#32
  | 57 => 0x43640000#32
  | 58 => 0x431C0000#32
  | 59 => 0x436C0000#32
  | 60 => 0x431C0000#32
  | 61 => 0x43740000#32
  | 62 => 0x431C0000#32
  | 63 => 0x437C0000#32
  | 64 => 0x431C0000#32
  | 65 => 0x43820000#32
  | 66 => 0x431C0000#32
  | 67 => 0x43860000#32
  | 68 => 0x431C0000#32
  | 69 => 0x438A0000#32
  | 70 => 0x431C0000#32
  | 71 => 0x438E0000#32
  | 72 => 0x431C0000#32
  | 73 => 0x43920000#32
  | 74 => 0x431C0000#32
  | 75 => 0x43960000#32
  | 76 => 0x431C0000#32
  | 77 => 0x439A0000#32
  | 78 => 0x431C0000#32
  | 79 => 0x439E0000#32
  | 80 => 0x431C0000#32
  | 81 => 0x43A20000#32
  | 82 => 0x431C0000#32
  | 83 => 0x43A60000#32
  | 84 => 0x431C0000#32
  | 85 => 0x43AA0000#32
  | 86 => 0x431C0000#32
  | 87 => 0x43AE0000#32
  | 88 => 0x431C0000#32
  | 89 => 0x43B20000#32
  | 90 => 0x431C0000#32
  | 91 => 0x43B60000#32
  | 92 => 0x431C0000#32
  | 93 => 0x43BA0000#32
  | 94 => 0x431C0000#32
  | 95 => 0x43BE0000#32
  | 96 => 0x431C0000#32
  | 97 => 0x43C20000#32
  | 98 => 0x431C0000#32
  | 99 => 0x43C60000#32
  | 100 => 0x431C0000#32
  | 101 => 0x43CA0000#32
  | 102 => 0x431C0000#32
  | 103 => 0x43CE0000#32
  | 104 => 0x431C0000#32
  | 105 => 0x43D20000#32
  | 106 => 0x431C0000#32
  | 107 => 0x43D60000#32
  | 108 => 0x431C0000#32
  | 109 => 0x43DA0000#32
  | 110 => 0x431C0000#32
  | 111 => 0x43DE0000#32
  | 112 => 0x431C0000#32
  | 113 => 0x43E20000#32
  | 114 => 0x431C0000#32
  | 115 => 0x43E60000#32
  | 116 => 0x431C0000#32
  | 117 => 0x43EA0000#32
  | 118 => 0x431C0000#32
  | 119 => 0x43EE0000#32
  | 120 => 0x431C0000#32
  | 121 => 0x43F20000#32
  | 122 => 0x431C0000#32
  | 123 => 0x43F60000#32
  | 124 => 0x431C0000#32
  | 125 => 0x43FA0000#32
  | 126 => 0x431C0000#32
  | 127 => 0x43FE0000#32
  | _ => 0#32

noncomputable abbrev lit0t0_20 (i : Nat) : BitVec 32 := match i % 128 with
  | 0 => 0x43240000#32
  | 1 => 0x40800000#32
  | 2 => 0x43240000#32
  | 3 => 0x41400000#32
  | 4 => 0x43240000#32
  | 5 => 0x41A00000#32
  | 6 => 0x43240000#32
  | 7 => 0x41E00000#32
  | 8 => 0x43240000#32
  | 9 => 0x42100000#32
  | 10 => 0x43240000#32
  | 11 => 0x42300000#32
  | 12 => 0x43240000#32
  | 13 => 0x42500000#32
  | 14 => 0x43240000#32
  | 15 => 0x42700000#32
  | 16 => 0x43240000#32
  | 17 => 0x42880000#32
  | 18 => 0x43240000#32
  | 19 => 0x42980000#32
  | 20 => 0x43240000#32
  | 21 => 0x42A80000#32
  | 22 => 0x43240000#32
  | 23 => 0x42B80000#32
  | 24 => 0x43240000#32
  | 25 => 0x42C80000#32
  | 26 => 0x43240000#32
  | 27 => 0x42D80000#32
  | 28 => 0x43240000#32
  | 29 => 0x42E80000#32
  | 30 => 0x43240000#32
  | 31 => 0x42F80000#32
  | 32 => 0x43240000#32
  | 33 => 0x43040000#32
  | 34 => 0x43240000#32
  | 35 => 0x430C0000#32
  | 36 => 0x43240000#32
  | 37 => 0x43140000#32
  | 38 => 0x43240000#32
  | 39 => 0x431C0000#32
  | 40 => 0x43240000#32
  | 41 => 0x43240000#32
  | 42 => 0x43240000#32
  | 43 => 0x432C0000#32
  | 44 => 0x43240000#32
  | 45 => 0x43340000#32
  | 46 => 0x43240000#32
  | 47 => 0x433C0000#32
  | 48 => 0x43240000#32
  | 49 => 0x43440000#32
  | 50 => 0x43240000#32
  | 51 => 0x434C0000#32
  | 52 => 0x43240000#32
  | 53 => 0x43540000#32
  | 54 => 0x43240000#32
  | 55 => 0x435C0000#32
  | 56 => 0x43240000#32
  | 57 => 0x43640000#32
  | 58 => 0x43240000#32
  | 59 => 0x436C0000#32
  | 60 => 0x43240000#32
  | 61 => 0x43740000#32
  | 62 => 0x43240000#32
  | 63 => 0x437C0000#32
  | 64 => 0x43240000#32
  | 65 => 0x43820000#32
  | 66 => 0x43240000#32
  | 67 => 0x43860000#32
  | 68 => 0x43240000#32
  | 69 => 0x438A0000#32
  | 70 => 0x43240000#32
  | 71 => 0x438E0000#32
  | 72 => 0x43240000#32
  | 73 => 0x43920000#32
  | 74 => 0x43240000#32
  | 75 => 0x43960000#32
  | 76 => 0x43240000#32
  | 77 => 0x439A0000#32
  | 78 => 0x43240000#32
  | 79 => 0x439E0000#32
  | 80 => 0x43240000#32
  | 81 => 0x43A20000#32
  | 82 => 0x43240000#32
  | 83 => 0x43A60000#32
  | 84 => 0x43240000#32
  | 85 => 0x43AA0000#32
  | 86 => 0x43240000#32
  | 87 => 0x43AE0000#32
  | 88 => 0x43240000#32
  | 89 => 0x43B20000#32
  | 90 => 0x43240000#32
  | 91 => 0x43B60000#32
  | 92 => 0x43240000#32
  | 93 => 0x43BA0000#32
  | 94 => 0x43240000#32
  | 95 => 0x43BE0000#32
  | 96 => 0x43240000#32
  | 97 => 0x43C20000#32
  | 98 => 0x43240000#32
  | 99 => 0x43C60000#32
  | 100 => 0x43240000#32
  | 101 => 0x43CA0000#32
  | 102 => 0x43240000#32
  | 103 => 0x43CE0000#32
  | 104 => 0x43240000#32
  | 105 => 0x43D20000#32
  | 106 => 0x43240000#32
  | 107 => 0x43D60000#32
  | 108 => 0x43240000#32
  | 109 => 0x43DA0000#32
  | 110 => 0x43240000#32
  | 111 => 0x43DE0000#32
  | 112 => 0x43240000#32
  | 113 => 0x43E20000#32
  | 114 => 0x43240000#32
  | 115 => 0x43E60000#32
  | 116 => 0x43240000#32
  | 117 => 0x43EA0000#32
  | 118 => 0x43240000#32
  | 119 => 0x43EE0000#32
  | 120 => 0x43240000#32
  | 121 => 0x43F20000#32
  | 122 => 0x43240000#32
  | 123 => 0x43F60000#32
  | 124 => 0x43240000#32
  | 125 => 0x43FA0000#32
  | 126 => 0x43240000#32
  | 127 => 0x43FE0000#32
  | _ => 0#32

noncomputable abbrev lit0t0_21 (i : Nat) : BitVec 32 := match i % 128 with
  | 0 => 0x432C0000#32
  | 1 => 0x40800000#32
  | 2 => 0x432C0000#32
  | 3 => 0x41400000#32
  | 4 => 0x432C0000#32
  | 5 => 0x41A00000#32
  | 6 => 0x432C0000#32
  | 7 => 0x41E00000#32
  | 8 => 0x432C0000#32
  | 9 => 0x42100000#32
  | 10 => 0x432C0000#32
  | 11 => 0x42300000#32
  | 12 => 0x432C0000#32
  | 13 => 0x42500000#32
  | 14 => 0x432C0000#32
  | 15 => 0x42700000#32
  | 16 => 0x432C0000#32
  | 17 => 0x42880000#32
  | 18 => 0x432C0000#32
  | 19 => 0x42980000#32
  | 20 => 0x432C0000#32
  | 21 => 0x42A80000#32
  | 22 => 0x432C0000#32
  | 23 => 0x42B80000#32
  | 24 => 0x432C0000#32
  | 25 => 0x42C80000#32
  | 26 => 0x432C0000#32
  | 27 => 0x42D80000#32
  | 28 => 0x432C0000#32
  | 29 => 0x42E80000#32
  | 30 => 0x432C0000#32
  | 31 => 0x42F80000#32
  | 32 => 0x432C0000#32
  | 33 => 0x43040000#32
  | 34 => 0x432C0000#32
  | 35 => 0x430C0000#32
  | 36 => 0x432C0000#32
  | 37 => 0x43140000#32
  | 38 => 0x432C0000#32
  | 39 => 0x431C0000#32
  | 40 => 0x432C0000#32
  | 41 => 0x43240000#32
  | 42 => 0x432C0000#32
  | 43 => 0x432C0000#32
  | 44 => 0x432C0000#32
  | 45 => 0x43340000#32
  | 46 => 0x432C0000#32
  | 47 => 0x433C0000#32
  | 48 => 0x432C0000#32
  | 49 => 0x43440000#32
  | 50 => 0x432C0000#32
  | 51 => 0x434C0000#32
  | 52 => 0x432C0000#32
  | 53 => 0x43540000#32
  | 54 => 0x432C0000#32
  | 55 => 0x435C0000#32
  | 56 => 0x432C0000#32
  | 57 => 0x43640000#32
  | 58 => 0x432C0000#32
  | 59 => 0x436C0000#32
  | 60 => 0x432C0000#32
  | 61 => 0x43740000#32
  | 62 => 0x432C0000#32
  | 63 => 0x437C0000#32
  | 64 => 0x432C0000#32
  | 65 => 0x43820000#32
  | 66 => 0x432C0000#32
  | 67 => 0x43860000#32
  | 68 => 0x432C0000#32
  | 69 => 0x438A0000#32
  | 70 => 0x432C0000#32
  | 71 => 0x438E0000#32
  | 72 => 0x432C0000#32
  | 73 => 0x43920000#32
  | 74 => 0x432C0000#32
  | 75 => 0x43960000#32
  | 76 => 0x432C0000#32
  | 77 => 0x439A0000#32
  | 78 => 0x432C0000#32
  | 79 => 0x439E0000#32
  | 80 => 0x432C0000#32
  | 81 => 0x43A20000#32
  | 82 => 0x432C0000#32
  | 83 => 0x43A60000#32
  | 84 => 0x432C0000#32
  | 85 => 0x43AA0000#32
  | 86 => 0x432C0000#32
  | 87 => 0x43AE0000#32
  | 88 => 0x432C0000#32
  | 89 => 0x43B20000#32
  | 90 => 0x432C0000#32
  | 91 => 0x43B60000#32
  | 92 => 0x432C0000#32
  | 93 => 0x43BA0000#32
  | 94 => 0x432C0000#32
  | 95 => 0x43BE0000#32
  | 96 => 0x432C0000#32
  | 97 => 0x43C20000#32
  | 98 => 0x432C0000#32
  | 99 => 0x43C60000#32
  | 100 => 0x432C0000#32
  | 101 => 0x43CA0000#32
  | 102 => 0x432C0000#32
  | 103 => 0x43CE0000#32
  | 104 => 0x432C0000#32
  | 105 => 0x43D20000#32
  | 106 => 0x432C0000#32
  | 107 => 0x43D60000#32
  | 108 => 0x432C0000#32
  | 109 => 0x43DA0000#32
  | 110 => 0x432C0000#32
  | 111 => 0x43DE0000#32
  | 112 => 0x432C0000#32
  | 113 => 0x43E20000#32
  | 114 => 0x432C0000#32
  | 115 => 0x43E60000#32
  | 116 => 0x432C0000#32
  | 117 => 0x43EA0000#32
  | 118 => 0x432C0000#32
  | 119 => 0x43EE0000#32
  | 120 => 0x432C0000#32
  | 121 => 0x43F20000#32
  | 122 => 0x432C0000#32
  | 123 => 0x43F60000#32
  | 124 => 0x432C0000#32
  | 125 => 0x43FA0000#32
  | 126 => 0x432C0000#32
  | 127 => 0x43FE0000#32
  | _ => 0#32

noncomputable abbrev lit0t0_22 (i : Nat) : BitVec 32 := match i % 128 with
  | 0 => 0x43340000#32
  | 1 => 0x40800000#32
  | 2 => 0x43340000#32
  | 3 => 0x41400000#32
  | 4 => 0x43340000#32
  | 5 => 0x41A00000#32
  | 6 => 0x43340000#32
  | 7 => 0x41E00000#32
  | 8 => 0x43340000#32
  | 9 => 0x42100000#32
  | 10 => 0x43340000#32
  | 11 => 0x42300000#32
  | 12 => 0x43340000#32
  | 13 => 0x42500000#32
  | 14 => 0x43340000#32
  | 15 => 0x42700000#32
  | 16 => 0x43340000#32
  | 17 => 0x42880000#32
  | 18 => 0x43340000#32
  | 19 => 0x42980000#32
  | 20 => 0x43340000#32
  | 21 => 0x42A80000#32
  | 22 => 0x43340000#32
  | 23 => 0x42B80000#32
  | 24 => 0x43340000#32
  | 25 => 0x42C80000#32
  | 26 => 0x43340000#32
  | 27 => 0x42D80000#32
  | 28 => 0x43340000#32
  | 29 => 0x42E80000#32
  | 30 => 0x43340000#32
  | 31 => 0x42F80000#32
  | 32 => 0x43340000#32
  | 33 => 0x43040000#32
  | 34 => 0x43340000#32
  | 35 => 0x430C0000#32
  | 36 => 0x43340000#32
  | 37 => 0x43140000#32
  | 38 => 0x43340000#32
  | 39 => 0x431C0000#32
  | 40 => 0x43340000#32
  | 41 => 0x43240000#32
  | 42 => 0x43340000#32
  | 43 => 0x432C0000#32
  | 44 => 0x43340000#32
  | 45 => 0x43340000#32
  | 46 => 0x43340000#32
  | 47 => 0x433C0000#32
  | 48 => 0x43340000#32
  | 49 => 0x43440000#32
  | 50 => 0x43340000#32
  | 51 => 0x434C0000#32
  | 52 => 0x43340000#32
  | 53 => 0x43540000#32
  | 54 => 0x43340000#32
  | 55 => 0x435C0000#32
  | 56 => 0x43340000#32
  | 57 => 0x43640000#32
  | 58 => 0x43340000#32
  | 59 => 0x436C0000#32
  | 60 => 0x43340000#32
  | 61 => 0x43740000#32
  | 62 => 0x43340000#32
  | 63 => 0x437C0000#32
  | 64 => 0x43340000#32
  | 65 => 0x43820000#32
  | 66 => 0x43340000#32
  | 67 => 0x43860000#32
  | 68 => 0x43340000#32
  | 69 => 0x438A0000#32
  | 70 => 0x43340000#32
  | 71 => 0x438E0000#32
  | 72 => 0x43340000#32
  | 73 => 0x43920000#32
  | 74 => 0x43340000#32
  | 75 => 0x43960000#32
  | 76 => 0x43340000#32
  | 77 => 0x439A0000#32
  | 78 => 0x43340000#32
  | 79 => 0x439E0000#32
  | 80 => 0x43340000#32
  | 81 => 0x43A20000#32
  | 82 => 0x43340000#32
  | 83 => 0x43A60000#32
  | 84 => 0x43340000#32
  | 85 => 0x43AA0000#32
  | 86 => 0x43340000#32
  | 87 => 0x43AE0000#32
  | 88 => 0x43340000#32
  | 89 => 0x43B20000#32
  | 90 => 0x43340000#32
  | 91 => 0x43B60000#32
  | 92 => 0x43340000#32
  | 93 => 0x43BA0000#32
  | 94 => 0x43340000#32
  | 95 => 0x43BE0000#32
  | 96 => 0x43340000#32
  | 97 => 0x43C20000#32
  | 98 => 0x43340000#32
  | 99 => 0x43C60000#32
  | 100 => 0x43340000#32
  | 101 => 0x43CA0000#32
  | 102 => 0x43340000#32
  | 103 => 0x43CE0000#32
  | 104 => 0x43340000#32
  | 105 => 0x43D20000#32
  | 106 => 0x43340000#32
  | 107 => 0x43D60000#32
  | 108 => 0x43340000#32
  | 109 => 0x43DA0000#32
  | 110 => 0x43340000#32
  | 111 => 0x43DE0000#32
  | 112 => 0x43340000#32
  | 113 => 0x43E20000#32
  | 114 => 0x43340000#32
  | 115 => 0x43E60000#32
  | 116 => 0x43340000#32
  | 117 => 0x43EA0000#32
  | 118 => 0x43340000#32
  | 119 => 0x43EE0000#32
  | 120 => 0x43340000#32
  | 121 => 0x43F20000#32
  | 122 => 0x43340000#32
  | 123 => 0x43F60000#32
  | 124 => 0x43340000#32
  | 125 => 0x43FA0000#32
  | 126 => 0x43340000#32
  | 127 => 0x43FE0000#32
  | _ => 0#32

noncomputable abbrev lit0t0_23 (i : Nat) : BitVec 32 := match i % 128 with
  | 0 => 0x433C0000#32
  | 1 => 0x40800000#32
  | 2 => 0x433C0000#32
  | 3 => 0x41400000#32
  | 4 => 0x433C0000#32
  | 5 => 0x41A00000#32
  | 6 => 0x433C0000#32
  | 7 => 0x41E00000#32
  | 8 => 0x433C0000#32
  | 9 => 0x42100000#32
  | 10 => 0x433C0000#32
  | 11 => 0x42300000#32
  | 12 => 0x433C0000#32
  | 13 => 0x42500000#32
  | 14 => 0x433C0000#32
  | 15 => 0x42700000#32
  | 16 => 0x433C0000#32
  | 17 => 0x42880000#32
  | 18 => 0x433C0000#32
  | 19 => 0x42980000#32
  | 20 => 0x433C0000#32
  | 21 => 0x42A80000#32
  | 22 => 0x433C0000#32
  | 23 => 0x42B80000#32
  | 24 => 0x433C0000#32
  | 25 => 0x42C80000#32
  | 26 => 0x433C0000#32
  | 27 => 0x42D80000#32
  | 28 => 0x433C0000#32
  | 29 => 0x42E80000#32
  | 30 => 0x433C0000#32
  | 31 => 0x42F80000#32
  | 32 => 0x433C0000#32
  | 33 => 0x43040000#32
  | 34 => 0x433C0000#32
  | 35 => 0x430C0000#32
  | 36 => 0x433C0000#32
  | 37 => 0x43140000#32
  | 38 => 0x433C0000#32
  | 39 => 0x431C0000#32
  | 40 => 0x433C0000#32
  | 41 => 0x43240000#32
  | 42 => 0x433C0000#32
  | 43 => 0x432C0000#32
  | 44 => 0x433C0000#32
  | 45 => 0x43340000#32
  | 46 => 0x433C0000#32
  | 47 => 0x433C0000#32
  | 48 => 0x433C0000#32
  | 49 => 0x43440000#32
  | 50 => 0x433C0000#32
  | 51 => 0x434C0000#32
  | 52 => 0x433C0000#32
  | 53 => 0x43540000#32
  | 54 => 0x433C0000#32
  | 55 => 0x435C0000#32
  | 56 => 0x433C0000#32
  | 57 => 0x43640000#32
  | 58 => 0x433C0000#32
  | 59 => 0x436C0000#32
  | 60 => 0x433C0000#32
  | 61 => 0x43740000#32
  | 62 => 0x433C0000#32
  | 63 => 0x437C0000#32
  | 64 => 0x433C0000#32
  | 65 => 0x43820000#32
  | 66 => 0x433C0000#32
  | 67 => 0x43860000#32
  | 68 => 0x433C0000#32
  | 69 => 0x438A0000#32
  | 70 => 0x433C0000#32
  | 71 => 0x438E0000#32
  | 72 => 0x433C0000#32
  | 73 => 0x43920000#32
  | 74 => 0x433C0000#32
  | 75 => 0x43960000#32
  | 76 => 0x433C0000#32
  | 77 => 0x439A0000#32
  | 78 => 0x433C0000#32
  | 79 => 0x439E0000#32
  | 80 => 0x433C0000#32
  | 81 => 0x43A20000#32
  | 82 => 0x433C0000#32
  | 83 => 0x43A60000#32
  | 84 => 0x433C0000#32
  | 85 => 0x43AA0000#32
  | 86 => 0x433C0000#32
  | 87 => 0x43AE0000#32
  | 88 => 0x433C0000#32
  | 89 => 0x43B20000#32
  | 90 => 0x433C0000#32
  | 91 => 0x43B60000#32
  | 92 => 0x433C0000#32
  | 93 => 0x43BA0000#32
  | 94 => 0x433C0000#32
  | 95 => 0x43BE0000#32
  | 96 => 0x433C0000#32
  | 97 => 0x43C20000#32
  | 98 => 0x433C0000#32
  | 99 => 0x43C60000#32
  | 100 => 0x433C0000#32
  | 101 => 0x43CA0000#32
  | 102 => 0x433C0000#32
  | 103 => 0x43CE0000#32
  | 104 => 0x433C0000#32
  | 105 => 0x43D20000#32
  | 106 => 0x433C0000#32
  | 107 => 0x43D60000#32
  | 108 => 0x433C0000#32
  | 109 => 0x43DA0000#32
  | 110 => 0x433C0000#32
  | 111 => 0x43DE0000#32
  | 112 => 0x433C0000#32
  | 113 => 0x43E20000#32
  | 114 => 0x433C0000#32
  | 115 => 0x43E60000#32
  | 116 => 0x433C0000#32
  | 117 => 0x43EA0000#32
  | 118 => 0x433C0000#32
  | 119 => 0x43EE0000#32
  | 120 => 0x433C0000#32
  | 121 => 0x43F20000#32
  | 122 => 0x433C0000#32
  | 123 => 0x43F60000#32
  | 124 => 0x433C0000#32
  | 125 => 0x43FA0000#32
  | 126 => 0x433C0000#32
  | 127 => 0x43FE0000#32
  | _ => 0#32

noncomputable abbrev lit0t0_24 (i : Nat) : BitVec 32 := match i % 128 with
  | 0 => 0x43440000#32
  | 1 => 0x40800000#32
  | 2 => 0x43440000#32
  | 3 => 0x41400000#32
  | 4 => 0x43440000#32
  | 5 => 0x41A00000#32
  | 6 => 0x43440000#32
  | 7 => 0x41E00000#32
  | 8 => 0x43440000#32
  | 9 => 0x42100000#32
  | 10 => 0x43440000#32
  | 11 => 0x42300000#32
  | 12 => 0x43440000#32
  | 13 => 0x42500000#32
  | 14 => 0x43440000#32
  | 15 => 0x42700000#32
  | 16 => 0x43440000#32
  | 17 => 0x42880000#32
  | 18 => 0x43440000#32
  | 19 => 0x42980000#32
  | 20 => 0x43440000#32
  | 21 => 0x42A80000#32
  | 22 => 0x43440000#32
  | 23 => 0x42B80000#32
  | 24 => 0x43440000#32
  | 25 => 0x42C80000#32
  | 26 => 0x43440000#32
  | 27 => 0x42D80000#32
  | 28 => 0x43440000#32
  | 29 => 0x42E80000#32
  | 30 => 0x43440000#32
  | 31 => 0x42F80000#32
  | 32 => 0x43440000#32
  | 33 => 0x43040000#32
  | 34 => 0x43440000#32
  | 35 => 0x430C0000#32
  | 36 => 0x43440000#32
  | 37 => 0x43140000#32
  | 38 => 0x43440000#32
  | 39 => 0x431C0000#32
  | 40 => 0x43440000#32
  | 41 => 0x43240000#32
  | 42 => 0x43440000#32
  | 43 => 0x432C0000#32
  | 44 => 0x43440000#32
  | 45 => 0x43340000#32
  | 46 => 0x43440000#32
  | 47 => 0x433C0000#32
  | 48 => 0x43440000#32
  | 49 => 0x43440000#32
  | 50 => 0x43440000#32
  | 51 => 0x434C0000#32
  | 52 => 0x43440000#32
  | 53 => 0x43540000#32
  | 54 => 0x43440000#32
  | 55 => 0x435C0000#32
  | 56 => 0x43440000#32
  | 57 => 0x43640000#32
  | 58 => 0x43440000#32
  | 59 => 0x436C0000#32
  | 60 => 0x43440000#32
  | 61 => 0x43740000#32
  | 62 => 0x43440000#32
  | 63 => 0x437C0000#32
  | 64 => 0x43440000#32
  | 65 => 0x43820000#32
  | 66 => 0x43440000#32
  | 67 => 0x43860000#32
  | 68 => 0x43440000#32
  | 69 => 0x438A0000#32
  | 70 => 0x43440000#32
  | 71 => 0x438E0000#32
  | 72 => 0x43440000#32
  | 73 => 0x43920000#32
  | 74 => 0x43440000#32
  | 75 => 0x43960000#32
  | 76 => 0x43440000#32
  | 77 => 0x439A0000#32
  | 78 => 0x43440000#32
  | 79 => 0x439E0000#32
  | 80 => 0x43440000#32
  | 81 => 0x43A20000#32
  | 82 => 0x43440000#32
  | 83 => 0x43A60000#32
  | 84 => 0x43440000#32
  | 85 => 0x43AA0000#32
  | 86 => 0x43440000#32
  | 87 => 0x43AE0000#32
  | 88 => 0x43440000#32
  | 89 => 0x43B20000#32
  | 90 => 0x43440000#32
  | 91 => 0x43B60000#32
  | 92 => 0x43440000#32
  | 93 => 0x43BA0000#32
  | 94 => 0x43440000#32
  | 95 => 0x43BE0000#32
  | 96 => 0x43440000#32
  | 97 => 0x43C20000#32
  | 98 => 0x43440000#32
  | 99 => 0x43C60000#32
  | 100 => 0x43440000#32
  | 101 => 0x43CA0000#32
  | 102 => 0x43440000#32
  | 103 => 0x43CE0000#32
  | 104 => 0x43440000#32
  | 105 => 0x43D20000#32
  | 106 => 0x43440000#32
  | 107 => 0x43D60000#32
  | 108 => 0x43440000#32
  | 109 => 0x43DA0000#32
  | 110 => 0x43440000#32
  | 111 => 0x43DE0000#32
  | 112 => 0x43440000#32
  | 113 => 0x43E20000#32
  | 114 => 0x43440000#32
  | 115 => 0x43E60000#32
  | 116 => 0x43440000#32
  | 117 => 0x43EA0000#32
  | 118 => 0x43440000#32
  | 119 => 0x43EE0000#32
  | 120 => 0x43440000#32
  | 121 => 0x43F20000#32
  | 122 => 0x43440000#32
  | 123 => 0x43F60000#32
  | 124 => 0x43440000#32
  | 125 => 0x43FA0000#32
  | 126 => 0x43440000#32
  | 127 => 0x43FE0000#32
  | _ => 0#32

noncomputable abbrev lit0t0_25 (i : Nat) : BitVec 32 := match i % 128 with
  | 0 => 0x434C0000#32
  | 1 => 0x40800000#32
  | 2 => 0x434C0000#32
  | 3 => 0x41400000#32
  | 4 => 0x434C0000#32
  | 5 => 0x41A00000#32
  | 6 => 0x434C0000#32
  | 7 => 0x41E00000#32
  | 8 => 0x434C0000#32
  | 9 => 0x42100000#32
  | 10 => 0x434C0000#32
  | 11 => 0x42300000#32
  | 12 => 0x434C0000#32
  | 13 => 0x42500000#32
  | 14 => 0x434C0000#32
  | 15 => 0x42700000#32
  | 16 => 0x434C0000#32
  | 17 => 0x42880000#32
  | 18 => 0x434C0000#32
  | 19 => 0x42980000#32
  | 20 => 0x434C0000#32
  | 21 => 0x42A80000#32
  | 22 => 0x434C0000#32
  | 23 => 0x42B80000#32
  | 24 => 0x434C0000#32
  | 25 => 0x42C80000#32
  | 26 => 0x434C0000#32
  | 27 => 0x42D80000#32
  | 28 => 0x434C0000#32
  | 29 => 0x42E80000#32
  | 30 => 0x434C0000#32
  | 31 => 0x42F80000#32
  | 32 => 0x434C0000#32
  | 33 => 0x43040000#32
  | 34 => 0x434C0000#32
  | 35 => 0x430C0000#32
  | 36 => 0x434C0000#32
  | 37 => 0x43140000#32
  | 38 => 0x434C0000#32
  | 39 => 0x431C0000#32
  | 40 => 0x434C0000#32
  | 41 => 0x43240000#32
  | 42 => 0x434C0000#32
  | 43 => 0x432C0000#32
  | 44 => 0x434C0000#32
  | 45 => 0x43340000#32
  | 46 => 0x434C0000#32
  | 47 => 0x433C0000#32
  | 48 => 0x434C0000#32
  | 49 => 0x43440000#32
  | 50 => 0x434C0000#32
  | 51 => 0x434C0000#32
  | 52 => 0x434C0000#32
  | 53 => 0x43540000#32
  | 54 => 0x434C0000#32
  | 55 => 0x435C0000#32
  | 56 => 0x434C0000#32
  | 57 => 0x43640000#32
  | 58 => 0x434C0000#32
  | 59 => 0x436C0000#32
  | 60 => 0x434C0000#32
  | 61 => 0x43740000#32
  | 62 => 0x434C0000#32
  | 63 => 0x437C0000#32
  | 64 => 0x434C0000#32
  | 65 => 0x43820000#32
  | 66 => 0x434C0000#32
  | 67 => 0x43860000#32
  | 68 => 0x434C0000#32
  | 69 => 0x438A0000#32
  | 70 => 0x434C0000#32
  | 71 => 0x438E0000#32
  | 72 => 0x434C0000#32
  | 73 => 0x43920000#32
  | 74 => 0x434C0000#32
  | 75 => 0x43960000#32
  | 76 => 0x434C0000#32
  | 77 => 0x439A0000#32
  | 78 => 0x434C0000#32
  | 79 => 0x439E0000#32
  | 80 => 0x434C0000#32
  | 81 => 0x43A20000#32
  | 82 => 0x434C0000#32
  | 83 => 0x43A60000#32
  | 84 => 0x434C0000#32
  | 85 => 0x43AA0000#32
  | 86 => 0x434C0000#32
  | 87 => 0x43AE0000#32
  | 88 => 0x434C0000#32
  | 89 => 0x43B20000#32
  | 90 => 0x434C0000#32
  | 91 => 0x43B60000#32
  | 92 => 0x434C0000#32
  | 93 => 0x43BA0000#32
  | 94 => 0x434C0000#32
  | 95 => 0x43BE0000#32
  | 96 => 0x434C0000#32
  | 97 => 0x43C20000#32
  | 98 => 0x434C0000#32
  | 99 => 0x43C60000#32
  | 100 => 0x434C0000#32
  | 101 => 0x43CA0000#32
  | 102 => 0x434C0000#32
  | 103 => 0x43CE0000#32
  | 104 => 0x434C0000#32
  | 105 => 0x43D20000#32
  | 106 => 0x434C0000#32
  | 107 => 0x43D60000#32
  | 108 => 0x434C0000#32
  | 109 => 0x43DA0000#32
  | 110 => 0x434C0000#32
  | 111 => 0x43DE0000#32
  | 112 => 0x434C0000#32
  | 113 => 0x43E20000#32
  | 114 => 0x434C0000#32
  | 115 => 0x43E60000#32
  | 116 => 0x434C0000#32
  | 117 => 0x43EA0000#32
  | 118 => 0x434C0000#32
  | 119 => 0x43EE0000#32
  | 120 => 0x434C0000#32
  | 121 => 0x43F20000#32
  | 122 => 0x434C0000#32
  | 123 => 0x43F60000#32
  | 124 => 0x434C0000#32
  | 125 => 0x43FA0000#32
  | 126 => 0x434C0000#32
  | 127 => 0x43FE0000#32
  | _ => 0#32

noncomputable abbrev lit0t0_26 (i : Nat) : BitVec 32 := match i % 128 with
  | 0 => 0x43540000#32
  | 1 => 0x40800000#32
  | 2 => 0x43540000#32
  | 3 => 0x41400000#32
  | 4 => 0x43540000#32
  | 5 => 0x41A00000#32
  | 6 => 0x43540000#32
  | 7 => 0x41E00000#32
  | 8 => 0x43540000#32
  | 9 => 0x42100000#32
  | 10 => 0x43540000#32
  | 11 => 0x42300000#32
  | 12 => 0x43540000#32
  | 13 => 0x42500000#32
  | 14 => 0x43540000#32
  | 15 => 0x42700000#32
  | 16 => 0x43540000#32
  | 17 => 0x42880000#32
  | 18 => 0x43540000#32
  | 19 => 0x42980000#32
  | 20 => 0x43540000#32
  | 21 => 0x42A80000#32
  | 22 => 0x43540000#32
  | 23 => 0x42B80000#32
  | 24 => 0x43540000#32
  | 25 => 0x42C80000#32
  | 26 => 0x43540000#32
  | 27 => 0x42D80000#32
  | 28 => 0x43540000#32
  | 29 => 0x42E80000#32
  | 30 => 0x43540000#32
  | 31 => 0x42F80000#32
  | 32 => 0x43540000#32
  | 33 => 0x43040000#32
  | 34 => 0x43540000#32
  | 35 => 0x430C0000#32
  | 36 => 0x43540000#32
  | 37 => 0x43140000#32
  | 38 => 0x43540000#32
  | 39 => 0x431C0000#32
  | 40 => 0x43540000#32
  | 41 => 0x43240000#32
  | 42 => 0x43540000#32
  | 43 => 0x432C0000#32
  | 44 => 0x43540000#32
  | 45 => 0x43340000#32
  | 46 => 0x43540000#32
  | 47 => 0x433C0000#32
  | 48 => 0x43540000#32
  | 49 => 0x43440000#32
  | 50 => 0x43540000#32
  | 51 => 0x434C0000#32
  | 52 => 0x43540000#32
  | 53 => 0x43540000#32
  | 54 => 0x43540000#32
  | 55 => 0x435C0000#32
  | 56 => 0x43540000#32
  | 57 => 0x43640000#32
  | 58 => 0x43540000#32
  | 59 => 0x436C0000#32
  | 60 => 0x43540000#32
  | 61 => 0x43740000#32
  | 62 => 0x43540000#32
  | 63 => 0x437C0000#32
  | 64 => 0x43540000#32
  | 65 => 0x43820000#32
  | 66 => 0x43540000#32
  | 67 => 0x43860000#32
  | 68 => 0x43540000#32
  | 69 => 0x438A0000#32
  | 70 => 0x43540000#32
  | 71 => 0x438E0000#32
  | 72 => 0x43540000#32
  | 73 => 0x43920000#32
  | 74 => 0x43540000#32
  | 75 => 0x43960000#32
  | 76 => 0x43540000#32
  | 77 => 0x439A0000#32
  | 78 => 0x43540000#32
  | 79 => 0x439E0000#32
  | 80 => 0x43540000#32
  | 81 => 0x43A20000#32
  | 82 => 0x43540000#32
  | 83 => 0x43A60000#32
  | 84 => 0x43540000#32
  | 85 => 0x43AA0000#32
  | 86 => 0x43540000#32
  | 87 => 0x43AE0000#32
  | 88 => 0x43540000#32
  | 89 => 0x43B20000#32
  | 90 => 0x43540000#32
  | 91 => 0x43B60000#32
  | 92 => 0x43540000#32
  | 93 => 0x43BA0000#32
  | 94 => 0x43540000#32
  | 95 => 0x43BE0000#32
  | 96 => 0x43540000#32
  | 97 => 0x43C20000#32
  | 98 => 0x43540000#32
  | 99 => 0x43C60000#32
  | 100 => 0x43540000#32
  | 101 => 0x43CA0000#32
  | 102 => 0x43540000#32
  | 103 => 0x43CE0000#32
  | 104 => 0x43540000#32
  | 105 => 0x43D20000#32
  | 106 => 0x43540000#32
  | 107 => 0x43D60000#32
  | 108 => 0x43540000#32
  | 109 => 0x43DA0000#32
  | 110 => 0x43540000#32
  | 111 => 0x43DE0000#32
  | 112 => 0x43540000#32
  | 113 => 0x43E20000#32
  | 114 => 0x43540000#32
  | 115 => 0x43E60000#32
  | 116 => 0x43540000#32
  | 117 => 0x43EA0000#32
  | 118 => 0x43540000#32
  | 119 => 0x43EE0000#32
  | 120 => 0x43540000#32
  | 121 => 0x43F20000#32
  | 122 => 0x43540000#32
  | 123 => 0x43F60000#32
  | 124 => 0x43540000#32
  | 125 => 0x43FA0000#32
  | 126 => 0x43540000#32
  | 127 => 0x43FE0000#32
  | _ => 0#32

noncomputable abbrev lit0t0_27 (i : Nat) : BitVec 32 := match i % 128 with
  | 0 => 0x435C0000#32
  | 1 => 0x40800000#32
  | 2 => 0x435C0000#32
  | 3 => 0x41400000#32
  | 4 => 0x435C0000#32
  | 5 => 0x41A00000#32
  | 6 => 0x435C0000#32
  | 7 => 0x41E00000#32
  | 8 => 0x435C0000#32
  | 9 => 0x42100000#32
  | 10 => 0x435C0000#32
  | 11 => 0x42300000#32
  | 12 => 0x435C0000#32
  | 13 => 0x42500000#32
  | 14 => 0x435C0000#32
  | 15 => 0x42700000#32
  | 16 => 0x435C0000#32
  | 17 => 0x42880000#32
  | 18 => 0x435C0000#32
  | 19 => 0x42980000#32
  | 20 => 0x435C0000#32
  | 21 => 0x42A80000#32
  | 22 => 0x435C0000#32
  | 23 => 0x42B80000#32
  | 24 => 0x435C0000#32
  | 25 => 0x42C80000#32
  | 26 => 0x435C0000#32
  | 27 => 0x42D80000#32
  | 28 => 0x435C0000#32
  | 29 => 0x42E80000#32
  | 30 => 0x435C0000#32
  | 31 => 0x42F80000#32
  | 32 => 0x435C0000#32
  | 33 => 0x43040000#32
  | 34 => 0x435C0000#32
  | 35 => 0x430C0000#32
  | 36 => 0x435C0000#32
  | 37 => 0x43140000#32
  | 38 => 0x435C0000#32
  | 39 => 0x431C0000#32
  | 40 => 0x435C0000#32
  | 41 => 0x43240000#32
  | 42 => 0x435C0000#32
  | 43 => 0x432C0000#32
  | 44 => 0x435C0000#32
  | 45 => 0x43340000#32
  | 46 => 0x435C0000#32
  | 47 => 0x433C0000#32
  | 48 => 0x435C0000#32
  | 49 => 0x43440000#32
  | 50 => 0x435C0000#32
  | 51 => 0x434C0000#32
  | 52 => 0x435C0000#32
  | 53 => 0x43540000#32
  | 54 => 0x435C0000#32
  | 55 => 0x435C0000#32
  | 56 => 0x435C0000#32
  | 57 => 0x43640000#32
  | 58 => 0x435C0000#32
  | 59 => 0x436C0000#32
  | 60 => 0x435C0000#32
  | 61 => 0x43740000#32
  | 62 => 0x435C0000#32
  | 63 => 0x437C0000#32
  | 64 => 0x435C0000#32
  | 65 => 0x43820000#32
  | 66 => 0x435C0000#32
  | 67 => 0x43860000#32
  | 68 => 0x435C0000#32
  | 69 => 0x438A0000#32
  | 70 => 0x435C0000#32
  | 71 => 0x438E0000#32
  | 72 => 0x435C0000#32
  | 73 => 0x43920000#32
  | 74 => 0x435C0000#32
  | 75 => 0x43960000#32
  | 76 => 0x435C0000#32
  | 77 => 0x439A0000#32
  | 78 => 0x435C0000#32
  | 79 => 0x439E0000#32
  | 80 => 0x435C0000#32
  | 81 => 0x43A20000#32
  | 82 => 0x435C0000#32
  | 83 => 0x43A60000#32
  | 84 => 0x435C0000#32
  | 85 => 0x43AA0000#32
  | 86 => 0x435C0000#32
  | 87 => 0x43AE0000#32
  | 88 => 0x435C0000#32
  | 89 => 0x43B20000#32
  | 90 => 0x435C0000#32
  | 91 => 0x43B60000#32
  | 92 => 0x435C0000#32
  | 93 => 0x43BA0000#32
  | 94 => 0x435C0000#32
  | 95 => 0x43BE0000#32
  | 96 => 0x435C0000#32
  | 97 => 0x43C20000#32
  | 98 => 0x435C0000#32
  | 99 => 0x43C60000#32
  | 100 => 0x435C0000#32
  | 101 => 0x43CA0000#32
  | 102 => 0x435C0000#32
  | 103 => 0x43CE0000#32
  | 104 => 0x435C0000#32
  | 105 => 0x43D20000#32
  | 106 => 0x435C0000#32
  | 107 => 0x43D60000#32
  | 108 => 0x435C0000#32
  | 109 => 0x43DA0000#32
  | 110 => 0x435C0000#32
  | 111 => 0x43DE0000#32
  | 112 => 0x435C0000#32
  | 113 => 0x43E20000#32
  | 114 => 0x435C0000#32
  | 115 => 0x43E60000#32
  | 116 => 0x435C0000#32
  | 117 => 0x43EA0000#32
  | 118 => 0x435C0000#32
  | 119 => 0x43EE0000#32
  | 120 => 0x435C0000#32
  | 121 => 0x43F20000#32
  | 122 => 0x435C0000#32
  | 123 => 0x43F60000#32
  | 124 => 0x435C0000#32
  | 125 => 0x43FA0000#32
  | 126 => 0x435C0000#32
  | 127 => 0x43FE0000#32
  | _ => 0#32

noncomputable abbrev lit0t0_28 (i : Nat) : BitVec 32 := match i % 128 with
  | 0 => 0x43640000#32
  | 1 => 0x40800000#32
  | 2 => 0x43640000#32
  | 3 => 0x41400000#32
  | 4 => 0x43640000#32
  | 5 => 0x41A00000#32
  | 6 => 0x43640000#32
  | 7 => 0x41E00000#32
  | 8 => 0x43640000#32
  | 9 => 0x42100000#32
  | 10 => 0x43640000#32
  | 11 => 0x42300000#32
  | 12 => 0x43640000#32
  | 13 => 0x42500000#32
  | 14 => 0x43640000#32
  | 15 => 0x42700000#32
  | 16 => 0x43640000#32
  | 17 => 0x42880000#32
  | 18 => 0x43640000#32
  | 19 => 0x42980000#32
  | 20 => 0x43640000#32
  | 21 => 0x42A80000#32
  | 22 => 0x43640000#32
  | 23 => 0x42B80000#32
  | 24 => 0x43640000#32
  | 25 => 0x42C80000#32
  | 26 => 0x43640000#32
  | 27 => 0x42D80000#32
  | 28 => 0x43640000#32
  | 29 => 0x42E80000#32
  | 30 => 0x43640000#32
  | 31 => 0x42F80000#32
  | 32 => 0x43640000#32
  | 33 => 0x43040000#32
  | 34 => 0x43640000#32
  | 35 => 0x430C0000#32
  | 36 => 0x43640000#32
  | 37 => 0x43140000#32
  | 38 => 0x43640000#32
  | 39 => 0x431C0000#32
  | 40 => 0x43640000#32
  | 41 => 0x43240000#32
  | 42 => 0x43640000#32
  | 43 => 0x432C0000#32
  | 44 => 0x43640000#32
  | 45 => 0x43340000#32
  | 46 => 0x43640000#32
  | 47 => 0x433C0000#32
  | 48 => 0x43640000#32
  | 49 => 0x43440000#32
  | 50 => 0x43640000#32
  | 51 => 0x434C0000#32
  | 52 => 0x43640000#32
  | 53 => 0x43540000#32
  | 54 => 0x43640000#32
  | 55 => 0x435C0000#32
  | 56 => 0x43640000#32
  | 57 => 0x43640000#32
  | 58 => 0x43640000#32
  | 59 => 0x436C0000#32
  | 60 => 0x43640000#32
  | 61 => 0x43740000#32
  | 62 => 0x43640000#32
  | 63 => 0x437C0000#32
  | 64 => 0x43640000#32
  | 65 => 0x43820000#32
  | 66 => 0x43640000#32
  | 67 => 0x43860000#32
  | 68 => 0x43640000#32
  | 69 => 0x438A0000#32
  | 70 => 0x43640000#32
  | 71 => 0x438E0000#32
  | 72 => 0x43640000#32
  | 73 => 0x43920000#32
  | 74 => 0x43640000#32
  | 75 => 0x43960000#32
  | 76 => 0x43640000#32
  | 77 => 0x439A0000#32
  | 78 => 0x43640000#32
  | 79 => 0x439E0000#32
  | 80 => 0x43640000#32
  | 81 => 0x43A20000#32
  | 82 => 0x43640000#32
  | 83 => 0x43A60000#32
  | 84 => 0x43640000#32
  | 85 => 0x43AA0000#32
  | 86 => 0x43640000#32
  | 87 => 0x43AE0000#32
  | 88 => 0x43640000#32
  | 89 => 0x43B20000#32
  | 90 => 0x43640000#32
  | 91 => 0x43B60000#32
  | 92 => 0x43640000#32
  | 93 => 0x43BA0000#32
  | 94 => 0x43640000#32
  | 95 => 0x43BE0000#32
  | 96 => 0x43640000#32
  | 97 => 0x43C20000#32
  | 98 => 0x43640000#32
  | 99 => 0x43C60000#32
  | 100 => 0x43640000#32
  | 101 => 0x43CA0000#32
  | 102 => 0x43640000#32
  | 103 => 0x43CE0000#32
  | 104 => 0x43640000#32
  | 105 => 0x43D20000#32
  | 106 => 0x43640000#32
  | 107 => 0x43D60000#32
  | 108 => 0x43640000#32
  | 109 => 0x43DA0000#32
  | 110 => 0x43640000#32
  | 111 => 0x43DE0000#32
  | 112 => 0x43640000#32
  | 113 => 0x43E20000#32
  | 114 => 0x43640000#32
  | 115 => 0x43E60000#32
  | 116 => 0x43640000#32
  | 117 => 0x43EA0000#32
  | 118 => 0x43640000#32
  | 119 => 0x43EE0000#32
  | 120 => 0x43640000#32
  | 121 => 0x43F20000#32
  | 122 => 0x43640000#32
  | 123 => 0x43F60000#32
  | 124 => 0x43640000#32
  | 125 => 0x43FA0000#32
  | 126 => 0x43640000#32
  | 127 => 0x43FE0000#32
  | _ => 0#32

noncomputable abbrev lit0t0_29 (i : Nat) : BitVec 32 := match i % 128 with
  | 0 => 0x436C0000#32
  | 1 => 0x40800000#32
  | 2 => 0x436C0000#32
  | 3 => 0x41400000#32
  | 4 => 0x436C0000#32
  | 5 => 0x41A00000#32
  | 6 => 0x436C0000#32
  | 7 => 0x41E00000#32
  | 8 => 0x436C0000#32
  | 9 => 0x42100000#32
  | 10 => 0x436C0000#32
  | 11 => 0x42300000#32
  | 12 => 0x436C0000#32
  | 13 => 0x42500000#32
  | 14 => 0x436C0000#32
  | 15 => 0x42700000#32
  | 16 => 0x436C0000#32
  | 17 => 0x42880000#32
  | 18 => 0x436C0000#32
  | 19 => 0x42980000#32
  | 20 => 0x436C0000#32
  | 21 => 0x42A80000#32
  | 22 => 0x436C0000#32
  | 23 => 0x42B80000#32
  | 24 => 0x436C0000#32
  | 25 => 0x42C80000#32
  | 26 => 0x436C0000#32
  | 27 => 0x42D80000#32
  | 28 => 0x436C0000#32
  | 29 => 0x42E80000#32
  | 30 => 0x436C0000#32
  | 31 => 0x42F80000#32
  | 32 => 0x436C0000#32
  | 33 => 0x43040000#32
  | 34 => 0x436C0000#32
  | 35 => 0x430C0000#32
  | 36 => 0x436C0000#32
  | 37 => 0x43140000#32
  | 38 => 0x436C0000#32
  | 39 => 0x431C0000#32
  | 40 => 0x436C0000#32
  | 41 => 0x43240000#32
  | 42 => 0x436C0000#32
  | 43 => 0x432C0000#32
  | 44 => 0x436C0000#32
  | 45 => 0x43340000#32
  | 46 => 0x436C0000#32
  | 47 => 0x433C0000#32
  | 48 => 0x436C0000#32
  | 49 => 0x43440000#32
  | 50 => 0x436C0000#32
  | 51 => 0x434C0000#32
  | 52 => 0x436C0000#32
  | 53 => 0x43540000#32
  | 54 => 0x436C0000#32
  | 55 => 0x435C0000#32
  | 56 => 0x436C0000#32
  | 57 => 0x43640000#32
  | 58 => 0x436C0000#32
  | 59 => 0x436C0000#32
  | 60 => 0x436C0000#32
  | 61 => 0x43740000#32
  | 62 => 0x436C0000#32
  | 63 => 0x437C0000#32
  | 64 => 0x436C0000#32
  | 65 => 0x43820000#32
  | 66 => 0x436C0000#32
  | 67 => 0x43860000#32
  | 68 => 0x436C0000#32
  | 69 => 0x438A0000#32
  | 70 => 0x436C0000#32
  | 71 => 0x438E0000#32
  | 72 => 0x436C0000#32
  | 73 => 0x43920000#32
  | 74 => 0x436C0000#32
  | 75 => 0x43960000#32
  | 76 => 0x436C0000#32
  | 77 => 0x439A0000#32
  | 78 => 0x436C0000#32
  | 79 => 0x439E0000#32
  | 80 => 0x436C0000#32
  | 81 => 0x43A20000#32
  | 82 => 0x436C0000#32
  | 83 => 0x43A60000#32
  | 84 => 0x436C0000#32
  | 85 => 0x43AA0000#32
  | 86 => 0x436C0000#32
  | 87 => 0x43AE0000#32
  | 88 => 0x436C0000#32
  | 89 => 0x43B20000#32
  | 90 => 0x436C0000#32
  | 91 => 0x43B60000#32
  | 92 => 0x436C0000#32
  | 93 => 0x43BA0000#32
  | 94 => 0x436C0000#32
  | 95 => 0x43BE0000#32
  | 96 => 0x436C0000#32
  | 97 => 0x43C20000#32
  | 98 => 0x436C0000#32
  | 99 => 0x43C60000#32
  | 100 => 0x436C0000#32
  | 101 => 0x43CA0000#32
  | 102 => 0x436C0000#32
  | 103 => 0x43CE0000#32
  | 104 => 0x436C0000#32
  | 105 => 0x43D20000#32
  | 106 => 0x436C0000#32
  | 107 => 0x43D60000#32
  | 108 => 0x436C0000#32
  | 109 => 0x43DA0000#32
  | 110 => 0x436C0000#32
  | 111 => 0x43DE0000#32
  | 112 => 0x436C0000#32
  | 113 => 0x43E20000#32
  | 114 => 0x436C0000#32
  | 115 => 0x43E60000#32
  | 116 => 0x436C0000#32
  | 117 => 0x43EA0000#32
  | 118 => 0x436C0000#32
  | 119 => 0x43EE0000#32
  | 120 => 0x436C0000#32
  | 121 => 0x43F20000#32
  | 122 => 0x436C0000#32
  | 123 => 0x43F60000#32
  | 124 => 0x436C0000#32
  | 125 => 0x43FA0000#32
  | 126 => 0x436C0000#32
  | 127 => 0x43FE0000#32
  | _ => 0#32

noncomputable abbrev lit0t0_30 (i : Nat) : BitVec 32 := match i % 128 with
  | 0 => 0x43740000#32
  | 1 => 0x40800000#32
  | 2 => 0x43740000#32
  | 3 => 0x41400000#32
  | 4 => 0x43740000#32
  | 5 => 0x41A00000#32
  | 6 => 0x43740000#32
  | 7 => 0x41E00000#32
  | 8 => 0x43740000#32
  | 9 => 0x42100000#32
  | 10 => 0x43740000#32
  | 11 => 0x42300000#32
  | 12 => 0x43740000#32
  | 13 => 0x42500000#32
  | 14 => 0x43740000#32
  | 15 => 0x42700000#32
  | 16 => 0x43740000#32
  | 17 => 0x42880000#32
  | 18 => 0x43740000#32
  | 19 => 0x42980000#32
  | 20 => 0x43740000#32
  | 21 => 0x42A80000#32
  | 22 => 0x43740000#32
  | 23 => 0x42B80000#32
  | 24 => 0x43740000#32
  | 25 => 0x42C80000#32
  | 26 => 0x43740000#32
  | 27 => 0x42D80000#32
  | 28 => 0x43740000#32
  | 29 => 0x42E80000#32
  | 30 => 0x43740000#32
  | 31 => 0x42F80000#32
  | 32 => 0x43740000#32
  | 33 => 0x43040000#32
  | 34 => 0x43740000#32
  | 35 => 0x430C0000#32
  | 36 => 0x43740000#32
  | 37 => 0x43140000#32
  | 38 => 0x43740000#32
  | 39 => 0x431C0000#32
  | 40 => 0x43740000#32
  | 41 => 0x43240000#32
  | 42 => 0x43740000#32
  | 43 => 0x432C0000#32
  | 44 => 0x43740000#32
  | 45 => 0x43340000#32
  | 46 => 0x43740000#32
  | 47 => 0x433C0000#32
  | 48 => 0x43740000#32
  | 49 => 0x43440000#32
  | 50 => 0x43740000#32
  | 51 => 0x434C0000#32
  | 52 => 0x43740000#32
  | 53 => 0x43540000#32
  | 54 => 0x43740000#32
  | 55 => 0x435C0000#32
  | 56 => 0x43740000#32
  | 57 => 0x43640000#32
  | 58 => 0x43740000#32
  | 59 => 0x436C0000#32
  | 60 => 0x43740000#32
  | 61 => 0x43740000#32
  | 62 => 0x43740000#32
  | 63 => 0x437C0000#32
  | 64 => 0x43740000#32
  | 65 => 0x43820000#32
  | 66 => 0x43740000#32
  | 67 => 0x43860000#32
  | 68 => 0x43740000#32
  | 69 => 0x438A0000#32
  | 70 => 0x43740000#32
  | 71 => 0x438E0000#32
  | 72 => 0x43740000#32
  | 73 => 0x43920000#32
  | 74 => 0x43740000#32
  | 75 => 0x43960000#32
  | 76 => 0x43740000#32
  | 77 => 0x439A0000#32
  | 78 => 0x43740000#32
  | 79 => 0x439E0000#32
  | 80 => 0x43740000#32
  | 81 => 0x43A20000#32
  | 82 => 0x43740000#32
  | 83 => 0x43A60000#32
  | 84 => 0x43740000#32
  | 85 => 0x43AA0000#32
  | 86 => 0x43740000#32
  | 87 => 0x43AE0000#32
  | 88 => 0x43740000#32
  | 89 => 0x43B20000#32
  | 90 => 0x43740000#32
  | 91 => 0x43B60000#32
  | 92 => 0x43740000#32
  | 93 => 0x43BA0000#32
  | 94 => 0x43740000#32
  | 95 => 0x43BE0000#32
  | 96 => 0x43740000#32
  | 97 => 0x43C20000#32
  | 98 => 0x43740000#32
  | 99 => 0x43C60000#32
  | 100 => 0x43740000#32
  | 101 => 0x43CA0000#32
  | 102 => 0x43740000#32
  | 103 => 0x43CE0000#32
  | 104 => 0x43740000#32
  | 105 => 0x43D20000#32
  | 106 => 0x43740000#32
  | 107 => 0x43D60000#32
  | 108 => 0x43740000#32
  | 109 => 0x43DA0000#32
  | 110 => 0x43740000#32
  | 111 => 0x43DE0000#32
  | 112 => 0x43740000#32
  | 113 => 0x43E20000#32
  | 114 => 0x43740000#32
  | 115 => 0x43E60000#32
  | 116 => 0x43740000#32
  | 117 => 0x43EA0000#32
  | 118 => 0x43740000#32
  | 119 => 0x43EE0000#32
  | 120 => 0x43740000#32
  | 121 => 0x43F20000#32
  | 122 => 0x43740000#32
  | 123 => 0x43F60000#32
  | 124 => 0x43740000#32
  | 125 => 0x43FA0000#32
  | 126 => 0x43740000#32
  | 127 => 0x43FE0000#32
  | _ => 0#32

noncomputable abbrev lit0t0_31 (i : Nat) : BitVec 32 := match i % 128 with
  | 0 => 0x437C0000#32
  | 1 => 0x40800000#32
  | 2 => 0x437C0000#32
  | 3 => 0x41400000#32
  | 4 => 0x437C0000#32
  | 5 => 0x41A00000#32
  | 6 => 0x437C0000#32
  | 7 => 0x41E00000#32
  | 8 => 0x437C0000#32
  | 9 => 0x42100000#32
  | 10 => 0x437C0000#32
  | 11 => 0x42300000#32
  | 12 => 0x437C0000#32
  | 13 => 0x42500000#32
  | 14 => 0x437C0000#32
  | 15 => 0x42700000#32
  | 16 => 0x437C0000#32
  | 17 => 0x42880000#32
  | 18 => 0x437C0000#32
  | 19 => 0x42980000#32
  | 20 => 0x437C0000#32
  | 21 => 0x42A80000#32
  | 22 => 0x437C0000#32
  | 23 => 0x42B80000#32
  | 24 => 0x437C0000#32
  | 25 => 0x42C80000#32
  | 26 => 0x437C0000#32
  | 27 => 0x42D80000#32
  | 28 => 0x437C0000#32
  | 29 => 0x42E80000#32
  | 30 => 0x437C0000#32
  | 31 => 0x42F80000#32
  | 32 => 0x437C0000#32
  | 33 => 0x43040000#32
  | 34 => 0x437C0000#32
  | 35 => 0x430C0000#32
  | 36 => 0x437C0000#32
  | 37 => 0x43140000#32
  | 38 => 0x437C0000#32
  | 39 => 0x431C0000#32
  | 40 => 0x437C0000#32
  | 41 => 0x43240000#32
  | 42 => 0x437C0000#32
  | 43 => 0x432C0000#32
  | 44 => 0x437C0000#32
  | 45 => 0x43340000#32
  | 46 => 0x437C0000#32
  | 47 => 0x433C0000#32
  | 48 => 0x437C0000#32
  | 49 => 0x43440000#32
  | 50 => 0x437C0000#32
  | 51 => 0x434C0000#32
  | 52 => 0x437C0000#32
  | 53 => 0x43540000#32
  | 54 => 0x437C0000#32
  | 55 => 0x435C0000#32
  | 56 => 0x437C0000#32
  | 57 => 0x43640000#32
  | 58 => 0x437C0000#32
  | 59 => 0x436C0000#32
  | 60 => 0x437C0000#32
  | 61 => 0x43740000#32
  | 62 => 0x437C0000#32
  | 63 => 0x437C0000#32
  | 64 => 0x437C0000#32
  | 65 => 0x43820000#32
  | 66 => 0x437C0000#32
  | 67 => 0x43860000#32
  | 68 => 0x437C0000#32
  | 69 => 0x438A0000#32
  | 70 => 0x437C0000#32
  | 71 => 0x438E0000#32
  | 72 => 0x437C0000#32
  | 73 => 0x43920000#32
  | 74 => 0x437C0000#32
  | 75 => 0x43960000#32
  | 76 => 0x437C0000#32
  | 77 => 0x439A0000#32
  | 78 => 0x437C0000#32
  | 79 => 0x439E0000#32
  | 80 => 0x437C0000#32
  | 81 => 0x43A20000#32
  | 82 => 0x437C0000#32
  | 83 => 0x43A60000#32
  | 84 => 0x437C0000#32
  | 85 => 0x43AA0000#32
  | 86 => 0x437C0000#32
  | 87 => 0x43AE0000#32
  | 88 => 0x437C0000#32
  | 89 => 0x43B20000#32
  | 90 => 0x437C0000#32
  | 91 => 0x43B60000#32
  | 92 => 0x437C0000#32
  | 93 => 0x43BA0000#32
  | 94 => 0x437C0000#32
  | 95 => 0x43BE0000#32
  | 96 => 0x437C0000#32
  | 97 => 0x43C20000#32
  | 98 => 0x437C0000#32
  | 99 => 0x43C60000#32
  | 100 => 0x437C0000#32
  | 101 => 0x43CA0000#32
  | 102 => 0x437C0000#32
  | 103 => 0x43CE0000#32
  | 104 => 0x437C0000#32
  | 105 => 0x43D20000#32
  | 106 => 0x437C0000#32
  | 107 => 0x43D60000#32
  | 108 => 0x437C0000#32
  | 109 => 0x43DA0000#32
  | 110 => 0x437C0000#32
  | 111 => 0x43DE0000#32
  | 112 => 0x437C0000#32
  | 113 => 0x43E20000#32
  | 114 => 0x437C0000#32
  | 115 => 0x43E60000#32
  | 116 => 0x437C0000#32
  | 117 => 0x43EA0000#32
  | 118 => 0x437C0000#32
  | 119 => 0x43EE0000#32
  | 120 => 0x437C0000#32
  | 121 => 0x43F20000#32
  | 122 => 0x437C0000#32
  | 123 => 0x43F60000#32
  | 124 => 0x437C0000#32
  | 125 => 0x43FA0000#32
  | 126 => 0x437C0000#32
  | 127 => 0x43FE0000#32
  | _ => 0#32

noncomputable abbrev lit0t0_32 (i : Nat) : BitVec 32 := match i % 128 with
  | 0 => 0x43820000#32
  | 1 => 0x40800000#32
  | 2 => 0x43820000#32
  | 3 => 0x41400000#32
  | 4 => 0x43820000#32
  | 5 => 0x41A00000#32
  | 6 => 0x43820000#32
  | 7 => 0x41E00000#32
  | 8 => 0x43820000#32
  | 9 => 0x42100000#32
  | 10 => 0x43820000#32
  | 11 => 0x42300000#32
  | 12 => 0x43820000#32
  | 13 => 0x42500000#32
  | 14 => 0x43820000#32
  | 15 => 0x42700000#32
  | 16 => 0x43820000#32
  | 17 => 0x42880000#32
  | 18 => 0x43820000#32
  | 19 => 0x42980000#32
  | 20 => 0x43820000#32
  | 21 => 0x42A80000#32
  | 22 => 0x43820000#32
  | 23 => 0x42B80000#32
  | 24 => 0x43820000#32
  | 25 => 0x42C80000#32
  | 26 => 0x43820000#32
  | 27 => 0x42D80000#32
  | 28 => 0x43820000#32
  | 29 => 0x42E80000#32
  | 30 => 0x43820000#32
  | 31 => 0x42F80000#32
  | 32 => 0x43820000#32
  | 33 => 0x43040000#32
  | 34 => 0x43820000#32
  | 35 => 0x430C0000#32
  | 36 => 0x43820000#32
  | 37 => 0x43140000#32
  | 38 => 0x43820000#32
  | 39 => 0x431C0000#32
  | 40 => 0x43820000#32
  | 41 => 0x43240000#32
  | 42 => 0x43820000#32
  | 43 => 0x432C0000#32
  | 44 => 0x43820000#32
  | 45 => 0x43340000#32
  | 46 => 0x43820000#32
  | 47 => 0x433C0000#32
  | 48 => 0x43820000#32
  | 49 => 0x43440000#32
  | 50 => 0x43820000#32
  | 51 => 0x434C0000#32
  | 52 => 0x43820000#32
  | 53 => 0x43540000#32
  | 54 => 0x43820000#32
  | 55 => 0x435C0000#32
  | 56 => 0x43820000#32
  | 57 => 0x43640000#32
  | 58 => 0x43820000#32
  | 59 => 0x436C0000#32
  | 60 => 0x43820000#32
  | 61 => 0x43740000#32
  | 62 => 0x43820000#32
  | 63 => 0x437C0000#32
  | 64 => 0x43820000#32
  | 65 => 0x43820000#32
  | 66 => 0x43820000#32
  | 67 => 0x43860000#32
  | 68 => 0x43820000#32
  | 69 => 0x438A0000#32
  | 70 => 0x43820000#32
  | 71 => 0x438E0000#32
  | 72 => 0x43820000#32
  | 73 => 0x43920000#32
  | 74 => 0x43820000#32
  | 75 => 0x43960000#32
  | 76 => 0x43820000#32
  | 77 => 0x439A0000#32
  | 78 => 0x43820000#32
  | 79 => 0x439E0000#32
  | 80 => 0x43820000#32
  | 81 => 0x43A20000#32
  | 82 => 0x43820000#32
  | 83 => 0x43A60000#32
  | 84 => 0x43820000#32
  | 85 => 0x43AA0000#32
  | 86 => 0x43820000#32
  | 87 => 0x43AE0000#32
  | 88 => 0x43820000#32
  | 89 => 0x43B20000#32
  | 90 => 0x43820000#32
  | 91 => 0x43B60000#32
  | 92 => 0x43820000#32
  | 93 => 0x43BA0000#32
  | 94 => 0x43820000#32
  | 95 => 0x43BE0000#32
  | 96 => 0x43820000#32
  | 97 => 0x43C20000#32
  | 98 => 0x43820000#32
  | 99 => 0x43C60000#32
  | 100 => 0x43820000#32
  | 101 => 0x43CA0000#32
  | 102 => 0x43820000#32
  | 103 => 0x43CE0000#32
  | 104 => 0x43820000#32
  | 105 => 0x43D20000#32
  | 106 => 0x43820000#32
  | 107 => 0x43D60000#32
  | 108 => 0x43820000#32
  | 109 => 0x43DA0000#32
  | 110 => 0x43820000#32
  | 111 => 0x43DE0000#32
  | 112 => 0x43820000#32
  | 113 => 0x43E20000#32
  | 114 => 0x43820000#32
  | 115 => 0x43E60000#32
  | 116 => 0x43820000#32
  | 117 => 0x43EA0000#32
  | 118 => 0x43820000#32
  | 119 => 0x43EE0000#32
  | 120 => 0x43820000#32
  | 121 => 0x43F20000#32
  | 122 => 0x43820000#32
  | 123 => 0x43F60000#32
  | 124 => 0x43820000#32
  | 125 => 0x43FA0000#32
  | 126 => 0x43820000#32
  | 127 => 0x43FE0000#32
  | _ => 0#32

noncomputable abbrev lit0t0_33 (i : Nat) : BitVec 32 := match i % 128 with
  | 0 => 0x43860000#32
  | 1 => 0x40800000#32
  | 2 => 0x43860000#32
  | 3 => 0x41400000#32
  | 4 => 0x43860000#32
  | 5 => 0x41A00000#32
  | 6 => 0x43860000#32
  | 7 => 0x41E00000#32
  | 8 => 0x43860000#32
  | 9 => 0x42100000#32
  | 10 => 0x43860000#32
  | 11 => 0x42300000#32
  | 12 => 0x43860000#32
  | 13 => 0x42500000#32
  | 14 => 0x43860000#32
  | 15 => 0x42700000#32
  | 16 => 0x43860000#32
  | 17 => 0x42880000#32
  | 18 => 0x43860000#32
  | 19 => 0x42980000#32
  | 20 => 0x43860000#32
  | 21 => 0x42A80000#32
  | 22 => 0x43860000#32
  | 23 => 0x42B80000#32
  | 24 => 0x43860000#32
  | 25 => 0x42C80000#32
  | 26 => 0x43860000#32
  | 27 => 0x42D80000#32
  | 28 => 0x43860000#32
  | 29 => 0x42E80000#32
  | 30 => 0x43860000#32
  | 31 => 0x42F80000#32
  | 32 => 0x43860000#32
  | 33 => 0x43040000#32
  | 34 => 0x43860000#32
  | 35 => 0x430C0000#32
  | 36 => 0x43860000#32
  | 37 => 0x43140000#32
  | 38 => 0x43860000#32
  | 39 => 0x431C0000#32
  | 40 => 0x43860000#32
  | 41 => 0x43240000#32
  | 42 => 0x43860000#32
  | 43 => 0x432C0000#32
  | 44 => 0x43860000#32
  | 45 => 0x43340000#32
  | 46 => 0x43860000#32
  | 47 => 0x433C0000#32
  | 48 => 0x43860000#32
  | 49 => 0x43440000#32
  | 50 => 0x43860000#32
  | 51 => 0x434C0000#32
  | 52 => 0x43860000#32
  | 53 => 0x43540000#32
  | 54 => 0x43860000#32
  | 55 => 0x435C0000#32
  | 56 => 0x43860000#32
  | 57 => 0x43640000#32
  | 58 => 0x43860000#32
  | 59 => 0x436C0000#32
  | 60 => 0x43860000#32
  | 61 => 0x43740000#32
  | 62 => 0x43860000#32
  | 63 => 0x437C0000#32
  | 64 => 0x43860000#32
  | 65 => 0x43820000#32
  | 66 => 0x43860000#32
  | 67 => 0x43860000#32
  | 68 => 0x43860000#32
  | 69 => 0x438A0000#32
  | 70 => 0x43860000#32
  | 71 => 0x438E0000#32
  | 72 => 0x43860000#32
  | 73 => 0x43920000#32
  | 74 => 0x43860000#32
  | 75 => 0x43960000#32
  | 76 => 0x43860000#32
  | 77 => 0x439A0000#32
  | 78 => 0x43860000#32
  | 79 => 0x439E0000#32
  | 80 => 0x43860000#32
  | 81 => 0x43A20000#32
  | 82 => 0x43860000#32
  | 83 => 0x43A60000#32
  | 84 => 0x43860000#32
  | 85 => 0x43AA0000#32
  | 86 => 0x43860000#32
  | 87 => 0x43AE0000#32
  | 88 => 0x43860000#32
  | 89 => 0x43B20000#32
  | 90 => 0x43860000#32
  | 91 => 0x43B60000#32
  | 92 => 0x43860000#32
  | 93 => 0x43BA0000#32
  | 94 => 0x43860000#32
  | 95 => 0x43BE0000#32
  | 96 => 0x43860000#32
  | 97 => 0x43C20000#32
  | 98 => 0x43860000#32
  | 99 => 0x43C60000#32
  | 100 => 0x43860000#32
  | 101 => 0x43CA0000#32
  | 102 => 0x43860000#32
  | 103 => 0x43CE0000#32
  | 104 => 0x43860000#32
  | 105 => 0x43D20000#32
  | 106 => 0x43860000#32
  | 107 => 0x43D60000#32
  | 108 => 0x43860000#32
  | 109 => 0x43DA0000#32
  | 110 => 0x43860000#32
  | 111 => 0x43DE0000#32
  | 112 => 0x43860000#32
  | 113 => 0x43E20000#32
  | 114 => 0x43860000#32
  | 115 => 0x43E60000#32
  | 116 => 0x43860000#32
  | 117 => 0x43EA0000#32
  | 118 => 0x43860000#32
  | 119 => 0x43EE0000#32
  | 120 => 0x43860000#32
  | 121 => 0x43F20000#32
  | 122 => 0x43860000#32
  | 123 => 0x43F60000#32
  | 124 => 0x43860000#32
  | 125 => 0x43FA0000#32
  | 126 => 0x43860000#32
  | 127 => 0x43FE0000#32
  | _ => 0#32

noncomputable abbrev lit0t0_34 (i : Nat) : BitVec 32 := match i % 128 with
  | 0 => 0x438A0000#32
  | 1 => 0x40800000#32
  | 2 => 0x438A0000#32
  | 3 => 0x41400000#32
  | 4 => 0x438A0000#32
  | 5 => 0x41A00000#32
  | 6 => 0x438A0000#32
  | 7 => 0x41E00000#32
  | 8 => 0x438A0000#32
  | 9 => 0x42100000#32
  | 10 => 0x438A0000#32
  | 11 => 0x42300000#32
  | 12 => 0x438A0000#32
  | 13 => 0x42500000#32
  | 14 => 0x438A0000#32
  | 15 => 0x42700000#32
  | 16 => 0x438A0000#32
  | 17 => 0x42880000#32
  | 18 => 0x438A0000#32
  | 19 => 0x42980000#32
  | 20 => 0x438A0000#32
  | 21 => 0x42A80000#32
  | 22 => 0x438A0000#32
  | 23 => 0x42B80000#32
  | 24 => 0x438A0000#32
  | 25 => 0x42C80000#32
  | 26 => 0x438A0000#32
  | 27 => 0x42D80000#32
  | 28 => 0x438A0000#32
  | 29 => 0x42E80000#32
  | 30 => 0x438A0000#32
  | 31 => 0x42F80000#32
  | 32 => 0x438A0000#32
  | 33 => 0x43040000#32
  | 34 => 0x438A0000#32
  | 35 => 0x430C0000#32
  | 36 => 0x438A0000#32
  | 37 => 0x43140000#32
  | 38 => 0x438A0000#32
  | 39 => 0x431C0000#32
  | 40 => 0x438A0000#32
  | 41 => 0x43240000#32
  | 42 => 0x438A0000#32
  | 43 => 0x432C0000#32
  | 44 => 0x438A0000#32
  | 45 => 0x43340000#32
  | 46 => 0x438A0000#32
  | 47 => 0x433C0000#32
  | 48 => 0x438A0000#32
  | 49 => 0x43440000#32
  | 50 => 0x438A0000#32
  | 51 => 0x434C0000#32
  | 52 => 0x438A0000#32
  | 53 => 0x43540000#32
  | 54 => 0x438A0000#32
  | 55 => 0x435C0000#32
  | 56 => 0x438A0000#32
  | 57 => 0x43640000#32
  | 58 => 0x438A0000#32
  | 59 => 0x436C0000#32
  | 60 => 0x438A0000#32
  | 61 => 0x43740000#32
  | 62 => 0x438A0000#32
  | 63 => 0x437C0000#32
  | 64 => 0x438A0000#32
  | 65 => 0x43820000#32
  | 66 => 0x438A0000#32
  | 67 => 0x43860000#32
  | 68 => 0x438A0000#32
  | 69 => 0x438A0000#32
  | 70 => 0x438A0000#32
  | 71 => 0x438E0000#32
  | 72 => 0x438A0000#32
  | 73 => 0x43920000#32
  | 74 => 0x438A0000#32
  | 75 => 0x43960000#32
  | 76 => 0x438A0000#32
  | 77 => 0x439A0000#32
  | 78 => 0x438A0000#32
  | 79 => 0x439E0000#32
  | 80 => 0x438A0000#32
  | 81 => 0x43A20000#32
  | 82 => 0x438A0000#32
  | 83 => 0x43A60000#32
  | 84 => 0x438A0000#32
  | 85 => 0x43AA0000#32
  | 86 => 0x438A0000#32
  | 87 => 0x43AE0000#32
  | 88 => 0x438A0000#32
  | 89 => 0x43B20000#32
  | 90 => 0x438A0000#32
  | 91 => 0x43B60000#32
  | 92 => 0x438A0000#32
  | 93 => 0x43BA0000#32
  | 94 => 0x438A0000#32
  | 95 => 0x43BE0000#32
  | 96 => 0x438A0000#32
  | 97 => 0x43C20000#32
  | 98 => 0x438A0000#32
  | 99 => 0x43C60000#32
  | 100 => 0x438A0000#32
  | 101 => 0x43CA0000#32
  | 102 => 0x438A0000#32
  | 103 => 0x43CE0000#32
  | 104 => 0x438A0000#32
  | 105 => 0x43D20000#32
  | 106 => 0x438A0000#32
  | 107 => 0x43D60000#32
  | 108 => 0x438A0000#32
  | 109 => 0x43DA0000#32
  | 110 => 0x438A0000#32
  | 111 => 0x43DE0000#32
  | 112 => 0x438A0000#32
  | 113 => 0x43E20000#32
  | 114 => 0x438A0000#32
  | 115 => 0x43E60000#32
  | 116 => 0x438A0000#32
  | 117 => 0x43EA0000#32
  | 118 => 0x438A0000#32
  | 119 => 0x43EE0000#32
  | 120 => 0x438A0000#32
  | 121 => 0x43F20000#32
  | 122 => 0x438A0000#32
  | 123 => 0x43F60000#32
  | 124 => 0x438A0000#32
  | 125 => 0x43FA0000#32
  | 126 => 0x438A0000#32
  | 127 => 0x43FE0000#32
  | _ => 0#32

noncomputable abbrev lit0t0_35 (i : Nat) : BitVec 32 := match i % 128 with
  | 0 => 0x438E0000#32
  | 1 => 0x40800000#32
  | 2 => 0x438E0000#32
  | 3 => 0x41400000#32
  | 4 => 0x438E0000#32
  | 5 => 0x41A00000#32
  | 6 => 0x438E0000#32
  | 7 => 0x41E00000#32
  | 8 => 0x438E0000#32
  | 9 => 0x42100000#32
  | 10 => 0x438E0000#32
  | 11 => 0x42300000#32
  | 12 => 0x438E0000#32
  | 13 => 0x42500000#32
  | 14 => 0x438E0000#32
  | 15 => 0x42700000#32
  | 16 => 0x438E0000#32
  | 17 => 0x42880000#32
  | 18 => 0x438E0000#32
  | 19 => 0x42980000#32
  | 20 => 0x438E0000#32
  | 21 => 0x42A80000#32
  | 22 => 0x438E0000#32
  | 23 => 0x42B80000#32
  | 24 => 0x438E0000#32
  | 25 => 0x42C80000#32
  | 26 => 0x438E0000#32
  | 27 => 0x42D80000#32
  | 28 => 0x438E0000#32
  | 29 => 0x42E80000#32
  | 30 => 0x438E0000#32
  | 31 => 0x42F80000#32
  | 32 => 0x438E0000#32
  | 33 => 0x43040000#32
  | 34 => 0x438E0000#32
  | 35 => 0x430C0000#32
  | 36 => 0x438E0000#32
  | 37 => 0x43140000#32
  | 38 => 0x438E0000#32
  | 39 => 0x431C0000#32
  | 40 => 0x438E0000#32
  | 41 => 0x43240000#32
  | 42 => 0x438E0000#32
  | 43 => 0x432C0000#32
  | 44 => 0x438E0000#32
  | 45 => 0x43340000#32
  | 46 => 0x438E0000#32
  | 47 => 0x433C0000#32
  | 48 => 0x438E0000#32
  | 49 => 0x43440000#32
  | 50 => 0x438E0000#32
  | 51 => 0x434C0000#32
  | 52 => 0x438E0000#32
  | 53 => 0x43540000#32
  | 54 => 0x438E0000#32
  | 55 => 0x435C0000#32
  | 56 => 0x438E0000#32
  | 57 => 0x43640000#32
  | 58 => 0x438E0000#32
  | 59 => 0x436C0000#32
  | 60 => 0x438E0000#32
  | 61 => 0x43740000#32
  | 62 => 0x438E0000#32
  | 63 => 0x437C0000#32
  | 64 => 0x438E0000#32
  | 65 => 0x43820000#32
  | 66 => 0x438E0000#32
  | 67 => 0x43860000#32
  | 68 => 0x438E0000#32
  | 69 => 0x438A0000#32
  | 70 => 0x438E0000#32
  | 71 => 0x438E0000#32
  | 72 => 0x438E0000#32
  | 73 => 0x43920000#32
  | 74 => 0x438E0000#32
  | 75 => 0x43960000#32
  | 76 => 0x438E0000#32
  | 77 => 0x439A0000#32
  | 78 => 0x438E0000#32
  | 79 => 0x439E0000#32
  | 80 => 0x438E0000#32
  | 81 => 0x43A20000#32
  | 82 => 0x438E0000#32
  | 83 => 0x43A60000#32
  | 84 => 0x438E0000#32
  | 85 => 0x43AA0000#32
  | 86 => 0x438E0000#32
  | 87 => 0x43AE0000#32
  | 88 => 0x438E0000#32
  | 89 => 0x43B20000#32
  | 90 => 0x438E0000#32
  | 91 => 0x43B60000#32
  | 92 => 0x438E0000#32
  | 93 => 0x43BA0000#32
  | 94 => 0x438E0000#32
  | 95 => 0x43BE0000#32
  | 96 => 0x438E0000#32
  | 97 => 0x43C20000#32
  | 98 => 0x438E0000#32
  | 99 => 0x43C60000#32
  | 100 => 0x438E0000#32
  | 101 => 0x43CA0000#32
  | 102 => 0x438E0000#32
  | 103 => 0x43CE0000#32
  | 104 => 0x438E0000#32
  | 105 => 0x43D20000#32
  | 106 => 0x438E0000#32
  | 107 => 0x43D60000#32
  | 108 => 0x438E0000#32
  | 109 => 0x43DA0000#32
  | 110 => 0x438E0000#32
  | 111 => 0x43DE0000#32
  | 112 => 0x438E0000#32
  | 113 => 0x43E20000#32
  | 114 => 0x438E0000#32
  | 115 => 0x43E60000#32
  | 116 => 0x438E0000#32
  | 117 => 0x43EA0000#32
  | 118 => 0x438E0000#32
  | 119 => 0x43EE0000#32
  | 120 => 0x438E0000#32
  | 121 => 0x43F20000#32
  | 122 => 0x438E0000#32
  | 123 => 0x43F60000#32
  | 124 => 0x438E0000#32
  | 125 => 0x43FA0000#32
  | 126 => 0x438E0000#32
  | 127 => 0x43FE0000#32
  | _ => 0#32

noncomputable abbrev lit0t0_36 (i : Nat) : BitVec 32 := match i % 128 with
  | 0 => 0x43920000#32
  | 1 => 0x40800000#32
  | 2 => 0x43920000#32
  | 3 => 0x41400000#32
  | 4 => 0x43920000#32
  | 5 => 0x41A00000#32
  | 6 => 0x43920000#32
  | 7 => 0x41E00000#32
  | 8 => 0x43920000#32
  | 9 => 0x42100000#32
  | 10 => 0x43920000#32
  | 11 => 0x42300000#32
  | 12 => 0x43920000#32
  | 13 => 0x42500000#32
  | 14 => 0x43920000#32
  | 15 => 0x42700000#32
  | 16 => 0x43920000#32
  | 17 => 0x42880000#32
  | 18 => 0x43920000#32
  | 19 => 0x42980000#32
  | 20 => 0x43920000#32
  | 21 => 0x42A80000#32
  | 22 => 0x43920000#32
  | 23 => 0x42B80000#32
  | 24 => 0x43920000#32
  | 25 => 0x42C80000#32
  | 26 => 0x43920000#32
  | 27 => 0x42D80000#32
  | 28 => 0x43920000#32
  | 29 => 0x42E80000#32
  | 30 => 0x43920000#32
  | 31 => 0x42F80000#32
  | 32 => 0x43920000#32
  | 33 => 0x43040000#32
  | 34 => 0x43920000#32
  | 35 => 0x430C0000#32
  | 36 => 0x43920000#32
  | 37 => 0x43140000#32
  | 38 => 0x43920000#32
  | 39 => 0x431C0000#32
  | 40 => 0x43920000#32
  | 41 => 0x43240000#32
  | 42 => 0x43920000#32
  | 43 => 0x432C0000#32
  | 44 => 0x43920000#32
  | 45 => 0x43340000#32
  | 46 => 0x43920000#32
  | 47 => 0x433C0000#32
  | 48 => 0x43920000#32
  | 49 => 0x43440000#32
  | 50 => 0x43920000#32
  | 51 => 0x434C0000#32
  | 52 => 0x43920000#32
  | 53 => 0x43540000#32
  | 54 => 0x43920000#32
  | 55 => 0x435C0000#32
  | 56 => 0x43920000#32
  | 57 => 0x43640000#32
  | 58 => 0x43920000#32
  | 59 => 0x436C0000#32
  | 60 => 0x43920000#32
  | 61 => 0x43740000#32
  | 62 => 0x43920000#32
  | 63 => 0x437C0000#32
  | 64 => 0x43920000#32
  | 65 => 0x43820000#32
  | 66 => 0x43920000#32
  | 67 => 0x43860000#32
  | 68 => 0x43920000#32
  | 69 => 0x438A0000#32
  | 70 => 0x43920000#32
  | 71 => 0x438E0000#32
  | 72 => 0x43920000#32
  | 73 => 0x43920000#32
  | 74 => 0x43920000#32
  | 75 => 0x43960000#32
  | 76 => 0x43920000#32
  | 77 => 0x439A0000#32
  | 78 => 0x43920000#32
  | 79 => 0x439E0000#32
  | 80 => 0x43920000#32
  | 81 => 0x43A20000#32
  | 82 => 0x43920000#32
  | 83 => 0x43A60000#32
  | 84 => 0x43920000#32
  | 85 => 0x43AA0000#32
  | 86 => 0x43920000#32
  | 87 => 0x43AE0000#32
  | 88 => 0x43920000#32
  | 89 => 0x43B20000#32
  | 90 => 0x43920000#32
  | 91 => 0x43B60000#32
  | 92 => 0x43920000#32
  | 93 => 0x43BA0000#32
  | 94 => 0x43920000#32
  | 95 => 0x43BE0000#32
  | 96 => 0x43920000#32
  | 97 => 0x43C20000#32
  | 98 => 0x43920000#32
  | 99 => 0x43C60000#32
  | 100 => 0x43920000#32
  | 101 => 0x43CA0000#32
  | 102 => 0x43920000#32
  | 103 => 0x43CE0000#32
  | 104 => 0x43920000#32
  | 105 => 0x43D20000#32
  | 106 => 0x43920000#32
  | 107 => 0x43D60000#32
  | 108 => 0x43920000#32
  | 109 => 0x43DA0000#32
  | 110 => 0x43920000#32
  | 111 => 0x43DE0000#32
  | 112 => 0x43920000#32
  | 113 => 0x43E20000#32
  | 114 => 0x43920000#32
  | 115 => 0x43E60000#32
  | 116 => 0x43920000#32
  | 117 => 0x43EA0000#32
  | 118 => 0x43920000#32
  | 119 => 0x43EE0000#32
  | 120 => 0x43920000#32
  | 121 => 0x43F20000#32
  | 122 => 0x43920000#32
  | 123 => 0x43F60000#32
  | 124 => 0x43920000#32
  | 125 => 0x43FA0000#32
  | 126 => 0x43920000#32
  | 127 => 0x43FE0000#32
  | _ => 0#32

noncomputable abbrev lit0t0_37 (i : Nat) : BitVec 32 := match i % 128 with
  | 0 => 0x43960000#32
  | 1 => 0x40800000#32
  | 2 => 0x43960000#32
  | 3 => 0x41400000#32
  | 4 => 0x43960000#32
  | 5 => 0x41A00000#32
  | 6 => 0x43960000#32
  | 7 => 0x41E00000#32
  | 8 => 0x43960000#32
  | 9 => 0x42100000#32
  | 10 => 0x43960000#32
  | 11 => 0x42300000#32
  | 12 => 0x43960000#32
  | 13 => 0x42500000#32
  | 14 => 0x43960000#32
  | 15 => 0x42700000#32
  | 16 => 0x43960000#32
  | 17 => 0x42880000#32
  | 18 => 0x43960000#32
  | 19 => 0x42980000#32
  | 20 => 0x43960000#32
  | 21 => 0x42A80000#32
  | 22 => 0x43960000#32
  | 23 => 0x42B80000#32
  | 24 => 0x43960000#32
  | 25 => 0x42C80000#32
  | 26 => 0x43960000#32
  | 27 => 0x42D80000#32
  | 28 => 0x43960000#32
  | 29 => 0x42E80000#32
  | 30 => 0x43960000#32
  | 31 => 0x42F80000#32
  | 32 => 0x43960000#32
  | 33 => 0x43040000#32
  | 34 => 0x43960000#32
  | 35 => 0x430C0000#32
  | 36 => 0x43960000#32
  | 37 => 0x43140000#32
  | 38 => 0x43960000#32
  | 39 => 0x431C0000#32
  | 40 => 0x43960000#32
  | 41 => 0x43240000#32
  | 42 => 0x43960000#32
  | 43 => 0x432C0000#32
  | 44 => 0x43960000#32
  | 45 => 0x43340000#32
  | 46 => 0x43960000#32
  | 47 => 0x433C0000#32
  | 48 => 0x43960000#32
  | 49 => 0x43440000#32
  | 50 => 0x43960000#32
  | 51 => 0x434C0000#32
  | 52 => 0x43960000#32
  | 53 => 0x43540000#32
  | 54 => 0x43960000#32
  | 55 => 0x435C0000#32
  | 56 => 0x43960000#32
  | 57 => 0x43640000#32
  | 58 => 0x43960000#32
  | 59 => 0x436C0000#32
  | 60 => 0x43960000#32
  | 61 => 0x43740000#32
  | 62 => 0x43960000#32
  | 63 => 0x437C0000#32
  | 64 => 0x43960000#32
  | 65 => 0x43820000#32
  | 66 => 0x43960000#32
  | 67 => 0x43860000#32
  | 68 => 0x43960000#32
  | 69 => 0x438A0000#32
  | 70 => 0x43960000#32
  | 71 => 0x438E0000#32
  | 72 => 0x43960000#32
  | 73 => 0x43920000#32
  | 74 => 0x43960000#32
  | 75 => 0x43960000#32
  | 76 => 0x43960000#32
  | 77 => 0x439A0000#32
  | 78 => 0x43960000#32
  | 79 => 0x439E0000#32
  | 80 => 0x43960000#32
  | 81 => 0x43A20000#32
  | 82 => 0x43960000#32
  | 83 => 0x43A60000#32
  | 84 => 0x43960000#32
  | 85 => 0x43AA0000#32
  | 86 => 0x43960000#32
  | 87 => 0x43AE0000#32
  | 88 => 0x43960000#32
  | 89 => 0x43B20000#32
  | 90 => 0x43960000#32
  | 91 => 0x43B60000#32
  | 92 => 0x43960000#32
  | 93 => 0x43BA0000#32
  | 94 => 0x43960000#32
  | 95 => 0x43BE0000#32
  | 96 => 0x43960000#32
  | 97 => 0x43C20000#32
  | 98 => 0x43960000#32
  | 99 => 0x43C60000#32
  | 100 => 0x43960000#32
  | 101 => 0x43CA0000#32
  | 102 => 0x43960000#32
  | 103 => 0x43CE0000#32
  | 104 => 0x43960000#32
  | 105 => 0x43D20000#32
  | 106 => 0x43960000#32
  | 107 => 0x43D60000#32
  | 108 => 0x43960000#32
  | 109 => 0x43DA0000#32
  | 110 => 0x43960000#32
  | 111 => 0x43DE0000#32
  | 112 => 0x43960000#32
  | 113 => 0x43E20000#32
  | 114 => 0x43960000#32
  | 115 => 0x43E60000#32
  | 116 => 0x43960000#32
  | 117 => 0x43EA0000#32
  | 118 => 0x43960000#32
  | 119 => 0x43EE0000#32
  | 120 => 0x43960000#32
  | 121 => 0x43F20000#32
  | 122 => 0x43960000#32
  | 123 => 0x43F60000#32
  | 124 => 0x43960000#32
  | 125 => 0x43FA0000#32
  | 126 => 0x43960000#32
  | 127 => 0x43FE0000#32
  | _ => 0#32

noncomputable abbrev lit0t0_38 (i : Nat) : BitVec 32 := match i % 128 with
  | 0 => 0x439A0000#32
  | 1 => 0x40800000#32
  | 2 => 0x439A0000#32
  | 3 => 0x41400000#32
  | 4 => 0x439A0000#32
  | 5 => 0x41A00000#32
  | 6 => 0x439A0000#32
  | 7 => 0x41E00000#32
  | 8 => 0x439A0000#32
  | 9 => 0x42100000#32
  | 10 => 0x439A0000#32
  | 11 => 0x42300000#32
  | 12 => 0x439A0000#32
  | 13 => 0x42500000#32
  | 14 => 0x439A0000#32
  | 15 => 0x42700000#32
  | 16 => 0x439A0000#32
  | 17 => 0x42880000#32
  | 18 => 0x439A0000#32
  | 19 => 0x42980000#32
  | 20 => 0x439A0000#32
  | 21 => 0x42A80000#32
  | 22 => 0x439A0000#32
  | 23 => 0x42B80000#32
  | 24 => 0x439A0000#32
  | 25 => 0x42C80000#32
  | 26 => 0x439A0000#32
  | 27 => 0x42D80000#32
  | 28 => 0x439A0000#32
  | 29 => 0x42E80000#32
  | 30 => 0x439A0000#32
  | 31 => 0x42F80000#32
  | 32 => 0x439A0000#32
  | 33 => 0x43040000#32
  | 34 => 0x439A0000#32
  | 35 => 0x430C0000#32
  | 36 => 0x439A0000#32
  | 37 => 0x43140000#32
  | 38 => 0x439A0000#32
  | 39 => 0x431C0000#32
  | 40 => 0x439A0000#32
  | 41 => 0x43240000#32
  | 42 => 0x439A0000#32
  | 43 => 0x432C0000#32
  | 44 => 0x439A0000#32
  | 45 => 0x43340000#32
  | 46 => 0x439A0000#32
  | 47 => 0x433C0000#32
  | 48 => 0x439A0000#32
  | 49 => 0x43440000#32
  | 50 => 0x439A0000#32
  | 51 => 0x434C0000#32
  | 52 => 0x439A0000#32
  | 53 => 0x43540000#32
  | 54 => 0x439A0000#32
  | 55 => 0x435C0000#32
  | 56 => 0x439A0000#32
  | 57 => 0x43640000#32
  | 58 => 0x439A0000#32
  | 59 => 0x436C0000#32
  | 60 => 0x439A0000#32
  | 61 => 0x43740000#32
  | 62 => 0x439A0000#32
  | 63 => 0x437C0000#32
  | 64 => 0x439A0000#32
  | 65 => 0x43820000#32
  | 66 => 0x439A0000#32
  | 67 => 0x43860000#32
  | 68 => 0x439A0000#32
  | 69 => 0x438A0000#32
  | 70 => 0x439A0000#32
  | 71 => 0x438E0000#32
  | 72 => 0x439A0000#32
  | 73 => 0x43920000#32
  | 74 => 0x439A0000#32
  | 75 => 0x43960000#32
  | 76 => 0x439A0000#32
  | 77 => 0x439A0000#32
  | 78 => 0x439A0000#32
  | 79 => 0x439E0000#32
  | 80 => 0x439A0000#32
  | 81 => 0x43A20000#32
  | 82 => 0x439A0000#32
  | 83 => 0x43A60000#32
  | 84 => 0x439A0000#32
  | 85 => 0x43AA0000#32
  | 86 => 0x439A0000#32
  | 87 => 0x43AE0000#32
  | 88 => 0x439A0000#32
  | 89 => 0x43B20000#32
  | 90 => 0x439A0000#32
  | 91 => 0x43B60000#32
  | 92 => 0x439A0000#32
  | 93 => 0x43BA0000#32
  | 94 => 0x439A0000#32
  | 95 => 0x43BE0000#32
  | 96 => 0x439A0000#32
  | 97 => 0x43C20000#32
  | 98 => 0x439A0000#32
  | 99 => 0x43C60000#32
  | 100 => 0x439A0000#32
  | 101 => 0x43CA0000#32
  | 102 => 0x439A0000#32
  | 103 => 0x43CE0000#32
  | 104 => 0x439A0000#32
  | 105 => 0x43D20000#32
  | 106 => 0x439A0000#32
  | 107 => 0x43D60000#32
  | 108 => 0x439A0000#32
  | 109 => 0x43DA0000#32
  | 110 => 0x439A0000#32
  | 111 => 0x43DE0000#32
  | 112 => 0x439A0000#32
  | 113 => 0x43E20000#32
  | 114 => 0x439A0000#32
  | 115 => 0x43E60000#32
  | 116 => 0x439A0000#32
  | 117 => 0x43EA0000#32
  | 118 => 0x439A0000#32
  | 119 => 0x43EE0000#32
  | 120 => 0x439A0000#32
  | 121 => 0x43F20000#32
  | 122 => 0x439A0000#32
  | 123 => 0x43F60000#32
  | 124 => 0x439A0000#32
  | 125 => 0x43FA0000#32
  | 126 => 0x439A0000#32
  | 127 => 0x43FE0000#32
  | _ => 0#32

noncomputable abbrev lit0t0_39 (i : Nat) : BitVec 32 := match i % 128 with
  | 0 => 0x439E0000#32
  | 1 => 0x40800000#32
  | 2 => 0x439E0000#32
  | 3 => 0x41400000#32
  | 4 => 0x439E0000#32
  | 5 => 0x41A00000#32
  | 6 => 0x439E0000#32
  | 7 => 0x41E00000#32
  | 8 => 0x439E0000#32
  | 9 => 0x42100000#32
  | 10 => 0x439E0000#32
  | 11 => 0x42300000#32
  | 12 => 0x439E0000#32
  | 13 => 0x42500000#32
  | 14 => 0x439E0000#32
  | 15 => 0x42700000#32
  | 16 => 0x439E0000#32
  | 17 => 0x42880000#32
  | 18 => 0x439E0000#32
  | 19 => 0x42980000#32
  | 20 => 0x439E0000#32
  | 21 => 0x42A80000#32
  | 22 => 0x439E0000#32
  | 23 => 0x42B80000#32
  | 24 => 0x439E0000#32
  | 25 => 0x42C80000#32
  | 26 => 0x439E0000#32
  | 27 => 0x42D80000#32
  | 28 => 0x439E0000#32
  | 29 => 0x42E80000#32
  | 30 => 0x439E0000#32
  | 31 => 0x42F80000#32
  | 32 => 0x439E0000#32
  | 33 => 0x43040000#32
  | 34 => 0x439E0000#32
  | 35 => 0x430C0000#32
  | 36 => 0x439E0000#32
  | 37 => 0x43140000#32
  | 38 => 0x439E0000#32
  | 39 => 0x431C0000#32
  | 40 => 0x439E0000#32
  | 41 => 0x43240000#32
  | 42 => 0x439E0000#32
  | 43 => 0x432C0000#32
  | 44 => 0x439E0000#32
  | 45 => 0x43340000#32
  | 46 => 0x439E0000#32
  | 47 => 0x433C0000#32
  | 48 => 0x439E0000#32
  | 49 => 0x43440000#32
  | 50 => 0x439E0000#32
  | 51 => 0x434C0000#32
  | 52 => 0x439E0000#32
  | 53 => 0x43540000#32
  | 54 => 0x439E0000#32
  | 55 => 0x435C0000#32
  | 56 => 0x439E0000#32
  | 57 => 0x43640000#32
  | 58 => 0x439E0000#32
  | 59 => 0x436C0000#32
  | 60 => 0x439E0000#32
  | 61 => 0x43740000#32
  | 62 => 0x439E0000#32
  | 63 => 0x437C0000#32
  | 64 => 0x439E0000#32
  | 65 => 0x43820000#32
  | 66 => 0x439E0000#32
  | 67 => 0x43860000#32
  | 68 => 0x439E0000#32
  | 69 => 0x438A0000#32
  | 70 => 0x439E0000#32
  | 71 => 0x438E0000#32
  | 72 => 0x439E0000#32
  | 73 => 0x43920000#32
  | 74 => 0x439E0000#32
  | 75 => 0x43960000#32
  | 76 => 0x439E0000#32
  | 77 => 0x439A0000#32
  | 78 => 0x439E0000#32
  | 79 => 0x439E0000#32
  | 80 => 0x439E0000#32
  | 81 => 0x43A20000#32
  | 82 => 0x439E0000#32
  | 83 => 0x43A60000#32
  | 84 => 0x439E0000#32
  | 85 => 0x43AA0000#32
  | 86 => 0x439E0000#32
  | 87 => 0x43AE0000#32
  | 88 => 0x439E0000#32
  | 89 => 0x43B20000#32
  | 90 => 0x439E0000#32
  | 91 => 0x43B60000#32
  | 92 => 0x439E0000#32
  | 93 => 0x43BA0000#32
  | 94 => 0x439E0000#32
  | 95 => 0x43BE0000#32
  | 96 => 0x439E0000#32
  | 97 => 0x43C20000#32
  | 98 => 0x439E0000#32
  | 99 => 0x43C60000#32
  | 100 => 0x439E0000#32
  | 101 => 0x43CA0000#32
  | 102 => 0x439E0000#32
  | 103 => 0x43CE0000#32
  | 104 => 0x439E0000#32
  | 105 => 0x43D20000#32
  | 106 => 0x439E0000#32
  | 107 => 0x43D60000#32
  | 108 => 0x439E0000#32
  | 109 => 0x43DA0000#32
  | 110 => 0x439E0000#32
  | 111 => 0x43DE0000#32
  | 112 => 0x439E0000#32
  | 113 => 0x43E20000#32
  | 114 => 0x439E0000#32
  | 115 => 0x43E60000#32
  | 116 => 0x439E0000#32
  | 117 => 0x43EA0000#32
  | 118 => 0x439E0000#32
  | 119 => 0x43EE0000#32
  | 120 => 0x439E0000#32
  | 121 => 0x43F20000#32
  | 122 => 0x439E0000#32
  | 123 => 0x43F60000#32
  | 124 => 0x439E0000#32
  | 125 => 0x43FA0000#32
  | 126 => 0x439E0000#32
  | 127 => 0x43FE0000#32
  | _ => 0#32

noncomputable abbrev lit0t0_40 (i : Nat) : BitVec 32 := match i % 128 with
  | 0 => 0x43A20000#32
  | 1 => 0x40800000#32
  | 2 => 0x43A20000#32
  | 3 => 0x41400000#32
  | 4 => 0x43A20000#32
  | 5 => 0x41A00000#32
  | 6 => 0x43A20000#32
  | 7 => 0x41E00000#32
  | 8 => 0x43A20000#32
  | 9 => 0x42100000#32
  | 10 => 0x43A20000#32
  | 11 => 0x42300000#32
  | 12 => 0x43A20000#32
  | 13 => 0x42500000#32
  | 14 => 0x43A20000#32
  | 15 => 0x42700000#32
  | 16 => 0x43A20000#32
  | 17 => 0x42880000#32
  | 18 => 0x43A20000#32
  | 19 => 0x42980000#32
  | 20 => 0x43A20000#32
  | 21 => 0x42A80000#32
  | 22 => 0x43A20000#32
  | 23 => 0x42B80000#32
  | 24 => 0x43A20000#32
  | 25 => 0x42C80000#32
  | 26 => 0x43A20000#32
  | 27 => 0x42D80000#32
  | 28 => 0x43A20000#32
  | 29 => 0x42E80000#32
  | 30 => 0x43A20000#32
  | 31 => 0x42F80000#32
  | 32 => 0x43A20000#32
  | 33 => 0x43040000#32
  | 34 => 0x43A20000#32
  | 35 => 0x430C0000#32
  | 36 => 0x43A20000#32
  | 37 => 0x43140000#32
  | 38 => 0x43A20000#32
  | 39 => 0x431C0000#32
  | 40 => 0x43A20000#32
  | 41 => 0x43240000#32
  | 42 => 0x43A20000#32
  | 43 => 0x432C0000#32
  | 44 => 0x43A20000#32
  | 45 => 0x43340000#32
  | 46 => 0x43A20000#32
  | 47 => 0x433C0000#32
  | 48 => 0x43A20000#32
  | 49 => 0x43440000#32
  | 50 => 0x43A20000#32
  | 51 => 0x434C0000#32
  | 52 => 0x43A20000#32
  | 53 => 0x43540000#32
  | 54 => 0x43A20000#32
  | 55 => 0x435C0000#32
  | 56 => 0x43A20000#32
  | 57 => 0x43640000#32
  | 58 => 0x43A20000#32
  | 59 => 0x436C0000#32
  | 60 => 0x43A20000#32
  | 61 => 0x43740000#32
  | 62 => 0x43A20000#32
  | 63 => 0x437C0000#32
  | 64 => 0x43A20000#32
  | 65 => 0x43820000#32
  | 66 => 0x43A20000#32
  | 67 => 0x43860000#32
  | 68 => 0x43A20000#32
  | 69 => 0x438A0000#32
  | 70 => 0x43A20000#32
  | 71 => 0x438E0000#32
  | 72 => 0x43A20000#32
  | 73 => 0x43920000#32
  | 74 => 0x43A20000#32
  | 75 => 0x43960000#32
  | 76 => 0x43A20000#32
  | 77 => 0x439A0000#32
  | 78 => 0x43A20000#32
  | 79 => 0x439E0000#32
  | 80 => 0x43A20000#32
  | 81 => 0x43A20000#32
  | 82 => 0x43A20000#32
  | 83 => 0x43A60000#32
  | 84 => 0x43A20000#32
  | 85 => 0x43AA0000#32
  | 86 => 0x43A20000#32
  | 87 => 0x43AE0000#32
  | 88 => 0x43A20000#32
  | 89 => 0x43B20000#32
  | 90 => 0x43A20000#32
  | 91 => 0x43B60000#32
  | 92 => 0x43A20000#32
  | 93 => 0x43BA0000#32
  | 94 => 0x43A20000#32
  | 95 => 0x43BE0000#32
  | 96 => 0x43A20000#32
  | 97 => 0x43C20000#32
  | 98 => 0x43A20000#32
  | 99 => 0x43C60000#32
  | 100 => 0x43A20000#32
  | 101 => 0x43CA0000#32
  | 102 => 0x43A20000#32
  | 103 => 0x43CE0000#32
  | 104 => 0x43A20000#32
  | 105 => 0x43D20000#32
  | 106 => 0x43A20000#32
  | 107 => 0x43D60000#32
  | 108 => 0x43A20000#32
  | 109 => 0x43DA0000#32
  | 110 => 0x43A20000#32
  | 111 => 0x43DE0000#32
  | 112 => 0x43A20000#32
  | 113 => 0x43E20000#32
  | 114 => 0x43A20000#32
  | 115 => 0x43E60000#32
  | 116 => 0x43A20000#32
  | 117 => 0x43EA0000#32
  | 118 => 0x43A20000#32
  | 119 => 0x43EE0000#32
  | 120 => 0x43A20000#32
  | 121 => 0x43F20000#32
  | 122 => 0x43A20000#32
  | 123 => 0x43F60000#32
  | 124 => 0x43A20000#32
  | 125 => 0x43FA0000#32
  | 126 => 0x43A20000#32
  | 127 => 0x43FE0000#32
  | _ => 0#32

noncomputable abbrev lit0t0_41 (i : Nat) : BitVec 32 := match i % 128 with
  | 0 => 0x43A60000#32
  | 1 => 0x40800000#32
  | 2 => 0x43A60000#32
  | 3 => 0x41400000#32
  | 4 => 0x43A60000#32
  | 5 => 0x41A00000#32
  | 6 => 0x43A60000#32
  | 7 => 0x41E00000#32
  | 8 => 0x43A60000#32
  | 9 => 0x42100000#32
  | 10 => 0x43A60000#32
  | 11 => 0x42300000#32
  | 12 => 0x43A60000#32
  | 13 => 0x42500000#32
  | 14 => 0x43A60000#32
  | 15 => 0x42700000#32
  | 16 => 0x43A60000#32
  | 17 => 0x42880000#32
  | 18 => 0x43A60000#32
  | 19 => 0x42980000#32
  | 20 => 0x43A60000#32
  | 21 => 0x42A80000#32
  | 22 => 0x43A60000#32
  | 23 => 0x42B80000#32
  | 24 => 0x43A60000#32
  | 25 => 0x42C80000#32
  | 26 => 0x43A60000#32
  | 27 => 0x42D80000#32
  | 28 => 0x43A60000#32
  | 29 => 0x42E80000#32
  | 30 => 0x43A60000#32
  | 31 => 0x42F80000#32
  | 32 => 0x43A60000#32
  | 33 => 0x43040000#32
  | 34 => 0x43A60000#32
  | 35 => 0x430C0000#32
  | 36 => 0x43A60000#32
  | 37 => 0x43140000#32
  | 38 => 0x43A60000#32
  | 39 => 0x431C0000#32
  | 40 => 0x43A60000#32
  | 41 => 0x43240000#32
  | 42 => 0x43A60000#32
  | 43 => 0x432C0000#32
  | 44 => 0x43A60000#32
  | 45 => 0x43340000#32
  | 46 => 0x43A60000#32
  | 47 => 0x433C0000#32
  | 48 => 0x43A60000#32
  | 49 => 0x43440000#32
  | 50 => 0x43A60000#32
  | 51 => 0x434C0000#32
  | 52 => 0x43A60000#32
  | 53 => 0x43540000#32
  | 54 => 0x43A60000#32
  | 55 => 0x435C0000#32
  | 56 => 0x43A60000#32
  | 57 => 0x43640000#32
  | 58 => 0x43A60000#32
  | 59 => 0x436C0000#32
  | 60 => 0x43A60000#32
  | 61 => 0x43740000#32
  | 62 => 0x43A60000#32
  | 63 => 0x437C0000#32
  | 64 => 0x43A60000#32
  | 65 => 0x43820000#32
  | 66 => 0x43A60000#32
  | 67 => 0x43860000#32
  | 68 => 0x43A60000#32
  | 69 => 0x438A0000#32
  | 70 => 0x43A60000#32
  | 71 => 0x438E0000#32
  | 72 => 0x43A60000#32
  | 73 => 0x43920000#32
  | 74 => 0x43A60000#32
  | 75 => 0x43960000#32
  | 76 => 0x43A60000#32
  | 77 => 0x439A0000#32
  | 78 => 0x43A60000#32
  | 79 => 0x439E0000#32
  | 80 => 0x43A60000#32
  | 81 => 0x43A20000#32
  | 82 => 0x43A60000#32
  | 83 => 0x43A60000#32
  | 84 => 0x43A60000#32
  | 85 => 0x43AA0000#32
  | 86 => 0x43A60000#32
  | 87 => 0x43AE0000#32
  | 88 => 0x43A60000#32
  | 89 => 0x43B20000#32
  | 90 => 0x43A60000#32
  | 91 => 0x43B60000#32
  | 92 => 0x43A60000#32
  | 93 => 0x43BA0000#32
  | 94 => 0x43A60000#32
  | 95 => 0x43BE0000#32
  | 96 => 0x43A60000#32
  | 97 => 0x43C20000#32
  | 98 => 0x43A60000#32
  | 99 => 0x43C60000#32
  | 100 => 0x43A60000#32
  | 101 => 0x43CA0000#32
  | 102 => 0x43A60000#32
  | 103 => 0x43CE0000#32
  | 104 => 0x43A60000#32
  | 105 => 0x43D20000#32
  | 106 => 0x43A60000#32
  | 107 => 0x43D60000#32
  | 108 => 0x43A60000#32
  | 109 => 0x43DA0000#32
  | 110 => 0x43A60000#32
  | 111 => 0x43DE0000#32
  | 112 => 0x43A60000#32
  | 113 => 0x43E20000#32
  | 114 => 0x43A60000#32
  | 115 => 0x43E60000#32
  | 116 => 0x43A60000#32
  | 117 => 0x43EA0000#32
  | 118 => 0x43A60000#32
  | 119 => 0x43EE0000#32
  | 120 => 0x43A60000#32
  | 121 => 0x43F20000#32
  | 122 => 0x43A60000#32
  | 123 => 0x43F60000#32
  | 124 => 0x43A60000#32
  | 125 => 0x43FA0000#32
  | 126 => 0x43A60000#32
  | 127 => 0x43FE0000#32
  | _ => 0#32

noncomputable abbrev lit0t0_42 (i : Nat) : BitVec 32 := match i % 128 with
  | 0 => 0x43AA0000#32
  | 1 => 0x40800000#32
  | 2 => 0x43AA0000#32
  | 3 => 0x41400000#32
  | 4 => 0x43AA0000#32
  | 5 => 0x41A00000#32
  | 6 => 0x43AA0000#32
  | 7 => 0x41E00000#32
  | 8 => 0x43AA0000#32
  | 9 => 0x42100000#32
  | 10 => 0x43AA0000#32
  | 11 => 0x42300000#32
  | 12 => 0x43AA0000#32
  | 13 => 0x42500000#32
  | 14 => 0x43AA0000#32
  | 15 => 0x42700000#32
  | 16 => 0x43AA0000#32
  | 17 => 0x42880000#32
  | 18 => 0x43AA0000#32
  | 19 => 0x42980000#32
  | 20 => 0x43AA0000#32
  | 21 => 0x42A80000#32
  | 22 => 0x43AA0000#32
  | 23 => 0x42B80000#32
  | 24 => 0x43AA0000#32
  | 25 => 0x42C80000#32
  | 26 => 0x43AA0000#32
  | 27 => 0x42D80000#32
  | 28 => 0x43AA0000#32
  | 29 => 0x42E80000#32
  | 30 => 0x43AA0000#32
  | 31 => 0x42F80000#32
  | 32 => 0x43AA0000#32
  | 33 => 0x43040000#32
  | 34 => 0x43AA0000#32
  | 35 => 0x430C0000#32
  | 36 => 0x43AA0000#32
  | 37 => 0x43140000#32
  | 38 => 0x43AA0000#32
  | 39 => 0x431C0000#32
  | 40 => 0x43AA0000#32
  | 41 => 0x43240000#32
  | 42 => 0x43AA0000#32
  | 43 => 0x432C0000#32
  | 44 => 0x43AA0000#32
  | 45 => 0x43340000#32
  | 46 => 0x43AA0000#32
  | 47 => 0x433C0000#32
  | 48 => 0x43AA0000#32
  | 49 => 0x43440000#32
  | 50 => 0x43AA0000#32
  | 51 => 0x434C0000#32
  | 52 => 0x43AA0000#32
  | 53 => 0x43540000#32
  | 54 => 0x43AA0000#32
  | 55 => 0x435C0000#32
  | 56 => 0x43AA0000#32
  | 57 => 0x43640000#32
  | 58 => 0x43AA0000#32
  | 59 => 0x436C0000#32
  | 60 => 0x43AA0000#32
  | 61 => 0x43740000#32
  | 62 => 0x43AA0000#32
  | 63 => 0x437C0000#32
  | 64 => 0x43AA0000#32
  | 65 => 0x43820000#32
  | 66 => 0x43AA0000#32
  | 67 => 0x43860000#32
  | 68 => 0x43AA0000#32
  | 69 => 0x438A0000#32
  | 70 => 0x43AA0000#32
  | 71 => 0x438E0000#32
  | 72 => 0x43AA0000#32
  | 73 => 0x43920000#32
  | 74 => 0x43AA0000#32
  | 75 => 0x43960000#32
  | 76 => 0x43AA0000#32
  | 77 => 0x439A0000#32
  | 78 => 0x43AA0000#32
  | 79 => 0x439E0000#32
  | 80 => 0x43AA0000#32
  | 81 => 0x43A20000#32
  | 82 => 0x43AA0000#32
  | 83 => 0x43A60000#32
  | 84 => 0x43AA0000#32
  | 85 => 0x43AA0000#32
  | 86 => 0x43AA0000#32
  | 87 => 0x43AE0000#32
  | 88 => 0x43AA0000#32
  | 89 => 0x43B20000#32
  | 90 => 0x43AA0000#32
  | 91 => 0x43B60000#32
  | 92 => 0x43AA0000#32
  | 93 => 0x43BA0000#32
  | 94 => 0x43AA0000#32
  | 95 => 0x43BE0000#32
  | 96 => 0x43AA0000#32
  | 97 => 0x43C20000#32
  | 98 => 0x43AA0000#32
  | 99 => 0x43C60000#32
  | 100 => 0x43AA0000#32
  | 101 => 0x43CA0000#32
  | 102 => 0x43AA0000#32
  | 103 => 0x43CE0000#32
  | 104 => 0x43AA0000#32
  | 105 => 0x43D20000#32
  | 106 => 0x43AA0000#32
  | 107 => 0x43D60000#32
  | 108 => 0x43AA0000#32
  | 109 => 0x43DA0000#32
  | 110 => 0x43AA0000#32
  | 111 => 0x43DE0000#32
  | 112 => 0x43AA0000#32
  | 113 => 0x43E20000#32
  | 114 => 0x43AA0000#32
  | 115 => 0x43E60000#32
  | 116 => 0x43AA0000#32
  | 117 => 0x43EA0000#32
  | 118 => 0x43AA0000#32
  | 119 => 0x43EE0000#32
  | 120 => 0x43AA0000#32
  | 121 => 0x43F20000#32
  | 122 => 0x43AA0000#32
  | 123 => 0x43F60000#32
  | 124 => 0x43AA0000#32
  | 125 => 0x43FA0000#32
  | 126 => 0x43AA0000#32
  | 127 => 0x43FE0000#32
  | _ => 0#32

noncomputable abbrev lit0t0_43 (i : Nat) : BitVec 32 := match i % 128 with
  | 0 => 0x43AE0000#32
  | 1 => 0x40800000#32
  | 2 => 0x43AE0000#32
  | 3 => 0x41400000#32
  | 4 => 0x43AE0000#32
  | 5 => 0x41A00000#32
  | 6 => 0x43AE0000#32
  | 7 => 0x41E00000#32
  | 8 => 0x43AE0000#32
  | 9 => 0x42100000#32
  | 10 => 0x43AE0000#32
  | 11 => 0x42300000#32
  | 12 => 0x43AE0000#32
  | 13 => 0x42500000#32
  | 14 => 0x43AE0000#32
  | 15 => 0x42700000#32
  | 16 => 0x43AE0000#32
  | 17 => 0x42880000#32
  | 18 => 0x43AE0000#32
  | 19 => 0x42980000#32
  | 20 => 0x43AE0000#32
  | 21 => 0x42A80000#32
  | 22 => 0x43AE0000#32
  | 23 => 0x42B80000#32
  | 24 => 0x43AE0000#32
  | 25 => 0x42C80000#32
  | 26 => 0x43AE0000#32
  | 27 => 0x42D80000#32
  | 28 => 0x43AE0000#32
  | 29 => 0x42E80000#32
  | 30 => 0x43AE0000#32
  | 31 => 0x42F80000#32
  | 32 => 0x43AE0000#32
  | 33 => 0x43040000#32
  | 34 => 0x43AE0000#32
  | 35 => 0x430C0000#32
  | 36 => 0x43AE0000#32
  | 37 => 0x43140000#32
  | 38 => 0x43AE0000#32
  | 39 => 0x431C0000#32
  | 40 => 0x43AE0000#32
  | 41 => 0x43240000#32
  | 42 => 0x43AE0000#32
  | 43 => 0x432C0000#32
  | 44 => 0x43AE0000#32
  | 45 => 0x43340000#32
  | 46 => 0x43AE0000#32
  | 47 => 0x433C0000#32
  | 48 => 0x43AE0000#32
  | 49 => 0x43440000#32
  | 50 => 0x43AE0000#32
  | 51 => 0x434C0000#32
  | 52 => 0x43AE0000#32
  | 53 => 0x43540000#32
  | 54 => 0x43AE0000#32
  | 55 => 0x435C0000#32
  | 56 => 0x43AE0000#32
  | 57 => 0x43640000#32
  | 58 => 0x43AE0000#32
  | 59 => 0x436C0000#32
  | 60 => 0x43AE0000#32
  | 61 => 0x43740000#32
  | 62 => 0x43AE0000#32
  | 63 => 0x437C0000#32
  | 64 => 0x43AE0000#32
  | 65 => 0x43820000#32
  | 66 => 0x43AE0000#32
  | 67 => 0x43860000#32
  | 68 => 0x43AE0000#32
  | 69 => 0x438A0000#32
  | 70 => 0x43AE0000#32
  | 71 => 0x438E0000#32
  | 72 => 0x43AE0000#32
  | 73 => 0x43920000#32
  | 74 => 0x43AE0000#32
  | 75 => 0x43960000#32
  | 76 => 0x43AE0000#32
  | 77 => 0x439A0000#32
  | 78 => 0x43AE0000#32
  | 79 => 0x439E0000#32
  | 80 => 0x43AE0000#32
  | 81 => 0x43A20000#32
  | 82 => 0x43AE0000#32
  | 83 => 0x43A60000#32
  | 84 => 0x43AE0000#32
  | 85 => 0x43AA0000#32
  | 86 => 0x43AE0000#32
  | 87 => 0x43AE0000#32
  | 88 => 0x43AE0000#32
  | 89 => 0x43B20000#32
  | 90 => 0x43AE0000#32
  | 91 => 0x43B60000#32
  | 92 => 0x43AE0000#32
  | 93 => 0x43BA0000#32
  | 94 => 0x43AE0000#32
  | 95 => 0x43BE0000#32
  | 96 => 0x43AE0000#32
  | 97 => 0x43C20000#32
  | 98 => 0x43AE0000#32
  | 99 => 0x43C60000#32
  | 100 => 0x43AE0000#32
  | 101 => 0x43CA0000#32
  | 102 => 0x43AE0000#32
  | 103 => 0x43CE0000#32
  | 104 => 0x43AE0000#32
  | 105 => 0x43D20000#32
  | 106 => 0x43AE0000#32
  | 107 => 0x43D60000#32
  | 108 => 0x43AE0000#32
  | 109 => 0x43DA0000#32
  | 110 => 0x43AE0000#32
  | 111 => 0x43DE0000#32
  | 112 => 0x43AE0000#32
  | 113 => 0x43E20000#32
  | 114 => 0x43AE0000#32
  | 115 => 0x43E60000#32
  | 116 => 0x43AE0000#32
  | 117 => 0x43EA0000#32
  | 118 => 0x43AE0000#32
  | 119 => 0x43EE0000#32
  | 120 => 0x43AE0000#32
  | 121 => 0x43F20000#32
  | 122 => 0x43AE0000#32
  | 123 => 0x43F60000#32
  | 124 => 0x43AE0000#32
  | 125 => 0x43FA0000#32
  | 126 => 0x43AE0000#32
  | 127 => 0x43FE0000#32
  | _ => 0#32

noncomputable abbrev lit0t0_44 (i : Nat) : BitVec 32 := match i % 128 with
  | 0 => 0x43B20000#32
  | 1 => 0x40800000#32
  | 2 => 0x43B20000#32
  | 3 => 0x41400000#32
  | 4 => 0x43B20000#32
  | 5 => 0x41A00000#32
  | 6 => 0x43B20000#32
  | 7 => 0x41E00000#32
  | 8 => 0x43B20000#32
  | 9 => 0x42100000#32
  | 10 => 0x43B20000#32
  | 11 => 0x42300000#32
  | 12 => 0x43B20000#32
  | 13 => 0x42500000#32
  | 14 => 0x43B20000#32
  | 15 => 0x42700000#32
  | 16 => 0x43B20000#32
  | 17 => 0x42880000#32
  | 18 => 0x43B20000#32
  | 19 => 0x42980000#32
  | 20 => 0x43B20000#32
  | 21 => 0x42A80000#32
  | 22 => 0x43B20000#32
  | 23 => 0x42B80000#32
  | 24 => 0x43B20000#32
  | 25 => 0x42C80000#32
  | 26 => 0x43B20000#32
  | 27 => 0x42D80000#32
  | 28 => 0x43B20000#32
  | 29 => 0x42E80000#32
  | 30 => 0x43B20000#32
  | 31 => 0x42F80000#32
  | 32 => 0x43B20000#32
  | 33 => 0x43040000#32
  | 34 => 0x43B20000#32
  | 35 => 0x430C0000#32
  | 36 => 0x43B20000#32
  | 37 => 0x43140000#32
  | 38 => 0x43B20000#32
  | 39 => 0x431C0000#32
  | 40 => 0x43B20000#32
  | 41 => 0x43240000#32
  | 42 => 0x43B20000#32
  | 43 => 0x432C0000#32
  | 44 => 0x43B20000#32
  | 45 => 0x43340000#32
  | 46 => 0x43B20000#32
  | 47 => 0x433C0000#32
  | 48 => 0x43B20000#32
  | 49 => 0x43440000#32
  | 50 => 0x43B20000#32
  | 51 => 0x434C0000#32
  | 52 => 0x43B20000#32
  | 53 => 0x43540000#32
  | 54 => 0x43B20000#32
  | 55 => 0x435C0000#32
  | 56 => 0x43B20000#32
  | 57 => 0x43640000#32
  | 58 => 0x43B20000#32
  | 59 => 0x436C0000#32
  | 60 => 0x43B20000#32
  | 61 => 0x43740000#32
  | 62 => 0x43B20000#32
  | 63 => 0x437C0000#32
  | 64 => 0x43B20000#32
  | 65 => 0x43820000#32
  | 66 => 0x43B20000#32
  | 67 => 0x43860000#32
  | 68 => 0x43B20000#32
  | 69 => 0x438A0000#32
  | 70 => 0x43B20000#32
  | 71 => 0x438E0000#32
  | 72 => 0x43B20000#32
  | 73 => 0x43920000#32
  | 74 => 0x43B20000#32
  | 75 => 0x43960000#32
  | 76 => 0x43B20000#32
  | 77 => 0x439A0000#32
  | 78 => 0x43B20000#32
  | 79 => 0x439E0000#32
  | 80 => 0x43B20000#32
  | 81 => 0x43A20000#32
  | 82 => 0x43B20000#32
  | 83 => 0x43A60000#32
  | 84 => 0x43B20000#32
  | 85 => 0x43AA0000#32
  | 86 => 0x43B20000#32
  | 87 => 0x43AE0000#32
  | 88 => 0x43B20000#32
  | 89 => 0x43B20000#32
  | 90 => 0x43B20000#32
  | 91 => 0x43B60000#32
  | 92 => 0x43B20000#32
  | 93 => 0x43BA0000#32
  | 94 => 0x43B20000#32
  | 95 => 0x43BE0000#32
  | 96 => 0x43B20000#32
  | 97 => 0x43C20000#32
  | 98 => 0x43B20000#32
  | 99 => 0x43C60000#32
  | 100 => 0x43B20000#32
  | 101 => 0x43CA0000#32
  | 102 => 0x43B20000#32
  | 103 => 0x43CE0000#32
  | 104 => 0x43B20000#32
  | 105 => 0x43D20000#32
  | 106 => 0x43B20000#32
  | 107 => 0x43D60000#32
  | 108 => 0x43B20000#32
  | 109 => 0x43DA0000#32
  | 110 => 0x43B20000#32
  | 111 => 0x43DE0000#32
  | 112 => 0x43B20000#32
  | 113 => 0x43E20000#32
  | 114 => 0x43B20000#32
  | 115 => 0x43E60000#32
  | 116 => 0x43B20000#32
  | 117 => 0x43EA0000#32
  | 118 => 0x43B20000#32
  | 119 => 0x43EE0000#32
  | 120 => 0x43B20000#32
  | 121 => 0x43F20000#32
  | 122 => 0x43B20000#32
  | 123 => 0x43F60000#32
  | 124 => 0x43B20000#32
  | 125 => 0x43FA0000#32
  | 126 => 0x43B20000#32
  | 127 => 0x43FE0000#32
  | _ => 0#32

noncomputable abbrev lit0t0_45 (i : Nat) : BitVec 32 := match i % 128 with
  | 0 => 0x43B60000#32
  | 1 => 0x40800000#32
  | 2 => 0x43B60000#32
  | 3 => 0x41400000#32
  | 4 => 0x43B60000#32
  | 5 => 0x41A00000#32
  | 6 => 0x43B60000#32
  | 7 => 0x41E00000#32
  | 8 => 0x43B60000#32
  | 9 => 0x42100000#32
  | 10 => 0x43B60000#32
  | 11 => 0x42300000#32
  | 12 => 0x43B60000#32
  | 13 => 0x42500000#32
  | 14 => 0x43B60000#32
  | 15 => 0x42700000#32
  | 16 => 0x43B60000#32
  | 17 => 0x42880000#32
  | 18 => 0x43B60000#32
  | 19 => 0x42980000#32
  | 20 => 0x43B60000#32
  | 21 => 0x42A80000#32
  | 22 => 0x43B60000#32
  | 23 => 0x42B80000#32
  | 24 => 0x43B60000#32
  | 25 => 0x42C80000#32
  | 26 => 0x43B60000#32
  | 27 => 0x42D80000#32
  | 28 => 0x43B60000#32
  | 29 => 0x42E80000#32
  | 30 => 0x43B60000#32
  | 31 => 0x42F80000#32
  | 32 => 0x43B60000#32
  | 33 => 0x43040000#32
  | 34 => 0x43B60000#32
  | 35 => 0x430C0000#32
  | 36 => 0x43B60000#32
  | 37 => 0x43140000#32
  | 38 => 0x43B60000#32
  | 39 => 0x431C0000#32
  | 40 => 0x43B60000#32
  | 41 => 0x43240000#32
  | 42 => 0x43B60000#32
  | 43 => 0x432C0000#32
  | 44 => 0x43B60000#32
  | 45 => 0x43340000#32
  | 46 => 0x43B60000#32
  | 47 => 0x433C0000#32
  | 48 => 0x43B60000#32
  | 49 => 0x43440000#32
  | 50 => 0x43B60000#32
  | 51 => 0x434C0000#32
  | 52 => 0x43B60000#32
  | 53 => 0x43540000#32
  | 54 => 0x43B60000#32
  | 55 => 0x435C0000#32
  | 56 => 0x43B60000#32
  | 57 => 0x43640000#32
  | 58 => 0x43B60000#32
  | 59 => 0x436C0000#32
  | 60 => 0x43B60000#32
  | 61 => 0x43740000#32
  | 62 => 0x43B60000#32
  | 63 => 0x437C0000#32
  | 64 => 0x43B60000#32
  | 65 => 0x43820000#32
  | 66 => 0x43B60000#32
  | 67 => 0x43860000#32
  | 68 => 0x43B60000#32
  | 69 => 0x438A0000#32
  | 70 => 0x43B60000#32
  | 71 => 0x438E0000#32
  | 72 => 0x43B60000#32
  | 73 => 0x43920000#32
  | 74 => 0x43B60000#32
  | 75 => 0x43960000#32
  | 76 => 0x43B60000#32
  | 77 => 0x439A0000#32
  | 78 => 0x43B60000#32
  | 79 => 0x439E0000#32
  | 80 => 0x43B60000#32
  | 81 => 0x43A20000#32
  | 82 => 0x43B60000#32
  | 83 => 0x43A60000#32
  | 84 => 0x43B60000#32
  | 85 => 0x43AA0000#32
  | 86 => 0x43B60000#32
  | 87 => 0x43AE0000#32
  | 88 => 0x43B60000#32
  | 89 => 0x43B20000#32
  | 90 => 0x43B60000#32
  | 91 => 0x43B60000#32
  | 92 => 0x43B60000#32
  | 93 => 0x43BA0000#32
  | 94 => 0x43B60000#32
  | 95 => 0x43BE0000#32
  | 96 => 0x43B60000#32
  | 97 => 0x43C20000#32
  | 98 => 0x43B60000#32
  | 99 => 0x43C60000#32
  | 100 => 0x43B60000#32
  | 101 => 0x43CA0000#32
  | 102 => 0x43B60000#32
  | 103 => 0x43CE0000#32
  | 104 => 0x43B60000#32
  | 105 => 0x43D20000#32
  | 106 => 0x43B60000#32
  | 107 => 0x43D60000#32
  | 108 => 0x43B60000#32
  | 109 => 0x43DA0000#32
  | 110 => 0x43B60000#32
  | 111 => 0x43DE0000#32
  | 112 => 0x43B60000#32
  | 113 => 0x43E20000#32
  | 114 => 0x43B60000#32
  | 115 => 0x43E60000#32
  | 116 => 0x43B60000#32
  | 117 => 0x43EA0000#32
  | 118 => 0x43B60000#32
  | 119 => 0x43EE0000#32
  | 120 => 0x43B60000#32
  | 121 => 0x43F20000#32
  | 122 => 0x43B60000#32
  | 123 => 0x43F60000#32
  | 124 => 0x43B60000#32
  | 125 => 0x43FA0000#32
  | 126 => 0x43B60000#32
  | 127 => 0x43FE0000#32
  | _ => 0#32

noncomputable abbrev lit0t0_46 (i : Nat) : BitVec 32 := match i % 128 with
  | 0 => 0x43BA0000#32
  | 1 => 0x40800000#32
  | 2 => 0x43BA0000#32
  | 3 => 0x41400000#32
  | 4 => 0x43BA0000#32
  | 5 => 0x41A00000#32
  | 6 => 0x43BA0000#32
  | 7 => 0x41E00000#32
  | 8 => 0x43BA0000#32
  | 9 => 0x42100000#32
  | 10 => 0x43BA0000#32
  | 11 => 0x42300000#32
  | 12 => 0x43BA0000#32
  | 13 => 0x42500000#32
  | 14 => 0x43BA0000#32
  | 15 => 0x42700000#32
  | 16 => 0x43BA0000#32
  | 17 => 0x42880000#32
  | 18 => 0x43BA0000#32
  | 19 => 0x42980000#32
  | 20 => 0x43BA0000#32
  | 21 => 0x42A80000#32
  | 22 => 0x43BA0000#32
  | 23 => 0x42B80000#32
  | 24 => 0x43BA0000#32
  | 25 => 0x42C80000#32
  | 26 => 0x43BA0000#32
  | 27 => 0x42D80000#32
  | 28 => 0x43BA0000#32
  | 29 => 0x42E80000#32
  | 30 => 0x43BA0000#32
  | 31 => 0x42F80000#32
  | 32 => 0x43BA0000#32
  | 33 => 0x43040000#32
  | 34 => 0x43BA0000#32
  | 35 => 0x430C0000#32
  | 36 => 0x43BA0000#32
  | 37 => 0x43140000#32
  | 38 => 0x43BA0000#32
  | 39 => 0x431C0000#32
  | 40 => 0x43BA0000#32
  | 41 => 0x43240000#32
  | 42 => 0x43BA0000#32
  | 43 => 0x432C0000#32
  | 44 => 0x43BA0000#32
  | 45 => 0x43340000#32
  | 46 => 0x43BA0000#32
  | 47 => 0x433C0000#32
  | 48 => 0x43BA0000#32
  | 49 => 0x43440000#32
  | 50 => 0x43BA0000#32
  | 51 => 0x434C0000#32
  | 52 => 0x43BA0000#32
  | 53 => 0x43540000#32
  | 54 => 0x43BA0000#32
  | 55 => 0x435C0000#32
  | 56 => 0x43BA0000#32
  | 57 => 0x43640000#32
  | 58 => 0x43BA0000#32
  | 59 => 0x436C0000#32
  | 60 => 0x43BA0000#32
  | 61 => 0x43740000#32
  | 62 => 0x43BA0000#32
  | 63 => 0x437C0000#32
  | 64 => 0x43BA0000#32
  | 65 => 0x43820000#32
  | 66 => 0x43BA0000#32
  | 67 => 0x43860000#32
  | 68 => 0x43BA0000#32
  | 69 => 0x438A0000#32
  | 70 => 0x43BA0000#32
  | 71 => 0x438E0000#32
  | 72 => 0x43BA0000#32
  | 73 => 0x43920000#32
  | 74 => 0x43BA0000#32
  | 75 => 0x43960000#32
  | 76 => 0x43BA0000#32
  | 77 => 0x439A0000#32
  | 78 => 0x43BA0000#32
  | 79 => 0x439E0000#32
  | 80 => 0x43BA0000#32
  | 81 => 0x43A20000#32
  | 82 => 0x43BA0000#32
  | 83 => 0x43A60000#32
  | 84 => 0x43BA0000#32
  | 85 => 0x43AA0000#32
  | 86 => 0x43BA0000#32
  | 87 => 0x43AE0000#32
  | 88 => 0x43BA0000#32
  | 89 => 0x43B20000#32
  | 90 => 0x43BA0000#32
  | 91 => 0x43B60000#32
  | 92 => 0x43BA0000#32
  | 93 => 0x43BA0000#32
  | 94 => 0x43BA0000#32
  | 95 => 0x43BE0000#32
  | 96 => 0x43BA0000#32
  | 97 => 0x43C20000#32
  | 98 => 0x43BA0000#32
  | 99 => 0x43C60000#32
  | 100 => 0x43BA0000#32
  | 101 => 0x43CA0000#32
  | 102 => 0x43BA0000#32
  | 103 => 0x43CE0000#32
  | 104 => 0x43BA0000#32
  | 105 => 0x43D20000#32
  | 106 => 0x43BA0000#32
  | 107 => 0x43D60000#32
  | 108 => 0x43BA0000#32
  | 109 => 0x43DA0000#32
  | 110 => 0x43BA0000#32
  | 111 => 0x43DE0000#32
  | 112 => 0x43BA0000#32
  | 113 => 0x43E20000#32
  | 114 => 0x43BA0000#32
  | 115 => 0x43E60000#32
  | 116 => 0x43BA0000#32
  | 117 => 0x43EA0000#32
  | 118 => 0x43BA0000#32
  | 119 => 0x43EE0000#32
  | 120 => 0x43BA0000#32
  | 121 => 0x43F20000#32
  | 122 => 0x43BA0000#32
  | 123 => 0x43F60000#32
  | 124 => 0x43BA0000#32
  | 125 => 0x43FA0000#32
  | 126 => 0x43BA0000#32
  | 127 => 0x43FE0000#32
  | _ => 0#32

noncomputable abbrev lit0t0_47 (i : Nat) : BitVec 32 := match i % 128 with
  | 0 => 0x43BE0000#32
  | 1 => 0x40800000#32
  | 2 => 0x43BE0000#32
  | 3 => 0x41400000#32
  | 4 => 0x43BE0000#32
  | 5 => 0x41A00000#32
  | 6 => 0x43BE0000#32
  | 7 => 0x41E00000#32
  | 8 => 0x43BE0000#32
  | 9 => 0x42100000#32
  | 10 => 0x43BE0000#32
  | 11 => 0x42300000#32
  | 12 => 0x43BE0000#32
  | 13 => 0x42500000#32
  | 14 => 0x43BE0000#32
  | 15 => 0x42700000#32
  | 16 => 0x43BE0000#32
  | 17 => 0x42880000#32
  | 18 => 0x43BE0000#32
  | 19 => 0x42980000#32
  | 20 => 0x43BE0000#32
  | 21 => 0x42A80000#32
  | 22 => 0x43BE0000#32
  | 23 => 0x42B80000#32
  | 24 => 0x43BE0000#32
  | 25 => 0x42C80000#32
  | 26 => 0x43BE0000#32
  | 27 => 0x42D80000#32
  | 28 => 0x43BE0000#32
  | 29 => 0x42E80000#32
  | 30 => 0x43BE0000#32
  | 31 => 0x42F80000#32
  | 32 => 0x43BE0000#32
  | 33 => 0x43040000#32
  | 34 => 0x43BE0000#32
  | 35 => 0x430C0000#32
  | 36 => 0x43BE0000#32
  | 37 => 0x43140000#32
  | 38 => 0x43BE0000#32
  | 39 => 0x431C0000#32
  | 40 => 0x43BE0000#32
  | 41 => 0x43240000#32
  | 42 => 0x43BE0000#32
  | 43 => 0x432C0000#32
  | 44 => 0x43BE0000#32
  | 45 => 0x43340000#32
  | 46 => 0x43BE0000#32
  | 47 => 0x433C0000#32
  | 48 => 0x43BE0000#32
  | 49 => 0x43440000#32
  | 50 => 0x43BE0000#32
  | 51 => 0x434C0000#32
  | 52 => 0x43BE0000#32
  | 53 => 0x43540000#32
  | 54 => 0x43BE0000#32
  | 55 => 0x435C0000#32
  | 56 => 0x43BE0000#32
  | 57 => 0x43640000#32
  | 58 => 0x43BE0000#32
  | 59 => 0x436C0000#32
  | 60 => 0x43BE0000#32
  | 61 => 0x43740000#32
  | 62 => 0x43BE0000#32
  | 63 => 0x437C0000#32
  | 64 => 0x43BE0000#32
  | 65 => 0x43820000#32
  | 66 => 0x43BE0000#32
  | 67 => 0x43860000#32
  | 68 => 0x43BE0000#32
  | 69 => 0x438A0000#32
  | 70 => 0x43BE0000#32
  | 71 => 0x438E0000#32
  | 72 => 0x43BE0000#32
  | 73 => 0x43920000#32
  | 74 => 0x43BE0000#32
  | 75 => 0x43960000#32
  | 76 => 0x43BE0000#32
  | 77 => 0x439A0000#32
  | 78 => 0x43BE0000#32
  | 79 => 0x439E0000#32
  | 80 => 0x43BE0000#32
  | 81 => 0x43A20000#32
  | 82 => 0x43BE0000#32
  | 83 => 0x43A60000#32
  | 84 => 0x43BE0000#32
  | 85 => 0x43AA0000#32
  | 86 => 0x43BE0000#32
  | 87 => 0x43AE0000#32
  | 88 => 0x43BE0000#32
  | 89 => 0x43B20000#32
  | 90 => 0x43BE0000#32
  | 91 => 0x43B60000#32
  | 92 => 0x43BE0000#32
  | 93 => 0x43BA0000#32
  | 94 => 0x43BE0000#32
  | 95 => 0x43BE0000#32
  | 96 => 0x43BE0000#32
  | 97 => 0x43C20000#32
  | 98 => 0x43BE0000#32
  | 99 => 0x43C60000#32
  | 100 => 0x43BE0000#32
  | 101 => 0x43CA0000#32
  | 102 => 0x43BE0000#32
  | 103 => 0x43CE0000#32
  | 104 => 0x43BE0000#32
  | 105 => 0x43D20000#32
  | 106 => 0x43BE0000#32
  | 107 => 0x43D60000#32
  | 108 => 0x43BE0000#32
  | 109 => 0x43DA0000#32
  | 110 => 0x43BE0000#32
  | 111 => 0x43DE0000#32
  | 112 => 0x43BE0000#32
  | 113 => 0x43E20000#32
  | 114 => 0x43BE0000#32
  | 115 => 0x43E60000#32
  | 116 => 0x43BE0000#32
  | 117 => 0x43EA0000#32
  | 118 => 0x43BE0000#32
  | 119 => 0x43EE0000#32
  | 120 => 0x43BE0000#32
  | 121 => 0x43F20000#32
  | 122 => 0x43BE0000#32
  | 123 => 0x43F60000#32
  | 124 => 0x43BE0000#32
  | 125 => 0x43FA0000#32
  | 126 => 0x43BE0000#32
  | 127 => 0x43FE0000#32
  | _ => 0#32

noncomputable abbrev lit0t0_48 (i : Nat) : BitVec 32 := match i % 128 with
  | 0 => 0x43C20000#32
  | 1 => 0x40800000#32
  | 2 => 0x43C20000#32
  | 3 => 0x41400000#32
  | 4 => 0x43C20000#32
  | 5 => 0x41A00000#32
  | 6 => 0x43C20000#32
  | 7 => 0x41E00000#32
  | 8 => 0x43C20000#32
  | 9 => 0x42100000#32
  | 10 => 0x43C20000#32
  | 11 => 0x42300000#32
  | 12 => 0x43C20000#32
  | 13 => 0x42500000#32
  | 14 => 0x43C20000#32
  | 15 => 0x42700000#32
  | 16 => 0x43C20000#32
  | 17 => 0x42880000#32
  | 18 => 0x43C20000#32
  | 19 => 0x42980000#32
  | 20 => 0x43C20000#32
  | 21 => 0x42A80000#32
  | 22 => 0x43C20000#32
  | 23 => 0x42B80000#32
  | 24 => 0x43C20000#32
  | 25 => 0x42C80000#32
  | 26 => 0x43C20000#32
  | 27 => 0x42D80000#32
  | 28 => 0x43C20000#32
  | 29 => 0x42E80000#32
  | 30 => 0x43C20000#32
  | 31 => 0x42F80000#32
  | 32 => 0x43C20000#32
  | 33 => 0x43040000#32
  | 34 => 0x43C20000#32
  | 35 => 0x430C0000#32
  | 36 => 0x43C20000#32
  | 37 => 0x43140000#32
  | 38 => 0x43C20000#32
  | 39 => 0x431C0000#32
  | 40 => 0x43C20000#32
  | 41 => 0x43240000#32
  | 42 => 0x43C20000#32
  | 43 => 0x432C0000#32
  | 44 => 0x43C20000#32
  | 45 => 0x43340000#32
  | 46 => 0x43C20000#32
  | 47 => 0x433C0000#32
  | 48 => 0x43C20000#32
  | 49 => 0x43440000#32
  | 50 => 0x43C20000#32
  | 51 => 0x434C0000#32
  | 52 => 0x43C20000#32
  | 53 => 0x43540000#32
  | 54 => 0x43C20000#32
  | 55 => 0x435C0000#32
  | 56 => 0x43C20000#32
  | 57 => 0x43640000#32
  | 58 => 0x43C20000#32
  | 59 => 0x436C0000#32
  | 60 => 0x43C20000#32
  | 61 => 0x43740000#32
  | 62 => 0x43C20000#32
  | 63 => 0x437C0000#32
  | 64 => 0x43C20000#32
  | 65 => 0x43820000#32
  | 66 => 0x43C20000#32
  | 67 => 0x43860000#32
  | 68 => 0x43C20000#32
  | 69 => 0x438A0000#32
  | 70 => 0x43C20000#32
  | 71 => 0x438E0000#32
  | 72 => 0x43C20000#32
  | 73 => 0x43920000#32
  | 74 => 0x43C20000#32
  | 75 => 0x43960000#32
  | 76 => 0x43C20000#32
  | 77 => 0x439A0000#32
  | 78 => 0x43C20000#32
  | 79 => 0x439E0000#32
  | 80 => 0x43C20000#32
  | 81 => 0x43A20000#32
  | 82 => 0x43C20000#32
  | 83 => 0x43A60000#32
  | 84 => 0x43C20000#32
  | 85 => 0x43AA0000#32
  | 86 => 0x43C20000#32
  | 87 => 0x43AE0000#32
  | 88 => 0x43C20000#32
  | 89 => 0x43B20000#32
  | 90 => 0x43C20000#32
  | 91 => 0x43B60000#32
  | 92 => 0x43C20000#32
  | 93 => 0x43BA0000#32
  | 94 => 0x43C20000#32
  | 95 => 0x43BE0000#32
  | 96 => 0x43C20000#32
  | 97 => 0x43C20000#32
  | 98 => 0x43C20000#32
  | 99 => 0x43C60000#32
  | 100 => 0x43C20000#32
  | 101 => 0x43CA0000#32
  | 102 => 0x43C20000#32
  | 103 => 0x43CE0000#32
  | 104 => 0x43C20000#32
  | 105 => 0x43D20000#32
  | 106 => 0x43C20000#32
  | 107 => 0x43D60000#32
  | 108 => 0x43C20000#32
  | 109 => 0x43DA0000#32
  | 110 => 0x43C20000#32
  | 111 => 0x43DE0000#32
  | 112 => 0x43C20000#32
  | 113 => 0x43E20000#32
  | 114 => 0x43C20000#32
  | 115 => 0x43E60000#32
  | 116 => 0x43C20000#32
  | 117 => 0x43EA0000#32
  | 118 => 0x43C20000#32
  | 119 => 0x43EE0000#32
  | 120 => 0x43C20000#32
  | 121 => 0x43F20000#32
  | 122 => 0x43C20000#32
  | 123 => 0x43F60000#32
  | 124 => 0x43C20000#32
  | 125 => 0x43FA0000#32
  | 126 => 0x43C20000#32
  | 127 => 0x43FE0000#32
  | _ => 0#32

noncomputable abbrev lit0t0_49 (i : Nat) : BitVec 32 := match i % 128 with
  | 0 => 0x43C60000#32
  | 1 => 0x40800000#32
  | 2 => 0x43C60000#32
  | 3 => 0x41400000#32
  | 4 => 0x43C60000#32
  | 5 => 0x41A00000#32
  | 6 => 0x43C60000#32
  | 7 => 0x41E00000#32
  | 8 => 0x43C60000#32
  | 9 => 0x42100000#32
  | 10 => 0x43C60000#32
  | 11 => 0x42300000#32
  | 12 => 0x43C60000#32
  | 13 => 0x42500000#32
  | 14 => 0x43C60000#32
  | 15 => 0x42700000#32
  | 16 => 0x43C60000#32
  | 17 => 0x42880000#32
  | 18 => 0x43C60000#32
  | 19 => 0x42980000#32
  | 20 => 0x43C60000#32
  | 21 => 0x42A80000#32
  | 22 => 0x43C60000#32
  | 23 => 0x42B80000#32
  | 24 => 0x43C60000#32
  | 25 => 0x42C80000#32
  | 26 => 0x43C60000#32
  | 27 => 0x42D80000#32
  | 28 => 0x43C60000#32
  | 29 => 0x42E80000#32
  | 30 => 0x43C60000#32
  | 31 => 0x42F80000#32
  | 32 => 0x43C60000#32
  | 33 => 0x43040000#32
  | 34 => 0x43C60000#32
  | 35 => 0x430C0000#32
  | 36 => 0x43C60000#32
  | 37 => 0x43140000#32
  | 38 => 0x43C60000#32
  | 39 => 0x431C0000#32
  | 40 => 0x43C60000#32
  | 41 => 0x43240000#32
  | 42 => 0x43C60000#32
  | 43 => 0x432C0000#32
  | 44 => 0x43C60000#32
  | 45 => 0x43340000#32
  | 46 => 0x43C60000#32
  | 47 => 0x433C0000#32
  | 48 => 0x43C60000#32
  | 49 => 0x43440000#32
  | 50 => 0x43C60000#32
  | 51 => 0x434C0000#32
  | 52 => 0x43C60000#32
  | 53 => 0x43540000#32
  | 54 => 0x43C60000#32
  | 55 => 0x435C0000#32
  | 56 => 0x43C60000#32
  | 57 => 0x43640000#32
  | 58 => 0x43C60000#32
  | 59 => 0x436C0000#32
  | 60 => 0x43C60000#32
  | 61 => 0x43740000#32
  | 62 => 0x43C60000#32
  | 63 => 0x437C0000#32
  | 64 => 0x43C60000#32
  | 65 => 0x43820000#32
  | 66 => 0x43C60000#32
  | 67 => 0x43860000#32
  | 68 => 0x43C60000#32
  | 69 => 0x438A0000#32
  | 70 => 0x43C60000#32
  | 71 => 0x438E0000#32
  | 72 => 0x43C60000#32
  | 73 => 0x43920000#32
  | 74 => 0x43C60000#32
  | 75 => 0x43960000#32
  | 76 => 0x43C60000#32
  | 77 => 0x439A0000#32
  | 78 => 0x43C60000#32
  | 79 => 0x439E0000#32
  | 80 => 0x43C60000#32
  | 81 => 0x43A20000#32
  | 82 => 0x43C60000#32
  | 83 => 0x43A60000#32
  | 84 => 0x43C60000#32
  | 85 => 0x43AA0000#32
  | 86 => 0x43C60000#32
  | 87 => 0x43AE0000#32
  | 88 => 0x43C60000#32
  | 89 => 0x43B20000#32
  | 90 => 0x43C60000#32
  | 91 => 0x43B60000#32
  | 92 => 0x43C60000#32
  | 93 => 0x43BA0000#32
  | 94 => 0x43C60000#32
  | 95 => 0x43BE0000#32
  | 96 => 0x43C60000#32
  | 97 => 0x43C20000#32
  | 98 => 0x43C60000#32
  | 99 => 0x43C60000#32
  | 100 => 0x43C60000#32
  | 101 => 0x43CA0000#32
  | 102 => 0x43C60000#32
  | 103 => 0x43CE0000#32
  | 104 => 0x43C60000#32
  | 105 => 0x43D20000#32
  | 106 => 0x43C60000#32
  | 107 => 0x43D60000#32
  | 108 => 0x43C60000#32
  | 109 => 0x43DA0000#32
  | 110 => 0x43C60000#32
  | 111 => 0x43DE0000#32
  | 112 => 0x43C60000#32
  | 113 => 0x43E20000#32
  | 114 => 0x43C60000#32
  | 115 => 0x43E60000#32
  | 116 => 0x43C60000#32
  | 117 => 0x43EA0000#32
  | 118 => 0x43C60000#32
  | 119 => 0x43EE0000#32
  | 120 => 0x43C60000#32
  | 121 => 0x43F20000#32
  | 122 => 0x43C60000#32
  | 123 => 0x43F60000#32
  | 124 => 0x43C60000#32
  | 125 => 0x43FA0000#32
  | 126 => 0x43C60000#32
  | 127 => 0x43FE0000#32
  | _ => 0#32

noncomputable abbrev lit0t0_50 (i : Nat) : BitVec 32 := match i % 128 with
  | 0 => 0x43CA0000#32
  | 1 => 0x40800000#32
  | 2 => 0x43CA0000#32
  | 3 => 0x41400000#32
  | 4 => 0x43CA0000#32
  | 5 => 0x41A00000#32
  | 6 => 0x43CA0000#32
  | 7 => 0x41E00000#32
  | 8 => 0x43CA0000#32
  | 9 => 0x42100000#32
  | 10 => 0x43CA0000#32
  | 11 => 0x42300000#32
  | 12 => 0x43CA0000#32
  | 13 => 0x42500000#32
  | 14 => 0x43CA0000#32
  | 15 => 0x42700000#32
  | 16 => 0x43CA0000#32
  | 17 => 0x42880000#32
  | 18 => 0x43CA0000#32
  | 19 => 0x42980000#32
  | 20 => 0x43CA0000#32
  | 21 => 0x42A80000#32
  | 22 => 0x43CA0000#32
  | 23 => 0x42B80000#32
  | 24 => 0x43CA0000#32
  | 25 => 0x42C80000#32
  | 26 => 0x43CA0000#32
  | 27 => 0x42D80000#32
  | 28 => 0x43CA0000#32
  | 29 => 0x42E80000#32
  | 30 => 0x43CA0000#32
  | 31 => 0x42F80000#32
  | 32 => 0x43CA0000#32
  | 33 => 0x43040000#32
  | 34 => 0x43CA0000#32
  | 35 => 0x430C0000#32
  | 36 => 0x43CA0000#32
  | 37 => 0x43140000#32
  | 38 => 0x43CA0000#32
  | 39 => 0x431C0000#32
  | 40 => 0x43CA0000#32
  | 41 => 0x43240000#32
  | 42 => 0x43CA0000#32
  | 43 => 0x432C0000#32
  | 44 => 0x43CA0000#32
  | 45 => 0x43340000#32
  | 46 => 0x43CA0000#32
  | 47 => 0x433C0000#32
  | 48 => 0x43CA0000#32
  | 49 => 0x43440000#32
  | 50 => 0x43CA0000#32
  | 51 => 0x434C0000#32
  | 52 => 0x43CA0000#32
  | 53 => 0x43540000#32
  | 54 => 0x43CA0000#32
  | 55 => 0x435C0000#32
  | 56 => 0x43CA0000#32
  | 57 => 0x43640000#32
  | 58 => 0x43CA0000#32
  | 59 => 0x436C0000#32
  | 60 => 0x43CA0000#32
  | 61 => 0x43740000#32
  | 62 => 0x43CA0000#32
  | 63 => 0x437C0000#32
  | 64 => 0x43CA0000#32
  | 65 => 0x43820000#32
  | 66 => 0x43CA0000#32
  | 67 => 0x43860000#32
  | 68 => 0x43CA0000#32
  | 69 => 0x438A0000#32
  | 70 => 0x43CA0000#32
  | 71 => 0x438E0000#32
  | 72 => 0x43CA0000#32
  | 73 => 0x43920000#32
  | 74 => 0x43CA0000#32
  | 75 => 0x43960000#32
  | 76 => 0x43CA0000#32
  | 77 => 0x439A0000#32
  | 78 => 0x43CA0000#32
  | 79 => 0x439E0000#32
  | 80 => 0x43CA0000#32
  | 81 => 0x43A20000#32
  | 82 => 0x43CA0000#32
  | 83 => 0x43A60000#32
  | 84 => 0x43CA0000#32
  | 85 => 0x43AA0000#32
  | 86 => 0x43CA0000#32
  | 87 => 0x43AE0000#32
  | 88 => 0x43CA0000#32
  | 89 => 0x43B20000#32
  | 90 => 0x43CA0000#32
  | 91 => 0x43B60000#32
  | 92 => 0x43CA0000#32
  | 93 => 0x43BA0000#32
  | 94 => 0x43CA0000#32
  | 95 => 0x43BE0000#32
  | 96 => 0x43CA0000#32
  | 97 => 0x43C20000#32
  | 98 => 0x43CA0000#32
  | 99 => 0x43C60000#32
  | 100 => 0x43CA0000#32
  | 101 => 0x43CA0000#32
  | 102 => 0x43CA0000#32
  | 103 => 0x43CE0000#32
  | 104 => 0x43CA0000#32
  | 105 => 0x43D20000#32
  | 106 => 0x43CA0000#32
  | 107 => 0x43D60000#32
  | 108 => 0x43CA0000#32
  | 109 => 0x43DA0000#32
  | 110 => 0x43CA0000#32
  | 111 => 0x43DE0000#32
  | 112 => 0x43CA0000#32
  | 113 => 0x43E20000#32
  | 114 => 0x43CA0000#32
  | 115 => 0x43E60000#32
  | 116 => 0x43CA0000#32
  | 117 => 0x43EA0000#32
  | 118 => 0x43CA0000#32
  | 119 => 0x43EE0000#32
  | 120 => 0x43CA0000#32
  | 121 => 0x43F20000#32
  | 122 => 0x43CA0000#32
  | 123 => 0x43F60000#32
  | 124 => 0x43CA0000#32
  | 125 => 0x43FA0000#32
  | 126 => 0x43CA0000#32
  | 127 => 0x43FE0000#32
  | _ => 0#32

noncomputable abbrev lit0t0_51 (i : Nat) : BitVec 32 := match i % 128 with
  | 0 => 0x43CE0000#32
  | 1 => 0x40800000#32
  | 2 => 0x43CE0000#32
  | 3 => 0x41400000#32
  | 4 => 0x43CE0000#32
  | 5 => 0x41A00000#32
  | 6 => 0x43CE0000#32
  | 7 => 0x41E00000#32
  | 8 => 0x43CE0000#32
  | 9 => 0x42100000#32
  | 10 => 0x43CE0000#32
  | 11 => 0x42300000#32
  | 12 => 0x43CE0000#32
  | 13 => 0x42500000#32
  | 14 => 0x43CE0000#32
  | 15 => 0x42700000#32
  | 16 => 0x43CE0000#32
  | 17 => 0x42880000#32
  | 18 => 0x43CE0000#32
  | 19 => 0x42980000#32
  | 20 => 0x43CE0000#32
  | 21 => 0x42A80000#32
  | 22 => 0x43CE0000#32
  | 23 => 0x42B80000#32
  | 24 => 0x43CE0000#32
  | 25 => 0x42C80000#32
  | 26 => 0x43CE0000#32
  | 27 => 0x42D80000#32
  | 28 => 0x43CE0000#32
  | 29 => 0x42E80000#32
  | 30 => 0x43CE0000#32
  | 31 => 0x42F80000#32
  | 32 => 0x43CE0000#32
  | 33 => 0x43040000#32
  | 34 => 0x43CE0000#32
  | 35 => 0x430C0000#32
  | 36 => 0x43CE0000#32
  | 37 => 0x43140000#32
  | 38 => 0x43CE0000#32
  | 39 => 0x431C0000#32
  | 40 => 0x43CE0000#32
  | 41 => 0x43240000#32
  | 42 => 0x43CE0000#32
  | 43 => 0x432C0000#32
  | 44 => 0x43CE0000#32
  | 45 => 0x43340000#32
  | 46 => 0x43CE0000#32
  | 47 => 0x433C0000#32
  | 48 => 0x43CE0000#32
  | 49 => 0x43440000#32
  | 50 => 0x43CE0000#32
  | 51 => 0x434C0000#32
  | 52 => 0x43CE0000#32
  | 53 => 0x43540000#32
  | 54 => 0x43CE0000#32
  | 55 => 0x435C0000#32
  | 56 => 0x43CE0000#32
  | 57 => 0x43640000#32
  | 58 => 0x43CE0000#32
  | 59 => 0x436C0000#32
  | 60 => 0x43CE0000#32
  | 61 => 0x43740000#32
  | 62 => 0x43CE0000#32
  | 63 => 0x437C0000#32
  | 64 => 0x43CE0000#32
  | 65 => 0x43820000#32
  | 66 => 0x43CE0000#32
  | 67 => 0x43860000#32
  | 68 => 0x43CE0000#32
  | 69 => 0x438A0000#32
  | 70 => 0x43CE0000#32
  | 71 => 0x438E0000#32
  | 72 => 0x43CE0000#32
  | 73 => 0x43920000#32
  | 74 => 0x43CE0000#32
  | 75 => 0x43960000#32
  | 76 => 0x43CE0000#32
  | 77 => 0x439A0000#32
  | 78 => 0x43CE0000#32
  | 79 => 0x439E0000#32
  | 80 => 0x43CE0000#32
  | 81 => 0x43A20000#32
  | 82 => 0x43CE0000#32
  | 83 => 0x43A60000#32
  | 84 => 0x43CE0000#32
  | 85 => 0x43AA0000#32
  | 86 => 0x43CE0000#32
  | 87 => 0x43AE0000#32
  | 88 => 0x43CE0000#32
  | 89 => 0x43B20000#32
  | 90 => 0x43CE0000#32
  | 91 => 0x43B60000#32
  | 92 => 0x43CE0000#32
  | 93 => 0x43BA0000#32
  | 94 => 0x43CE0000#32
  | 95 => 0x43BE0000#32
  | 96 => 0x43CE0000#32
  | 97 => 0x43C20000#32
  | 98 => 0x43CE0000#32
  | 99 => 0x43C60000#32
  | 100 => 0x43CE0000#32
  | 101 => 0x43CA0000#32
  | 102 => 0x43CE0000#32
  | 103 => 0x43CE0000#32
  | 104 => 0x43CE0000#32
  | 105 => 0x43D20000#32
  | 106 => 0x43CE0000#32
  | 107 => 0x43D60000#32
  | 108 => 0x43CE0000#32
  | 109 => 0x43DA0000#32
  | 110 => 0x43CE0000#32
  | 111 => 0x43DE0000#32
  | 112 => 0x43CE0000#32
  | 113 => 0x43E20000#32
  | 114 => 0x43CE0000#32
  | 115 => 0x43E60000#32
  | 116 => 0x43CE0000#32
  | 117 => 0x43EA0000#32
  | 118 => 0x43CE0000#32
  | 119 => 0x43EE0000#32
  | 120 => 0x43CE0000#32
  | 121 => 0x43F20000#32
  | 122 => 0x43CE0000#32
  | 123 => 0x43F60000#32
  | 124 => 0x43CE0000#32
  | 125 => 0x43FA0000#32
  | 126 => 0x43CE0000#32
  | 127 => 0x43FE0000#32
  | _ => 0#32

noncomputable abbrev lit0t0_52 (i : Nat) : BitVec 32 := match i % 128 with
  | 0 => 0x43D20000#32
  | 1 => 0x40800000#32
  | 2 => 0x43D20000#32
  | 3 => 0x41400000#32
  | 4 => 0x43D20000#32
  | 5 => 0x41A00000#32
  | 6 => 0x43D20000#32
  | 7 => 0x41E00000#32
  | 8 => 0x43D20000#32
  | 9 => 0x42100000#32
  | 10 => 0x43D20000#32
  | 11 => 0x42300000#32
  | 12 => 0x43D20000#32
  | 13 => 0x42500000#32
  | 14 => 0x43D20000#32
  | 15 => 0x42700000#32
  | 16 => 0x43D20000#32
  | 17 => 0x42880000#32
  | 18 => 0x43D20000#32
  | 19 => 0x42980000#32
  | 20 => 0x43D20000#32
  | 21 => 0x42A80000#32
  | 22 => 0x43D20000#32
  | 23 => 0x42B80000#32
  | 24 => 0x43D20000#32
  | 25 => 0x42C80000#32
  | 26 => 0x43D20000#32
  | 27 => 0x42D80000#32
  | 28 => 0x43D20000#32
  | 29 => 0x42E80000#32
  | 30 => 0x43D20000#32
  | 31 => 0x42F80000#32
  | 32 => 0x43D20000#32
  | 33 => 0x43040000#32
  | 34 => 0x43D20000#32
  | 35 => 0x430C0000#32
  | 36 => 0x43D20000#32
  | 37 => 0x43140000#32
  | 38 => 0x43D20000#32
  | 39 => 0x431C0000#32
  | 40 => 0x43D20000#32
  | 41 => 0x43240000#32
  | 42 => 0x43D20000#32
  | 43 => 0x432C0000#32
  | 44 => 0x43D20000#32
  | 45 => 0x43340000#32
  | 46 => 0x43D20000#32
  | 47 => 0x433C0000#32
  | 48 => 0x43D20000#32
  | 49 => 0x43440000#32
  | 50 => 0x43D20000#32
  | 51 => 0x434C0000#32
  | 52 => 0x43D20000#32
  | 53 => 0x43540000#32
  | 54 => 0x43D20000#32
  | 55 => 0x435C0000#32
  | 56 => 0x43D20000#32
  | 57 => 0x43640000#32
  | 58 => 0x43D20000#32
  | 59 => 0x436C0000#32
  | 60 => 0x43D20000#32
  | 61 => 0x43740000#32
  | 62 => 0x43D20000#32
  | 63 => 0x437C0000#32
  | 64 => 0x43D20000#32
  | 65 => 0x43820000#32
  | 66 => 0x43D20000#32
  | 67 => 0x43860000#32
  | 68 => 0x43D20000#32
  | 69 => 0x438A0000#32
  | 70 => 0x43D20000#32
  | 71 => 0x438E0000#32
  | 72 => 0x43D20000#32
  | 73 => 0x43920000#32
  | 74 => 0x43D20000#32
  | 75 => 0x43960000#32
  | 76 => 0x43D20000#32
  | 77 => 0x439A0000#32
  | 78 => 0x43D20000#32
  | 79 => 0x439E0000#32
  | 80 => 0x43D20000#32
  | 81 => 0x43A20000#32
  | 82 => 0x43D20000#32
  | 83 => 0x43A60000#32
  | 84 => 0x43D20000#32
  | 85 => 0x43AA0000#32
  | 86 => 0x43D20000#32
  | 87 => 0x43AE0000#32
  | 88 => 0x43D20000#32
  | 89 => 0x43B20000#32
  | 90 => 0x43D20000#32
  | 91 => 0x43B60000#32
  | 92 => 0x43D20000#32
  | 93 => 0x43BA0000#32
  | 94 => 0x43D20000#32
  | 95 => 0x43BE0000#32
  | 96 => 0x43D20000#32
  | 97 => 0x43C20000#32
  | 98 => 0x43D20000#32
  | 99 => 0x43C60000#32
  | 100 => 0x43D20000#32
  | 101 => 0x43CA0000#32
  | 102 => 0x43D20000#32
  | 103 => 0x43CE0000#32
  | 104 => 0x43D20000#32
  | 105 => 0x43D20000#32
  | 106 => 0x43D20000#32
  | 107 => 0x43D60000#32
  | 108 => 0x43D20000#32
  | 109 => 0x43DA0000#32
  | 110 => 0x43D20000#32
  | 111 => 0x43DE0000#32
  | 112 => 0x43D20000#32
  | 113 => 0x43E20000#32
  | 114 => 0x43D20000#32
  | 115 => 0x43E60000#32
  | 116 => 0x43D20000#32
  | 117 => 0x43EA0000#32
  | 118 => 0x43D20000#32
  | 119 => 0x43EE0000#32
  | 120 => 0x43D20000#32
  | 121 => 0x43F20000#32
  | 122 => 0x43D20000#32
  | 123 => 0x43F60000#32
  | 124 => 0x43D20000#32
  | 125 => 0x43FA0000#32
  | 126 => 0x43D20000#32
  | 127 => 0x43FE0000#32
  | _ => 0#32

noncomputable abbrev lit0t0_53 (i : Nat) : BitVec 32 := match i % 128 with
  | 0 => 0x43D60000#32
  | 1 => 0x40800000#32
  | 2 => 0x43D60000#32
  | 3 => 0x41400000#32
  | 4 => 0x43D60000#32
  | 5 => 0x41A00000#32
  | 6 => 0x43D60000#32
  | 7 => 0x41E00000#32
  | 8 => 0x43D60000#32
  | 9 => 0x42100000#32
  | 10 => 0x43D60000#32
  | 11 => 0x42300000#32
  | 12 => 0x43D60000#32
  | 13 => 0x42500000#32
  | 14 => 0x43D60000#32
  | 15 => 0x42700000#32
  | 16 => 0x43D60000#32
  | 17 => 0x42880000#32
  | 18 => 0x43D60000#32
  | 19 => 0x42980000#32
  | 20 => 0x43D60000#32
  | 21 => 0x42A80000#32
  | 22 => 0x43D60000#32
  | 23 => 0x42B80000#32
  | 24 => 0x43D60000#32
  | 25 => 0x42C80000#32
  | 26 => 0x43D60000#32
  | 27 => 0x42D80000#32
  | 28 => 0x43D60000#32
  | 29 => 0x42E80000#32
  | 30 => 0x43D60000#32
  | 31 => 0x42F80000#32
  | 32 => 0x43D60000#32
  | 33 => 0x43040000#32
  | 34 => 0x43D60000#32
  | 35 => 0x430C0000#32
  | 36 => 0x43D60000#32
  | 37 => 0x43140000#32
  | 38 => 0x43D60000#32
  | 39 => 0x431C0000#32
  | 40 => 0x43D60000#32
  | 41 => 0x43240000#32
  | 42 => 0x43D60000#32
  | 43 => 0x432C0000#32
  | 44 => 0x43D60000#32
  | 45 => 0x43340000#32
  | 46 => 0x43D60000#32
  | 47 => 0x433C0000#32
  | 48 => 0x43D60000#32
  | 49 => 0x43440000#32
  | 50 => 0x43D60000#32
  | 51 => 0x434C0000#32
  | 52 => 0x43D60000#32
  | 53 => 0x43540000#32
  | 54 => 0x43D60000#32
  | 55 => 0x435C0000#32
  | 56 => 0x43D60000#32
  | 57 => 0x43640000#32
  | 58 => 0x43D60000#32
  | 59 => 0x436C0000#32
  | 60 => 0x43D60000#32
  | 61 => 0x43740000#32
  | 62 => 0x43D60000#32
  | 63 => 0x437C0000#32
  | 64 => 0x43D60000#32
  | 65 => 0x43820000#32
  | 66 => 0x43D60000#32
  | 67 => 0x43860000#32
  | 68 => 0x43D60000#32
  | 69 => 0x438A0000#32
  | 70 => 0x43D60000#32
  | 71 => 0x438E0000#32
  | 72 => 0x43D60000#32
  | 73 => 0x43920000#32
  | 74 => 0x43D60000#32
  | 75 => 0x43960000#32
  | 76 => 0x43D60000#32
  | 77 => 0x439A0000#32
  | 78 => 0x43D60000#32
  | 79 => 0x439E0000#32
  | 80 => 0x43D60000#32
  | 81 => 0x43A20000#32
  | 82 => 0x43D60000#32
  | 83 => 0x43A60000#32
  | 84 => 0x43D60000#32
  | 85 => 0x43AA0000#32
  | 86 => 0x43D60000#32
  | 87 => 0x43AE0000#32
  | 88 => 0x43D60000#32
  | 89 => 0x43B20000#32
  | 90 => 0x43D60000#32
  | 91 => 0x43B60000#32
  | 92 => 0x43D60000#32
  | 93 => 0x43BA0000#32
  | 94 => 0x43D60000#32
  | 95 => 0x43BE0000#32
  | 96 => 0x43D60000#32
  | 97 => 0x43C20000#32
  | 98 => 0x43D60000#32
  | 99 => 0x43C60000#32
  | 100 => 0x43D60000#32
  | 101 => 0x43CA0000#32
  | 102 => 0x43D60000#32
  | 103 => 0x43CE0000#32
  | 104 => 0x43D60000#32
  | 105 => 0x43D20000#32
  | 106 => 0x43D60000#32
  | 107 => 0x43D60000#32
  | 108 => 0x43D60000#32
  | 109 => 0x43DA0000#32
  | 110 => 0x43D60000#32
  | 111 => 0x43DE0000#32
  | 112 => 0x43D60000#32
  | 113 => 0x43E20000#32
  | 114 => 0x43D60000#32
  | 115 => 0x43E60000#32
  | 116 => 0x43D60000#32
  | 117 => 0x43EA0000#32
  | 118 => 0x43D60000#32
  | 119 => 0x43EE0000#32
  | 120 => 0x43D60000#32
  | 121 => 0x43F20000#32
  | 122 => 0x43D60000#32
  | 123 => 0x43F60000#32
  | 124 => 0x43D60000#32
  | 125 => 0x43FA0000#32
  | 126 => 0x43D60000#32
  | 127 => 0x43FE0000#32
  | _ => 0#32

noncomputable abbrev lit0t0_54 (i : Nat) : BitVec 32 := match i % 128 with
  | 0 => 0x43DA0000#32
  | 1 => 0x40800000#32
  | 2 => 0x43DA0000#32
  | 3 => 0x41400000#32
  | 4 => 0x43DA0000#32
  | 5 => 0x41A00000#32
  | 6 => 0x43DA0000#32
  | 7 => 0x41E00000#32
  | 8 => 0x43DA0000#32
  | 9 => 0x42100000#32
  | 10 => 0x43DA0000#32
  | 11 => 0x42300000#32
  | 12 => 0x43DA0000#32
  | 13 => 0x42500000#32
  | 14 => 0x43DA0000#32
  | 15 => 0x42700000#32
  | 16 => 0x43DA0000#32
  | 17 => 0x42880000#32
  | 18 => 0x43DA0000#32
  | 19 => 0x42980000#32
  | 20 => 0x43DA0000#32
  | 21 => 0x42A80000#32
  | 22 => 0x43DA0000#32
  | 23 => 0x42B80000#32
  | 24 => 0x43DA0000#32
  | 25 => 0x42C80000#32
  | 26 => 0x43DA0000#32
  | 27 => 0x42D80000#32
  | 28 => 0x43DA0000#32
  | 29 => 0x42E80000#32
  | 30 => 0x43DA0000#32
  | 31 => 0x42F80000#32
  | 32 => 0x43DA0000#32
  | 33 => 0x43040000#32
  | 34 => 0x43DA0000#32
  | 35 => 0x430C0000#32
  | 36 => 0x43DA0000#32
  | 37 => 0x43140000#32
  | 38 => 0x43DA0000#32
  | 39 => 0x431C0000#32
  | 40 => 0x43DA0000#32
  | 41 => 0x43240000#32
  | 42 => 0x43DA0000#32
  | 43 => 0x432C0000#32
  | 44 => 0x43DA0000#32
  | 45 => 0x43340000#32
  | 46 => 0x43DA0000#32
  | 47 => 0x433C0000#32
  | 48 => 0x43DA0000#32
  | 49 => 0x43440000#32
  | 50 => 0x43DA0000#32
  | 51 => 0x434C0000#32
  | 52 => 0x43DA0000#32
  | 53 => 0x43540000#32
  | 54 => 0x43DA0000#32
  | 55 => 0x435C0000#32
  | 56 => 0x43DA0000#32
  | 57 => 0x43640000#32
  | 58 => 0x43DA0000#32
  | 59 => 0x436C0000#32
  | 60 => 0x43DA0000#32
  | 61 => 0x43740000#32
  | 62 => 0x43DA0000#32
  | 63 => 0x437C0000#32
  | 64 => 0x43DA0000#32
  | 65 => 0x43820000#32
  | 66 => 0x43DA0000#32
  | 67 => 0x43860000#32
  | 68 => 0x43DA0000#32
  | 69 => 0x438A0000#32
  | 70 => 0x43DA0000#32
  | 71 => 0x438E0000#32
  | 72 => 0x43DA0000#32
  | 73 => 0x43920000#32
  | 74 => 0x43DA0000#32
  | 75 => 0x43960000#32
  | 76 => 0x43DA0000#32
  | 77 => 0x439A0000#32
  | 78 => 0x43DA0000#32
  | 79 => 0x439E0000#32
  | 80 => 0x43DA0000#32
  | 81 => 0x43A20000#32
  | 82 => 0x43DA0000#32
  | 83 => 0x43A60000#32
  | 84 => 0x43DA0000#32
  | 85 => 0x43AA0000#32
  | 86 => 0x43DA0000#32
  | 87 => 0x43AE0000#32
  | 88 => 0x43DA0000#32
  | 89 => 0x43B20000#32
  | 90 => 0x43DA0000#32
  | 91 => 0x43B60000#32
  | 92 => 0x43DA0000#32
  | 93 => 0x43BA0000#32
  | 94 => 0x43DA0000#32
  | 95 => 0x43BE0000#32
  | 96 => 0x43DA0000#32
  | 97 => 0x43C20000#32
  | 98 => 0x43DA0000#32
  | 99 => 0x43C60000#32
  | 100 => 0x43DA0000#32
  | 101 => 0x43CA0000#32
  | 102 => 0x43DA0000#32
  | 103 => 0x43CE0000#32
  | 104 => 0x43DA0000#32
  | 105 => 0x43D20000#32
  | 106 => 0x43DA0000#32
  | 107 => 0x43D60000#32
  | 108 => 0x43DA0000#32
  | 109 => 0x43DA0000#32
  | 110 => 0x43DA0000#32
  | 111 => 0x43DE0000#32
  | 112 => 0x43DA0000#32
  | 113 => 0x43E20000#32
  | 114 => 0x43DA0000#32
  | 115 => 0x43E60000#32
  | 116 => 0x43DA0000#32
  | 117 => 0x43EA0000#32
  | 118 => 0x43DA0000#32
  | 119 => 0x43EE0000#32
  | 120 => 0x43DA0000#32
  | 121 => 0x43F20000#32
  | 122 => 0x43DA0000#32
  | 123 => 0x43F60000#32
  | 124 => 0x43DA0000#32
  | 125 => 0x43FA0000#32
  | 126 => 0x43DA0000#32
  | 127 => 0x43FE0000#32
  | _ => 0#32

noncomputable abbrev lit0t0_55 (i : Nat) : BitVec 32 := match i % 128 with
  | 0 => 0x43DE0000#32
  | 1 => 0x40800000#32
  | 2 => 0x43DE0000#32
  | 3 => 0x41400000#32
  | 4 => 0x43DE0000#32
  | 5 => 0x41A00000#32
  | 6 => 0x43DE0000#32
  | 7 => 0x41E00000#32
  | 8 => 0x43DE0000#32
  | 9 => 0x42100000#32
  | 10 => 0x43DE0000#32
  | 11 => 0x42300000#32
  | 12 => 0x43DE0000#32
  | 13 => 0x42500000#32
  | 14 => 0x43DE0000#32
  | 15 => 0x42700000#32
  | 16 => 0x43DE0000#32
  | 17 => 0x42880000#32
  | 18 => 0x43DE0000#32
  | 19 => 0x42980000#32
  | 20 => 0x43DE0000#32
  | 21 => 0x42A80000#32
  | 22 => 0x43DE0000#32
  | 23 => 0x42B80000#32
  | 24 => 0x43DE0000#32
  | 25 => 0x42C80000#32
  | 26 => 0x43DE0000#32
  | 27 => 0x42D80000#32
  | 28 => 0x43DE0000#32
  | 29 => 0x42E80000#32
  | 30 => 0x43DE0000#32
  | 31 => 0x42F80000#32
  | 32 => 0x43DE0000#32
  | 33 => 0x43040000#32
  | 34 => 0x43DE0000#32
  | 35 => 0x430C0000#32
  | 36 => 0x43DE0000#32
  | 37 => 0x43140000#32
  | 38 => 0x43DE0000#32
  | 39 => 0x431C0000#32
  | 40 => 0x43DE0000#32
  | 41 => 0x43240000#32
  | 42 => 0x43DE0000#32
  | 43 => 0x432C0000#32
  | 44 => 0x43DE0000#32
  | 45 => 0x43340000#32
  | 46 => 0x43DE0000#32
  | 47 => 0x433C0000#32
  | 48 => 0x43DE0000#32
  | 49 => 0x43440000#32
  | 50 => 0x43DE0000#32
  | 51 => 0x434C0000#32
  | 52 => 0x43DE0000#32
  | 53 => 0x43540000#32
  | 54 => 0x43DE0000#32
  | 55 => 0x435C0000#32
  | 56 => 0x43DE0000#32
  | 57 => 0x43640000#32
  | 58 => 0x43DE0000#32
  | 59 => 0x436C0000#32
  | 60 => 0x43DE0000#32
  | 61 => 0x43740000#32
  | 62 => 0x43DE0000#32
  | 63 => 0x437C0000#32
  | 64 => 0x43DE0000#32
  | 65 => 0x43820000#32
  | 66 => 0x43DE0000#32
  | 67 => 0x43860000#32
  | 68 => 0x43DE0000#32
  | 69 => 0x438A0000#32
  | 70 => 0x43DE0000#32
  | 71 => 0x438E0000#32
  | 72 => 0x43DE0000#32
  | 73 => 0x43920000#32
  | 74 => 0x43DE0000#32
  | 75 => 0x43960000#32
  | 76 => 0x43DE0000#32
  | 77 => 0x439A0000#32
  | 78 => 0x43DE0000#32
  | 79 => 0x439E0000#32
  | 80 => 0x43DE0000#32
  | 81 => 0x43A20000#32
  | 82 => 0x43DE0000#32
  | 83 => 0x43A60000#32
  | 84 => 0x43DE0000#32
  | 85 => 0x43AA0000#32
  | 86 => 0x43DE0000#32
  | 87 => 0x43AE0000#32
  | 88 => 0x43DE0000#32
  | 89 => 0x43B20000#32
  | 90 => 0x43DE0000#32
  | 91 => 0x43B60000#32
  | 92 => 0x43DE0000#32
  | 93 => 0x43BA0000#32
  | 94 => 0x43DE0000#32
  | 95 => 0x43BE0000#32
  | 96 => 0x43DE0000#32
  | 97 => 0x43C20000#32
  | 98 => 0x43DE0000#32
  | 99 => 0x43C60000#32
  | 100 => 0x43DE0000#32
  | 101 => 0x43CA0000#32
  | 102 => 0x43DE0000#32
  | 103 => 0x43CE0000#32
  | 104 => 0x43DE0000#32
  | 105 => 0x43D20000#32
  | 106 => 0x43DE0000#32
  | 107 => 0x43D60000#32
  | 108 => 0x43DE0000#32
  | 109 => 0x43DA0000#32
  | 110 => 0x43DE0000#32
  | 111 => 0x43DE0000#32
  | 112 => 0x43DE0000#32
  | 113 => 0x43E20000#32
  | 114 => 0x43DE0000#32
  | 115 => 0x43E60000#32
  | 116 => 0x43DE0000#32
  | 117 => 0x43EA0000#32
  | 118 => 0x43DE0000#32
  | 119 => 0x43EE0000#32
  | 120 => 0x43DE0000#32
  | 121 => 0x43F20000#32
  | 122 => 0x43DE0000#32
  | 123 => 0x43F60000#32
  | 124 => 0x43DE0000#32
  | 125 => 0x43FA0000#32
  | 126 => 0x43DE0000#32
  | 127 => 0x43FE0000#32
  | _ => 0#32

noncomputable abbrev lit0t0_56 (i : Nat) : BitVec 32 := match i % 128 with
  | 0 => 0x43E20000#32
  | 1 => 0x40800000#32
  | 2 => 0x43E20000#32
  | 3 => 0x41400000#32
  | 4 => 0x43E20000#32
  | 5 => 0x41A00000#32
  | 6 => 0x43E20000#32
  | 7 => 0x41E00000#32
  | 8 => 0x43E20000#32
  | 9 => 0x42100000#32
  | 10 => 0x43E20000#32
  | 11 => 0x42300000#32
  | 12 => 0x43E20000#32
  | 13 => 0x42500000#32
  | 14 => 0x43E20000#32
  | 15 => 0x42700000#32
  | 16 => 0x43E20000#32
  | 17 => 0x42880000#32
  | 18 => 0x43E20000#32
  | 19 => 0x42980000#32
  | 20 => 0x43E20000#32
  | 21 => 0x42A80000#32
  | 22 => 0x43E20000#32
  | 23 => 0x42B80000#32
  | 24 => 0x43E20000#32
  | 25 => 0x42C80000#32
  | 26 => 0x43E20000#32
  | 27 => 0x42D80000#32
  | 28 => 0x43E20000#32
  | 29 => 0x42E80000#32
  | 30 => 0x43E20000#32
  | 31 => 0x42F80000#32
  | 32 => 0x43E20000#32
  | 33 => 0x43040000#32
  | 34 => 0x43E20000#32
  | 35 => 0x430C0000#32
  | 36 => 0x43E20000#32
  | 37 => 0x43140000#32
  | 38 => 0x43E20000#32
  | 39 => 0x431C0000#32
  | 40 => 0x43E20000#32
  | 41 => 0x43240000#32
  | 42 => 0x43E20000#32
  | 43 => 0x432C0000#32
  | 44 => 0x43E20000#32
  | 45 => 0x43340000#32
  | 46 => 0x43E20000#32
  | 47 => 0x433C0000#32
  | 48 => 0x43E20000#32
  | 49 => 0x43440000#32
  | 50 => 0x43E20000#32
  | 51 => 0x434C0000#32
  | 52 => 0x43E20000#32
  | 53 => 0x43540000#32
  | 54 => 0x43E20000#32
  | 55 => 0x435C0000#32
  | 56 => 0x43E20000#32
  | 57 => 0x43640000#32
  | 58 => 0x43E20000#32
  | 59 => 0x436C0000#32
  | 60 => 0x43E20000#32
  | 61 => 0x43740000#32
  | 62 => 0x43E20000#32
  | 63 => 0x437C0000#32
  | 64 => 0x43E20000#32
  | 65 => 0x43820000#32
  | 66 => 0x43E20000#32
  | 67 => 0x43860000#32
  | 68 => 0x43E20000#32
  | 69 => 0x438A0000#32
  | 70 => 0x43E20000#32
  | 71 => 0x438E0000#32
  | 72 => 0x43E20000#32
  | 73 => 0x43920000#32
  | 74 => 0x43E20000#32
  | 75 => 0x43960000#32
  | 76 => 0x43E20000#32
  | 77 => 0x439A0000#32
  | 78 => 0x43E20000#32
  | 79 => 0x439E0000#32
  | 80 => 0x43E20000#32
  | 81 => 0x43A20000#32
  | 82 => 0x43E20000#32
  | 83 => 0x43A60000#32
  | 84 => 0x43E20000#32
  | 85 => 0x43AA0000#32
  | 86 => 0x43E20000#32
  | 87 => 0x43AE0000#32
  | 88 => 0x43E20000#32
  | 89 => 0x43B20000#32
  | 90 => 0x43E20000#32
  | 91 => 0x43B60000#32
  | 92 => 0x43E20000#32
  | 93 => 0x43BA0000#32
  | 94 => 0x43E20000#32
  | 95 => 0x43BE0000#32
  | 96 => 0x43E20000#32
  | 97 => 0x43C20000#32
  | 98 => 0x43E20000#32
  | 99 => 0x43C60000#32
  | 100 => 0x43E20000#32
  | 101 => 0x43CA0000#32
  | 102 => 0x43E20000#32
  | 103 => 0x43CE0000#32
  | 104 => 0x43E20000#32
  | 105 => 0x43D20000#32
  | 106 => 0x43E20000#32
  | 107 => 0x43D60000#32
  | 108 => 0x43E20000#32
  | 109 => 0x43DA0000#32
  | 110 => 0x43E20000#32
  | 111 => 0x43DE0000#32
  | 112 => 0x43E20000#32
  | 113 => 0x43E20000#32
  | 114 => 0x43E20000#32
  | 115 => 0x43E60000#32
  | 116 => 0x43E20000#32
  | 117 => 0x43EA0000#32
  | 118 => 0x43E20000#32
  | 119 => 0x43EE0000#32
  | 120 => 0x43E20000#32
  | 121 => 0x43F20000#32
  | 122 => 0x43E20000#32
  | 123 => 0x43F60000#32
  | 124 => 0x43E20000#32
  | 125 => 0x43FA0000#32
  | 126 => 0x43E20000#32
  | 127 => 0x43FE0000#32
  | _ => 0#32

noncomputable abbrev lit0t0_57 (i : Nat) : BitVec 32 := match i % 128 with
  | 0 => 0x43E60000#32
  | 1 => 0x40800000#32
  | 2 => 0x43E60000#32
  | 3 => 0x41400000#32
  | 4 => 0x43E60000#32
  | 5 => 0x41A00000#32
  | 6 => 0x43E60000#32
  | 7 => 0x41E00000#32
  | 8 => 0x43E60000#32
  | 9 => 0x42100000#32
  | 10 => 0x43E60000#32
  | 11 => 0x42300000#32
  | 12 => 0x43E60000#32
  | 13 => 0x42500000#32
  | 14 => 0x43E60000#32
  | 15 => 0x42700000#32
  | 16 => 0x43E60000#32
  | 17 => 0x42880000#32
  | 18 => 0x43E60000#32
  | 19 => 0x42980000#32
  | 20 => 0x43E60000#32
  | 21 => 0x42A80000#32
  | 22 => 0x43E60000#32
  | 23 => 0x42B80000#32
  | 24 => 0x43E60000#32
  | 25 => 0x42C80000#32
  | 26 => 0x43E60000#32
  | 27 => 0x42D80000#32
  | 28 => 0x43E60000#32
  | 29 => 0x42E80000#32
  | 30 => 0x43E60000#32
  | 31 => 0x42F80000#32
  | 32 => 0x43E60000#32
  | 33 => 0x43040000#32
  | 34 => 0x43E60000#32
  | 35 => 0x430C0000#32
  | 36 => 0x43E60000#32
  | 37 => 0x43140000#32
  | 38 => 0x43E60000#32
  | 39 => 0x431C0000#32
  | 40 => 0x43E60000#32
  | 41 => 0x43240000#32
  | 42 => 0x43E60000#32
  | 43 => 0x432C0000#32
  | 44 => 0x43E60000#32
  | 45 => 0x43340000#32
  | 46 => 0x43E60000#32
  | 47 => 0x433C0000#32
  | 48 => 0x43E60000#32
  | 49 => 0x43440000#32
  | 50 => 0x43E60000#32
  | 51 => 0x434C0000#32
  | 52 => 0x43E60000#32
  | 53 => 0x43540000#32
  | 54 => 0x43E60000#32
  | 55 => 0x435C0000#32
  | 56 => 0x43E60000#32
  | 57 => 0x43640000#32
  | 58 => 0x43E60000#32
  | 59 => 0x436C0000#32
  | 60 => 0x43E60000#32
  | 61 => 0x43740000#32
  | 62 => 0x43E60000#32
  | 63 => 0x437C0000#32
  | 64 => 0x43E60000#32
  | 65 => 0x43820000#32
  | 66 => 0x43E60000#32
  | 67 => 0x43860000#32
  | 68 => 0x43E60000#32
  | 69 => 0x438A0000#32
  | 70 => 0x43E60000#32
  | 71 => 0x438E0000#32
  | 72 => 0x43E60000#32
  | 73 => 0x43920000#32
  | 74 => 0x43E60000#32
  | 75 => 0x43960000#32
  | 76 => 0x43E60000#32
  | 77 => 0x439A0000#32
  | 78 => 0x43E60000#32
  | 79 => 0x439E0000#32
  | 80 => 0x43E60000#32
  | 81 => 0x43A20000#32
  | 82 => 0x43E60000#32
  | 83 => 0x43A60000#32
  | 84 => 0x43E60000#32
  | 85 => 0x43AA0000#32
  | 86 => 0x43E60000#32
  | 87 => 0x43AE0000#32
  | 88 => 0x43E60000#32
  | 89 => 0x43B20000#32
  | 90 => 0x43E60000#32
  | 91 => 0x43B60000#32
  | 92 => 0x43E60000#32
  | 93 => 0x43BA0000#32
  | 94 => 0x43E60000#32
  | 95 => 0x43BE0000#32
  | 96 => 0x43E60000#32
  | 97 => 0x43C20000#32
  | 98 => 0x43E60000#32
  | 99 => 0x43C60000#32
  | 100 => 0x43E60000#32
  | 101 => 0x43CA0000#32
  | 102 => 0x43E60000#32
  | 103 => 0x43CE0000#32
  | 104 => 0x43E60000#32
  | 105 => 0x43D20000#32
  | 106 => 0x43E60000#32
  | 107 => 0x43D60000#32
  | 108 => 0x43E60000#32
  | 109 => 0x43DA0000#32
  | 110 => 0x43E60000#32
  | 111 => 0x43DE0000#32
  | 112 => 0x43E60000#32
  | 113 => 0x43E20000#32
  | 114 => 0x43E60000#32
  | 115 => 0x43E60000#32
  | 116 => 0x43E60000#32
  | 117 => 0x43EA0000#32
  | 118 => 0x43E60000#32
  | 119 => 0x43EE0000#32
  | 120 => 0x43E60000#32
  | 121 => 0x43F20000#32
  | 122 => 0x43E60000#32
  | 123 => 0x43F60000#32
  | 124 => 0x43E60000#32
  | 125 => 0x43FA0000#32
  | 126 => 0x43E60000#32
  | 127 => 0x43FE0000#32
  | _ => 0#32

noncomputable abbrev lit0t0_58 (i : Nat) : BitVec 32 := match i % 128 with
  | 0 => 0x43EA0000#32
  | 1 => 0x40800000#32
  | 2 => 0x43EA0000#32
  | 3 => 0x41400000#32
  | 4 => 0x43EA0000#32
  | 5 => 0x41A00000#32
  | 6 => 0x43EA0000#32
  | 7 => 0x41E00000#32
  | 8 => 0x43EA0000#32
  | 9 => 0x42100000#32
  | 10 => 0x43EA0000#32
  | 11 => 0x42300000#32
  | 12 => 0x43EA0000#32
  | 13 => 0x42500000#32
  | 14 => 0x43EA0000#32
  | 15 => 0x42700000#32
  | 16 => 0x43EA0000#32
  | 17 => 0x42880000#32
  | 18 => 0x43EA0000#32
  | 19 => 0x42980000#32
  | 20 => 0x43EA0000#32
  | 21 => 0x42A80000#32
  | 22 => 0x43EA0000#32
  | 23 => 0x42B80000#32
  | 24 => 0x43EA0000#32
  | 25 => 0x42C80000#32
  | 26 => 0x43EA0000#32
  | 27 => 0x42D80000#32
  | 28 => 0x43EA0000#32
  | 29 => 0x42E80000#32
  | 30 => 0x43EA0000#32
  | 31 => 0x42F80000#32
  | 32 => 0x43EA0000#32
  | 33 => 0x43040000#32
  | 34 => 0x43EA0000#32
  | 35 => 0x430C0000#32
  | 36 => 0x43EA0000#32
  | 37 => 0x43140000#32
  | 38 => 0x43EA0000#32
  | 39 => 0x431C0000#32
  | 40 => 0x43EA0000#32
  | 41 => 0x43240000#32
  | 42 => 0x43EA0000#32
  | 43 => 0x432C0000#32
  | 44 => 0x43EA0000#32
  | 45 => 0x43340000#32
  | 46 => 0x43EA0000#32
  | 47 => 0x433C0000#32
  | 48 => 0x43EA0000#32
  | 49 => 0x43440000#32
  | 50 => 0x43EA0000#32
  | 51 => 0x434C0000#32
  | 52 => 0x43EA0000#32
  | 53 => 0x43540000#32
  | 54 => 0x43EA0000#32
  | 55 => 0x435C0000#32
  | 56 => 0x43EA0000#32
  | 57 => 0x43640000#32
  | 58 => 0x43EA0000#32
  | 59 => 0x436C0000#32
  | 60 => 0x43EA0000#32
  | 61 => 0x43740000#32
  | 62 => 0x43EA0000#32
  | 63 => 0x437C0000#32
  | 64 => 0x43EA0000#32
  | 65 => 0x43820000#32
  | 66 => 0x43EA0000#32
  | 67 => 0x43860000#32
  | 68 => 0x43EA0000#32
  | 69 => 0x438A0000#32
  | 70 => 0x43EA0000#32
  | 71 => 0x438E0000#32
  | 72 => 0x43EA0000#32
  | 73 => 0x43920000#32
  | 74 => 0x43EA0000#32
  | 75 => 0x43960000#32
  | 76 => 0x43EA0000#32
  | 77 => 0x439A0000#32
  | 78 => 0x43EA0000#32
  | 79 => 0x439E0000#32
  | 80 => 0x43EA0000#32
  | 81 => 0x43A20000#32
  | 82 => 0x43EA0000#32
  | 83 => 0x43A60000#32
  | 84 => 0x43EA0000#32
  | 85 => 0x43AA0000#32
  | 86 => 0x43EA0000#32
  | 87 => 0x43AE0000#32
  | 88 => 0x43EA0000#32
  | 89 => 0x43B20000#32
  | 90 => 0x43EA0000#32
  | 91 => 0x43B60000#32
  | 92 => 0x43EA0000#32
  | 93 => 0x43BA0000#32
  | 94 => 0x43EA0000#32
  | 95 => 0x43BE0000#32
  | 96 => 0x43EA0000#32
  | 97 => 0x43C20000#32
  | 98 => 0x43EA0000#32
  | 99 => 0x43C60000#32
  | 100 => 0x43EA0000#32
  | 101 => 0x43CA0000#32
  | 102 => 0x43EA0000#32
  | 103 => 0x43CE0000#32
  | 104 => 0x43EA0000#32
  | 105 => 0x43D20000#32
  | 106 => 0x43EA0000#32
  | 107 => 0x43D60000#32
  | 108 => 0x43EA0000#32
  | 109 => 0x43DA0000#32
  | 110 => 0x43EA0000#32
  | 111 => 0x43DE0000#32
  | 112 => 0x43EA0000#32
  | 113 => 0x43E20000#32
  | 114 => 0x43EA0000#32
  | 115 => 0x43E60000#32
  | 116 => 0x43EA0000#32
  | 117 => 0x43EA0000#32
  | 118 => 0x43EA0000#32
  | 119 => 0x43EE0000#32
  | 120 => 0x43EA0000#32
  | 121 => 0x43F20000#32
  | 122 => 0x43EA0000#32
  | 123 => 0x43F60000#32
  | 124 => 0x43EA0000#32
  | 125 => 0x43FA0000#32
  | 126 => 0x43EA0000#32
  | 127 => 0x43FE0000#32
  | _ => 0#32

noncomputable abbrev lit0t0_59 (i : Nat) : BitVec 32 := match i % 128 with
  | 0 => 0x43EE0000#32
  | 1 => 0x40800000#32
  | 2 => 0x43EE0000#32
  | 3 => 0x41400000#32
  | 4 => 0x43EE0000#32
  | 5 => 0x41A00000#32
  | 6 => 0x43EE0000#32
  | 7 => 0x41E00000#32
  | 8 => 0x43EE0000#32
  | 9 => 0x42100000#32
  | 10 => 0x43EE0000#32
  | 11 => 0x42300000#32
  | 12 => 0x43EE0000#32
  | 13 => 0x42500000#32
  | 14 => 0x43EE0000#32
  | 15 => 0x42700000#32
  | 16 => 0x43EE0000#32
  | 17 => 0x42880000#32
  | 18 => 0x43EE0000#32
  | 19 => 0x42980000#32
  | 20 => 0x43EE0000#32
  | 21 => 0x42A80000#32
  | 22 => 0x43EE0000#32
  | 23 => 0x42B80000#32
  | 24 => 0x43EE0000#32
  | 25 => 0x42C80000#32
  | 26 => 0x43EE0000#32
  | 27 => 0x42D80000#32
  | 28 => 0x43EE0000#32
  | 29 => 0x42E80000#32
  | 30 => 0x43EE0000#32
  | 31 => 0x42F80000#32
  | 32 => 0x43EE0000#32
  | 33 => 0x43040000#32
  | 34 => 0x43EE0000#32
  | 35 => 0x430C0000#32
  | 36 => 0x43EE0000#32
  | 37 => 0x43140000#32
  | 38 => 0x43EE0000#32
  | 39 => 0x431C0000#32
  | 40 => 0x43EE0000#32
  | 41 => 0x43240000#32
  | 42 => 0x43EE0000#32
  | 43 => 0x432C0000#32
  | 44 => 0x43EE0000#32
  | 45 => 0x43340000#32
  | 46 => 0x43EE0000#32
  | 47 => 0x433C0000#32
  | 48 => 0x43EE0000#32
  | 49 => 0x43440000#32
  | 50 => 0x43EE0000#32
  | 51 => 0x434C0000#32
  | 52 => 0x43EE0000#32
  | 53 => 0x43540000#32
  | 54 => 0x43EE0000#32
  | 55 => 0x435C0000#32
  | 56 => 0x43EE0000#32
  | 57 => 0x43640000#32
  | 58 => 0x43EE0000#32
  | 59 => 0x436C0000#32
  | 60 => 0x43EE0000#32
  | 61 => 0x43740000#32
  | 62 => 0x43EE0000#32
  | 63 => 0x437C0000#32
  | 64 => 0x43EE0000#32
  | 65 => 0x43820000#32
  | 66 => 0x43EE0000#32
  | 67 => 0x43860000#32
  | 68 => 0x43EE0000#32
  | 69 => 0x438A0000#32
  | 70 => 0x43EE0000#32
  | 71 => 0x438E0000#32
  | 72 => 0x43EE0000#32
  | 73 => 0x43920000#32
  | 74 => 0x43EE0000#32
  | 75 => 0x43960000#32
  | 76 => 0x43EE0000#32
  | 77 => 0x439A0000#32
  | 78 => 0x43EE0000#32
  | 79 => 0x439E0000#32
  | 80 => 0x43EE0000#32
  | 81 => 0x43A20000#32
  | 82 => 0x43EE0000#32
  | 83 => 0x43A60000#32
  | 84 => 0x43EE0000#32
  | 85 => 0x43AA0000#32
  | 86 => 0x43EE0000#32
  | 87 => 0x43AE0000#32
  | 88 => 0x43EE0000#32
  | 89 => 0x43B20000#32
  | 90 => 0x43EE0000#32
  | 91 => 0x43B60000#32
  | 92 => 0x43EE0000#32
  | 93 => 0x43BA0000#32
  | 94 => 0x43EE0000#32
  | 95 => 0x43BE0000#32
  | 96 => 0x43EE0000#32
  | 97 => 0x43C20000#32
  | 98 => 0x43EE0000#32
  | 99 => 0x43C60000#32
  | 100 => 0x43EE0000#32
  | 101 => 0x43CA0000#32
  | 102 => 0x43EE0000#32
  | 103 => 0x43CE0000#32
  | 104 => 0x43EE0000#32
  | 105 => 0x43D20000#32
  | 106 => 0x43EE0000#32
  | 107 => 0x43D60000#32
  | 108 => 0x43EE0000#32
  | 109 => 0x43DA0000#32
  | 110 => 0x43EE0000#32
  | 111 => 0x43DE0000#32
  | 112 => 0x43EE0000#32
  | 113 => 0x43E20000#32
  | 114 => 0x43EE0000#32
  | 115 => 0x43E60000#32
  | 116 => 0x43EE0000#32
  | 117 => 0x43EA0000#32
  | 118 => 0x43EE0000#32
  | 119 => 0x43EE0000#32
  | 120 => 0x43EE0000#32
  | 121 => 0x43F20000#32
  | 122 => 0x43EE0000#32
  | 123 => 0x43F60000#32
  | 124 => 0x43EE0000#32
  | 125 => 0x43FA0000#32
  | 126 => 0x43EE0000#32
  | 127 => 0x43FE0000#32
  | _ => 0#32

noncomputable abbrev lit0t0_60 (i : Nat) : BitVec 32 := match i % 128 with
  | 0 => 0x43F20000#32
  | 1 => 0x40800000#32
  | 2 => 0x43F20000#32
  | 3 => 0x41400000#32
  | 4 => 0x43F20000#32
  | 5 => 0x41A00000#32
  | 6 => 0x43F20000#32
  | 7 => 0x41E00000#32
  | 8 => 0x43F20000#32
  | 9 => 0x42100000#32
  | 10 => 0x43F20000#32
  | 11 => 0x42300000#32
  | 12 => 0x43F20000#32
  | 13 => 0x42500000#32
  | 14 => 0x43F20000#32
  | 15 => 0x42700000#32
  | 16 => 0x43F20000#32
  | 17 => 0x42880000#32
  | 18 => 0x43F20000#32
  | 19 => 0x42980000#32
  | 20 => 0x43F20000#32
  | 21 => 0x42A80000#32
  | 22 => 0x43F20000#32
  | 23 => 0x42B80000#32
  | 24 => 0x43F20000#32
  | 25 => 0x42C80000#32
  | 26 => 0x43F20000#32
  | 27 => 0x42D80000#32
  | 28 => 0x43F20000#32
  | 29 => 0x42E80000#32
  | 30 => 0x43F20000#32
  | 31 => 0x42F80000#32
  | 32 => 0x43F20000#32
  | 33 => 0x43040000#32
  | 34 => 0x43F20000#32
  | 35 => 0x430C0000#32
  | 36 => 0x43F20000#32
  | 37 => 0x43140000#32
  | 38 => 0x43F20000#32
  | 39 => 0x431C0000#32
  | 40 => 0x43F20000#32
  | 41 => 0x43240000#32
  | 42 => 0x43F20000#32
  | 43 => 0x432C0000#32
  | 44 => 0x43F20000#32
  | 45 => 0x43340000#32
  | 46 => 0x43F20000#32
  | 47 => 0x433C0000#32
  | 48 => 0x43F20000#32
  | 49 => 0x43440000#32
  | 50 => 0x43F20000#32
  | 51 => 0x434C0000#32
  | 52 => 0x43F20000#32
  | 53 => 0x43540000#32
  | 54 => 0x43F20000#32
  | 55 => 0x435C0000#32
  | 56 => 0x43F20000#32
  | 57 => 0x43640000#32
  | 58 => 0x43F20000#32
  | 59 => 0x436C0000#32
  | 60 => 0x43F20000#32
  | 61 => 0x43740000#32
  | 62 => 0x43F20000#32
  | 63 => 0x437C0000#32
  | 64 => 0x43F20000#32
  | 65 => 0x43820000#32
  | 66 => 0x43F20000#32
  | 67 => 0x43860000#32
  | 68 => 0x43F20000#32
  | 69 => 0x438A0000#32
  | 70 => 0x43F20000#32
  | 71 => 0x438E0000#32
  | 72 => 0x43F20000#32
  | 73 => 0x43920000#32
  | 74 => 0x43F20000#32
  | 75 => 0x43960000#32
  | 76 => 0x43F20000#32
  | 77 => 0x439A0000#32
  | 78 => 0x43F20000#32
  | 79 => 0x439E0000#32
  | 80 => 0x43F20000#32
  | 81 => 0x43A20000#32
  | 82 => 0x43F20000#32
  | 83 => 0x43A60000#32
  | 84 => 0x43F20000#32
  | 85 => 0x43AA0000#32
  | 86 => 0x43F20000#32
  | 87 => 0x43AE0000#32
  | 88 => 0x43F20000#32
  | 89 => 0x43B20000#32
  | 90 => 0x43F20000#32
  | 91 => 0x43B60000#32
  | 92 => 0x43F20000#32
  | 93 => 0x43BA0000#32
  | 94 => 0x43F20000#32
  | 95 => 0x43BE0000#32
  | 96 => 0x43F20000#32
  | 97 => 0x43C20000#32
  | 98 => 0x43F20000#32
  | 99 => 0x43C60000#32
  | 100 => 0x43F20000#32
  | 101 => 0x43CA0000#32
  | 102 => 0x43F20000#32
  | 103 => 0x43CE0000#32
  | 104 => 0x43F20000#32
  | 105 => 0x43D20000#32
  | 106 => 0x43F20000#32
  | 107 => 0x43D60000#32
  | 108 => 0x43F20000#32
  | 109 => 0x43DA0000#32
  | 110 => 0x43F20000#32
  | 111 => 0x43DE0000#32
  | 112 => 0x43F20000#32
  | 113 => 0x43E20000#32
  | 114 => 0x43F20000#32
  | 115 => 0x43E60000#32
  | 116 => 0x43F20000#32
  | 117 => 0x43EA0000#32
  | 118 => 0x43F20000#32
  | 119 => 0x43EE0000#32
  | 120 => 0x43F20000#32
  | 121 => 0x43F20000#32
  | 122 => 0x43F20000#32
  | 123 => 0x43F60000#32
  | 124 => 0x43F20000#32
  | 125 => 0x43FA0000#32
  | 126 => 0x43F20000#32
  | 127 => 0x43FE0000#32
  | _ => 0#32

noncomputable abbrev lit0t0_61 (i : Nat) : BitVec 32 := match i % 128 with
  | 0 => 0x43F60000#32
  | 1 => 0x40800000#32
  | 2 => 0x43F60000#32
  | 3 => 0x41400000#32
  | 4 => 0x43F60000#32
  | 5 => 0x41A00000#32
  | 6 => 0x43F60000#32
  | 7 => 0x41E00000#32
  | 8 => 0x43F60000#32
  | 9 => 0x42100000#32
  | 10 => 0x43F60000#32
  | 11 => 0x42300000#32
  | 12 => 0x43F60000#32
  | 13 => 0x42500000#32
  | 14 => 0x43F60000#32
  | 15 => 0x42700000#32
  | 16 => 0x43F60000#32
  | 17 => 0x42880000#32
  | 18 => 0x43F60000#32
  | 19 => 0x42980000#32
  | 20 => 0x43F60000#32
  | 21 => 0x42A80000#32
  | 22 => 0x43F60000#32
  | 23 => 0x42B80000#32
  | 24 => 0x43F60000#32
  | 25 => 0x42C80000#32
  | 26 => 0x43F60000#32
  | 27 => 0x42D80000#32
  | 28 => 0x43F60000#32
  | 29 => 0x42E80000#32
  | 30 => 0x43F60000#32
  | 31 => 0x42F80000#32
  | 32 => 0x43F60000#32
  | 33 => 0x43040000#32
  | 34 => 0x43F60000#32
  | 35 => 0x430C0000#32
  | 36 => 0x43F60000#32
  | 37 => 0x43140000#32
  | 38 => 0x43F60000#32
  | 39 => 0x431C0000#32
  | 40 => 0x43F60000#32
  | 41 => 0x43240000#32
  | 42 => 0x43F60000#32
  | 43 => 0x432C0000#32
  | 44 => 0x43F60000#32
  | 45 => 0x43340000#32
  | 46 => 0x43F60000#32
  | 47 => 0x433C0000#32
  | 48 => 0x43F60000#32
  | 49 => 0x43440000#32
  | 50 => 0x43F60000#32
  | 51 => 0x434C0000#32
  | 52 => 0x43F60000#32
  | 53 => 0x43540000#32
  | 54 => 0x43F60000#32
  | 55 => 0x435C0000#32
  | 56 => 0x43F60000#32
  | 57 => 0x43640000#32
  | 58 => 0x43F60000#32
  | 59 => 0x436C0000#32
  | 60 => 0x43F60000#32
  | 61 => 0x43740000#32
  | 62 => 0x43F60000#32
  | 63 => 0x437C0000#32
  | 64 => 0x43F60000#32
  | 65 => 0x43820000#32
  | 66 => 0x43F60000#32
  | 67 => 0x43860000#32
  | 68 => 0x43F60000#32
  | 69 => 0x438A0000#32
  | 70 => 0x43F60000#32
  | 71 => 0x438E0000#32
  | 72 => 0x43F60000#32
  | 73 => 0x43920000#32
  | 74 => 0x43F60000#32
  | 75 => 0x43960000#32
  | 76 => 0x43F60000#32
  | 77 => 0x439A0000#32
  | 78 => 0x43F60000#32
  | 79 => 0x439E0000#32
  | 80 => 0x43F60000#32
  | 81 => 0x43A20000#32
  | 82 => 0x43F60000#32
  | 83 => 0x43A60000#32
  | 84 => 0x43F60000#32
  | 85 => 0x43AA0000#32
  | 86 => 0x43F60000#32
  | 87 => 0x43AE0000#32
  | 88 => 0x43F60000#32
  | 89 => 0x43B20000#32
  | 90 => 0x43F60000#32
  | 91 => 0x43B60000#32
  | 92 => 0x43F60000#32
  | 93 => 0x43BA0000#32
  | 94 => 0x43F60000#32
  | 95 => 0x43BE0000#32
  | 96 => 0x43F60000#32
  | 97 => 0x43C20000#32
  | 98 => 0x43F60000#32
  | 99 => 0x43C60000#32
  | 100 => 0x43F60000#32
  | 101 => 0x43CA0000#32
  | 102 => 0x43F60000#32
  | 103 => 0x43CE0000#32
  | 104 => 0x43F60000#32
  | 105 => 0x43D20000#32
  | 106 => 0x43F60000#32
  | 107 => 0x43D60000#32
  | 108 => 0x43F60000#32
  | 109 => 0x43DA0000#32
  | 110 => 0x43F60000#32
  | 111 => 0x43DE0000#32
  | 112 => 0x43F60000#32
  | 113 => 0x43E20000#32
  | 114 => 0x43F60000#32
  | 115 => 0x43E60000#32
  | 116 => 0x43F60000#32
  | 117 => 0x43EA0000#32
  | 118 => 0x43F60000#32
  | 119 => 0x43EE0000#32
  | 120 => 0x43F60000#32
  | 121 => 0x43F20000#32
  | 122 => 0x43F60000#32
  | 123 => 0x43F60000#32
  | 124 => 0x43F60000#32
  | 125 => 0x43FA0000#32
  | 126 => 0x43F60000#32
  | 127 => 0x43FE0000#32
  | _ => 0#32

noncomputable abbrev lit0t0_62 (i : Nat) : BitVec 32 := match i % 128 with
  | 0 => 0x43FA0000#32
  | 1 => 0x40800000#32
  | 2 => 0x43FA0000#32
  | 3 => 0x41400000#32
  | 4 => 0x43FA0000#32
  | 5 => 0x41A00000#32
  | 6 => 0x43FA0000#32
  | 7 => 0x41E00000#32
  | 8 => 0x43FA0000#32
  | 9 => 0x42100000#32
  | 10 => 0x43FA0000#32
  | 11 => 0x42300000#32
  | 12 => 0x43FA0000#32
  | 13 => 0x42500000#32
  | 14 => 0x43FA0000#32
  | 15 => 0x42700000#32
  | 16 => 0x43FA0000#32
  | 17 => 0x42880000#32
  | 18 => 0x43FA0000#32
  | 19 => 0x42980000#32
  | 20 => 0x43FA0000#32
  | 21 => 0x42A80000#32
  | 22 => 0x43FA0000#32
  | 23 => 0x42B80000#32
  | 24 => 0x43FA0000#32
  | 25 => 0x42C80000#32
  | 26 => 0x43FA0000#32
  | 27 => 0x42D80000#32
  | 28 => 0x43FA0000#32
  | 29 => 0x42E80000#32
  | 30 => 0x43FA0000#32
  | 31 => 0x42F80000#32
  | 32 => 0x43FA0000#32
  | 33 => 0x43040000#32
  | 34 => 0x43FA0000#32
  | 35 => 0x430C0000#32
  | 36 => 0x43FA0000#32
  | 37 => 0x43140000#32
  | 38 => 0x43FA0000#32
  | 39 => 0x431C0000#32
  | 40 => 0x43FA0000#32
  | 41 => 0x43240000#32
  | 42 => 0x43FA0000#32
  | 43 => 0x432C0000#32
  | 44 => 0x43FA0000#32
  | 45 => 0x43340000#32
  | 46 => 0x43FA0000#32
  | 47 => 0x433C0000#32
  | 48 => 0x43FA0000#32
  | 49 => 0x43440000#32
  | 50 => 0x43FA0000#32
  | 51 => 0x434C0000#32
  | 52 => 0x43FA0000#32
  | 53 => 0x43540000#32
  | 54 => 0x43FA0000#32
  | 55 => 0x435C0000#32
  | 56 => 0x43FA0000#32
  | 57 => 0x43640000#32
  | 58 => 0x43FA0000#32
  | 59 => 0x436C0000#32
  | 60 => 0x43FA0000#32
  | 61 => 0x43740000#32
  | 62 => 0x43FA0000#32
  | 63 => 0x437C0000#32
  | 64 => 0x43FA0000#32
  | 65 => 0x43820000#32
  | 66 => 0x43FA0000#32
  | 67 => 0x43860000#32
  | 68 => 0x43FA0000#32
  | 69 => 0x438A0000#32
  | 70 => 0x43FA0000#32
  | 71 => 0x438E0000#32
  | 72 => 0x43FA0000#32
  | 73 => 0x43920000#32
  | 74 => 0x43FA0000#32
  | 75 => 0x43960000#32
  | 76 => 0x43FA0000#32
  | 77 => 0x439A0000#32
  | 78 => 0x43FA0000#32
  | 79 => 0x439E0000#32
  | 80 => 0x43FA0000#32
  | 81 => 0x43A20000#32
  | 82 => 0x43FA0000#32
  | 83 => 0x43A60000#32
  | 84 => 0x43FA0000#32
  | 85 => 0x43AA0000#32
  | 86 => 0x43FA0000#32
  | 87 => 0x43AE0000#32
  | 88 => 0x43FA0000#32
  | 89 => 0x43B20000#32
  | 90 => 0x43FA0000#32
  | 91 => 0x43B60000#32
  | 92 => 0x43FA0000#32
  | 93 => 0x43BA0000#32
  | 94 => 0x43FA0000#32
  | 95 => 0x43BE0000#32
  | 96 => 0x43FA0000#32
  | 97 => 0x43C20000#32
  | 98 => 0x43FA0000#32
  | 99 => 0x43C60000#32
  | 100 => 0x43FA0000#32
  | 101 => 0x43CA0000#32
  | 102 => 0x43FA0000#32
  | 103 => 0x43CE0000#32
  | 104 => 0x43FA0000#32
  | 105 => 0x43D20000#32
  | 106 => 0x43FA0000#32
  | 107 => 0x43D60000#32
  | 108 => 0x43FA0000#32
  | 109 => 0x43DA0000#32
  | 110 => 0x43FA0000#32
  | 111 => 0x43DE0000#32
  | 112 => 0x43FA0000#32
  | 113 => 0x43E20000#32
  | 114 => 0x43FA0000#32
  | 115 => 0x43E60000#32
  | 116 => 0x43FA0000#32
  | 117 => 0x43EA0000#32
  | 118 => 0x43FA0000#32
  | 119 => 0x43EE0000#32
  | 120 => 0x43FA0000#32
  | 121 => 0x43F20000#32
  | 122 => 0x43FA0000#32
  | 123 => 0x43F60000#32
  | 124 => 0x43FA0000#32
  | 125 => 0x43FA0000#32
  | 126 => 0x43FA0000#32
  | 127 => 0x43FE0000#32
  | _ => 0#32

noncomputable abbrev lit0t0_63 (i : Nat) : BitVec 32 := match i % 128 with
  | 0 => 0x43FE0000#32
  | 1 => 0x40800000#32
  | 2 => 0x43FE0000#32
  | 3 => 0x41400000#32
  | 4 => 0x43FE0000#32
  | 5 => 0x41A00000#32
  | 6 => 0x43FE0000#32
  | 7 => 0x41E00000#32
  | 8 => 0x43FE0000#32
  | 9 => 0x42100000#32
  | 10 => 0x43FE0000#32
  | 11 => 0x42300000#32
  | 12 => 0x43FE0000#32
  | 13 => 0x42500000#32
  | 14 => 0x43FE0000#32
  | 15 => 0x42700000#32
  | 16 => 0x43FE0000#32
  | 17 => 0x42880000#32
  | 18 => 0x43FE0000#32
  | 19 => 0x42980000#32
  | 20 => 0x43FE0000#32
  | 21 => 0x42A80000#32
  | 22 => 0x43FE0000#32
  | 23 => 0x42B80000#32
  | 24 => 0x43FE0000#32
  | 25 => 0x42C80000#32
  | 26 => 0x43FE0000#32
  | 27 => 0x42D80000#32
  | 28 => 0x43FE0000#32
  | 29 => 0x42E80000#32
  | 30 => 0x43FE0000#32
  | 31 => 0x42F80000#32
  | 32 => 0x43FE0000#32
  | 33 => 0x43040000#32
  | 34 => 0x43FE0000#32
  | 35 => 0x430C0000#32
  | 36 => 0x43FE0000#32
  | 37 => 0x43140000#32
  | 38 => 0x43FE0000#32
  | 39 => 0x431C0000#32
  | 40 => 0x43FE0000#32
  | 41 => 0x43240000#32
  | 42 => 0x43FE0000#32
  | 43 => 0x432C0000#32
  | 44 => 0x43FE0000#32
  | 45 => 0x43340000#32
  | 46 => 0x43FE0000#32
  | 47 => 0x433C0000#32
  | 48 => 0x43FE0000#32
  | 49 => 0x43440000#32
  | 50 => 0x43FE0000#32
  | 51 => 0x434C0000#32
  | 52 => 0x43FE0000#32
  | 53 => 0x43540000#32
  | 54 => 0x43FE0000#32
  | 55 => 0x435C0000#32
  | 56 => 0x43FE0000#32
  | 57 => 0x43640000#32
  | 58 => 0x43FE0000#32
  | 59 => 0x436C0000#32
  | 60 => 0x43FE0000#32
  | 61 => 0x43740000#32
  | 62 => 0x43FE0000#32
  | 63 => 0x437C0000#32
  | 64 => 0x43FE0000#32
  | 65 => 0x43820000#32
  | 66 => 0x43FE0000#32
  | 67 => 0x43860000#32
  | 68 => 0x43FE0000#32
  | 69 => 0x438A0000#32
  | 70 => 0x43FE0000#32
  | 71 => 0x438E0000#32
  | 72 => 0x43FE0000#32
  | 73 => 0x43920000#32
  | 74 => 0x43FE0000#32
  | 75 => 0x43960000#32
  | 76 => 0x43FE0000#32
  | 77 => 0x439A0000#32
  | 78 => 0x43FE0000#32
  | 79 => 0x439E0000#32
  | 80 => 0x43FE0000#32
  | 81 => 0x43A20000#32
  | 82 => 0x43FE0000#32
  | 83 => 0x43A60000#32
  | 84 => 0x43FE0000#32
  | 85 => 0x43AA0000#32
  | 86 => 0x43FE0000#32
  | 87 => 0x43AE0000#32
  | 88 => 0x43FE0000#32
  | 89 => 0x43B20000#32
  | 90 => 0x43FE0000#32
  | 91 => 0x43B60000#32
  | 92 => 0x43FE0000#32
  | 93 => 0x43BA0000#32
  | 94 => 0x43FE0000#32
  | 95 => 0x43BE0000#32
  | 96 => 0x43FE0000#32
  | 97 => 0x43C20000#32
  | 98 => 0x43FE0000#32
  | 99 => 0x43C60000#32
  | 100 => 0x43FE0000#32
  | 101 => 0x43CA0000#32
  | 102 => 0x43FE0000#32
  | 103 => 0x43CE0000#32
  | 104 => 0x43FE0000#32
  | 105 => 0x43D20000#32
  | 106 => 0x43FE0000#32
  | 107 => 0x43D60000#32
  | 108 => 0x43FE0000#32
  | 109 => 0x43DA0000#32
  | 110 => 0x43FE0000#32
  | 111 => 0x43DE0000#32
  | 112 => 0x43FE0000#32
  | 113 => 0x43E20000#32
  | 114 => 0x43FE0000#32
  | 115 => 0x43E60000#32
  | 116 => 0x43FE0000#32
  | 117 => 0x43EA0000#32
  | 118 => 0x43FE0000#32
  | 119 => 0x43EE0000#32
  | 120 => 0x43FE0000#32
  | 121 => 0x43F20000#32
  | 122 => 0x43FE0000#32
  | 123 => 0x43F60000#32
  | 124 => 0x43FE0000#32
  | 125 => 0x43FA0000#32
  | 126 => 0x43FE0000#32
  | 127 => 0x43FE0000#32
  | _ => 0#32

noncomputable abbrev lit0t0_64 (i : Nat) : BitVec 32 := match i % 128 with
  | 0 => 0x41000000#32
  | 1 => 0x41000000#32
  | 2 => 0x41000000#32
  | 3 => 0x41C00000#32
  | 4 => 0x41000000#32
  | 5 => 0x42200000#32
  | 6 => 0x41000000#32
  | 7 => 0x42600000#32
  | 8 => 0x41000000#32
  | 9 => 0x42900000#32
  | 10 => 0x41000000#32
  | 11 => 0x42B00000#32
  | 12 => 0x41000000#32
  | 13 => 0x42D00000#32
  | 14 => 0x41000000#32
  | 15 => 0x42F00000#32
  | 16 => 0x41000000#32
  | 17 => 0x43080000#32
  | 18 => 0x41000000#32
  | 19 => 0x43180000#32
  | 20 => 0x41000000#32
  | 21 => 0x43280000#32
  | 22 => 0x41000000#32
  | 23 => 0x43380000#32
  | 24 => 0x41000000#32
  | 25 => 0x43480000#32
  | 26 => 0x41000000#32
  | 27 => 0x43580000#32
  | 28 => 0x41000000#32
  | 29 => 0x43680000#32
  | 30 => 0x41000000#32
  | 31 => 0x43780000#32
  | 32 => 0x41000000#32
  | 33 => 0x43840000#32
  | 34 => 0x41000000#32
  | 35 => 0x438C0000#32
  | 36 => 0x41000000#32
  | 37 => 0x43940000#32
  | 38 => 0x41000000#32
  | 39 => 0x439C0000#32
  | 40 => 0x41000000#32
  | 41 => 0x43A40000#32
  | 42 => 0x41000000#32
  | 43 => 0x43AC0000#32
  | 44 => 0x41000000#32
  | 45 => 0x43B40000#32
  | 46 => 0x41000000#32
  | 47 => 0x43BC0000#32
  | 48 => 0x41000000#32
  | 49 => 0x43C40000#32
  | 50 => 0x41000000#32
  | 51 => 0x43CC0000#32
  | 52 => 0x41000000#32
  | 53 => 0x43D40000#32
  | 54 => 0x41000000#32
  | 55 => 0x43DC0000#32
  | 56 => 0x41000000#32
  | 57 => 0x43E40000#32
  | 58 => 0x41000000#32
  | 59 => 0x43EC0000#32
  | 60 => 0x41000000#32
  | 61 => 0x43F40000#32
  | 62 => 0x41000000#32
  | 63 => 0x43FC0000#32
  | 64 => 0x41C00000#32
  | 65 => 0x41000000#32
  | 66 => 0x41C00000#32
  | 67 => 0x41C00000#32
  | 68 => 0x41C00000#32
  | 69 => 0x42200000#32
  | 70 => 0x41C00000#32
  | 71 => 0x42600000#32
  | 72 => 0x41C00000#32
  | 73 => 0x42900000#32
  | 74 => 0x41C00000#32
  | 75 => 0x42B00000#32
  | 76 => 0x41C00000#32
  | 77 => 0x42D00000#32
  | 78 => 0x41C00000#32
  | 79 => 0x42F00000#32
  | 80 => 0x41C00000#32
  | 81 => 0x43080000#32
  | 82 => 0x41C00000#32
  | 83 => 0x43180000#32
  | 84 => 0x41C00000#32
  | 85 => 0x43280000#32
  | 86 => 0x41C00000#32
  | 87 => 0x43380000#32
  | 88 => 0x41C00000#32
  | 89 => 0x43480000#32
  | 90 => 0x41C00000#32
  | 91 => 0x43580000#32
  | 92 => 0x41C00000#32
  | 93 => 0x43680000#32
  | 94 => 0x41C00000#32
  | 95 => 0x43780000#32
  | 96 => 0x41C00000#32
  | 97 => 0x43840000#32
  | 98 => 0x41C00000#32
  | 99 => 0x438C0000#32
  | 100 => 0x41C00000#32
  | 101 => 0x43940000#32
  | 102 => 0x41C00000#32
  | 103 => 0x439C0000#32
  | 104 => 0x41C00000#32
  | 105 => 0x43A40000#32
  | 106 => 0x41C00000#32
  | 107 => 0x43AC0000#32
  | 108 => 0x41C00000#32
  | 109 => 0x43B40000#32
  | 110 => 0x41C00000#32
  | 111 => 0x43BC0000#32
  | 112 => 0x41C00000#32
  | 113 => 0x43C40000#32
  | 114 => 0x41C00000#32
  | 115 => 0x43CC0000#32
  | 116 => 0x41C00000#32
  | 117 => 0x43D40000#32
  | 118 => 0x41C00000#32
  | 119 => 0x43DC0000#32
  | 120 => 0x41C00000#32
  | 121 => 0x43E40000#32
  | 122 => 0x41C00000#32
  | 123 => 0x43EC0000#32
  | 124 => 0x41C00000#32
  | 125 => 0x43F40000#32
  | 126 => 0x41C00000#32
  | 127 => 0x43FC0000#32
  | _ => 0#32

noncomputable abbrev lit0t0_65 (i : Nat) : BitVec 32 := match i % 128 with
  | 0 => 0x42200000#32
  | 1 => 0x41000000#32
  | 2 => 0x42200000#32
  | 3 => 0x41C00000#32
  | 4 => 0x42200000#32
  | 5 => 0x42200000#32
  | 6 => 0x42200000#32
  | 7 => 0x42600000#32
  | 8 => 0x42200000#32
  | 9 => 0x42900000#32
  | 10 => 0x42200000#32
  | 11 => 0x42B00000#32
  | 12 => 0x42200000#32
  | 13 => 0x42D00000#32
  | 14 => 0x42200000#32
  | 15 => 0x42F00000#32
  | 16 => 0x42200000#32
  | 17 => 0x43080000#32
  | 18 => 0x42200000#32
  | 19 => 0x43180000#32
  | 20 => 0x42200000#32
  | 21 => 0x43280000#32
  | 22 => 0x42200000#32
  | 23 => 0x43380000#32
  | 24 => 0x42200000#32
  | 25 => 0x43480000#32
  | 26 => 0x42200000#32
  | 27 => 0x43580000#32
  | 28 => 0x42200000#32
  | 29 => 0x43680000#32
  | 30 => 0x42200000#32
  | 31 => 0x43780000#32
  | 32 => 0x42200000#32
  | 33 => 0x43840000#32
  | 34 => 0x42200000#32
  | 35 => 0x438C0000#32
  | 36 => 0x42200000#32
  | 37 => 0x43940000#32
  | 38 => 0x42200000#32
  | 39 => 0x439C0000#32
  | 40 => 0x42200000#32
  | 41 => 0x43A40000#32
  | 42 => 0x42200000#32
  | 43 => 0x43AC0000#32
  | 44 => 0x42200000#32
  | 45 => 0x43B40000#32
  | 46 => 0x42200000#32
  | 47 => 0x43BC0000#32
  | 48 => 0x42200000#32
  | 49 => 0x43C40000#32
  | 50 => 0x42200000#32
  | 51 => 0x43CC0000#32
  | 52 => 0x42200000#32
  | 53 => 0x43D40000#32
  | 54 => 0x42200000#32
  | 55 => 0x43DC0000#32
  | 56 => 0x42200000#32
  | 57 => 0x43E40000#32
  | 58 => 0x42200000#32
  | 59 => 0x43EC0000#32
  | 60 => 0x42200000#32
  | 61 => 0x43F40000#32
  | 62 => 0x42200000#32
  | 63 => 0x43FC0000#32
  | 64 => 0x42600000#32
  | 65 => 0x41000000#32
  | 66 => 0x42600000#32
  | 67 => 0x41C00000#32
  | 68 => 0x42600000#32
  | 69 => 0x42200000#32
  | 70 => 0x42600000#32
  | 71 => 0x42600000#32
  | 72 => 0x42600000#32
  | 73 => 0x42900000#32
  | 74 => 0x42600000#32
  | 75 => 0x42B00000#32
  | 76 => 0x42600000#32
  | 77 => 0x42D00000#32
  | 78 => 0x42600000#32
  | 79 => 0x42F00000#32
  | 80 => 0x42600000#32
  | 81 => 0x43080000#32
  | 82 => 0x42600000#32
  | 83 => 0x43180000#32
  | 84 => 0x42600000#32
  | 85 => 0x43280000#32
  | 86 => 0x42600000#32
  | 87 => 0x43380000#32
  | 88 => 0x42600000#32
  | 89 => 0x43480000#32
  | 90 => 0x42600000#32
  | 91 => 0x43580000#32
  | 92 => 0x42600000#32
  | 93 => 0x43680000#32
  | 94 => 0x42600000#32
  | 95 => 0x43780000#32
  | 96 => 0x42600000#32
  | 97 => 0x43840000#32
  | 98 => 0x42600000#32
  | 99 => 0x438C0000#32
  | 100 => 0x42600000#32
  | 101 => 0x43940000#32
  | 102 => 0x42600000#32
  | 103 => 0x439C0000#32
  | 104 => 0x42600000#32
  | 105 => 0x43A40000#32
  | 106 => 0x42600000#32
  | 107 => 0x43AC0000#32
  | 108 => 0x42600000#32
  | 109 => 0x43B40000#32
  | 110 => 0x42600000#32
  | 111 => 0x43BC0000#32
  | 112 => 0x42600000#32
  | 113 => 0x43C40000#32
  | 114 => 0x42600000#32
  | 115 => 0x43CC0000#32
  | 116 => 0x42600000#32
  | 117 => 0x43D40000#32
  | 118 => 0x42600000#32
  | 119 => 0x43DC0000#32
  | 120 => 0x42600000#32
  | 121 => 0x43E40000#32
  | 122 => 0x42600000#32
  | 123 => 0x43EC0000#32
  | 124 => 0x42600000#32
  | 125 => 0x43F40000#32
  | 126 => 0x42600000#32
  | 127 => 0x43FC0000#32
  | _ => 0#32

noncomputable abbrev lit0t0_66 (i : Nat) : BitVec 32 := match i % 128 with
  | 0 => 0x42900000#32
  | 1 => 0x41000000#32
  | 2 => 0x42900000#32
  | 3 => 0x41C00000#32
  | 4 => 0x42900000#32
  | 5 => 0x42200000#32
  | 6 => 0x42900000#32
  | 7 => 0x42600000#32
  | 8 => 0x42900000#32
  | 9 => 0x42900000#32
  | 10 => 0x42900000#32
  | 11 => 0x42B00000#32
  | 12 => 0x42900000#32
  | 13 => 0x42D00000#32
  | 14 => 0x42900000#32
  | 15 => 0x42F00000#32
  | 16 => 0x42900000#32
  | 17 => 0x43080000#32
  | 18 => 0x42900000#32
  | 19 => 0x43180000#32
  | 20 => 0x42900000#32
  | 21 => 0x43280000#32
  | 22 => 0x42900000#32
  | 23 => 0x43380000#32
  | 24 => 0x42900000#32
  | 25 => 0x43480000#32
  | 26 => 0x42900000#32
  | 27 => 0x43580000#32
  | 28 => 0x42900000#32
  | 29 => 0x43680000#32
  | 30 => 0x42900000#32
  | 31 => 0x43780000#32
  | 32 => 0x42900000#32
  | 33 => 0x43840000#32
  | 34 => 0x42900000#32
  | 35 => 0x438C0000#32
  | 36 => 0x42900000#32
  | 37 => 0x43940000#32
  | 38 => 0x42900000#32
  | 39 => 0x439C0000#32
  | 40 => 0x42900000#32
  | 41 => 0x43A40000#32
  | 42 => 0x42900000#32
  | 43 => 0x43AC0000#32
  | 44 => 0x42900000#32
  | 45 => 0x43B40000#32
  | 46 => 0x42900000#32
  | 47 => 0x43BC0000#32
  | 48 => 0x42900000#32
  | 49 => 0x43C40000#32
  | 50 => 0x42900000#32
  | 51 => 0x43CC0000#32
  | 52 => 0x42900000#32
  | 53 => 0x43D40000#32
  | 54 => 0x42900000#32
  | 55 => 0x43DC0000#32
  | 56 => 0x42900000#32
  | 57 => 0x43E40000#32
  | 58 => 0x42900000#32
  | 59 => 0x43EC0000#32
  | 60 => 0x42900000#32
  | 61 => 0x43F40000#32
  | 62 => 0x42900000#32
  | 63 => 0x43FC0000#32
  | 64 => 0x42B00000#32
  | 65 => 0x41000000#32
  | 66 => 0x42B00000#32
  | 67 => 0x41C00000#32
  | 68 => 0x42B00000#32
  | 69 => 0x42200000#32
  | 70 => 0x42B00000#32
  | 71 => 0x42600000#32
  | 72 => 0x42B00000#32
  | 73 => 0x42900000#32
  | 74 => 0x42B00000#32
  | 75 => 0x42B00000#32
  | 76 => 0x42B00000#32
  | 77 => 0x42D00000#32
  | 78 => 0x42B00000#32
  | 79 => 0x42F00000#32
  | 80 => 0x42B00000#32
  | 81 => 0x43080000#32
  | 82 => 0x42B00000#32
  | 83 => 0x43180000#32
  | 84 => 0x42B00000#32
  | 85 => 0x43280000#32
  | 86 => 0x42B00000#32
  | 87 => 0x43380000#32
  | 88 => 0x42B00000#32
  | 89 => 0x43480000#32
  | 90 => 0x42B00000#32
  | 91 => 0x43580000#32
  | 92 => 0x42B00000#32
  | 93 => 0x43680000#32
  | 94 => 0x42B00000#32
  | 95 => 0x43780000#32
  | 96 => 0x42B00000#32
  | 97 => 0x43840000#32
  | 98 => 0x42B00000#32
  | 99 => 0x438C0000#32
  | 100 => 0x42B00000#32
  | 101 => 0x43940000#32
  | 102 => 0x42B00000#32
  | 103 => 0x439C0000#32
  | 104 => 0x42B00000#32
  | 105 => 0x43A40000#32
  | 106 => 0x42B00000#32
  | 107 => 0x43AC0000#32
  | 108 => 0x42B00000#32
  | 109 => 0x43B40000#32
  | 110 => 0x42B00000#32
  | 111 => 0x43BC0000#32
  | 112 => 0x42B00000#32
  | 113 => 0x43C40000#32
  | 114 => 0x42B00000#32
  | 115 => 0x43CC0000#32
  | 116 => 0x42B00000#32
  | 117 => 0x43D40000#32
  | 118 => 0x42B00000#32
  | 119 => 0x43DC0000#32
  | 120 => 0x42B00000#32
  | 121 => 0x43E40000#32
  | 122 => 0x42B00000#32
  | 123 => 0x43EC0000#32
  | 124 => 0x42B00000#32
  | 125 => 0x43F40000#32
  | 126 => 0x42B00000#32
  | 127 => 0x43FC0000#32
  | _ => 0#32

noncomputable abbrev lit0t0_67 (i : Nat) : BitVec 32 := match i % 128 with
  | 0 => 0x42D00000#32
  | 1 => 0x41000000#32
  | 2 => 0x42D00000#32
  | 3 => 0x41C00000#32
  | 4 => 0x42D00000#32
  | 5 => 0x42200000#32
  | 6 => 0x42D00000#32
  | 7 => 0x42600000#32
  | 8 => 0x42D00000#32
  | 9 => 0x42900000#32
  | 10 => 0x42D00000#32
  | 11 => 0x42B00000#32
  | 12 => 0x42D00000#32
  | 13 => 0x42D00000#32
  | 14 => 0x42D00000#32
  | 15 => 0x42F00000#32
  | 16 => 0x42D00000#32
  | 17 => 0x43080000#32
  | 18 => 0x42D00000#32
  | 19 => 0x43180000#32
  | 20 => 0x42D00000#32
  | 21 => 0x43280000#32
  | 22 => 0x42D00000#32
  | 23 => 0x43380000#32
  | 24 => 0x42D00000#32
  | 25 => 0x43480000#32
  | 26 => 0x42D00000#32
  | 27 => 0x43580000#32
  | 28 => 0x42D00000#32
  | 29 => 0x43680000#32
  | 30 => 0x42D00000#32
  | 31 => 0x43780000#32
  | 32 => 0x42D00000#32
  | 33 => 0x43840000#32
  | 34 => 0x42D00000#32
  | 35 => 0x438C0000#32
  | 36 => 0x42D00000#32
  | 37 => 0x43940000#32
  | 38 => 0x42D00000#32
  | 39 => 0x439C0000#32
  | 40 => 0x42D00000#32
  | 41 => 0x43A40000#32
  | 42 => 0x42D00000#32
  | 43 => 0x43AC0000#32
  | 44 => 0x42D00000#32
  | 45 => 0x43B40000#32
  | 46 => 0x42D00000#32
  | 47 => 0x43BC0000#32
  | 48 => 0x42D00000#32
  | 49 => 0x43C40000#32
  | 50 => 0x42D00000#32
  | 51 => 0x43CC0000#32
  | 52 => 0x42D00000#32
  | 53 => 0x43D40000#32
  | 54 => 0x42D00000#32
  | 55 => 0x43DC0000#32
  | 56 => 0x42D00000#32
  | 57 => 0x43E40000#32
  | 58 => 0x42D00000#32
  | 59 => 0x43EC0000#32
  | 60 => 0x42D00000#32
  | 61 => 0x43F40000#32
  | 62 => 0x42D00000#32
  | 63 => 0x43FC0000#32
  | 64 => 0x42F00000#32
  | 65 => 0x41000000#32
  | 66 => 0x42F00000#32
  | 67 => 0x41C00000#32
  | 68 => 0x42F00000#32
  | 69 => 0x42200000#32
  | 70 => 0x42F00000#32
  | 71 => 0x42600000#32
  | 72 => 0x42F00000#32
  | 73 => 0x42900000#32
  | 74 => 0x42F00000#32
  | 75 => 0x42B00000#32
  | 76 => 0x42F00000#32
  | 77 => 0x42D00000#32
  | 78 => 0x42F00000#32
  | 79 => 0x42F00000#32
  | 80 => 0x42F00000#32
  | 81 => 0x43080000#32
  | 82 => 0x42F00000#32
  | 83 => 0x43180000#32
  | 84 => 0x42F00000#32
  | 85 => 0x43280000#32
  | 86 => 0x42F00000#32
  | 87 => 0x43380000#32
  | 88 => 0x42F00000#32
  | 89 => 0x43480000#32
  | 90 => 0x42F00000#32
  | 91 => 0x43580000#32
  | 92 => 0x42F00000#32
  | 93 => 0x43680000#32
  | 94 => 0x42F00000#32
  | 95 => 0x43780000#32
  | 96 => 0x42F00000#32
  | 97 => 0x43840000#32
  | 98 => 0x42F00000#32
  | 99 => 0x438C0000#32
  | 100 => 0x42F00000#32
  | 101 => 0x43940000#32
  | 102 => 0x42F00000#32
  | 103 => 0x439C0000#32
  | 104 => 0x42F00000#32
  | 105 => 0x43A40000#32
  | 106 => 0x42F00000#32
  | 107 => 0x43AC0000#32
  | 108 => 0x42F00000#32
  | 109 => 0x43B40000#32
  | 110 => 0x42F00000#32
  | 111 => 0x43BC0000#32
  | 112 => 0x42F00000#32
  | 113 => 0x43C40000#32
  | 114 => 0x42F00000#32
  | 115 => 0x43CC0000#32
  | 116 => 0x42F00000#32
  | 117 => 0x43D40000#32
  | 118 => 0x42F00000#32
  | 119 => 0x43DC0000#32
  | 120 => 0x42F00000#32
  | 121 => 0x43E40000#32
  | 122 => 0x42F00000#32
  | 123 => 0x43EC0000#32
  | 124 => 0x42F00000#32
  | 125 => 0x43F40000#32
  | 126 => 0x42F00000#32
  | 127 => 0x43FC0000#32
  | _ => 0#32

noncomputable abbrev lit0t0_68 (i : Nat) : BitVec 32 := match i % 128 with
  | 0 => 0x43080000#32
  | 1 => 0x41000000#32
  | 2 => 0x43080000#32
  | 3 => 0x41C00000#32
  | 4 => 0x43080000#32
  | 5 => 0x42200000#32
  | 6 => 0x43080000#32
  | 7 => 0x42600000#32
  | 8 => 0x43080000#32
  | 9 => 0x42900000#32
  | 10 => 0x43080000#32
  | 11 => 0x42B00000#32
  | 12 => 0x43080000#32
  | 13 => 0x42D00000#32
  | 14 => 0x43080000#32
  | 15 => 0x42F00000#32
  | 16 => 0x43080000#32
  | 17 => 0x43080000#32
  | 18 => 0x43080000#32
  | 19 => 0x43180000#32
  | 20 => 0x43080000#32
  | 21 => 0x43280000#32
  | 22 => 0x43080000#32
  | 23 => 0x43380000#32
  | 24 => 0x43080000#32
  | 25 => 0x43480000#32
  | 26 => 0x43080000#32
  | 27 => 0x43580000#32
  | 28 => 0x43080000#32
  | 29 => 0x43680000#32
  | 30 => 0x43080000#32
  | 31 => 0x43780000#32
  | 32 => 0x43080000#32
  | 33 => 0x43840000#32
  | 34 => 0x43080000#32
  | 35 => 0x438C0000#32
  | 36 => 0x43080000#32
  | 37 => 0x43940000#32
  | 38 => 0x43080000#32
  | 39 => 0x439C0000#32
  | 40 => 0x43080000#32
  | 41 => 0x43A40000#32
  | 42 => 0x43080000#32
  | 43 => 0x43AC0000#32
  | 44 => 0x43080000#32
  | 45 => 0x43B40000#32
  | 46 => 0x43080000#32
  | 47 => 0x43BC0000#32
  | 48 => 0x43080000#32
  | 49 => 0x43C40000#32
  | 50 => 0x43080000#32
  | 51 => 0x43CC0000#32
  | 52 => 0x43080000#32
  | 53 => 0x43D40000#32
  | 54 => 0x43080000#32
  | 55 => 0x43DC0000#32
  | 56 => 0x43080000#32
  | 57 => 0x43E40000#32
  | 58 => 0x43080000#32
  | 59 => 0x43EC0000#32
  | 60 => 0x43080000#32
  | 61 => 0x43F40000#32
  | 62 => 0x43080000#32
  | 63 => 0x43FC0000#32
  | 64 => 0x43180000#32
  | 65 => 0x41000000#32
  | 66 => 0x43180000#32
  | 67 => 0x41C00000#32
  | 68 => 0x43180000#32
  | 69 => 0x42200000#32
  | 70 => 0x43180000#32
  | 71 => 0x42600000#32
  | 72 => 0x43180000#32
  | 73 => 0x42900000#32
  | 74 => 0x43180000#32
  | 75 => 0x42B00000#32
  | 76 => 0x43180000#32
  | 77 => 0x42D00000#32
  | 78 => 0x43180000#32
  | 79 => 0x42F00000#32
  | 80 => 0x43180000#32
  | 81 => 0x43080000#32
  | 82 => 0x43180000#32
  | 83 => 0x43180000#32
  | 84 => 0x43180000#32
  | 85 => 0x43280000#32
  | 86 => 0x43180000#32
  | 87 => 0x43380000#32
  | 88 => 0x43180000#32
  | 89 => 0x43480000#32
  | 90 => 0x43180000#32
  | 91 => 0x43580000#32
  | 92 => 0x43180000#32
  | 93 => 0x43680000#32
  | 94 => 0x43180000#32
  | 95 => 0x43780000#32
  | 96 => 0x43180000#32
  | 97 => 0x43840000#32
  | 98 => 0x43180000#32
  | 99 => 0x438C0000#32
  | 100 => 0x43180000#32
  | 101 => 0x43940000#32
  | 102 => 0x43180000#32
  | 103 => 0x439C0000#32
  | 104 => 0x43180000#32
  | 105 => 0x43A40000#32
  | 106 => 0x43180000#32
  | 107 => 0x43AC0000#32
  | 108 => 0x43180000#32
  | 109 => 0x43B40000#32
  | 110 => 0x43180000#32
  | 111 => 0x43BC0000#32
  | 112 => 0x43180000#32
  | 113 => 0x43C40000#32
  | 114 => 0x43180000#32
  | 115 => 0x43CC0000#32
  | 116 => 0x43180000#32
  | 117 => 0x43D40000#32
  | 118 => 0x43180000#32
  | 119 => 0x43DC0000#32
  | 120 => 0x43180000#32
  | 121 => 0x43E40000#32
  | 122 => 0x43180000#32
  | 123 => 0x43EC0000#32
  | 124 => 0x43180000#32
  | 125 => 0x43F40000#32
  | 126 => 0x43180000#32
  | 127 => 0x43FC0000#32
  | _ => 0#32

noncomputable abbrev lit0t0_69 (i : Nat) : BitVec 32 := match i % 128 with
  | 0 => 0x43280000#32
  | 1 => 0x41000000#32
  | 2 => 0x43280000#32
  | 3 => 0x41C00000#32
  | 4 => 0x43280000#32
  | 5 => 0x42200000#32
  | 6 => 0x43280000#32
  | 7 => 0x42600000#32
  | 8 => 0x43280000#32
  | 9 => 0x42900000#32
  | 10 => 0x43280000#32
  | 11 => 0x42B00000#32
  | 12 => 0x43280000#32
  | 13 => 0x42D00000#32
  | 14 => 0x43280000#32
  | 15 => 0x42F00000#32
  | 16 => 0x43280000#32
  | 17 => 0x43080000#32
  | 18 => 0x43280000#32
  | 19 => 0x43180000#32
  | 20 => 0x43280000#32
  | 21 => 0x43280000#32
  | 22 => 0x43280000#32
  | 23 => 0x43380000#32
  | 24 => 0x43280000#32
  | 25 => 0x43480000#32
  | 26 => 0x43280000#32
  | 27 => 0x43580000#32
  | 28 => 0x43280000#32
  | 29 => 0x43680000#32
  | 30 => 0x43280000#32
  | 31 => 0x43780000#32
  | 32 => 0x43280000#32
  | 33 => 0x43840000#32
  | 34 => 0x43280000#32
  | 35 => 0x438C0000#32
  | 36 => 0x43280000#32
  | 37 => 0x43940000#32
  | 38 => 0x43280000#32
  | 39 => 0x439C0000#32
  | 40 => 0x43280000#32
  | 41 => 0x43A40000#32
  | 42 => 0x43280000#32
  | 43 => 0x43AC0000#32
  | 44 => 0x43280000#32
  | 45 => 0x43B40000#32
  | 46 => 0x43280000#32
  | 47 => 0x43BC0000#32
  | 48 => 0x43280000#32
  | 49 => 0x43C40000#32
  | 50 => 0x43280000#32
  | 51 => 0x43CC0000#32
  | 52 => 0x43280000#32
  | 53 => 0x43D40000#32
  | 54 => 0x43280000#32
  | 55 => 0x43DC0000#32
  | 56 => 0x43280000#32
  | 57 => 0x43E40000#32
  | 58 => 0x43280000#32
  | 59 => 0x43EC0000#32
  | 60 => 0x43280000#32
  | 61 => 0x43F40000#32
  | 62 => 0x43280000#32
  | 63 => 0x43FC0000#32
  | 64 => 0x43380000#32
  | 65 => 0x41000000#32
  | 66 => 0x43380000#32
  | 67 => 0x41C00000#32
  | 68 => 0x43380000#32
  | 69 => 0x42200000#32
  | 70 => 0x43380000#32
  | 71 => 0x42600000#32
  | 72 => 0x43380000#32
  | 73 => 0x42900000#32
  | 74 => 0x43380000#32
  | 75 => 0x42B00000#32
  | 76 => 0x43380000#32
  | 77 => 0x42D00000#32
  | 78 => 0x43380000#32
  | 79 => 0x42F00000#32
  | 80 => 0x43380000#32
  | 81 => 0x43080000#32
  | 82 => 0x43380000#32
  | 83 => 0x43180000#32
  | 84 => 0x43380000#32
  | 85 => 0x43280000#32
  | 86 => 0x43380000#32
  | 87 => 0x43380000#32
  | 88 => 0x43380000#32
  | 89 => 0x43480000#32
  | 90 => 0x43380000#32
  | 91 => 0x43580000#32
  | 92 => 0x43380000#32
  | 93 => 0x43680000#32
  | 94 => 0x43380000#32
  | 95 => 0x43780000#32
  | 96 => 0x43380000#32
  | 97 => 0x43840000#32
  | 98 => 0x43380000#32
  | 99 => 0x438C0000#32
  | 100 => 0x43380000#32
  | 101 => 0x43940000#32
  | 102 => 0x43380000#32
  | 103 => 0x439C0000#32
  | 104 => 0x43380000#32
  | 105 => 0x43A40000#32
  | 106 => 0x43380000#32
  | 107 => 0x43AC0000#32
  | 108 => 0x43380000#32
  | 109 => 0x43B40000#32
  | 110 => 0x43380000#32
  | 111 => 0x43BC0000#32
  | 112 => 0x43380000#32
  | 113 => 0x43C40000#32
  | 114 => 0x43380000#32
  | 115 => 0x43CC0000#32
  | 116 => 0x43380000#32
  | 117 => 0x43D40000#32
  | 118 => 0x43380000#32
  | 119 => 0x43DC0000#32
  | 120 => 0x43380000#32
  | 121 => 0x43E40000#32
  | 122 => 0x43380000#32
  | 123 => 0x43EC0000#32
  | 124 => 0x43380000#32
  | 125 => 0x43F40000#32
  | 126 => 0x43380000#32
  | 127 => 0x43FC0000#32
  | _ => 0#32

noncomputable abbrev lit0t0_70 (i : Nat) : BitVec 32 := match i % 128 with
  | 0 => 0x43480000#32
  | 1 => 0x41000000#32
  | 2 => 0x43480000#32
  | 3 => 0x41C00000#32
  | 4 => 0x43480000#32
  | 5 => 0x42200000#32
  | 6 => 0x43480000#32
  | 7 => 0x42600000#32
  | 8 => 0x43480000#32
  | 9 => 0x42900000#32
  | 10 => 0x43480000#32
  | 11 => 0x42B00000#32
  | 12 => 0x43480000#32
  | 13 => 0x42D00000#32
  | 14 => 0x43480000#32
  | 15 => 0x42F00000#32
  | 16 => 0x43480000#32
  | 17 => 0x43080000#32
  | 18 => 0x43480000#32
  | 19 => 0x43180000#32
  | 20 => 0x43480000#32
  | 21 => 0x43280000#32
  | 22 => 0x43480000#32
  | 23 => 0x43380000#32
  | 24 => 0x43480000#32
  | 25 => 0x43480000#32
  | 26 => 0x43480000#32
  | 27 => 0x43580000#32
  | 28 => 0x43480000#32
  | 29 => 0x43680000#32
  | 30 => 0x43480000#32
  | 31 => 0x43780000#32
  | 32 => 0x43480000#32
  | 33 => 0x43840000#32
  | 34 => 0x43480000#32
  | 35 => 0x438C0000#32
  | 36 => 0x43480000#32
  | 37 => 0x43940000#32
  | 38 => 0x43480000#32
  | 39 => 0x439C0000#32
  | 40 => 0x43480000#32
  | 41 => 0x43A40000#32
  | 42 => 0x43480000#32
  | 43 => 0x43AC0000#32
  | 44 => 0x43480000#32
  | 45 => 0x43B40000#32
  | 46 => 0x43480000#32
  | 47 => 0x43BC0000#32
  | 48 => 0x43480000#32
  | 49 => 0x43C40000#32
  | 50 => 0x43480000#32
  | 51 => 0x43CC0000#32
  | 52 => 0x43480000#32
  | 53 => 0x43D40000#32
  | 54 => 0x43480000#32
  | 55 => 0x43DC0000#32
  | 56 => 0x43480000#32
  | 57 => 0x43E40000#32
  | 58 => 0x43480000#32
  | 59 => 0x43EC0000#32
  | 60 => 0x43480000#32
  | 61 => 0x43F40000#32
  | 62 => 0x43480000#32
  | 63 => 0x43FC0000#32
  | 64 => 0x43580000#32
  | 65 => 0x41000000#32
  | 66 => 0x43580000#32
  | 67 => 0x41C00000#32
  | 68 => 0x43580000#32
  | 69 => 0x42200000#32
  | 70 => 0x43580000#32
  | 71 => 0x42600000#32
  | 72 => 0x43580000#32
  | 73 => 0x42900000#32
  | 74 => 0x43580000#32
  | 75 => 0x42B00000#32
  | 76 => 0x43580000#32
  | 77 => 0x42D00000#32
  | 78 => 0x43580000#32
  | 79 => 0x42F00000#32
  | 80 => 0x43580000#32
  | 81 => 0x43080000#32
  | 82 => 0x43580000#32
  | 83 => 0x43180000#32
  | 84 => 0x43580000#32
  | 85 => 0x43280000#32
  | 86 => 0x43580000#32
  | 87 => 0x43380000#32
  | 88 => 0x43580000#32
  | 89 => 0x43480000#32
  | 90 => 0x43580000#32
  | 91 => 0x43580000#32
  | 92 => 0x43580000#32
  | 93 => 0x43680000#32
  | 94 => 0x43580000#32
  | 95 => 0x43780000#32
  | 96 => 0x43580000#32
  | 97 => 0x43840000#32
  | 98 => 0x43580000#32
  | 99 => 0x438C0000#32
  | 100 => 0x43580000#32
  | 101 => 0x43940000#32
  | 102 => 0x43580000#32
  | 103 => 0x439C0000#32
  | 104 => 0x43580000#32
  | 105 => 0x43A40000#32
  | 106 => 0x43580000#32
  | 107 => 0x43AC0000#32
  | 108 => 0x43580000#32
  | 109 => 0x43B40000#32
  | 110 => 0x43580000#32
  | 111 => 0x43BC0000#32
  | 112 => 0x43580000#32
  | 113 => 0x43C40000#32
  | 114 => 0x43580000#32
  | 115 => 0x43CC0000#32
  | 116 => 0x43580000#32
  | 117 => 0x43D40000#32
  | 118 => 0x43580000#32
  | 119 => 0x43DC0000#32
  | 120 => 0x43580000#32
  | 121 => 0x43E40000#32
  | 122 => 0x43580000#32
  | 123 => 0x43EC0000#32
  | 124 => 0x43580000#32
  | 125 => 0x43F40000#32
  | 126 => 0x43580000#32
  | 127 => 0x43FC0000#32
  | _ => 0#32

noncomputable abbrev lit0t0_71 (i : Nat) : BitVec 32 := match i % 128 with
  | 0 => 0x43680000#32
  | 1 => 0x41000000#32
  | 2 => 0x43680000#32
  | 3 => 0x41C00000#32
  | 4 => 0x43680000#32
  | 5 => 0x42200000#32
  | 6 => 0x43680000#32
  | 7 => 0x42600000#32
  | 8 => 0x43680000#32
  | 9 => 0x42900000#32
  | 10 => 0x43680000#32
  | 11 => 0x42B00000#32
  | 12 => 0x43680000#32
  | 13 => 0x42D00000#32
  | 14 => 0x43680000#32
  | 15 => 0x42F00000#32
  | 16 => 0x43680000#32
  | 17 => 0x43080000#32
  | 18 => 0x43680000#32
  | 19 => 0x43180000#32
  | 20 => 0x43680000#32
  | 21 => 0x43280000#32
  | 22 => 0x43680000#32
  | 23 => 0x43380000#32
  | 24 => 0x43680000#32
  | 25 => 0x43480000#32
  | 26 => 0x43680000#32
  | 27 => 0x43580000#32
  | 28 => 0x43680000#32
  | 29 => 0x43680000#32
  | 30 => 0x43680000#32
  | 31 => 0x43780000#32
  | 32 => 0x43680000#32
  | 33 => 0x43840000#32
  | 34 => 0x43680000#32
  | 35 => 0x438C0000#32
  | 36 => 0x43680000#32
  | 37 => 0x43940000#32
  | 38 => 0x43680000#32
  | 39 => 0x439C0000#32
  | 40 => 0x43680000#32
  | 41 => 0x43A40000#32
  | 42 => 0x43680000#32
  | 43 => 0x43AC0000#32
  | 44 => 0x43680000#32
  | 45 => 0x43B40000#32
  | 46 => 0x43680000#32
  | 47 => 0x43BC0000#32
  | 48 => 0x43680000#32
  | 49 => 0x43C40000#32
  | 50 => 0x43680000#32
  | 51 => 0x43CC0000#32
  | 52 => 0x43680000#32
  | 53 => 0x43D40000#32
  | 54 => 0x43680000#32
  | 55 => 0x43DC0000#32
  | 56 => 0x43680000#32
  | 57 => 0x43E40000#32
  | 58 => 0x43680000#32
  | 59 => 0x43EC0000#32
  | 60 => 0x43680000#32
  | 61 => 0x43F40000#32
  | 62 => 0x43680000#32
  | 63 => 0x43FC0000#32
  | 64 => 0x43780000#32
  | 65 => 0x41000000#32
  | 66 => 0x43780000#32
  | 67 => 0x41C00000#32
  | 68 => 0x43780000#32
  | 69 => 0x42200000#32
  | 70 => 0x43780000#32
  | 71 => 0x42600000#32
  | 72 => 0x43780000#32
  | 73 => 0x42900000#32
  | 74 => 0x43780000#32
  | 75 => 0x42B00000#32
  | 76 => 0x43780000#32
  | 77 => 0x42D00000#32
  | 78 => 0x43780000#32
  | 79 => 0x42F00000#32
  | 80 => 0x43780000#32
  | 81 => 0x43080000#32
  | 82 => 0x43780000#32
  | 83 => 0x43180000#32
  | 84 => 0x43780000#32
  | 85 => 0x43280000#32
  | 86 => 0x43780000#32
  | 87 => 0x43380000#32
  | 88 => 0x43780000#32
  | 89 => 0x43480000#32
  | 90 => 0x43780000#32
  | 91 => 0x43580000#32
  | 92 => 0x43780000#32
  | 93 => 0x43680000#32
  | 94 => 0x43780000#32
  | 95 => 0x43780000#32
  | 96 => 0x43780000#32
  | 97 => 0x43840000#32
  | 98 => 0x43780000#32
  | 99 => 0x438C0000#32
  | 100 => 0x43780000#32
  | 101 => 0x43940000#32
  | 102 => 0x43780000#32
  | 103 => 0x439C0000#32
  | 104 => 0x43780000#32
  | 105 => 0x43A40000#32
  | 106 => 0x43780000#32
  | 107 => 0x43AC0000#32
  | 108 => 0x43780000#32
  | 109 => 0x43B40000#32
  | 110 => 0x43780000#32
  | 111 => 0x43BC0000#32
  | 112 => 0x43780000#32
  | 113 => 0x43C40000#32
  | 114 => 0x43780000#32
  | 115 => 0x43CC0000#32
  | 116 => 0x43780000#32
  | 117 => 0x43D40000#32
  | 118 => 0x43780000#32
  | 119 => 0x43DC0000#32
  | 120 => 0x43780000#32
  | 121 => 0x43E40000#32
  | 122 => 0x43780000#32
  | 123 => 0x43EC0000#32
  | 124 => 0x43780000#32
  | 125 => 0x43F40000#32
  | 126 => 0x43780000#32
  | 127 => 0x43FC0000#32
  | _ => 0#32

noncomputable abbrev lit0t0_72 (i : Nat) : BitVec 32 := match i % 128 with
  | 0 => 0x43840000#32
  | 1 => 0x41000000#32
  | 2 => 0x43840000#32
  | 3 => 0x41C00000#32
  | 4 => 0x43840000#32
  | 5 => 0x42200000#32
  | 6 => 0x43840000#32
  | 7 => 0x42600000#32
  | 8 => 0x43840000#32
  | 9 => 0x42900000#32
  | 10 => 0x43840000#32
  | 11 => 0x42B00000#32
  | 12 => 0x43840000#32
  | 13 => 0x42D00000#32
  | 14 => 0x43840000#32
  | 15 => 0x42F00000#32
  | 16 => 0x43840000#32
  | 17 => 0x43080000#32
  | 18 => 0x43840000#32
  | 19 => 0x43180000#32
  | 20 => 0x43840000#32
  | 21 => 0x43280000#32
  | 22 => 0x43840000#32
  | 23 => 0x43380000#32
  | 24 => 0x43840000#32
  | 25 => 0x43480000#32
  | 26 => 0x43840000#32
  | 27 => 0x43580000#32
  | 28 => 0x43840000#32
  | 29 => 0x43680000#32
  | 30 => 0x43840000#32
  | 31 => 0x43780000#32
  | 32 => 0x43840000#32
  | 33 => 0x43840000#32
  | 34 => 0x43840000#32
  | 35 => 0x438C0000#32
  | 36 => 0x43840000#32
  | 37 => 0x43940000#32
  | 38 => 0x43840000#32
  | 39 => 0x439C0000#32
  | 40 => 0x43840000#32
  | 41 => 0x43A40000#32
  | 42 => 0x43840000#32
  | 43 => 0x43AC0000#32
  | 44 => 0x43840000#32
  | 45 => 0x43B40000#32
  | 46 => 0x43840000#32
  | 47 => 0x43BC0000#32
  | 48 => 0x43840000#32
  | 49 => 0x43C40000#32
  | 50 => 0x43840000#32
  | 51 => 0x43CC0000#32
  | 52 => 0x43840000#32
  | 53 => 0x43D40000#32
  | 54 => 0x43840000#32
  | 55 => 0x43DC0000#32
  | 56 => 0x43840000#32
  | 57 => 0x43E40000#32
  | 58 => 0x43840000#32
  | 59 => 0x43EC0000#32
  | 60 => 0x43840000#32
  | 61 => 0x43F40000#32
  | 62 => 0x43840000#32
  | 63 => 0x43FC0000#32
  | 64 => 0x438C0000#32
  | 65 => 0x41000000#32
  | 66 => 0x438C0000#32
  | 67 => 0x41C00000#32
  | 68 => 0x438C0000#32
  | 69 => 0x42200000#32
  | 70 => 0x438C0000#32
  | 71 => 0x42600000#32
  | 72 => 0x438C0000#32
  | 73 => 0x42900000#32
  | 74 => 0x438C0000#32
  | 75 => 0x42B00000#32
  | 76 => 0x438C0000#32
  | 77 => 0x42D00000#32
  | 78 => 0x438C0000#32
  | 79 => 0x42F00000#32
  | 80 => 0x438C0000#32
  | 81 => 0x43080000#32
  | 82 => 0x438C0000#32
  | 83 => 0x43180000#32
  | 84 => 0x438C0000#32
  | 85 => 0x43280000#32
  | 86 => 0x438C0000#32
  | 87 => 0x43380000#32
  | 88 => 0x438C0000#32
  | 89 => 0x43480000#32
  | 90 => 0x438C0000#32
  | 91 => 0x43580000#32
  | 92 => 0x438C0000#32
  | 93 => 0x43680000#32
  | 94 => 0x438C0000#32
  | 95 => 0x43780000#32
  | 96 => 0x438C0000#32
  | 97 => 0x43840000#32
  | 98 => 0x438C0000#32
  | 99 => 0x438C0000#32
  | 100 => 0x438C0000#32
  | 101 => 0x43940000#32
  | 102 => 0x438C0000#32
  | 103 => 0x439C0000#32
  | 104 => 0x438C0000#32
  | 105 => 0x43A40000#32
  | 106 => 0x438C0000#32
  | 107 => 0x43AC0000#32
  | 108 => 0x438C0000#32
  | 109 => 0x43B40000#32
  | 110 => 0x438C0000#32
  | 111 => 0x43BC0000#32
  | 112 => 0x438C0000#32
  | 113 => 0x43C40000#32
  | 114 => 0x438C0000#32
  | 115 => 0x43CC0000#32
  | 116 => 0x438C0000#32
  | 117 => 0x43D40000#32
  | 118 => 0x438C0000#32
  | 119 => 0x43DC0000#32
  | 120 => 0x438C0000#32
  | 121 => 0x43E40000#32
  | 122 => 0x438C0000#32
  | 123 => 0x43EC0000#32
  | 124 => 0x438C0000#32
  | 125 => 0x43F40000#32
  | 126 => 0x438C0000#32
  | 127 => 0x43FC0000#32
  | _ => 0#32

noncomputable abbrev lit0t0_73 (i : Nat) : BitVec 32 := match i % 128 with
  | 0 => 0x43940000#32
  | 1 => 0x41000000#32
  | 2 => 0x43940000#32
  | 3 => 0x41C00000#32
  | 4 => 0x43940000#32
  | 5 => 0x42200000#32
  | 6 => 0x43940000#32
  | 7 => 0x42600000#32
  | 8 => 0x43940000#32
  | 9 => 0x42900000#32
  | 10 => 0x43940000#32
  | 11 => 0x42B00000#32
  | 12 => 0x43940000#32
  | 13 => 0x42D00000#32
  | 14 => 0x43940000#32
  | 15 => 0x42F00000#32
  | 16 => 0x43940000#32
  | 17 => 0x43080000#32
  | 18 => 0x43940000#32
  | 19 => 0x43180000#32
  | 20 => 0x43940000#32
  | 21 => 0x43280000#32
  | 22 => 0x43940000#32
  | 23 => 0x43380000#32
  | 24 => 0x43940000#32
  | 25 => 0x43480000#32
  | 26 => 0x43940000#32
  | 27 => 0x43580000#32
  | 28 => 0x43940000#32
  | 29 => 0x43680000#32
  | 30 => 0x43940000#32
  | 31 => 0x43780000#32
  | 32 => 0x43940000#32
  | 33 => 0x43840000#32
  | 34 => 0x43940000#32
  | 35 => 0x438C0000#32
  | 36 => 0x43940000#32
  | 37 => 0x43940000#32
  | 38 => 0x43940000#32
  | 39 => 0x439C0000#32
  | 40 => 0x43940000#32
  | 41 => 0x43A40000#32
  | 42 => 0x43940000#32
  | 43 => 0x43AC0000#32
  | 44 => 0x43940000#32
  | 45 => 0x43B40000#32
  | 46 => 0x43940000#32
  | 47 => 0x43BC0000#32
  | 48 => 0x43940000#32
  | 49 => 0x43C40000#32
  | 50 => 0x43940000#32
  | 51 => 0x43CC0000#32
  | 52 => 0x43940000#32
  | 53 => 0x43D40000#32
  | 54 => 0x43940000#32
  | 55 => 0x43DC0000#32
  | 56 => 0x43940000#32
  | 57 => 0x43E40000#32
  | 58 => 0x43940000#32
  | 59 => 0x43EC0000#32
  | 60 => 0x43940000#32
  | 61 => 0x43F40000#32
  | 62 => 0x43940000#32
  | 63 => 0x43FC0000#32
  | 64 => 0x439C0000#32
  | 65 => 0x41000000#32
  | 66 => 0x439C0000#32
  | 67 => 0x41C00000#32
  | 68 => 0x439C0000#32
  | 69 => 0x42200000#32
  | 70 => 0x439C0000#32
  | 71 => 0x42600000#32
  | 72 => 0x439C0000#32
  | 73 => 0x42900000#32
  | 74 => 0x439C0000#32
  | 75 => 0x42B00000#32
  | 76 => 0x439C0000#32
  | 77 => 0x42D00000#32
  | 78 => 0x439C0000#32
  | 79 => 0x42F00000#32
  | 80 => 0x439C0000#32
  | 81 => 0x43080000#32
  | 82 => 0x439C0000#32
  | 83 => 0x43180000#32
  | 84 => 0x439C0000#32
  | 85 => 0x43280000#32
  | 86 => 0x439C0000#32
  | 87 => 0x43380000#32
  | 88 => 0x439C0000#32
  | 89 => 0x43480000#32
  | 90 => 0x439C0000#32
  | 91 => 0x43580000#32
  | 92 => 0x439C0000#32
  | 93 => 0x43680000#32
  | 94 => 0x439C0000#32
  | 95 => 0x43780000#32
  | 96 => 0x439C0000#32
  | 97 => 0x43840000#32
  | 98 => 0x439C0000#32
  | 99 => 0x438C0000#32
  | 100 => 0x439C0000#32
  | 101 => 0x43940000#32
  | 102 => 0x439C0000#32
  | 103 => 0x439C0000#32
  | 104 => 0x439C0000#32
  | 105 => 0x43A40000#32
  | 106 => 0x439C0000#32
  | 107 => 0x43AC0000#32
  | 108 => 0x439C0000#32
  | 109 => 0x43B40000#32
  | 110 => 0x439C0000#32
  | 111 => 0x43BC0000#32
  | 112 => 0x439C0000#32
  | 113 => 0x43C40000#32
  | 114 => 0x439C0000#32
  | 115 => 0x43CC0000#32
  | 116 => 0x439C0000#32
  | 117 => 0x43D40000#32
  | 118 => 0x439C0000#32
  | 119 => 0x43DC0000#32
  | 120 => 0x439C0000#32
  | 121 => 0x43E40000#32
  | 122 => 0x439C0000#32
  | 123 => 0x43EC0000#32
  | 124 => 0x439C0000#32
  | 125 => 0x43F40000#32
  | 126 => 0x439C0000#32
  | 127 => 0x43FC0000#32
  | _ => 0#32

noncomputable abbrev lit0t0_74 (i : Nat) : BitVec 32 := match i % 128 with
  | 0 => 0x43A40000#32
  | 1 => 0x41000000#32
  | 2 => 0x43A40000#32
  | 3 => 0x41C00000#32
  | 4 => 0x43A40000#32
  | 5 => 0x42200000#32
  | 6 => 0x43A40000#32
  | 7 => 0x42600000#32
  | 8 => 0x43A40000#32
  | 9 => 0x42900000#32
  | 10 => 0x43A40000#32
  | 11 => 0x42B00000#32
  | 12 => 0x43A40000#32
  | 13 => 0x42D00000#32
  | 14 => 0x43A40000#32
  | 15 => 0x42F00000#32
  | 16 => 0x43A40000#32
  | 17 => 0x43080000#32
  | 18 => 0x43A40000#32
  | 19 => 0x43180000#32
  | 20 => 0x43A40000#32
  | 21 => 0x43280000#32
  | 22 => 0x43A40000#32
  | 23 => 0x43380000#32
  | 24 => 0x43A40000#32
  | 25 => 0x43480000#32
  | 26 => 0x43A40000#32
  | 27 => 0x43580000#32
  | 28 => 0x43A40000#32
  | 29 => 0x43680000#32
  | 30 => 0x43A40000#32
  | 31 => 0x43780000#32
  | 32 => 0x43A40000#32
  | 33 => 0x43840000#32
  | 34 => 0x43A40000#32
  | 35 => 0x438C0000#32
  | 36 => 0x43A40000#32
  | 37 => 0x43940000#32
  | 38 => 0x43A40000#32
  | 39 => 0x439C0000#32
  | 40 => 0x43A40000#32
  | 41 => 0x43A40000#32
  | 42 => 0x43A40000#32
  | 43 => 0x43AC0000#32
  | 44 => 0x43A40000#32
  | 45 => 0x43B40000#32
  | 46 => 0x43A40000#32
  | 47 => 0x43BC0000#32
  | 48 => 0x43A40000#32
  | 49 => 0x43C40000#32
  | 50 => 0x43A40000#32
  | 51 => 0x43CC0000#32
  | 52 => 0x43A40000#32
  | 53 => 0x43D40000#32
  | 54 => 0x43A40000#32
  | 55 => 0x43DC0000#32
  | 56 => 0x43A40000#32
  | 57 => 0x43E40000#32
  | 58 => 0x43A40000#32
  | 59 => 0x43EC0000#32
  | 60 => 0x43A40000#32
  | 61 => 0x43F40000#32
  | 62 => 0x43A40000#32
  | 63 => 0x43FC0000#32
  | 64 => 0x43AC0000#32
  | 65 => 0x41000000#32
  | 66 => 0x43AC0000#32
  | 67 => 0x41C00000#32
  | 68 => 0x43AC0000#32
  | 69 => 0x42200000#32
  | 70 => 0x43AC0000#32
  | 71 => 0x42600000#32
  | 72 => 0x43AC0000#32
  | 73 => 0x42900000#32
  | 74 => 0x43AC0000#32
  | 75 => 0x42B00000#32
  | 76 => 0x43AC0000#32
  | 77 => 0x42D00000#32
  | 78 => 0x43AC0000#32
  | 79 => 0x42F00000#32
  | 80 => 0x43AC0000#32
  | 81 => 0x43080000#32
  | 82 => 0x43AC0000#32
  | 83 => 0x43180000#32
  | 84 => 0x43AC0000#32
  | 85 => 0x43280000#32
  | 86 => 0x43AC0000#32
  | 87 => 0x43380000#32
  | 88 => 0x43AC0000#32
  | 89 => 0x43480000#32
  | 90 => 0x43AC0000#32
  | 91 => 0x43580000#32
  | 92 => 0x43AC0000#32
  | 93 => 0x43680000#32
  | 94 => 0x43AC0000#32
  | 95 => 0x43780000#32
  | 96 => 0x43AC0000#32
  | 97 => 0x43840000#32
  | 98 => 0x43AC0000#32
  | 99 => 0x438C0000#32
  | 100 => 0x43AC0000#32
  | 101 => 0x43940000#32
  | 102 => 0x43AC0000#32
  | 103 => 0x439C0000#32
  | 104 => 0x43AC0000#32
  | 105 => 0x43A40000#32
  | 106 => 0x43AC0000#32
  | 107 => 0x43AC0000#32
  | 108 => 0x43AC0000#32
  | 109 => 0x43B40000#32
  | 110 => 0x43AC0000#32
  | 111 => 0x43BC0000#32
  | 112 => 0x43AC0000#32
  | 113 => 0x43C40000#32
  | 114 => 0x43AC0000#32
  | 115 => 0x43CC0000#32
  | 116 => 0x43AC0000#32
  | 117 => 0x43D40000#32
  | 118 => 0x43AC0000#32
  | 119 => 0x43DC0000#32
  | 120 => 0x43AC0000#32
  | 121 => 0x43E40000#32
  | 122 => 0x43AC0000#32
  | 123 => 0x43EC0000#32
  | 124 => 0x43AC0000#32
  | 125 => 0x43F40000#32
  | 126 => 0x43AC0000#32
  | 127 => 0x43FC0000#32
  | _ => 0#32

noncomputable abbrev lit0t0_75 (i : Nat) : BitVec 32 := match i % 128 with
  | 0 => 0x43B40000#32
  | 1 => 0x41000000#32
  | 2 => 0x43B40000#32
  | 3 => 0x41C00000#32
  | 4 => 0x43B40000#32
  | 5 => 0x42200000#32
  | 6 => 0x43B40000#32
  | 7 => 0x42600000#32
  | 8 => 0x43B40000#32
  | 9 => 0x42900000#32
  | 10 => 0x43B40000#32
  | 11 => 0x42B00000#32
  | 12 => 0x43B40000#32
  | 13 => 0x42D00000#32
  | 14 => 0x43B40000#32
  | 15 => 0x42F00000#32
  | 16 => 0x43B40000#32
  | 17 => 0x43080000#32
  | 18 => 0x43B40000#32
  | 19 => 0x43180000#32
  | 20 => 0x43B40000#32
  | 21 => 0x43280000#32
  | 22 => 0x43B40000#32
  | 23 => 0x43380000#32
  | 24 => 0x43B40000#32
  | 25 => 0x43480000#32
  | 26 => 0x43B40000#32
  | 27 => 0x43580000#32
  | 28 => 0x43B40000#32
  | 29 => 0x43680000#32
  | 30 => 0x43B40000#32
  | 31 => 0x43780000#32
  | 32 => 0x43B40000#32
  | 33 => 0x43840000#32
  | 34 => 0x43B40000#32
  | 35 => 0x438C0000#32
  | 36 => 0x43B40000#32
  | 37 => 0x43940000#32
  | 38 => 0x43B40000#32
  | 39 => 0x439C0000#32
  | 40 => 0x43B40000#32
  | 41 => 0x43A40000#32
  | 42 => 0x43B40000#32
  | 43 => 0x43AC0000#32
  | 44 => 0x43B40000#32
  | 45 => 0x43B40000#32
  | 46 => 0x43B40000#32
  | 47 => 0x43BC0000#32
  | 48 => 0x43B40000#32
  | 49 => 0x43C40000#32
  | 50 => 0x43B40000#32
  | 51 => 0x43CC0000#32
  | 52 => 0x43B40000#32
  | 53 => 0x43D40000#32
  | 54 => 0x43B40000#32
  | 55 => 0x43DC0000#32
  | 56 => 0x43B40000#32
  | 57 => 0x43E40000#32
  | 58 => 0x43B40000#32
  | 59 => 0x43EC0000#32
  | 60 => 0x43B40000#32
  | 61 => 0x43F40000#32
  | 62 => 0x43B40000#32
  | 63 => 0x43FC0000#32
  | 64 => 0x43BC0000#32
  | 65 => 0x41000000#32
  | 66 => 0x43BC0000#32
  | 67 => 0x41C00000#32
  | 68 => 0x43BC0000#32
  | 69 => 0x42200000#32
  | 70 => 0x43BC0000#32
  | 71 => 0x42600000#32
  | 72 => 0x43BC0000#32
  | 73 => 0x42900000#32
  | 74 => 0x43BC0000#32
  | 75 => 0x42B00000#32
  | 76 => 0x43BC0000#32
  | 77 => 0x42D00000#32
  | 78 => 0x43BC0000#32
  | 79 => 0x42F00000#32
  | 80 => 0x43BC0000#32
  | 81 => 0x43080000#32
  | 82 => 0x43BC0000#32
  | 83 => 0x43180000#32
  | 84 => 0x43BC0000#32
  | 85 => 0x43280000#32
  | 86 => 0x43BC0000#32
  | 87 => 0x43380000#32
  | 88 => 0x43BC0000#32
  | 89 => 0x43480000#32
  | 90 => 0x43BC0000#32
  | 91 => 0x43580000#32
  | 92 => 0x43BC0000#32
  | 93 => 0x43680000#32
  | 94 => 0x43BC0000#32
  | 95 => 0x43780000#32
  | 96 => 0x43BC0000#32
  | 97 => 0x43840000#32
  | 98 => 0x43BC0000#32
  | 99 => 0x438C0000#32
  | 100 => 0x43BC0000#32
  | 101 => 0x43940000#32
  | 102 => 0x43BC0000#32
  | 103 => 0x439C0000#32
  | 104 => 0x43BC0000#32
  | 105 => 0x43A40000#32
  | 106 => 0x43BC0000#32
  | 107 => 0x43AC0000#32
  | 108 => 0x43BC0000#32
  | 109 => 0x43B40000#32
  | 110 => 0x43BC0000#32
  | 111 => 0x43BC0000#32
  | 112 => 0x43BC0000#32
  | 113 => 0x43C40000#32
  | 114 => 0x43BC0000#32
  | 115 => 0x43CC0000#32
  | 116 => 0x43BC0000#32
  | 117 => 0x43D40000#32
  | 118 => 0x43BC0000#32
  | 119 => 0x43DC0000#32
  | 120 => 0x43BC0000#32
  | 121 => 0x43E40000#32
  | 122 => 0x43BC0000#32
  | 123 => 0x43EC0000#32
  | 124 => 0x43BC0000#32
  | 125 => 0x43F40000#32
  | 126 => 0x43BC0000#32
  | 127 => 0x43FC0000#32
  | _ => 0#32

noncomputable abbrev lit0t0_76 (i : Nat) : BitVec 32 := match i % 128 with
  | 0 => 0x43C40000#32
  | 1 => 0x41000000#32
  | 2 => 0x43C40000#32
  | 3 => 0x41C00000#32
  | 4 => 0x43C40000#32
  | 5 => 0x42200000#32
  | 6 => 0x43C40000#32
  | 7 => 0x42600000#32
  | 8 => 0x43C40000#32
  | 9 => 0x42900000#32
  | 10 => 0x43C40000#32
  | 11 => 0x42B00000#32
  | 12 => 0x43C40000#32
  | 13 => 0x42D00000#32
  | 14 => 0x43C40000#32
  | 15 => 0x42F00000#32
  | 16 => 0x43C40000#32
  | 17 => 0x43080000#32
  | 18 => 0x43C40000#32
  | 19 => 0x43180000#32
  | 20 => 0x43C40000#32
  | 21 => 0x43280000#32
  | 22 => 0x43C40000#32
  | 23 => 0x43380000#32
  | 24 => 0x43C40000#32
  | 25 => 0x43480000#32
  | 26 => 0x43C40000#32
  | 27 => 0x43580000#32
  | 28 => 0x43C40000#32
  | 29 => 0x43680000#32
  | 30 => 0x43C40000#32
  | 31 => 0x43780000#32
  | 32 => 0x43C40000#32
  | 33 => 0x43840000#32
  | 34 => 0x43C40000#32
  | 35 => 0x438C0000#32
  | 36 => 0x43C40000#32
  | 37 => 0x43940000#32
  | 38 => 0x43C40000#32
  | 39 => 0x439C0000#32
  | 40 => 0x43C40000#32
  | 41 => 0x43A40000#32
  | 42 => 0x43C40000#32
  | 43 => 0x43AC0000#32
  | 44 => 0x43C40000#32
  | 45 => 0x43B40000#32
  | 46 => 0x43C40000#32
  | 47 => 0x43BC0000#32
  | 48 => 0x43C40000#32
  | 49 => 0x43C40000#32
  | 50 => 0x43C40000#32
  | 51 => 0x43CC0000#32
  | 52 => 0x43C40000#32
  | 53 => 0x43D40000#32
  | 54 => 0x43C40000#32
  | 55 => 0x43DC0000#32
  | 56 => 0x43C40000#32
  | 57 => 0x43E40000#32
  | 58 => 0x43C40000#32
  | 59 => 0x43EC0000#32
  | 60 => 0x43C40000#32
  | 61 => 0x43F40000#32
  | 62 => 0x43C40000#32
  | 63 => 0x43FC0000#32
  | 64 => 0x43CC0000#32
  | 65 => 0x41000000#32
  | 66 => 0x43CC0000#32
  | 67 => 0x41C00000#32
  | 68 => 0x43CC0000#32
  | 69 => 0x42200000#32
  | 70 => 0x43CC0000#32
  | 71 => 0x42600000#32
  | 72 => 0x43CC0000#32
  | 73 => 0x42900000#32
  | 74 => 0x43CC0000#32
  | 75 => 0x42B00000#32
  | 76 => 0x43CC0000#32
  | 77 => 0x42D00000#32
  | 78 => 0x43CC0000#32
  | 79 => 0x42F00000#32
  | 80 => 0x43CC0000#32
  | 81 => 0x43080000#32
  | 82 => 0x43CC0000#32
  | 83 => 0x43180000#32
  | 84 => 0x43CC0000#32
  | 85 => 0x43280000#32
  | 86 => 0x43CC0000#32
  | 87 => 0x43380000#32
  | 88 => 0x43CC0000#32
  | 89 => 0x43480000#32
  | 90 => 0x43CC0000#32
  | 91 => 0x43580000#32
  | 92 => 0x43CC0000#32
  | 93 => 0x43680000#32
  | 94 => 0x43CC0000#32
  | 95 => 0x43780000#32
  | 96 => 0x43CC0000#32
  | 97 => 0x43840000#32
  | 98 => 0x43CC0000#32
  | 99 => 0x438C0000#32
  | 100 => 0x43CC0000#32
  | 101 => 0x43940000#32
  | 102 => 0x43CC0000#32
  | 103 => 0x439C0000#32
  | 104 => 0x43CC0000#32
  | 105 => 0x43A40000#32
  | 106 => 0x43CC0000#32
  | 107 => 0x43AC0000#32
  | 108 => 0x43CC0000#32
  | 109 => 0x43B40000#32
  | 110 => 0x43CC0000#32
  | 111 => 0x43BC0000#32
  | 112 => 0x43CC0000#32
  | 113 => 0x43C40000#32
  | 114 => 0x43CC0000#32
  | 115 => 0x43CC0000#32
  | 116 => 0x43CC0000#32
  | 117 => 0x43D40000#32
  | 118 => 0x43CC0000#32
  | 119 => 0x43DC0000#32
  | 120 => 0x43CC0000#32
  | 121 => 0x43E40000#32
  | 122 => 0x43CC0000#32
  | 123 => 0x43EC0000#32
  | 124 => 0x43CC0000#32
  | 125 => 0x43F40000#32
  | 126 => 0x43CC0000#32
  | 127 => 0x43FC0000#32
  | _ => 0#32

noncomputable abbrev lit0t0_77 (i : Nat) : BitVec 32 := match i % 128 with
  | 0 => 0x43D40000#32
  | 1 => 0x41000000#32
  | 2 => 0x43D40000#32
  | 3 => 0x41C00000#32
  | 4 => 0x43D40000#32
  | 5 => 0x42200000#32
  | 6 => 0x43D40000#32
  | 7 => 0x42600000#32
  | 8 => 0x43D40000#32
  | 9 => 0x42900000#32
  | 10 => 0x43D40000#32
  | 11 => 0x42B00000#32
  | 12 => 0x43D40000#32
  | 13 => 0x42D00000#32
  | 14 => 0x43D40000#32
  | 15 => 0x42F00000#32
  | 16 => 0x43D40000#32
  | 17 => 0x43080000#32
  | 18 => 0x43D40000#32
  | 19 => 0x43180000#32
  | 20 => 0x43D40000#32
  | 21 => 0x43280000#32
  | 22 => 0x43D40000#32
  | 23 => 0x43380000#32
  | 24 => 0x43D40000#32
  | 25 => 0x43480000#32
  | 26 => 0x43D40000#32
  | 27 => 0x43580000#32
  | 28 => 0x43D40000#32
  | 29 => 0x43680000#32
  | 30 => 0x43D40000#32
  | 31 => 0x43780000#32
  | 32 => 0x43D40000#32
  | 33 => 0x43840000#32
  | 34 => 0x43D40000#32
  | 35 => 0x438C0000#32
  | 36 => 0x43D40000#32
  | 37 => 0x43940000#32
  | 38 => 0x43D40000#32
  | 39 => 0x439C0000#32
  | 40 => 0x43D40000#32
  | 41 => 0x43A40000#32
  | 42 => 0x43D40000#32
  | 43 => 0x43AC0000#32
  | 44 => 0x43D40000#32
  | 45 => 0x43B40000#32
  | 46 => 0x43D40000#32
  | 47 => 0x43BC0000#32
  | 48 => 0x43D40000#32
  | 49 => 0x43C40000#32
  | 50 => 0x43D40000#32
  | 51 => 0x43CC0000#32
  | 52 => 0x43D40000#32
  | 53 => 0x43D40000#32
  | 54 => 0x43D40000#32
  | 55 => 0x43DC0000#32
  | 56 => 0x43D40000#32
  | 57 => 0x43E40000#32
  | 58 => 0x43D40000#32
  | 59 => 0x43EC0000#32
  | 60 => 0x43D40000#32
  | 61 => 0x43F40000#32
  | 62 => 0x43D40000#32
  | 63 => 0x43FC0000#32
  | 64 => 0x43DC0000#32
  | 65 => 0x41000000#32
  | 66 => 0x43DC0000#32
  | 67 => 0x41C00000#32
  | 68 => 0x43DC0000#32
  | 69 => 0x42200000#32
  | 70 => 0x43DC0000#32
  | 71 => 0x42600000#32
  | 72 => 0x43DC0000#32
  | 73 => 0x42900000#32
  | 74 => 0x43DC0000#32
  | 75 => 0x42B00000#32
  | 76 => 0x43DC0000#32
  | 77 => 0x42D00000#32
  | 78 => 0x43DC0000#32
  | 79 => 0x42F00000#32
  | 80 => 0x43DC0000#32
  | 81 => 0x43080000#32
  | 82 => 0x43DC0000#32
  | 83 => 0x43180000#32
  | 84 => 0x43DC0000#32
  | 85 => 0x43280000#32
  | 86 => 0x43DC0000#32
  | 87 => 0x43380000#32
  | 88 => 0x43DC0000#32
  | 89 => 0x43480000#32
  | 90 => 0x43DC0000#32
  | 91 => 0x43580000#32
  | 92 => 0x43DC0000#32
  | 93 => 0x43680000#32
  | 94 => 0x43DC0000#32
  | 95 => 0x43780000#32
  | 96 => 0x43DC0000#32
  | 97 => 0x43840000#32
  | 98 => 0x43DC0000#32
  | 99 => 0x438C0000#32
  | 100 => 0x43DC0000#32
  | 101 => 0x43940000#32
  | 102 => 0x43DC0000#32
  | 103 => 0x439C0000#32
  | 104 => 0x43DC0000#32
  | 105 => 0x43A40000#32
  | 106 => 0x43DC0000#32
  | 107 => 0x43AC0000#32
  | 108 => 0x43DC0000#32
  | 109 => 0x43B40000#32
  | 110 => 0x43DC0000#32
  | 111 => 0x43BC0000#32
  | 112 => 0x43DC0000#32
  | 113 => 0x43C40000#32
  | 114 => 0x43DC0000#32
  | 115 => 0x43CC0000#32
  | 116 => 0x43DC0000#32
  | 117 => 0x43D40000#32
  | 118 => 0x43DC0000#32
  | 119 => 0x43DC0000#32
  | 120 => 0x43DC0000#32
  | 121 => 0x43E40000#32
  | 122 => 0x43DC0000#32
  | 123 => 0x43EC0000#32
  | 124 => 0x43DC0000#32
  | 125 => 0x43F40000#32
  | 126 => 0x43DC0000#32
  | 127 => 0x43FC0000#32
  | _ => 0#32

noncomputable abbrev lit0t0_78 (i : Nat) : BitVec 32 := match i % 128 with
  | 0 => 0x43E40000#32
  | 1 => 0x41000000#32
  | 2 => 0x43E40000#32
  | 3 => 0x41C00000#32
  | 4 => 0x43E40000#32
  | 5 => 0x42200000#32
  | 6 => 0x43E40000#32
  | 7 => 0x42600000#32
  | 8 => 0x43E40000#32
  | 9 => 0x42900000#32
  | 10 => 0x43E40000#32
  | 11 => 0x42B00000#32
  | 12 => 0x43E40000#32
  | 13 => 0x42D00000#32
  | 14 => 0x43E40000#32
  | 15 => 0x42F00000#32
  | 16 => 0x43E40000#32
  | 17 => 0x43080000#32
  | 18 => 0x43E40000#32
  | 19 => 0x43180000#32
  | 20 => 0x43E40000#32
  | 21 => 0x43280000#32
  | 22 => 0x43E40000#32
  | 23 => 0x43380000#32
  | 24 => 0x43E40000#32
  | 25 => 0x43480000#32
  | 26 => 0x43E40000#32
  | 27 => 0x43580000#32
  | 28 => 0x43E40000#32
  | 29 => 0x43680000#32
  | 30 => 0x43E40000#32
  | 31 => 0x43780000#32
  | 32 => 0x43E40000#32
  | 33 => 0x43840000#32
  | 34 => 0x43E40000#32
  | 35 => 0x438C0000#32
  | 36 => 0x43E40000#32
  | 37 => 0x43940000#32
  | 38 => 0x43E40000#32
  | 39 => 0x439C0000#32
  | 40 => 0x43E40000#32
  | 41 => 0x43A40000#32
  | 42 => 0x43E40000#32
  | 43 => 0x43AC0000#32
  | 44 => 0x43E40000#32
  | 45 => 0x43B40000#32
  | 46 => 0x43E40000#32
  | 47 => 0x43BC0000#32
  | 48 => 0x43E40000#32
  | 49 => 0x43C40000#32
  | 50 => 0x43E40000#32
  | 51 => 0x43CC0000#32
  | 52 => 0x43E40000#32
  | 53 => 0x43D40000#32
  | 54 => 0x43E40000#32
  | 55 => 0x43DC0000#32
  | 56 => 0x43E40000#32
  | 57 => 0x43E40000#32
  | 58 => 0x43E40000#32
  | 59 => 0x43EC0000#32
  | 60 => 0x43E40000#32
  | 61 => 0x43F40000#32
  | 62 => 0x43E40000#32
  | 63 => 0x43FC0000#32
  | 64 => 0x43EC0000#32
  | 65 => 0x41000000#32
  | 66 => 0x43EC0000#32
  | 67 => 0x41C00000#32
  | 68 => 0x43EC0000#32
  | 69 => 0x42200000#32
  | 70 => 0x43EC0000#32
  | 71 => 0x42600000#32
  | 72 => 0x43EC0000#32
  | 73 => 0x42900000#32
  | 74 => 0x43EC0000#32
  | 75 => 0x42B00000#32
  | 76 => 0x43EC0000#32
  | 77 => 0x42D00000#32
  | 78 => 0x43EC0000#32
  | 79 => 0x42F00000#32
  | 80 => 0x43EC0000#32
  | 81 => 0x43080000#32
  | 82 => 0x43EC0000#32
  | 83 => 0x43180000#32
  | 84 => 0x43EC0000#32
  | 85 => 0x43280000#32
  | 86 => 0x43EC0000#32
  | 87 => 0x43380000#32
  | 88 => 0x43EC0000#32
  | 89 => 0x43480000#32
  | 90 => 0x43EC0000#32
  | 91 => 0x43580000#32
  | 92 => 0x43EC0000#32
  | 93 => 0x43680000#32
  | 94 => 0x43EC0000#32
  | 95 => 0x43780000#32
  | 96 => 0x43EC0000#32
  | 97 => 0x43840000#32
  | 98 => 0x43EC0000#32
  | 99 => 0x438C0000#32
  | 100 => 0x43EC0000#32
  | 101 => 0x43940000#32
  | 102 => 0x43EC0000#32
  | 103 => 0x439C0000#32
  | 104 => 0x43EC0000#32
  | 105 => 0x43A40000#32
  | 106 => 0x43EC0000#32
  | 107 => 0x43AC0000#32
  | 108 => 0x43EC0000#32
  | 109 => 0x43B40000#32
  | 110 => 0x43EC0000#32
  | 111 => 0x43BC0000#32
  | 112 => 0x43EC0000#32
  | 113 => 0x43C40000#32
  | 114 => 0x43EC0000#32
  | 115 => 0x43CC0000#32
  | 116 => 0x43EC0000#32
  | 117 => 0x43D40000#32
  | 118 => 0x43EC0000#32
  | 119 => 0x43DC0000#32
  | 120 => 0x43EC0000#32
  | 121 => 0x43E40000#32
  | 122 => 0x43EC0000#32
  | 123 => 0x43EC0000#32
  | 124 => 0x43EC0000#32
  | 125 => 0x43F40000#32
  | 126 => 0x43EC0000#32
  | 127 => 0x43FC0000#32
  | _ => 0#32

noncomputable abbrev lit0t0_79 (i : Nat) : BitVec 32 := match i % 128 with
  | 0 => 0x43F40000#32
  | 1 => 0x41000000#32
  | 2 => 0x43F40000#32
  | 3 => 0x41C00000#32
  | 4 => 0x43F40000#32
  | 5 => 0x42200000#32
  | 6 => 0x43F40000#32
  | 7 => 0x42600000#32
  | 8 => 0x43F40000#32
  | 9 => 0x42900000#32
  | 10 => 0x43F40000#32
  | 11 => 0x42B00000#32
  | 12 => 0x43F40000#32
  | 13 => 0x42D00000#32
  | 14 => 0x43F40000#32
  | 15 => 0x42F00000#32
  | 16 => 0x43F40000#32
  | 17 => 0x43080000#32
  | 18 => 0x43F40000#32
  | 19 => 0x43180000#32
  | 20 => 0x43F40000#32
  | 21 => 0x43280000#32
  | 22 => 0x43F40000#32
  | 23 => 0x43380000#32
  | 24 => 0x43F40000#32
  | 25 => 0x43480000#32
  | 26 => 0x43F40000#32
  | 27 => 0x43580000#32
  | 28 => 0x43F40000#32
  | 29 => 0x43680000#32
  | 30 => 0x43F40000#32
  | 31 => 0x43780000#32
  | 32 => 0x43F40000#32
  | 33 => 0x43840000#32
  | 34 => 0x43F40000#32
  | 35 => 0x438C0000#32
  | 36 => 0x43F40000#32
  | 37 => 0x43940000#32
  | 38 => 0x43F40000#32
  | 39 => 0x439C0000#32
  | 40 => 0x43F40000#32
  | 41 => 0x43A40000#32
  | 42 => 0x43F40000#32
  | 43 => 0x43AC0000#32
  | 44 => 0x43F40000#32
  | 45 => 0x43B40000#32
  | 46 => 0x43F40000#32
  | 47 => 0x43BC0000#32
  | 48 => 0x43F40000#32
  | 49 => 0x43C40000#32
  | 50 => 0x43F40000#32
  | 51 => 0x43CC0000#32
  | 52 => 0x43F40000#32
  | 53 => 0x43D40000#32
  | 54 => 0x43F40000#32
  | 55 => 0x43DC0000#32
  | 56 => 0x43F40000#32
  | 57 => 0x43E40000#32
  | 58 => 0x43F40000#32
  | 59 => 0x43EC0000#32
  | 60 => 0x43F40000#32
  | 61 => 0x43F40000#32
  | 62 => 0x43F40000#32
  | 63 => 0x43FC0000#32
  | 64 => 0x43FC0000#32
  | 65 => 0x41000000#32
  | 66 => 0x43FC0000#32
  | 67 => 0x41C00000#32
  | 68 => 0x43FC0000#32
  | 69 => 0x42200000#32
  | 70 => 0x43FC0000#32
  | 71 => 0x42600000#32
  | 72 => 0x43FC0000#32
  | 73 => 0x42900000#32
  | 74 => 0x43FC0000#32
  | 75 => 0x42B00000#32
  | 76 => 0x43FC0000#32
  | 77 => 0x42D00000#32
  | 78 => 0x43FC0000#32
  | 79 => 0x42F00000#32
  | 80 => 0x43FC0000#32
  | 81 => 0x43080000#32
  | 82 => 0x43FC0000#32
  | 83 => 0x43180000#32
  | 84 => 0x43FC0000#32
  | 85 => 0x43280000#32
  | 86 => 0x43FC0000#32
  | 87 => 0x43380000#32
  | 88 => 0x43FC0000#32
  | 89 => 0x43480000#32
  | 90 => 0x43FC0000#32
  | 91 => 0x43580000#32
  | 92 => 0x43FC0000#32
  | 93 => 0x43680000#32
  | 94 => 0x43FC0000#32
  | 95 => 0x43780000#32
  | 96 => 0x43FC0000#32
  | 97 => 0x43840000#32
  | 98 => 0x43FC0000#32
  | 99 => 0x438C0000#32
  | 100 => 0x43FC0000#32
  | 101 => 0x43940000#32
  | 102 => 0x43FC0000#32
  | 103 => 0x439C0000#32
  | 104 => 0x43FC0000#32
  | 105 => 0x43A40000#32
  | 106 => 0x43FC0000#32
  | 107 => 0x43AC0000#32
  | 108 => 0x43FC0000#32
  | 109 => 0x43B40000#32
  | 110 => 0x43FC0000#32
  | 111 => 0x43BC0000#32
  | 112 => 0x43FC0000#32
  | 113 => 0x43C40000#32
  | 114 => 0x43FC0000#32
  | 115 => 0x43CC0000#32
  | 116 => 0x43FC0000#32
  | 117 => 0x43D40000#32
  | 118 => 0x43FC0000#32
  | 119 => 0x43DC0000#32
  | 120 => 0x43FC0000#32
  | 121 => 0x43E40000#32
  | 122 => 0x43FC0000#32
  | 123 => 0x43EC0000#32
  | 124 => 0x43FC0000#32
  | 125 => 0x43F40000#32
  | 126 => 0x43FC0000#32
  | 127 => 0x43FC0000#32
  | _ => 0#32

noncomputable abbrev lit0t0_80 (i : Nat) : BitVec 32 := match i % 128 with
  | 0 => 0x41800000#32
  | 1 => 0x41800000#32
  | 2 => 0x41800000#32
  | 3 => 0x42400000#32
  | 4 => 0x41800000#32
  | 5 => 0x42A00000#32
  | 6 => 0x41800000#32
  | 7 => 0x42E00000#32
  | 8 => 0x41800000#32
  | 9 => 0x43100000#32
  | 10 => 0x41800000#32
  | 11 => 0x43300000#32
  | 12 => 0x41800000#32
  | 13 => 0x43500000#32
  | 14 => 0x41800000#32
  | 15 => 0x43700000#32
  | 16 => 0x41800000#32
  | 17 => 0x43880000#32
  | 18 => 0x41800000#32
  | 19 => 0x43980000#32
  | 20 => 0x41800000#32
  | 21 => 0x43A80000#32
  | 22 => 0x41800000#32
  | 23 => 0x43B80000#32
  | 24 => 0x41800000#32
  | 25 => 0x43C80000#32
  | 26 => 0x41800000#32
  | 27 => 0x43D80000#32
  | 28 => 0x41800000#32
  | 29 => 0x43E80000#32
  | 30 => 0x41800000#32
  | 31 => 0x43F80000#32
  | 32 => 0x42400000#32
  | 33 => 0x41800000#32
  | 34 => 0x42400000#32
  | 35 => 0x42400000#32
  | 36 => 0x42400000#32
  | 37 => 0x42A00000#32
  | 38 => 0x42400000#32
  | 39 => 0x42E00000#32
  | 40 => 0x42400000#32
  | 41 => 0x43100000#32
  | 42 => 0x42400000#32
  | 43 => 0x43300000#32
  | 44 => 0x42400000#32
  | 45 => 0x43500000#32
  | 46 => 0x42400000#32
  | 47 => 0x43700000#32
  | 48 => 0x42400000#32
  | 49 => 0x43880000#32
  | 50 => 0x42400000#32
  | 51 => 0x43980000#32
  | 52 => 0x42400000#32
  | 53 => 0x43A80000#32
  | 54 => 0x42400000#32
  | 55 => 0x43B80000#32
  | 56 => 0x42400000#32
  | 57 => 0x43C80000#32
  | 58 => 0x42400000#32
  | 59 => 0x43D80000#32
  | 60 => 0x42400000#32
  | 61 => 0x43E80000#32
  | 62 => 0x42400000#32
  | 63 => 0x43F80000#32
  | 64 => 0x42A00000#32
  | 65 => 0x41800000#32
  | 66 => 0x42A00000#32
  | 67 => 0x42400000#32
  | 68 => 0x42A00000#32
  | 69 => 0x42A00000#32
  | 70 => 0x42A00000#32
  | 71 => 0x42E00000#32
  | 72 => 0x42A00000#32
  | 73 => 0x43100000#32
  | 74 => 0x42A00000#32
  | 75 => 0x43300000#32
  | 76 => 0x42A00000#32
  | 77 => 0x43500000#32
  | 78 => 0x42A00000#32
  | 79 => 0x43700000#32
  | 80 => 0x42A00000#32
  | 81 => 0x43880000#32
  | 82 => 0x42A00000#32
  | 83 => 0x43980000#32
  | 84 => 0x42A00000#32
  | 85 => 0x43A80000#32
  | 86 => 0x42A00000#32
  | 87 => 0x43B80000#32
  | 88 => 0x42A00000#32
  | 89 => 0x43C80000#32
  | 90 => 0x42A00000#32
  | 91 => 0x43D80000#32
  | 92 => 0x42A00000#32
  | 93 => 0x43E80000#32
  | 94 => 0x42A00000#32
  | 95 => 0x43F80000#32
  | 96 => 0x42E00000#32
  | 97 => 0x41800000#32
  | 98 => 0x42E00000#32
  | 99 => 0x42400000#32
  | 100 => 0x42E00000#32
  | 101 => 0x42A00000#32
  | 102 => 0x42E00000#32
  | 103 => 0x42E00000#32
  | 104 => 0x42E00000#32
  | 105 => 0x43100000#32
  | 106 => 0x42E00000#32
  | 107 => 0x43300000#32
  | 108 => 0x42E00000#32
  | 109 => 0x43500000#32
  | 110 => 0x42E00000#32
  | 111 => 0x43700000#32
  | 112 => 0x42E00000#32
  | 113 => 0x43880000#32
  | 114 => 0x42E00000#32
  | 115 => 0x43980000#32
  | 116 => 0x42E00000#32
  | 117 => 0x43A80000#32
  | 118 => 0x42E00000#32
  | 119 => 0x43B80000#32
  | 120 => 0x42E00000#32
  | 121 => 0x43C80000#32
  | 122 => 0x42E00000#32
  | 123 => 0x43D80000#32
  | 124 => 0x42E00000#32
  | 125 => 0x43E80000#32
  | 126 => 0x42E00000#32
  | 127 => 0x43F80000#32
  | _ => 0#32

noncomputable abbrev lit0t0_81 (i : Nat) : BitVec 32 := match i % 128 with
  | 0 => 0x43100000#32
  | 1 => 0x41800000#32
  | 2 => 0x43100000#32
  | 3 => 0x42400000#32
  | 4 => 0x43100000#32
  | 5 => 0x42A00000#32
  | 6 => 0x43100000#32
  | 7 => 0x42E00000#32
  | 8 => 0x43100000#32
  | 9 => 0x43100000#32
  | 10 => 0x43100000#32
  | 11 => 0x43300000#32
  | 12 => 0x43100000#32
  | 13 => 0x43500000#32
  | 14 => 0x43100000#32
  | 15 => 0x43700000#32
  | 16 => 0x43100000#32
  | 17 => 0x43880000#32
  | 18 => 0x43100000#32
  | 19 => 0x43980000#32
  | 20 => 0x43100000#32
  | 21 => 0x43A80000#32
  | 22 => 0x43100000#32
  | 23 => 0x43B80000#32
  | 24 => 0x43100000#32
  | 25 => 0x43C80000#32
  | 26 => 0x43100000#32
  | 27 => 0x43D80000#32
  | 28 => 0x43100000#32
  | 29 => 0x43E80000#32
  | 30 => 0x43100000#32
  | 31 => 0x43F80000#32
  | 32 => 0x43300000#32
  | 33 => 0x41800000#32
  | 34 => 0x43300000#32
  | 35 => 0x42400000#32
  | 36 => 0x43300000#32
  | 37 => 0x42A00000#32
  | 38 => 0x43300000#32
  | 39 => 0x42E00000#32
  | 40 => 0x43300000#32
  | 41 => 0x43100000#32
  | 42 => 0x43300000#32
  | 43 => 0x43300000#32
  | 44 => 0x43300000#32
  | 45 => 0x43500000#32
  | 46 => 0x43300000#32
  | 47 => 0x43700000#32
  | 48 => 0x43300000#32
  | 49 => 0x43880000#32
  | 50 => 0x43300000#32
  | 51 => 0x43980000#32
  | 52 => 0x43300000#32
  | 53 => 0x43A80000#32
  | 54 => 0x43300000#32
  | 55 => 0x43B80000#32
  | 56 => 0x43300000#32
  | 57 => 0x43C80000#32
  | 58 => 0x43300000#32
  | 59 => 0x43D80000#32
  | 60 => 0x43300000#32
  | 61 => 0x43E80000#32
  | 62 => 0x43300000#32
  | 63 => 0x43F80000#32
  | 64 => 0x43500000#32
  | 65 => 0x41800000#32
  | 66 => 0x43500000#32
  | 67 => 0x42400000#32
  | 68 => 0x43500000#32
  | 69 => 0x42A00000#32
  | 70 => 0x43500000#32
  | 71 => 0x42E00000#32
  | 72 => 0x43500000#32
  | 73 => 0x43100000#32
  | 74 => 0x43500000#32
  | 75 => 0x43300000#32
  | 76 => 0x43500000#32
  | 77 => 0x43500000#32
  | 78 => 0x43500000#32
  | 79 => 0x43700000#32
  | 80 => 0x43500000#32
  | 81 => 0x43880000#32
  | 82 => 0x43500000#32
  | 83 => 0x43980000#32
  | 84 => 0x43500000#32
  | 85 => 0x43A80000#32
  | 86 => 0x43500000#32
  | 87 => 0x43B80000#32
  | 88 => 0x43500000#32
  | 89 => 0x43C80000#32
  | 90 => 0x43500000#32
  | 91 => 0x43D80000#32
  | 92 => 0x43500000#32
  | 93 => 0x43E80000#32
  | 94 => 0x43500000#32
  | 95 => 0x43F80000#32
  | 96 => 0x43700000#32
  | 97 => 0x41800000#32
  | 98 => 0x43700000#32
  | 99 => 0x42400000#32
  | 100 => 0x43700000#32
  | 101 => 0x42A00000#32
  | 102 => 0x43700000#32
  | 103 => 0x42E00000#32
  | 104 => 0x43700000#32
  | 105 => 0x43100000#32
  | 106 => 0x43700000#32
  | 107 => 0x43300000#32
  | 108 => 0x43700000#32
  | 109 => 0x43500000#32
  | 110 => 0x43700000#32
  | 111 => 0x43700000#32
  | 112 => 0x43700000#32
  | 113 => 0x43880000#32
  | 114 => 0x43700000#32
  | 115 => 0x43980000#32
  | 116 => 0x43700000#32
  | 117 => 0x43A80000#32
  | 118 => 0x43700000#32
  | 119 => 0x43B80000#32
  | 120 => 0x43700000#32
  | 121 => 0x43C80000#32
  | 122 => 0x43700000#32
  | 123 => 0x43D80000#32
  | 124 => 0x43700000#32
  | 125 => 0x43E80000#32
  | 126 => 0x43700000#32
  | 127 => 0x43F80000#32
  | _ => 0#32

noncomputable abbrev lit0t0_82 (i : Nat) : BitVec 32 := match i % 128 with
  | 0 => 0x43880000#32
  | 1 => 0x41800000#32
  | 2 => 0x43880000#32
  | 3 => 0x42400000#32
  | 4 => 0x43880000#32
  | 5 => 0x42A00000#32
  | 6 => 0x43880000#32
  | 7 => 0x42E00000#32
  | 8 => 0x43880000#32
  | 9 => 0x43100000#32
  | 10 => 0x43880000#32
  | 11 => 0x43300000#32
  | 12 => 0x43880000#32
  | 13 => 0x43500000#32
  | 14 => 0x43880000#32
  | 15 => 0x43700000#32
  | 16 => 0x43880000#32
  | 17 => 0x43880000#32
  | 18 => 0x43880000#32
  | 19 => 0x43980000#32
  | 20 => 0x43880000#32
  | 21 => 0x43A80000#32
  | 22 => 0x43880000#32
  | 23 => 0x43B80000#32
  | 24 => 0x43880000#32
  | 25 => 0x43C80000#32
  | 26 => 0x43880000#32
  | 27 => 0x43D80000#32
  | 28 => 0x43880000#32
  | 29 => 0x43E80000#32
  | 30 => 0x43880000#32
  | 31 => 0x43F80000#32
  | 32 => 0x43980000#32
  | 33 => 0x41800000#32
  | 34 => 0x43980000#32
  | 35 => 0x42400000#32
  | 36 => 0x43980000#32
  | 37 => 0x42A00000#32
  | 38 => 0x43980000#32
  | 39 => 0x42E00000#32
  | 40 => 0x43980000#32
  | 41 => 0x43100000#32
  | 42 => 0x43980000#32
  | 43 => 0x43300000#32
  | 44 => 0x43980000#32
  | 45 => 0x43500000#32
  | 46 => 0x43980000#32
  | 47 => 0x43700000#32
  | 48 => 0x43980000#32
  | 49 => 0x43880000#32
  | 50 => 0x43980000#32
  | 51 => 0x43980000#32
  | 52 => 0x43980000#32
  | 53 => 0x43A80000#32
  | 54 => 0x43980000#32
  | 55 => 0x43B80000#32
  | 56 => 0x43980000#32
  | 57 => 0x43C80000#32
  | 58 => 0x43980000#32
  | 59 => 0x43D80000#32
  | 60 => 0x43980000#32
  | 61 => 0x43E80000#32
  | 62 => 0x43980000#32
  | 63 => 0x43F80000#32
  | 64 => 0x43A80000#32
  | 65 => 0x41800000#32
  | 66 => 0x43A80000#32
  | 67 => 0x42400000#32
  | 68 => 0x43A80000#32
  | 69 => 0x42A00000#32
  | 70 => 0x43A80000#32
  | 71 => 0x42E00000#32
  | 72 => 0x43A80000#32
  | 73 => 0x43100000#32
  | 74 => 0x43A80000#32
  | 75 => 0x43300000#32
  | 76 => 0x43A80000#32
  | 77 => 0x43500000#32
  | 78 => 0x43A80000#32
  | 79 => 0x43700000#32
  | 80 => 0x43A80000#32
  | 81 => 0x43880000#32
  | 82 => 0x43A80000#32
  | 83 => 0x43980000#32
  | 84 => 0x43A80000#32
  | 85 => 0x43A80000#32
  | 86 => 0x43A80000#32
  | 87 => 0x43B80000#32
  | 88 => 0x43A80000#32
  | 89 => 0x43C80000#32
  | 90 => 0x43A80000#32
  | 91 => 0x43D80000#32
  | 92 => 0x43A80000#32
  | 93 => 0x43E80000#32
  | 94 => 0x43A80000#32
  | 95 => 0x43F80000#32
  | 96 => 0x43B80000#32
  | 97 => 0x41800000#32
  | 98 => 0x43B80000#32
  | 99 => 0x42400000#32
  | 100 => 0x43B80000#32
  | 101 => 0x42A00000#32
  | 102 => 0x43B80000#32
  | 103 => 0x42E00000#32
  | 104 => 0x43B80000#32
  | 105 => 0x43100000#32
  | 106 => 0x43B80000#32
  | 107 => 0x43300000#32
  | 108 => 0x43B80000#32
  | 109 => 0x43500000#32
  | 110 => 0x43B80000#32
  | 111 => 0x43700000#32
  | 112 => 0x43B80000#32
  | 113 => 0x43880000#32
  | 114 => 0x43B80000#32
  | 115 => 0x43980000#32
  | 116 => 0x43B80000#32
  | 117 => 0x43A80000#32
  | 118 => 0x43B80000#32
  | 119 => 0x43B80000#32
  | 120 => 0x43B80000#32
  | 121 => 0x43C80000#32
  | 122 => 0x43B80000#32
  | 123 => 0x43D80000#32
  | 124 => 0x43B80000#32
  | 125 => 0x43E80000#32
  | 126 => 0x43B80000#32
  | 127 => 0x43F80000#32
  | _ => 0#32

noncomputable abbrev lit0t0_83 (i : Nat) : BitVec 32 := match i % 128 with
  | 0 => 0x43C80000#32
  | 1 => 0x41800000#32
  | 2 => 0x43C80000#32
  | 3 => 0x42400000#32
  | 4 => 0x43C80000#32
  | 5 => 0x42A00000#32
  | 6 => 0x43C80000#32
  | 7 => 0x42E00000#32
  | 8 => 0x43C80000#32
  | 9 => 0x43100000#32
  | 10 => 0x43C80000#32
  | 11 => 0x43300000#32
  | 12 => 0x43C80000#32
  | 13 => 0x43500000#32
  | 14 => 0x43C80000#32
  | 15 => 0x43700000#32
  | 16 => 0x43C80000#32
  | 17 => 0x43880000#32
  | 18 => 0x43C80000#32
  | 19 => 0x43980000#32
  | 20 => 0x43C80000#32
  | 21 => 0x43A80000#32
  | 22 => 0x43C80000#32
  | 23 => 0x43B80000#32
  | 24 => 0x43C80000#32
  | 25 => 0x43C80000#32
  | 26 => 0x43C80000#32
  | 27 => 0x43D80000#32
  | 28 => 0x43C80000#32
  | 29 => 0x43E80000#32
  | 30 => 0x43C80000#32
  | 31 => 0x43F80000#32
  | 32 => 0x43D80000#32
  | 33 => 0x41800000#32
  | 34 => 0x43D80000#32
  | 35 => 0x42400000#32
  | 36 => 0x43D80000#32
  | 37 => 0x42A00000#32
  | 38 => 0x43D80000#32
  | 39 => 0x42E00000#32
  | 40 => 0x43D80000#32
  | 41 => 0x43100000#32
  | 42 => 0x43D80000#32
  | 43 => 0x43300000#32
  | 44 => 0x43D80000#32
  | 45 => 0x43500000#32
  | 46 => 0x43D80000#32
  | 47 => 0x43700000#32
  | 48 => 0x43D80000#32
  | 49 => 0x43880000#32
  | 50 => 0x43D80000#32
  | 51 => 0x43980000#32
  | 52 => 0x43D80000#32
  | 53 => 0x43A80000#32
  | 54 => 0x43D80000#32
  | 55 => 0x43B80000#32
  | 56 => 0x43D80000#32
  | 57 => 0x43C80000#32
  | 58 => 0x43D80000#32
  | 59 => 0x43D80000#32
  | 60 => 0x43D80000#32
  | 61 => 0x43E80000#32
  | 62 => 0x43D80000#32
  | 63 => 0x43F80000#32
  | 64 => 0x43E80000#32
  | 65 => 0x41800000#32
  | 66 => 0x43E80000#32
  | 67 => 0x42400000#32
  | 68 => 0x43E80000#32
  | 69 => 0x42A00000#32
  | 70 => 0x43E80000#32
  | 71 => 0x42E00000#32
  | 72 => 0x43E80000#32
  | 73 => 0x43100000#32
  | 74 => 0x43E80000#32
  | 75 => 0x43300000#32
  | 76 => 0x43E80000#32
  | 77 => 0x43500000#32
  | 78 => 0x43E80000#32
  | 79 => 0x43700000#32
  | 80 => 0x43E80000#32
  | 81 => 0x43880000#32
  | 82 => 0x43E80000#32
  | 83 => 0x43980000#32
  | 84 => 0x43E80000#32
  | 85 => 0x43A80000#32
  | 86 => 0x43E80000#32
  | 87 => 0x43B80000#32
  | 88 => 0x43E80000#32
  | 89 => 0x43C80000#32
  | 90 => 0x43E80000#32
  | 91 => 0x43D80000#32
  | 92 => 0x43E80000#32
  | 93 => 0x43E80000#32
  | 94 => 0x43E80000#32
  | 95 => 0x43F80000#32
  | 96 => 0x43F80000#32
  | 97 => 0x41800000#32
  | 98 => 0x43F80000#32
  | 99 => 0x42400000#32
  | 100 => 0x43F80000#32
  | 101 => 0x42A00000#32
  | 102 => 0x43F80000#32
  | 103 => 0x42E00000#32
  | 104 => 0x43F80000#32
  | 105 => 0x43100000#32
  | 106 => 0x43F80000#32
  | 107 => 0x43300000#32
  | 108 => 0x43F80000#32
  | 109 => 0x43500000#32
  | 110 => 0x43F80000#32
  | 111 => 0x43700000#32
  | 112 => 0x43F80000#32
  | 113 => 0x43880000#32
  | 114 => 0x43F80000#32
  | 115 => 0x43980000#32
  | 116 => 0x43F80000#32
  | 117 => 0x43A80000#32
  | 118 => 0x43F80000#32
  | 119 => 0x43B80000#32
  | 120 => 0x43F80000#32
  | 121 => 0x43C80000#32
  | 122 => 0x43F80000#32
  | 123 => 0x43D80000#32
  | 124 => 0x43F80000#32
  | 125 => 0x43E80000#32
  | 126 => 0x43F80000#32
  | 127 => 0x43F80000#32
  | _ => 0#32

noncomputable abbrev lit0t0_84 (i : Nat) : BitVec 32 := match i % 128 with
  | 0 => 0x42000000#32
  | 1 => 0x42000000#32
  | 2 => 0x42000000#32
  | 3 => 0x42C00000#32
  | 4 => 0x42000000#32
  | 5 => 0x43200000#32
  | 6 => 0x42000000#32
  | 7 => 0x43600000#32
  | 8 => 0x42000000#32
  | 9 => 0x43900000#32
  | 10 => 0x42000000#32
  | 11 => 0x43B00000#32
  | 12 => 0x42000000#32
  | 13 => 0x43D00000#32
  | 14 => 0x42000000#32
  | 15 => 0x43F00000#32
  | 16 => 0x42C00000#32
  | 17 => 0x42000000#32
  | 18 => 0x42C00000#32
  | 19 => 0x42C00000#32
  | 20 => 0x42C00000#32
  | 21 => 0x43200000#32
  | 22 => 0x42C00000#32
  | 23 => 0x43600000#32
  | 24 => 0x42C00000#32
  | 25 => 0x43900000#32
  | 26 => 0x42C00000#32
  | 27 => 0x43B00000#32
  | 28 => 0x42C00000#32
  | 29 => 0x43D00000#32
  | 30 => 0x42C00000#32
  | 31 => 0x43F00000#32
  | 32 => 0x43200000#32
  | 33 => 0x42000000#32
  | 34 => 0x43200000#32
  | 35 => 0x42C00000#32
  | 36 => 0x43200000#32
  | 37 => 0x43200000#32
  | 38 => 0x43200000#32
  | 39 => 0x43600000#32
  | 40 => 0x43200000#32
  | 41 => 0x43900000#32
  | 42 => 0x43200000#32
  | 43 => 0x43B00000#32
  | 44 => 0x43200000#32
  | 45 => 0x43D00000#32
  | 46 => 0x43200000#32
  | 47 => 0x43F00000#32
  | 48 => 0x43600000#32
  | 49 => 0x42000000#32
  | 50 => 0x43600000#32
  | 51 => 0x42C00000#32
  | 52 => 0x43600000#32
  | 53 => 0x43200000#32
  | 54 => 0x43600000#32
  | 55 => 0x43600000#32
  | 56 => 0x43600000#32
  | 57 => 0x43900000#32
  | 58 => 0x43600000#32
  | 59 => 0x43B00000#32
  | 60 => 0x43600000#32
  | 61 => 0x43D00000#32
  | 62 => 0x43600000#32
  | 63 => 0x43F00000#32
  | 64 => 0x43900000#32
  | 65 => 0x42000000#32
  | 66 => 0x43900000#32
  | 67 => 0x42C00000#32
  | 68 => 0x43900000#32
  | 69 => 0x43200000#32
  | 70 => 0x43900000#32
  | 71 => 0x43600000#32
  | 72 => 0x43900000#32
  | 73 => 0x43900000#32
  | 74 => 0x43900000#32
  | 75 => 0x43B00000#32
  | 76 => 0x43900000#32
  | 77 => 0x43D00000#32
  | 78 => 0x43900000#32
  | 79 => 0x43F00000#32
  | 80 => 0x43B00000#32
  | 81 => 0x42000000#32
  | 82 => 0x43B00000#32
  | 83 => 0x42C00000#32
  | 84 => 0x43B00000#32
  | 85 => 0x43200000#32
  | 86 => 0x43B00000#32
  | 87 => 0x43600000#32
  | 88 => 0x43B00000#32
  | 89 => 0x43900000#32
  | 90 => 0x43B00000#32
  | 91 => 0x43B00000#32
  | 92 => 0x43B00000#32
  | 93 => 0x43D00000#32
  | 94 => 0x43B00000#32
  | 95 => 0x43F00000#32
  | 96 => 0x43D00000#32
  | 97 => 0x42000000#32
  | 98 => 0x43D00000#32
  | 99 => 0x42C00000#32
  | 100 => 0x43D00000#32
  | 101 => 0x43200000#32
  | 102 => 0x43D00000#32
  | 103 => 0x43600000#32
  | 104 => 0x43D00000#32
  | 105 => 0x43900000#32
  | 106 => 0x43D00000#32
  | 107 => 0x43B00000#32
  | 108 => 0x43D00000#32
  | 109 => 0x43D00000#32
  | 110 => 0x43D00000#32
  | 111 => 0x43F00000#32
  | 112 => 0x43F00000#32
  | 113 => 0x42000000#32
  | 114 => 0x43F00000#32
  | 115 => 0x42C00000#32
  | 116 => 0x43F00000#32
  | 117 => 0x43200000#32
  | 118 => 0x43F00000#32
  | 119 => 0x43600000#32
  | 120 => 0x43F00000#32
  | 121 => 0x43900000#32
  | 122 => 0x43F00000#32
  | 123 => 0x43B00000#32
  | 124 => 0x43F00000#32
  | 125 => 0x43D00000#32
  | 126 => 0x43F00000#32
  | 127 => 0x43F00000#32
  | _ => 0#32

noncomputable abbrev lit0t0_85 (i : Nat) : BitVec 32 := match i % 128 with
  | 0 => 0x42800000#32
  | 1 => 0x42800000#32
  | 2 => 0x42800000#32
  | 3 => 0x43400000#32
  | 4 => 0x42800000#32
  | 5 => 0x43A00000#32
  | 6 => 0x42800000#32
  | 7 => 0x43E00000#32
  | 8 => 0x43400000#32
  | 9 => 0x42800000#32
  | 10 => 0x43400000#32
  | 11 => 0x43400000#32
  | 12 => 0x43400000#32
  | 13 => 0x43A00000#32
  | 14 => 0x43400000#32
  | 15 => 0x43E00000#32
  | 16 => 0x43A00000#32
  | 17 => 0x42800000#32
  | 18 => 0x43A00000#32
  | 19 => 0x43400000#32
  | 20 => 0x43A00000#32
  | 21 => 0x43A00000#32
  | 22 => 0x43A00000#32
  | 23 => 0x43E00000#32
  | 24 => 0x43E00000#32
  | 25 => 0x42800000#32
  | 26 => 0x43E00000#32
  | 27 => 0x43400000#32
  | 28 => 0x43E00000#32
  | 29 => 0x43A00000#32
  | 30 => 0x43E00000#32
  | 31 => 0x43E00000#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | 53 => lit0t0_53 i
  | 54 => lit0t0_54 i
  | 55 => lit0t0_55 i
  | 56 => lit0t0_56 i
  | 57 => lit0t0_57 i
  | 58 => lit0t0_58 i
  | 59 => lit0t0_59 i
  | 60 => lit0t0_60 i
  | 61 => lit0t0_61 i
  | 62 => lit0t0_62 i
  | 63 => lit0t0_63 i
  | 64 => lit0t0_64 i
  | 65 => lit0t0_65 i
  | 66 => lit0t0_66 i
  | 67 => lit0t0_67 i
  | 68 => lit0t0_68 i
  | 69 => lit0t0_69 i
  | 70 => lit0t0_70 i
  | 71 => lit0t0_71 i
  | 72 => lit0t0_72 i
  | 73 => lit0t0_73 i
  | 74 => lit0t0_74 i
  | 75 => lit0t0_75 i
  | 76 => lit0t0_76 i
  | 77 => lit0t0_77 i
  | 78 => lit0t0_78 i
  | 79 => lit0t0_79 i
  | 80 => lit0t0_80 i
  | 81 => lit0t0_81 i
  | 82 => lit0t0_82 i
  | 83 => lit0t0_83 i
  | 84 => lit0t0_84 i
  | 85 => lit0t0_85 i
  | _ => 0#32

noncomputable abbrev lit0 : Fin 10912 → BitVec 32 := fun ⟨i, _⟩ => lit0t i

def fn_part1 {F : FTy → Type} [FloatOps F] (main_arg2 : FVec F S8x4x17x5456 .f32) (main_v16 : FVec F S8x16 .f32) (main_v18 : FVec F S8x16 .f32) : IVec S_ 1 :=
  let main_v19 : FVec F S8x16 .f32 := Host.negf main_v18
  let main_cst_2 : FVec F S_ .f32 := constant S_ .f32 0x7F800000#32
  let main_v20 : FVec F S8x4x17x5456 .f32 := broadcastInDim S8x4x17x5456 ![] bcast_S_S8x4x17x5456 main_cst_2
  let main_v21 : IVec S8x4x17x5456 1 := cmpf .olt main_arg2 main_v20
  let main_c : IVec S_ 1 := constantI S_ 1 1#1
  let main_v22 : IVec S_ 1 := (fun x v => Host.reduce IntOp.andi x v reducesTo_S8x4x17x5456_S_d0_1_2_3 h_S_) main_v21 main_c
  let main_cst_3 : FVec F S_ .f32 := constant S_ .f32 0x42C00000#32
  let main_v23 : FVec F S8x16 .f32 := broadcastInDim S8x16 ![] bcast_S_S8x16 main_cst_3
  let main_v24 : IVec S8x16 1 := cmpf .ole main_v16 main_v23
  let main_cst_4 : FVec F S_ .f32 := constant S_ .f32 0x37000000#32
  let main_v25 : FVec F S8x16 .f32 := broadcastInDim S8x16 ![] bcast_S_S8x16 main_cst_4
  let main_v26 : FVec F S8x16 .f32 := addf main_v16 main_v25
  let main_v27 : IVec S8x16 1 := cmpf .oge main_v19 main_v26
  let main_v28 : IVec S8x16 1 := andi main_v24 main_v27
  let main_c_5 : IVec S_ 1 := constantI S_ 1 1#1
  let main_v29 : IVec S_ 1 := (fun x v => Host.reduce IntOp.andi x v reducesTo_S8x16_S_d0_1 h_S_) main_v28 main_c_5
  let main_v30 : IVec S_ 1 := andi main_v22 main_v29
  main_v30

def fn {F : FTy → Type} [FloatOps F] (main_arg0 : IVec S8x16 32) (main_arg1 : FVec F S8x16x4 .f32) (main_arg2 : FVec F S8x4x17x5456 .f32) : IVec S_ 1 :=
  let main_cst : FVec F S5456x2 .f32 := fun i => FloatOps.ofBits .f32 (lit0 (S5456x2.rowMajor i))
  let main_v0 : FVec F S8x16x2 .f32 := (extractStridedSlice S8x16x2 ![0, 0, 0] · slices_S8x16x4_S8x16x2_0_0_0) main_arg1
  let main_v1 : FVec F S8x16x2 .f32 := (extractStridedSlice S8x16x2 ![0, 0, 2] · slices_S8x16x4_S8x16x2_0_0_2) main_arg1
  let main_v2 : FVec F S8x16x2 .f32 := addf main_v0 main_v1
  let main_cst_0 : FVec F S_ .f32 := constant S_ .f32 0x40000000#32
  let main_v3 : FVec F S8x16x2 .f32 := broadcastInDim S8x16x2 ![] bcast_S_S8x16x2 main_cst_0
  let main_v4 : FVec F S8x16x2 .f32 := Host.divf main_v2 main_v3
  let main_v5 : FVec F S8x16x1x2 .f32 := broadcastInDim S8x16x1x2 ![0, 1, 3] bcast_S8x16x2_S8x16x1x2_0_1_3 main_v4
  let main_v6 : FVec F S1x1x5456x2 .f32 := broadcastInDim S1x1x5456x2 ![2, 3] bcast_S5456x2_S1x1x5456x2_2_3 main_cst
  let main_v7 : FVec F S8x16x5456x2 .f32 := broadcastInDim S8x16x5456x2 ![0, 1, 2, 3] bcast_S8x16x1x2_S8x16x5456x2_0_1_2_3 main_v5
  let main_v8 : FVec F S8x16x5456x2 .f32 := broadcastInDim S8x16x5456x2 ![0, 1, 2, 3] bcast_S1x1x5456x2_S8x16x5456x2_0_1_2_3 main_v6
  let main_v9 : FVec F S8x16x5456x2 .f32 := subf main_v7 main_v8
  let main_v10 : FVec F S8x16x5456x2 .f32 := mulf main_v9 main_v9
  let main_cst_1 : FVec F S_ .f32 := constant S_ .f32 0x00000000#32
  let main_v11 : FVec F S8x16x5456 .f32 := (fun x v => Host.reduceAdd x v reducesTo_S8x16x5456x2_S8x16x5456_d3 h_S_) main_v10 main_cst_1
  let main_v12 : FVec F S8x16x5456 .f32 := Host.sqrt main_v11
  let main_v13 : FVec F S8x16x5456 .f32 := Host.negf main_v12
  let main_values : FVec F S8x16x46 .f32 := (fun x => (Host.topK S8x16x46 2 (FloatOps.cmpfTotal .gt) x sliceFits_S8x16x5456_S8x16x46).1) main_v13
  let main_indices : IVec S8x16x46 32 := (fun x => (Host.topK S8x16x46 2 (FloatOps.cmpfTotal .gt) x sliceFits_S8x16x5456_S8x16x46).2) main_v13
  let main_v14 : FVec F S8x16x1 .f32 := (extractStridedSlice S8x16x1 ![0, 0, 44] · slices_S8x16x46_S8x16x1_0_0_44) main_values
  let main_v15 : FVec F S8x16 .f32 := shapeCast S8x16 main_v14 shapeCasts_S8x16x1_S8x16
  let main_v16 : FVec F S8x16 .f32 := Host.negf main_v15
  let main_v17 : FVec F S8x16x1 .f32 := (extractStridedSlice S8x16x1 ![0, 0, 45] · slices_S8x16x46_S8x16x1_0_0_45) main_values
  let main_v18 : FVec F S8x16 .f32 := shapeCast S8x16 main_v17 shapeCasts_S8x16x1_S8x16
  fn_part1 (F := F) main_arg2 main_v16 main_v18
-- ==== Kernel.lean ====
abbrev S8x16 : Shape := ⟨2, ![8, 16]⟩
abbrev S8x16x4 : Shape := ⟨3, ![8, 16, 4]⟩
abbrev S8x4x17x5456 : Shape := ⟨4, ![8, 4, 17, 5456]⟩
abbrev S2x5456 : Shape := ⟨2, ![2, 5456]⟩
abbrev S4x5456 : Shape := ⟨2, ![4, 5456]⟩
abbrev S1x5456 : Shape := ⟨2, ![1, 5456]⟩
abbrev S5456x2 : Shape := ⟨2, ![5456, 2]⟩
abbrev S5456 : Shape := ⟨1, ![5456]⟩
abbrev S8x16x1 : Shape := ⟨3, ![8, 16, 1]⟩
abbrev S8x1x16 : Shape := ⟨3, ![8, 1, 16]⟩
abbrev S128x4 : Shape := ⟨2, ![128, 4]⟩
abbrev S8x80x5456 : Shape := ⟨3, ![8, 80, 5456]⟩
abbrev S8x4x5456 : Shape := ⟨3, ![8, 4, 5456]⟩
abbrev S1x4x17x5456 : Shape := ⟨4, ![1, 4, 17, 5456]⟩
abbrev S1x80x5456 : Shape := ⟨3, ![1, 80, 5456]⟩
abbrev S1x4x5456 : Shape := ⟨3, ![1, 4, 5456]⟩
abbrev S128x1 : Shape := ⟨2, ![128, 1]⟩
abbrev S128x5456 : Shape := ⟨2, ![128, 5456]⟩
abbrev S1x16x4 : Shape := ⟨3, ![1, 16, 4]⟩
abbrev S16x4 : Shape := ⟨2, ![16, 4]⟩
abbrev S1x16x1 : Shape := ⟨3, ![1, 16, 1]⟩
abbrev S16x1 : Shape := ⟨2, ![16, 1]⟩
abbrev S1x1x16 : Shape := ⟨3, ![1, 1, 16]⟩
abbrev S1x16 : Shape := ⟨2, ![1, 16]⟩
abbrev S4x17x5456 : Shape := ⟨3, ![4, 17, 5456]⟩
abbrev S1x17 : Shape := ⟨2, ![1, 17]⟩
abbrev S1x17x5456 : Shape := ⟨3, ![1, 17, 5456]⟩
abbrev S17x5456 : Shape := ⟨2, ![17, 5456]⟩
abbrev S16x5456 : Shape := ⟨2, ![16, 5456]⟩
abbrev S16 : Shape := ⟨1, ![16]⟩
abbrev S16x16 : Shape := ⟨2, ![16, 16]⟩
abbrev S80x16 : Shape := ⟨2, ![80, 16]⟩
abbrev S80x5456 : Shape := ⟨2, ![80, 5456]⟩

abbrev nBuf : Space → Nat
  | .hbm => 13
  | .vmem => 15
  | .smem => 0
  | _ => 0

abbrev bufTy : (tb : Table) → Fin (tcTables nBuf tb) → BufTy
  | .hbm, ⟨0, _⟩ => ⟨S8x16, .i32⟩
  | .hbm, ⟨1, _⟩ => ⟨S8x16x4, .f32⟩
  | .hbm, ⟨2, _⟩ => ⟨S8x4x17x5456, .f32⟩
  | .hbm, ⟨3, _⟩ => ⟨S2x5456, .f32⟩
  | .hbm, ⟨4, _⟩ => ⟨S4x5456, .f32⟩
  | .hbm, ⟨5, _⟩ => ⟨S1x5456, .f32⟩
  | .hbm, ⟨6, _⟩ => ⟨S5456x2, .f32⟩
  | .hbm, ⟨7, _⟩ => ⟨S5456, .f32⟩
  | .hbm, ⟨8, _⟩ => ⟨S8x16x1, .i32⟩
  | .hbm, ⟨9, _⟩ => ⟨S8x1x16, .i32⟩
  | .hbm, ⟨10, _⟩ => ⟨S128x4, .f32⟩
  | .hbm, ⟨11, _⟩ => ⟨S8x80x5456, .f32⟩
  | .hbm, ⟨12, _⟩ => ⟨S8x4x5456, .f32⟩
  | .local _ .vmem, ⟨0, _⟩ => ⟨S128x4, .f32⟩
  | .local _ .vmem, ⟨1, _⟩ => ⟨S8x16x4, .f32⟩
  | .local _ .vmem, ⟨2, _⟩ => ⟨S8x16x1, .i32⟩
  | .local _ .vmem, ⟨3, _⟩ => ⟨S8x1x16, .i32⟩
  | .local _ .vmem, ⟨4, _⟩ => ⟨S1x4x17x5456, .f32⟩
  | .local _ .vmem, ⟨5, _⟩ => ⟨S1x4x17x5456, .f32⟩
  | .local _ .vmem, ⟨6, _⟩ => ⟨S2x5456, .f32⟩
  | .local _ .vmem, ⟨7, _⟩ => ⟨S4x5456, .f32⟩
  | .local _ .vmem, ⟨8, _⟩ => ⟨S1x5456, .f32⟩
  | .local _ .vmem, ⟨9, _⟩ => ⟨S1x80x5456, .f32⟩
  | .local _ .vmem, ⟨10, _⟩ => ⟨S1x80x5456, .f32⟩
  | .local _ .vmem, ⟨11, _⟩ => ⟨S1x4x5456, .f32⟩
  | .local _ .vmem, ⟨12, _⟩ => ⟨S1x4x5456, .f32⟩
  | .local _ .vmem, ⟨13, _⟩ => ⟨S128x1, .i32⟩
  | .local _ .vmem, ⟨14, _⟩ => ⟨S128x1, .i32⟩
  | _, _ => ⟨S8x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c25_i32 : BitVec 32 := 25#32
  let v34 : BitVec 32 := Scalar.addi c0_i32_10 c25_i32
  let c1_i32 : BitVec 32 := 1#32
  ⟨c0_i32_10, v34, c1_i32⟩
@[reducible] def k0_t2_loop : Scf.Loop 32 :=
  let c0_i32_14 : BitVec 32 := 0#32
  let c13_i32 : BitVec 32 := 13#32
  let v50 : BitVec 32 := Scalar.addi c0_i32_14 c13_i32
  let c1_i32_15 : BitVec 32 := 1#32
  ⟨c0_i32_14, v50, c1_i32_15⟩
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg0 : BitVec 32 := BitVec.ofNat 32 (i 0).val
  let c1_i32 : BitVec 32 := 1#32
  let v6 : BitVec 32 := Scalar.subi arg0 c1_i32
  let v7 : Index := Scalar.indexCast v6
  let c0 : Index := 0#32
  let c0_3 : Index := 0#32
  ![v7.toNat, 0, 0]
def k0_off2 (i : grid0.Coords) : Fin 3 → Nat :=
  let arg0 : BitVec 32 := BitVec.ofNat 32 (i 0).val
  let c1_i32 : BitVec 32 := 1#32
  let v6 : BitVec 32 := Scalar.subi arg0 c1_i32
  let v10 : Index := Scalar.indexCast v6
  let c0_4 : Index := 0#32
  let c0_5 : Index := 0#32
  ![v10.toNat, 0, 0]
def k0_off3 (i : grid0.Coords) : Fin 3 → Nat :=
  let arg0 : BitVec 32 := BitVec.ofNat 32 (i 0).val
  let c1_i32 : BitVec 32 := 1#32
  let v6 : BitVec 32 := Scalar.subi arg0 c1_i32
  let v14 : Index := Scalar.indexCast v6
  let c0_6 : Index := 0#32
  let c0_7 : Index := 0#32
  ![v14.toNat, 0, 0]
def k0_off4 (i : grid0.Coords) : Fin 2 → Nat :=
  let arg0 : BitVec 32 := BitVec.ofNat 32 (i 0).val
  let c1_i32 : BitVec 32 := 1#32
  let v6 : BitVec 32 := Scalar.subi arg0 c1_i32
  let c16_i32 : BitVec 32 := 16#32
  let v18 : BitVec 32 := Scalar.muli v6 c16_i32
  let v19 : Index := Scalar.indexCast v18
  let c0_8 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .vmem S128x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x16x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x16x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x16 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x17x5456 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x5456 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x5456 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5456 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x80x5456 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x5456 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x16 : Shape := ⟨2, ![8, 16]⟩
abbrev S8x16x4 : Shape := ⟨3, ![8, 16, 4]⟩
abbrev S8x4x17x5456 : Shape := ⟨4, ![8, 4, 17, 5456]⟩
abbrev S5456x2 : Shape := ⟨2, ![5456, 2]⟩
abbrev S5456x4 : Shape := ⟨2, ![5456, 4]⟩
abbrev S5456 : Shape := ⟨1, ![5456]⟩
abbrev S_ : Shape := ⟨0, ![]⟩
abbrev S8x4x5456 : Shape := ⟨3, ![8, 4, 5456]⟩
abbrev S8x4x1x5456 : Shape := ⟨4, ![8, 4, 1, 5456]⟩
abbrev S17 : Shape := ⟨1, ![17]⟩
abbrev S1x1x17x1 : Shape := ⟨4, ![1, 1, 17, 1]⟩
abbrev S8x16x2 : Shape := ⟨3, ![8, 16, 2]⟩
abbrev S8x16x1x2 : Shape := ⟨4, ![8, 16, 1, 2]⟩
abbrev S1x1x5456x2 : Shape := ⟨4, ![1, 1, 5456, 2]⟩
abbrev S8x16x5456x2 : Shape := ⟨4, ![8, 16, 5456, 2]⟩
abbrev S8x16x5456 : Shape := ⟨3, ![8, 16, 5456]⟩
abbrev S8x16x45 : Shape := ⟨3, ![8, 16, 45]⟩
abbrev S8x16x45x1 : Shape := ⟨4, ![8, 16, 45, 1]⟩
abbrev S1x1x1x5456 : Shape := ⟨4, ![1, 1, 1, 5456]⟩
abbrev S8x16x45x5456 : Shape := ⟨4, ![8, 16, 45, 5456]⟩
abbrev S8x16x1 : Shape := ⟨3, ![8, 16, 1]⟩
abbrev S5456x1 : Shape := ⟨2, ![5456, 1]⟩
abbrev S1x1x5456 : Shape := ⟨3, ![1, 1, 5456]⟩
abbrev S8x1x5456 : Shape := ⟨3, ![8, 1, 5456]⟩
abbrev S80 : Shape := ⟨1, ![80]⟩
abbrev S1x1x80x1 : Shape := ⟨4, ![1, 1, 80, 1]⟩
abbrev S8x16x1x5456 : Shape := ⟨4, ![8, 16, 1, 5456]⟩
abbrev S8x16x1x1 : Shape := ⟨4, ![8, 16, 1, 1]⟩
abbrev S8x16x80x1 : Shape := ⟨4, ![8, 16, 80, 1]⟩
abbrev S8x16x80x5456 : Shape := ⟨4, ![8, 16, 80, 5456]⟩
abbrev S8x16x4x5456 : Shape := ⟨4, ![8, 16, 4, 5456]⟩
abbrev S8x80x5456 : Shape := ⟨3, ![8, 80, 5456]⟩
abbrev S8x1x80x5456 : Shape := ⟨4, ![8, 1, 80, 5456]⟩
abbrev S8x5456 : Shape := ⟨2, ![8, 5456]⟩
abbrev S8x1x4x5456 : Shape := ⟨4, ![8, 1, 4, 5456]⟩

abbrev nBuf : Space → Nat
  | .hbm => 566
  | .vmem => 0
  | .smem => 0
  | _ => 0

abbrev hbmTy0_0 (i : Nat) : BufTy := match i % 128 with
  | 0 => ⟨S8x16, .i32⟩
  | 1 => ⟨S8x16x4, .f32⟩
  | 2 => ⟨S8x4x17x5456, .f32⟩
  | 3 => ⟨S5456x2, .f32⟩
  | 4 => ⟨S5456x4, .f32⟩
  | 5 => ⟨S5456, .f32⟩
  | 6 => ⟨S_, .f32⟩
  | 7 => ⟨S8x4x5456, .f32⟩
  | 8 => ⟨S8x4x1x5456, .f32⟩
  | 9 => ⟨S8x4x17x5456, .f32⟩
  | 10 => ⟨S8x4x17x5456, .f32⟩
  | 11 => ⟨S8x4x17x5456, .f32⟩
  | 12 => ⟨S_, .f32⟩
  | 13 => ⟨S8x4x5456, .f32⟩
  | 14 => ⟨S8x4x1x5456, .f32⟩
  | 15 => ⟨S8x4x17x5456, .f32⟩
  | 16 => ⟨S8x4x17x5456, .f32⟩
  | 17 => ⟨S17, .f32⟩
  | 18 => ⟨S1x1x17x1, .f32⟩
  | 19 => ⟨S8x4x17x5456, .f32⟩
  | 20 => ⟨S8x4x17x5456, .f32⟩
  | 21 => ⟨S_, .f32⟩
  | 22 => ⟨S8x4x5456, .f32⟩
  | 23 => ⟨S8x16x2, .f32⟩
  | 24 => ⟨S8x16x2, .f32⟩
  | 25 => ⟨S8x16x2, .f32⟩
  | 26 => ⟨S_, .f32⟩
  | 27 => ⟨S8x16x2, .f32⟩
  | 28 => ⟨S8x16x2, .f32⟩
  | 29 => ⟨S8x16x1x2, .f32⟩
  | 30 => ⟨S1x1x5456x2, .f32⟩
  | 31 => ⟨S8x16x5456x2, .f32⟩
  | 32 => ⟨S8x16x5456x2, .f32⟩
  | 33 => ⟨S8x16x5456x2, .f32⟩
  | 34 => ⟨S8x16x5456x2, .f32⟩
  | 35 => ⟨S_, .f32⟩
  | 36 => ⟨S8x16x5456, .f32⟩
  | 37 => ⟨S8x16x5456, .f32⟩
  | 38 => ⟨S8x16x5456, .f32⟩
  | 39 => ⟨S8x16x45, .f32⟩
  | 40 => ⟨S8x16x45, .i32⟩
  | 41 => ⟨S8x16x45x1, .i32⟩
  | 42 => ⟨S5456, .i32⟩
  | 43 => ⟨S1x1x1x5456, .i32⟩
  | 44 => ⟨S8x16x45x5456, .i32⟩
  | 45 => ⟨S8x16x45x5456, .i32⟩
  | 46 => ⟨S8x16x45x5456, .i1⟩
  | 47 => ⟨S_, .i1⟩
  | 48 => ⟨S8x16x5456, .i1⟩
  | 49 => ⟨S8x16x1, .f32⟩
  | 50 => ⟨S8x16x1, .f32⟩
  | 51 => ⟨S8x16x1, .f32⟩
  | 52 => ⟨S8x16x1, .f32⟩
  | 53 => ⟨S5456x1, .f32⟩
  | 54 => ⟨S5456, .f32⟩
  | 55 => ⟨S5456x1, .f32⟩
  | 56 => ⟨S5456, .f32⟩
  | 57 => ⟨S5456x1, .f32⟩
  | 58 => ⟨S5456, .f32⟩
  | 59 => ⟨S5456x1, .f32⟩
  | 60 => ⟨S5456, .f32⟩
  | 61 => ⟨S5456x1, .f32⟩
  | 62 => ⟨S5456, .f32⟩
  | 63 => ⟨S5456x1, .f32⟩
  | 64 => ⟨S5456, .f32⟩
  | 65 => ⟨S1x1x5456, .f32⟩
  | 66 => ⟨S8x16x5456, .f32⟩
  | 67 => ⟨S8x16x5456, .f32⟩
  | 68 => ⟨S8x16x5456, .f32⟩
  | 69 => ⟨S1x1x5456, .f32⟩
  | 70 => ⟨S8x16x5456, .f32⟩
  | 71 => ⟨S8x16x5456, .f32⟩
  | 72 => ⟨S8x16x5456, .f32⟩
  | 73 => ⟨S8x16x5456, .f32⟩
  | 74 => ⟨S_, .f32⟩
  | 75 => ⟨S8x16x5456, .f32⟩
  | 76 => ⟨S8x16x5456, .f32⟩
  | 77 => ⟨S1x1x5456, .f32⟩
  | 78 => ⟨S8x16x5456, .f32⟩
  | 79 => ⟨S8x16x5456, .f32⟩
  | 80 => ⟨S8x16x5456, .f32⟩
  | 81 => ⟨S1x1x5456, .f32⟩
  | 82 => ⟨S8x16x5456, .f32⟩
  | 83 => ⟨S8x16x5456, .f32⟩
  | 84 => ⟨S8x16x5456, .f32⟩
  | 85 => ⟨S8x16x5456, .f32⟩
  | 86 => ⟨S_, .f32⟩
  | 87 => ⟨S8x16x5456, .f32⟩
  | 88 => ⟨S8x16x5456, .f32⟩
  | 89 => ⟨S8x16x5456, .f32⟩
  | 90 => ⟨S8x16x1, .f32⟩
  | 91 => ⟨S8x16x1, .f32⟩
  | 92 => ⟨S8x16x1, .f32⟩
  | 93 => ⟨S5456, .f32⟩
  | 94 => ⟨S5456, .f32⟩
  | 95 => ⟨S5456, .f32⟩
  | 96 => ⟨S1x1x5456, .f32⟩
  | 97 => ⟨S8x16x5456, .f32⟩
  | 98 => ⟨S8x16x5456, .f32⟩
  | 99 => ⟨S8x16x5456, .f32⟩
  | 100 => ⟨S8x16x5456, .f32⟩
  | 101 => ⟨S8x16x5456, .f32⟩
  | 102 => ⟨S_, .f32⟩
  | 103 => ⟨S_, .f32⟩
  | 104 => ⟨S8x16x5456, .f32⟩
  | 105 => ⟨S8x16x5456, .f32⟩
  | 106 => ⟨S_, .f32⟩
  | 107 => ⟨S8x16, .f32⟩
  | 108 => ⟨S8x16x1, .f32⟩
  | 109 => ⟨S_, .f32⟩
  | 110 => ⟨S8x16x1, .f32⟩
  | 111 => ⟨S8x16x1, .f32⟩
  | 112 => ⟨S8x16x5456, .f32⟩
  | 113 => ⟨S8x16x5456, .f32⟩
  | 114 => ⟨S8x16x5456, .f32⟩
  | 115 => ⟨S8x16x5456, .f32⟩
  | 116 => ⟨S8x16x5456, .f32⟩
  | 117 => ⟨S_, .f32⟩
  | 118 => ⟨S_, .f32⟩
  | 119 => ⟨S8x16x5456, .f32⟩
  | 120 => ⟨S8x16x5456, .f32⟩
  | 121 => ⟨S_, .f32⟩
  | 122 => ⟨S8x16, .f32⟩
  | 123 => ⟨S8x16x1, .f32⟩
  | 124 => ⟨S_, .f32⟩
  | 125 => ⟨S8x16x1, .f32⟩
  | 126 => ⟨S8x16x1, .f32⟩
  | 127 => ⟨S8x16x1, .f32⟩
  | _ => ⟨S8x16, .i32⟩

abbrev hbmTy0_1 (i : Nat) : BufTy := match i % 128 with
  | 0 => ⟨S1x1x5456, .f32⟩
  | 1 => ⟨S8x16x5456, .f32⟩
  | 2 => ⟨S8x16x5456, .f32⟩
  | 3 => ⟨S8x16x5456, .i1⟩
  | 4 => ⟨S1x1x5456, .f32⟩
  | 5 => ⟨S8x16x5456, .f32⟩
  | 6 => ⟨S8x16x5456, .f32⟩
  | 7 => ⟨S8x16x5456, .i1⟩
  | 8 => ⟨S8x16x5456, .i1⟩
  | 9 => ⟨S1x1x5456, .f32⟩
  | 10 => ⟨S8x16x5456, .f32⟩
  | 11 => ⟨S8x16x5456, .f32⟩
  | 12 => ⟨S8x16x5456, .i1⟩
  | 13 => ⟨S8x16x5456, .i1⟩
  | 14 => ⟨S1x1x5456, .f32⟩
  | 15 => ⟨S8x16x5456, .f32⟩
  | 16 => ⟨S8x16x5456, .f32⟩
  | 17 => ⟨S8x16x5456, .i1⟩
  | 18 => ⟨S8x16x5456, .i1⟩
  | 19 => ⟨S8x16x1, .f32⟩
  | 20 => ⟨S8x16x5456, .f32⟩
  | 21 => ⟨S8x16x5456, .i1⟩
  | 22 => ⟨S8x16x5456, .i1⟩
  | 23 => ⟨S8x16x5456, .i1⟩
  | 24 => ⟨S1x1x5456, .f32⟩
  | 25 => ⟨S8x16x5456, .f32⟩
  | 26 => ⟨S8x16x5456, .f32⟩
  | 27 => ⟨S8x16x5456, .f32⟩
  | 28 => ⟨S1x1x5456, .f32⟩
  | 29 => ⟨S8x16x5456, .f32⟩
  | 30 => ⟨S8x16x5456, .f32⟩
  | 31 => ⟨S1x1x5456, .f32⟩
  | 32 => ⟨S8x16x5456, .f32⟩
  | 33 => ⟨S8x16x5456, .f32⟩
  | 34 => ⟨S8x16x5456, .f32⟩
  | 35 => ⟨S1x1x5456, .f32⟩
  | 36 => ⟨S8x16x5456, .f32⟩
  | 37 => ⟨S8x16x5456, .f32⟩
  | 38 => ⟨S1x1x5456, .f32⟩
  | 39 => ⟨S8x16x5456, .f32⟩
  | 40 => ⟨S8x16x5456, .f32⟩
  | 41 => ⟨S8x16x5456, .f32⟩
  | 42 => ⟨S1x1x5456, .f32⟩
  | 43 => ⟨S8x16x5456, .f32⟩
  | 44 => ⟨S8x16x5456, .f32⟩
  | 45 => ⟨S1x1x5456, .f32⟩
  | 46 => ⟨S8x16x5456, .f32⟩
  | 47 => ⟨S8x16x5456, .f32⟩
  | 48 => ⟨S8x16x5456, .f32⟩
  | 49 => ⟨S1x1x5456, .f32⟩
  | 50 => ⟨S8x16x5456, .f32⟩
  | 51 => ⟨S8x16x5456, .f32⟩
  | 52 => ⟨S1x1x5456, .f32⟩
  | 53 => ⟨S8x16x5456, .f32⟩
  | 54 => ⟨S8x16x5456, .f32⟩
  | 55 => ⟨S1x1x5456, .f32⟩
  | 56 => ⟨S8x16x5456, .f32⟩
  | 57 => ⟨S8x16x5456, .f32⟩
  | 58 => ⟨S_, .f32⟩
  | 59 => ⟨S_, .f32⟩
  | 60 => ⟨S_, .f32⟩
  | 61 => ⟨S8x16x5456, .f32⟩
  | 62 => ⟨S8x16x5456, .f32⟩
  | 63 => ⟨S_, .f32⟩
  | 64 => ⟨S8x16x5456, .f32⟩
  | 65 => ⟨S8x16x5456, .f32⟩
  | 66 => ⟨S1x1x5456, .f32⟩
  | 67 => ⟨S8x16x5456, .f32⟩
  | 68 => ⟨S8x16x5456, .f32⟩
  | 69 => ⟨S1x1x5456, .f32⟩
  | 70 => ⟨S8x16x5456, .f32⟩
  | 71 => ⟨S8x16x5456, .f32⟩
  | 72 => ⟨S_, .f32⟩
  | 73 => ⟨S_, .f32⟩
  | 74 => ⟨S_, .f32⟩
  | 75 => ⟨S8x16x5456, .f32⟩
  | 76 => ⟨S8x16x5456, .f32⟩
  | 77 => ⟨S_, .f32⟩
  | 78 => ⟨S8x16x5456, .f32⟩
  | 79 => ⟨S8x16x5456, .f32⟩
  | 80 => ⟨S1x1x5456, .f32⟩
  | 81 => ⟨S8x16x5456, .f32⟩
  | 82 => ⟨S8x16x5456, .f32⟩
  | 83 => ⟨S1x1x5456, .f32⟩
  | 84 => ⟨S8x16x5456, .f32⟩
  | 85 => ⟨S8x16x5456, .f32⟩
  | 86 => ⟨S_, .f32⟩
  | 87 => ⟨S_, .f32⟩
  | 88 => ⟨S_, .f32⟩
  | 89 => ⟨S8x16x5456, .f32⟩
  | 90 => ⟨S8x16x5456, .f32⟩
  | 91 => ⟨S_, .f32⟩
  | 92 => ⟨S8x16x5456, .f32⟩
  | 93 => ⟨S8x16x5456, .f32⟩
  | 94 => ⟨S1x1x5456, .f32⟩
  | 95 => ⟨S8x16x5456, .f32⟩
  | 96 => ⟨S8x16x5456, .f32⟩
  | 97 => ⟨S1x1x5456, .f32⟩
  | 98 => ⟨S8x16x5456, .f32⟩
  | 99 => ⟨S8x16x5456, .f32⟩
  | 100 => ⟨S_, .f32⟩
  | 101 => ⟨S_, .f32⟩
  | 102 => ⟨S_, .f32⟩
  | 103 => ⟨S8x16x5456, .f32⟩
  | 104 => ⟨S8x16x5456, .f32⟩
  | 105 => ⟨S_, .f32⟩
  | 106 => ⟨S8x16x5456, .f32⟩
  | 107 => ⟨S8x16x5456, .f32⟩
  | 108 => ⟨S8x1x5456, .f32⟩
  | 109 => ⟨S8x1x5456, .f32⟩
  | 110 => ⟨S8x1x5456, .f32⟩
  | 111 => ⟨S8x1x5456, .f32⟩
  | 112 => ⟨S1x1x5456, .f32⟩
  | 113 => ⟨S8x1x5456, .f32⟩
  | 114 => ⟨S8x1x5456, .f32⟩
  | 115 => ⟨S1x1x5456, .f32⟩
  | 116 => ⟨S8x1x5456, .f32⟩
  | 117 => ⟨S8x1x5456, .f32⟩
  | 118 => ⟨S_, .f32⟩
  | 119 => ⟨S_, .f32⟩
  | 120 => ⟨S_, .f32⟩
  | 121 => ⟨S8x1x5456, .f32⟩
  | 122 => ⟨S8x1x5456, .f32⟩
  | 123 => ⟨S_, .f32⟩
  | 124 => ⟨S8x1x5456, .f32⟩
  | 125 => ⟨S8x1x5456, .f32⟩
  | 126 => ⟨S1x1x5456, .f32⟩
  | 127 => ⟨S8x1x5456, .f32⟩
  | _ => ⟨S8x16, .i32⟩

abbrev hbmTy0_2 (i : Nat) : BufTy := match i % 128 with
  | 0 => ⟨S8x1x5456, .f32⟩
  | 1 => ⟨S1x1x5456, .f32⟩
  | 2 => ⟨S8x1x5456, .f32⟩
  | 3 => ⟨S8x1x5456, .f32⟩
  | 4 => ⟨S_, .f32⟩
  | 5 => ⟨S_, .f32⟩
  | 6 => ⟨S_, .f32⟩
  | 7 => ⟨S8x1x5456, .f32⟩
  | 8 => ⟨S8x1x5456, .f32⟩
  | 9 => ⟨S_, .f32⟩
  | 10 => ⟨S8x1x5456, .f32⟩
  | 11 => ⟨S8x1x5456, .f32⟩
  | 12 => ⟨S1x1x5456, .f32⟩
  | 13 => ⟨S8x1x5456, .f32⟩
  | 14 => ⟨S8x1x5456, .f32⟩
  | 15 => ⟨S1x1x5456, .f32⟩
  | 16 => ⟨S8x1x5456, .f32⟩
  | 17 => ⟨S8x1x5456, .f32⟩
  | 18 => ⟨S_, .f32⟩
  | 19 => ⟨S_, .f32⟩
  | 20 => ⟨S_, .f32⟩
  | 21 => ⟨S8x1x5456, .f32⟩
  | 22 => ⟨S8x1x5456, .f32⟩
  | 23 => ⟨S_, .f32⟩
  | 24 => ⟨S8x1x5456, .f32⟩
  | 25 => ⟨S8x1x5456, .f32⟩
  | 26 => ⟨S1x1x5456, .f32⟩
  | 27 => ⟨S8x1x5456, .f32⟩
  | 28 => ⟨S8x1x5456, .f32⟩
  | 29 => ⟨S1x1x5456, .f32⟩
  | 30 => ⟨S8x1x5456, .f32⟩
  | 31 => ⟨S8x1x5456, .f32⟩
  | 32 => ⟨S_, .f32⟩
  | 33 => ⟨S_, .f32⟩
  | 34 => ⟨S_, .f32⟩
  | 35 => ⟨S8x1x5456, .f32⟩
  | 36 => ⟨S8x1x5456, .f32⟩
  | 37 => ⟨S_, .f32⟩
  | 38 => ⟨S8x1x5456, .f32⟩
  | 39 => ⟨S8x1x5456, .f32⟩
  | 40 => ⟨S8x16x5456, .f32⟩
  | 41 => ⟨S8x16x5456, .f32⟩
  | 42 => ⟨S8x16x5456, .f32⟩
  | 43 => ⟨S8x16x5456, .f32⟩
  | 44 => ⟨S8x16x5456, .f32⟩
  | 45 => ⟨S_, .f32⟩
  | 46 => ⟨S8x16x5456, .f32⟩
  | 47 => ⟨S8x16x5456, .f32⟩
  | 48 => ⟨S8x16x5456, .f32⟩
  | 49 => ⟨S8x16x5456, .f32⟩
  | 50 => ⟨S8x16x5456, .f32⟩
  | 51 => ⟨S8x16x5456, .f32⟩
  | 52 => ⟨S8x16x5456, .f32⟩
  | 53 => ⟨S_, .f32⟩
  | 54 => ⟨S8x16x5456, .f32⟩
  | 55 => ⟨S8x16x5456, .f32⟩
  | 56 => ⟨S8x16x5456, .f32⟩
  | 57 => ⟨S8x16x5456, .f32⟩
  | 58 => ⟨S8x16x5456, .f32⟩
  | 59 => ⟨S8x16x5456, .f32⟩
  | 60 => ⟨S8x1x5456, .f32⟩
  | 61 => ⟨S8x1x5456, .f32⟩
  | 62 => ⟨S8x1x5456, .f32⟩
  | 63 => ⟨S8x16x5456, .f32⟩
  | 64 => ⟨S8x16x5456, .f32⟩
  | 65 => ⟨S8x16x5456, .f32⟩
  | 66 => ⟨S8x16x5456, .f32⟩
  | 67 => ⟨S80, .i32⟩
  | 68 => ⟨S1x1x80x1, .i32⟩
  | 69 => ⟨S8x16x1x5456, .i1⟩
  | 70 => ⟨S8x16x1x1, .i32⟩
  | 71 => ⟨S8x16x80x1, .i32⟩
  | 72 => ⟨S8x16x80x1, .i32⟩
  | 73 => ⟨S8x16x80x1, .i1⟩
  | 74 => ⟨S8x16x80x5456, .i1⟩
  | 75 => ⟨S8x16x80x5456, .i1⟩
  | 76 => ⟨S8x16x80x5456, .i1⟩
  | 77 => ⟨S8x16x1x5456, .f32⟩
  | 78 => ⟨S8x16x1x5456, .f32⟩
  | 79 => ⟨S8x16x1x5456, .f32⟩
  | 80 => ⟨S8x16x1x5456, .f32⟩
  | 81 => ⟨S8x16x4x5456, .f32⟩
  | 82 => ⟨S_, .f32⟩
  | 83 => ⟨S8x80x5456, .f32⟩
  | 84 => ⟨S_, .f32⟩
  | 85 => ⟨S8x4x5456, .f32⟩
  | 86 => ⟨S8x1x80x5456, .i1⟩
  | 87 => ⟨S8x80x5456, .i1⟩
  | 88 => ⟨S8x1x5456, .f32⟩
  | 89 => ⟨S8x5456, .f32⟩
  | 90 => ⟨S8x1x5456, .f32⟩
  | 91 => ⟨S8x80x5456, .f32⟩
  | 92 => ⟨S8x80x5456, .f32⟩
  | 93 => ⟨S8x1x5456, .i1⟩
  | 94 => ⟨S8x5456, .i1⟩
  | 95 => ⟨S8x1x5456, .i1⟩
  | 96 => ⟨S8x1x4x5456, .f32⟩
  | 97 => ⟨S8x4x5456, .f32⟩
  | 98 => ⟨S8x4x5456, .i1⟩
  | 99 => ⟨S8x4x5456, .f32⟩
  | 100 => ⟨S8x1x80x5456, .i1⟩
  | 101 => ⟨S8x80x5456, .i1⟩
  | 102 => ⟨S8x1x5456, .f32⟩
  | 103 => ⟨S8x5456, .f32⟩
  | 104 => ⟨S8x1x5456, .f32⟩
  | 105 => ⟨S8x80x5456, .f32⟩
  | 106 => ⟨S8x80x5456, .f32⟩
  | 107 => ⟨S8x1x5456, .i1⟩
  | 108 => ⟨S8x5456, .i1⟩
  | 109 => ⟨S8x1x5456, .i1⟩
  | 110 => ⟨S8x1x4x5456, .f32⟩
  | 111 => ⟨S8x4x5456, .f32⟩
  | 112 => ⟨S8x4x5456, .i1⟩
  | 113 => ⟨S8x4x5456, .f32⟩
  | 114 => ⟨S8x1x80x5456, .i1⟩
  | 115 => ⟨S8x80x5456, .i1⟩
  | 116 => ⟨S8x1x5456, .f32⟩
  | 117 => ⟨S8x5456, .f32⟩
  | 118 => ⟨S8x1x5456, .f32⟩
  | 119 => ⟨S8x80x5456, .f32⟩
  | 120 => ⟨S8x80x5456, .f32⟩
  | 121 => ⟨S8x1x5456, .i1⟩
  | 122 => ⟨S8x5456, .i1⟩
  | 123 => ⟨S8x1x5456, .i1⟩
  | 124 => ⟨S8x1x4x5456, .f32⟩
  | 125 => ⟨S8x4x5456, .f32⟩
  | 126 => ⟨S8x4x5456, .i1⟩
  | 127 => ⟨S8x4x5456, .f32⟩
  | _ => ⟨S8x16, .i32⟩

abbrev hbmTy0_3 (i : Nat) : BufTy := match i % 128 with
  | 0 => ⟨S8x1x80x5456, .i1⟩
  | 1 => ⟨S8x80x5456, .i1⟩
  | 2 => ⟨S8x1x5456, .f32⟩
  | 3 => ⟨S8x5456, .f32⟩
  | 4 => ⟨S8x1x5456, .f32⟩
  | 5 => ⟨S8x80x5456, .f32⟩
  | 6 => ⟨S8x80x5456, .f32⟩
  | 7 => ⟨S8x1x5456, .i1⟩
  | 8 => ⟨S8x5456, .i1⟩
  | 9 => ⟨S8x1x5456, .i1⟩
  | 10 => ⟨S8x1x4x5456, .f32⟩
  | 11 => ⟨S8x4x5456, .f32⟩
  | 12 => ⟨S8x4x5456, .i1⟩
  | 13 => ⟨S8x4x5456, .f32⟩
  | 14 => ⟨S8x1x80x5456, .i1⟩
  | 15 => ⟨S8x80x5456, .i1⟩
  | 16 => ⟨S8x1x5456, .f32⟩
  | 17 => ⟨S8x5456, .f32⟩
  | 18 => ⟨S8x1x5456, .f32⟩
  | 19 => ⟨S8x80x5456, .f32⟩
  | 20 => ⟨S8x80x5456, .f32⟩
  | 21 => ⟨S8x1x5456, .i1⟩
  | 22 => ⟨S8x5456, .i1⟩
  | 23 => ⟨S8x1x5456, .i1⟩
  | 24 => ⟨S8x1x4x5456, .f32⟩
  | 25 => ⟨S8x4x5456, .f32⟩
  | 26 => ⟨S8x4x5456, .i1⟩
  | 27 => ⟨S8x4x5456, .f32⟩
  | 28 => ⟨S8x1x80x5456, .i1⟩
  | 29 => ⟨S8x80x5456, .i1⟩
  | 30 => ⟨S8x1x5456, .f32⟩
  | 31 => ⟨S8x5456, .f32⟩
  | 32 => ⟨S8x1x5456, .f32⟩
  | 33 => ⟨S8x80x5456, .f32⟩
  | 34 => ⟨S8x80x5456, .f32⟩
  | 35 => ⟨S8x1x5456, .i1⟩
  | 36 => ⟨S8x5456, .i1⟩
  | 37 => ⟨S8x1x5456, .i1⟩
  | 38 => ⟨S8x1x4x5456, .f32⟩
  | 39 => ⟨S8x4x5456, .f32⟩
  | 40 => ⟨S8x4x5456, .i1⟩
  | 41 => ⟨S8x4x5456, .f32⟩
  | 42 => ⟨S8x1x80x5456, .i1⟩
  | 43 => ⟨S8x80x5456, .i1⟩
  | 44 => ⟨S8x1x5456, .f32⟩
  | 45 => ⟨S8x5456, .f32⟩
  | 46 => ⟨S8x1x5456, .f32⟩
  | 47 => ⟨S8x80x5456, .f32⟩
  | 48 => ⟨S8x80x5456, .f32⟩
  | 49 => ⟨S8x1x5456, .i1⟩
  | 50 => ⟨S8x5456, .i1⟩
  | 51 => ⟨S8x1x5456, .i1⟩
  | 52 => ⟨S8x1x4x5456, .f32⟩
  | 53 => ⟨S8x4x5456, .f32⟩
  | 54 => ⟨S8x4x5456, .i1⟩
  | 55 => ⟨S8x4x5456, .f32⟩
  | 56 => ⟨S8x1x80x5456, .i1⟩
  | 57 => ⟨S8x80x5456, .i1⟩
  | 58 => ⟨S8x1x5456, .f32⟩
  | 59 => ⟨S8x5456, .f32⟩
  | 60 => ⟨S8x1x5456, .f32⟩
  | 61 => ⟨S8x80x5456, .f32⟩
  | 62 => ⟨S8x80x5456, .f32⟩
  | 63 => ⟨S8x1x5456, .i1⟩
  | 64 => ⟨S8x5456, .i1⟩
  | 65 => ⟨S8x1x5456, .i1⟩
  | 66 => ⟨S8x1x4x5456, .f32⟩
  | 67 => ⟨S8x4x5456, .f32⟩
  | 68 => ⟨S8x4x5456, .i1⟩
  | 69 => ⟨S8x4x5456, .f32⟩
  | 70 => ⟨S8x1x80x5456, .i1⟩
  | 71 => ⟨S8x80x5456, .i1⟩
  | 72 => ⟨S8x1x5456, .f32⟩
  | 73 => ⟨S8x5456, .f32⟩
  | 74 => ⟨S8x1x5456, .f32⟩
  | 75 => ⟨S8x80x5456, .f32⟩
  | 76 => ⟨S8x80x5456, .f32⟩
  | 77 => ⟨S8x1x5456, .i1⟩
  | 78 => ⟨S8x5456, .i1⟩
  | 79 => ⟨S8x1x5456, .i1⟩
  | 80 => ⟨S8x1x4x5456, .f32⟩
  | 81 => ⟨S8x4x5456, .f32⟩
  | 82 => ⟨S8x4x5456, .i1⟩
  | 83 => ⟨S8x4x5456, .f32⟩
  | 84 => ⟨S8x1x80x5456, .i1⟩
  | 85 => ⟨S8x80x5456, .i1⟩
  | 86 => ⟨S8x1x5456, .f32⟩
  | 87 => ⟨S8x5456, .f32⟩
  | 88 => ⟨S8x1x5456, .f32⟩
  | 89 => ⟨S8x80x5456, .f32⟩
  | 90 => ⟨S8x80x5456, .f32⟩
  | 91 => ⟨S8x1x5456, .i1⟩
  | 92 => ⟨S8x5456, .i1⟩
  | 93 => ⟨S8x1x5456, .i1⟩
  | 94 => ⟨S8x1x4x5456, .f32⟩
  | 95 => ⟨S8x4x5456, .f32⟩
  | 96 => ⟨S8x4x5456, .i1⟩
  | 97 => ⟨S8x4x5456, .f32⟩
  | 98 => ⟨S8x1x80x5456, .i1⟩
  | 99 => ⟨S8x80x5456, .i1⟩
  | 100 => ⟨S8x1x5456, .f32⟩
  | 101 => ⟨S8x5456, .f32⟩
  | 102 => ⟨S8x1x5456, .f32⟩
  | 103 => ⟨S8x80x5456, .f32⟩
  | 104 => ⟨S8x80x5456, .f32⟩
  | 105 => ⟨S8x1x5456, .i1⟩
  | 106 => ⟨S8x5456, .i1⟩
  | 107 => ⟨S8x1x5456, .i1⟩
  | 108 => ⟨S8x1x4x5456, .f32⟩
  | 109 => ⟨S8x4x5456, .f32⟩
  | 110 => ⟨S8x4x5456, .i1⟩
  | 111 => ⟨S8x4x5456, .f32⟩
  | 112 => ⟨S8x1x80x5456, .i1⟩
  | 113 => ⟨S8x80x5456, .i1⟩
  | 114 => ⟨S8x1x5456, .f32⟩
  | 115 => ⟨S8x5456, .f32⟩
  | 116 => ⟨S8x1x5456, .f32⟩
  | 117 => ⟨S8x80x5456, .f32⟩
  | 118 => ⟨S8x80x5456, .f32⟩
  | 119 => ⟨S8x1x5456, .i1⟩
  | 120 => ⟨S8x5456, .i1⟩
  | 121 => ⟨S8x1x5456, .i1⟩
  | 122 => ⟨S8x1x4x5456, .f32⟩
  | 123 => ⟨S8x4x5456, .f32⟩
  | 124 => ⟨S8x4x5456, .i1⟩
  | 125 => ⟨S8x4x5456, .f32⟩
  | 126 => ⟨S8x1x80x5456, .i1⟩
  | 127 => ⟨S8x80x5456, .i1⟩
  | _ => ⟨S8x16, .i32⟩

abbrev hbmTy0_4 (i : Nat) : BufTy := match i % 128 with
  | 0 => ⟨S8x1x5456, .f32⟩
  | 1 => ⟨S8x5456, .f32⟩
  | 2 => ⟨S8x1x5456, .f32⟩
  | 3 => ⟨S8x80x5456, .f32⟩
  | 4 => ⟨S8x80x5456, .f32⟩
  | 5 => ⟨S8x1x5456, .i1⟩
  | 6 => ⟨S8x5456, .i1⟩
  | 7 => ⟨S8x1x5456, .i1⟩
  | 8 => ⟨S8x1x4x5456, .f32⟩
  | 9 => ⟨S8x4x5456, .f32⟩
  | 10 => ⟨S8x4x5456, .i1⟩
  | 11 => ⟨S8x4x5456, .f32⟩
  | 12 => ⟨S8x1x80x5456, .i1⟩
  | 13 => ⟨S8x80x5456, .i1⟩
  | 14 => ⟨S8x1x5456, .f32⟩
  | 15 => ⟨S8x5456, .f32⟩
  | 16 => ⟨S8x1x5456, .f32⟩
  | 17 => ⟨S8x80x5456, .f32⟩
  | 18 => ⟨S8x80x5456, .f32⟩
  | 19 => ⟨S8x1x5456, .i1⟩
  | 20 => ⟨S8x5456, .i1⟩
  | 21 => ⟨S8x1x5456, .i1⟩
  | 22 => ⟨S8x1x4x5456, .f32⟩
  | 23 => ⟨S8x4x5456, .f32⟩
  | 24 => ⟨S8x4x5456, .i1⟩
  | 25 => ⟨S8x4x5456, .f32⟩
  | 26 => ⟨S8x1x80x5456, .i1⟩
  | 27 => ⟨S8x80x5456, .i1⟩
  | 28 => ⟨S8x1x5456, .f32⟩
  | 29 => ⟨S8x5456, .f32⟩
  | 30 => ⟨S8x1x5456, .f32⟩
  | 31 => ⟨S8x80x5456, .f32⟩
  | 32 => ⟨S8x80x5456, .f32⟩
  | 33 => ⟨S8x1x5456, .i1⟩
  | 34 => ⟨S8x5456, .i1⟩
  | 35 => ⟨S8x1x5456, .i1⟩
  | 36 => ⟨S8x1x4x5456, .f32⟩
  | 37 => ⟨S8x4x5456, .f32⟩
  | 38 => ⟨S8x4x5456, .i1⟩
  | 39 => ⟨S8x4x5456, .f32⟩
  | 40 => ⟨S8x1x80x5456, .i1⟩
  | 41 => ⟨S8x80x5456, .i1⟩
  | 42 => ⟨S8x1x5456, .f32⟩
  | 43 => ⟨S8x5456, .f32⟩
  | 44 => ⟨S8x1x5456, .f32⟩
  | 45 => ⟨S8x80x5456, .f32⟩
  | 46 => ⟨S8x80x5456, .f32⟩
  | 47 => ⟨S8x1x5456, .i1⟩
  | 48 => ⟨S8x5456, .i1⟩
  | 49 => ⟨S8x1x5456, .i1⟩
  | 50 => ⟨S8x1x4x5456, .f32⟩
  | 51 => ⟨S8x4x5456, .f32⟩
  | 52 => ⟨S8x4x5456, .i1⟩
  | 53 => ⟨S8x4x5456, .f32⟩
  | _ => ⟨S8x16, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x16, .i32⟩

abbrev bufTy : (tb : Table) → Fin (tcTables nBuf tb) → BufTy
  | .hbm, ⟨i, _⟩ => hbmTy i
  | _, _ => ⟨S8x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_values : Ref sig .tc := ⟨.hbm, 39, rfl⟩
abbrev main_indices : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_9 : Ref sig .tc := ⟨.hbm, 102, rfl⟩
abbrev main_call0_v0 : Ref sig .tc := ⟨.hbm, 103, rfl⟩
abbrev main_call0_v1 : Ref sig .tc := ⟨.hbm, 104, rfl⟩
abbrev main_v86 : Ref sig .tc := ⟨.hbm, 105, rfl⟩
abbrev main_cst_10 : Ref sig .tc := ⟨.hbm, 106, rfl⟩
abbrev main_v87 : Ref sig .tc := ⟨.hbm, 107, rfl⟩
abbrev main_v88 : Ref sig .tc := ⟨.hbm, 108, rfl⟩
abbrev main_cst_11 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_12 : Ref sig .tc := ⟨.hbm, 117, rfl⟩
abbrev main_call1_v0 : Ref sig .tc := ⟨.hbm, 118, rfl⟩
abbrev main_call1_v1 : Ref sig .tc := ⟨.hbm, 119, rfl⟩
abbrev main_v96 : Ref sig .tc := ⟨.hbm, 120, rfl⟩
abbrev main_cst_13 : Ref sig .tc := ⟨.hbm, 121, rfl⟩
abbrev main_v97 : Ref sig .tc := ⟨.hbm, 122, rfl⟩
abbrev main_v98 : Ref sig .tc := ⟨.hbm, 123, rfl⟩
abbrev main_cst_14 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_cst_15 : Ref sig .tc := ⟨.hbm, 186, rfl⟩
abbrev main_cst_16 : Ref sig .tc := ⟨.hbm, 187, rfl⟩
abbrev main_call2_v0 : Ref sig .tc := ⟨.hbm, 188, rfl⟩
abbrev main_call2_v1 : Ref sig .tc := ⟨.hbm, 189, rfl⟩
abbrev main_call2_v2 : Ref sig .tc := ⟨.hbm, 190, rfl⟩
abbrev main_call2_v3 : Ref sig .tc := ⟨.hbm, 191, rfl⟩
abbrev main_call2_v4 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_cst_17 : Ref sig .tc := ⟨.hbm, 200, rfl⟩
abbrev main_cst_18 : Ref sig .tc := ⟨.hbm, 201, rfl⟩
abbrev main_call3_v0 : Ref sig .tc := ⟨.hbm, 202, rfl⟩
abbrev main_call3_v1 : Ref sig .tc := ⟨.hbm, 203, rfl⟩
abbrev main_call3_v2 : Ref sig .tc := ⟨.hbm, 204, rfl⟩
abbrev main_call3_v3 : Ref sig .tc := ⟨.hbm, 205, rfl⟩
abbrev main_call3_v4 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_cst_19 : Ref sig .tc := ⟨.hbm, 214, rfl⟩
abbrev main_cst_20 : Ref sig .tc := ⟨.hbm, 215, rfl⟩
abbrev main_call4_v0 : Ref sig .tc := ⟨.hbm, 216, rfl⟩
abbrev main_call4_v1 : Ref sig .tc := ⟨.hbm, 217, rfl⟩
abbrev main_call4_v2 : Ref sig .tc := ⟨.hbm, 218, rfl⟩
abbrev main_call4_v3 : Ref sig .tc := ⟨.hbm, 219, rfl⟩
abbrev main_call4_v4 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_cst_21 : Ref sig .tc := ⟨.hbm, 228, rfl⟩
abbrev main_cst_22 : Ref sig .tc := ⟨.hbm, 229, rfl⟩
abbrev main_call5_v0 : Ref sig .tc := ⟨.hbm, 230, rfl⟩
abbrev main_call5_v1 : Ref sig .tc := ⟨.hbm, 231, rfl⟩
abbrev main_call5_v2 : Ref sig .tc := ⟨.hbm, 232, rfl⟩
abbrev main_call5_v3 : Ref sig .tc := ⟨.hbm, 233, rfl⟩
abbrev main_call5_v4 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_cst_23 : Ref sig .tc := ⟨.hbm, 246, rfl⟩
abbrev main_cst_24 : Ref sig .tc := ⟨.hbm, 247, rfl⟩
abbrev main_call6_v0 : Ref sig .tc := ⟨.hbm, 248, rfl⟩
abbrev main_call6_v1 : Ref sig .tc := ⟨.hbm, 249, rfl⟩
abbrev main_call6_v2 : Ref sig .tc := ⟨.hbm, 250, rfl⟩
abbrev main_call6_v3 : Ref sig .tc := ⟨.hbm, 251, rfl⟩
abbrev main_call6_v4 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_cst_25 : Ref sig .tc := ⟨.hbm, 260, rfl⟩
abbrev main_cst_26 : Ref sig .tc := ⟨.hbm, 261, rfl⟩
abbrev main_call7_v0 : Ref sig .tc := ⟨.hbm, 262, rfl⟩
abbrev main_call7_v1 : Ref sig .tc := ⟨.hbm, 263, rfl⟩
abbrev main_call7_v2 : Ref sig .tc := ⟨.hbm, 264, rfl⟩
abbrev main_call7_v3 : Ref sig .tc := ⟨.hbm, 265, rfl⟩
abbrev main_call7_v4 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_cst_27 : Ref sig .tc := ⟨.hbm, 274, rfl⟩
abbrev main_cst_28 : Ref sig .tc := ⟨.hbm, 275, rfl⟩
abbrev main_call8_v0 : Ref sig .tc := ⟨.hbm, 276, rfl⟩
abbrev main_call8_v1 : Ref sig .tc := ⟨.hbm, 277, rfl⟩
abbrev main_call8_v2 : Ref sig .tc := ⟨.hbm, 278, rfl⟩
abbrev main_call8_v3 : Ref sig .tc := ⟨.hbm, 279, rfl⟩
abbrev main_call8_v4 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_cst_29 : Ref sig .tc := ⟨.hbm, 288, rfl⟩
abbrev main_cst_30 : Ref sig .tc := ⟨.hbm, 289, rfl⟩
abbrev main_call9_v0 : Ref sig .tc := ⟨.hbm, 290, rfl⟩
abbrev main_call9_v1 : Ref sig .tc := ⟨.hbm, 291, rfl⟩
abbrev main_call9_v2 : Ref sig .tc := ⟨.hbm, 292, rfl⟩
abbrev main_call9_v3 : Ref sig .tc := ⟨.hbm, 293, rfl⟩
abbrev main_call9_v4 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_cst_31 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_cst_32 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_cst_33 : Ref sig .tc := ⟨.hbm, 338, rfl⟩
abbrev main_v254 : Ref sig .tc := ⟨.hbm, 339, rfl⟩
abbrev main_cst_34 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_call10_v0 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_call11_v0 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_v271 : Ref sig .tc := ⟨.hbm, 359, rfl⟩
abbrev main_v272 : Ref sig .tc := ⟨.hbm, 360, rfl⟩
abbrev main_call12_v0 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_v278 : Ref sig .tc := ⟨.hbm, 367, rfl⟩
abbrev main_call13_v0 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_call14_v0 : Ref sig .tc := ⟨.hbm, 375, rfl⟩
abbrev main_v285 : Ref sig .tc := ⟨.hbm, 376, rfl⟩
abbrev main_v286 : Ref sig .tc := ⟨.hbm, 377, rfl⟩
abbrev main_v287 : Ref sig .tc := ⟨.hbm, 378, rfl⟩
abbrev main_v288 : Ref sig .tc := ⟨.hbm, 379, rfl⟩
abbrev main_v289 : Ref sig .tc := ⟨.hbm, 380, rfl⟩
abbrev main_v290 : Ref sig .tc := ⟨.hbm, 381, rfl⟩
abbrev main_call15_v0 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩
abbrev main_call16_v0 : Ref sig .tc := ⟨.hbm, 389, rfl⟩
abbrev main_v297 : Ref sig .tc := ⟨.hbm, 390, rfl⟩
abbrev main_v298 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_call17_v0 : Ref sig .tc := ⟨.hbm, 396, rfl⟩
abbrev main_v303 : Ref sig .tc := ⟨.hbm, 397, rfl⟩
abbrev main_v304 : Ref sig .tc := ⟨.hbm, 398, rfl⟩
abbrev main_v305 : Ref sig .tc := ⟨.hbm, 399, rfl⟩
abbrev main_v306 : Ref sig .tc := ⟨.hbm, 400, rfl⟩
abbrev main_v307 : Ref sig .tc := ⟨.hbm, 401, rfl⟩
abbrev main_v308 : Ref sig .tc := ⟨.hbm, 402, rfl⟩
abbrev main_call18_v0 : Ref sig .tc := ⟨.hbm, 403, rfl⟩
abbrev main_v309 : Ref sig .tc := ⟨.hbm, 404, rfl⟩
abbrev main_v310 : Ref sig .tc := ⟨.hbm, 405, rfl⟩
abbrev main_v311 : Ref sig .tc := ⟨.hbm, 406, rfl⟩
abbrev main_v312 : Ref sig .tc := ⟨.hbm, 407, rfl⟩
abbrev main_v313 : Ref sig .tc := ⟨.hbm, 408, rfl⟩
abbrev main_v314 : Ref sig .tc := ⟨.hbm, 409, rfl⟩
abbrev main_call19_v0 : Ref sig .tc := ⟨.hbm, 410, rfl⟩
abbrev main_v315 : Ref sig .tc := ⟨.hbm, 411, rfl⟩
abbrev main_v316 : Ref sig .tc := ⟨.hbm, 412, rfl⟩
abbrev main_v317 : Ref sig .tc := ⟨.hbm, 413, rfl⟩
abbrev main_v318 : Ref sig .tc := ⟨.hbm, 414, rfl⟩
abbrev main_v319 : Ref sig .tc := ⟨.hbm, 415, rfl⟩
abbrev main_v320 : Ref sig .tc := ⟨.hbm, 416, rfl⟩
abbrev main_call20_v0 : Ref sig .tc := ⟨.hbm, 417, rfl⟩
abbrev main_v321 : Ref sig .tc := ⟨.hbm, 418, rfl⟩
abbrev main_v322 : Ref sig .tc := ⟨.hbm, 419, rfl⟩
abbrev main_v323 : Ref sig .tc := ⟨.hbm, 420, rfl⟩
abbrev main_v324 : Ref sig .tc := ⟨.hbm, 421, rfl⟩
abbrev main_v325 : Ref sig .tc := ⟨.hbm, 422, rfl⟩
abbrev main_v326 : Ref sig .tc := ⟨.hbm, 423, rfl⟩
abbrev main_call21_v0 : Ref sig .tc := ⟨.hbm, 424, rfl⟩
abbrev main_v327 : Ref sig .tc := ⟨.hbm, 425, rfl⟩
abbrev main_v328 : Ref sig .tc := ⟨.hbm, 426, rfl⟩
abbrev main_v329 : Ref sig .tc := ⟨.hbm, 427, rfl⟩
abbrev main_v330 : Ref sig .tc := ⟨.hbm, 428, rfl⟩
abbrev main_v331 : Ref sig .tc := ⟨.hbm, 429, rfl⟩
abbrev main_v332 : Ref sig .tc := ⟨.hbm, 430, rfl⟩
abbrev main_call22_v0 : Ref sig .tc := ⟨.hbm, 431, rfl⟩
abbrev main_v333 : Ref sig .tc := ⟨.hbm, 432, rfl⟩
abbrev main_v334 : Ref sig .tc := ⟨.hbm, 433, rfl⟩
abbrev main_v335 : Ref sig .tc := ⟨.hbm, 434, rfl⟩
abbrev main_v336 : Ref sig .tc := ⟨.hbm, 435, rfl⟩
abbrev main_v337 : Ref sig .tc := ⟨.hbm, 436, rfl⟩
abbrev main_v338 : Ref sig .tc := ⟨.hbm, 437, rfl⟩
abbrev main_call23_v0 : Ref sig .tc := ⟨.hbm, 438, rfl⟩
abbrev main_v339 : Ref sig .tc := ⟨.hbm, 439, rfl⟩
abbrev main_v340 : Ref sig .tc := ⟨.hbm, 440, rfl⟩
abbrev main_v341 : Ref sig .tc := ⟨.hbm, 441, rfl⟩
abbrev main_v342 : Ref sig .tc := ⟨.hbm, 442, rfl⟩
abbrev main_v343 : Ref sig .tc := ⟨.hbm, 443, rfl⟩
abbrev main_v344 : Ref sig .tc := ⟨.hbm, 444, rfl⟩
abbrev main_call24_v0 : Ref sig .tc := ⟨.hbm, 445, rfl⟩
abbrev main_v345 : Ref sig .tc := ⟨.hbm, 446, rfl⟩
abbrev main_v346 : Ref sig .tc := ⟨.hbm, 447, rfl⟩
abbrev main_v347 : Ref sig .tc := ⟨.hbm, 448, rfl⟩
abbrev main_v348 : Ref sig .tc := ⟨.hbm, 449, rfl⟩
abbrev main_v349 : Ref sig .tc := ⟨.hbm, 450, rfl⟩
abbrev main_v350 : Ref sig .tc := ⟨.hbm, 451, rfl⟩
abbrev main_call25_v0 : Ref sig .tc := ⟨.hbm, 452, rfl⟩
abbrev main_v351 : Ref sig .tc := ⟨.hbm, 453, rfl⟩
abbrev main_v352 : Ref sig .tc := ⟨.hbm, 454, rfl⟩
abbrev main_v353 : Ref sig .tc := ⟨.hbm, 455, rfl⟩
abbrev main_v354 : Ref sig .tc := ⟨.hbm, 456, rfl⟩
abbrev main_v355 : Ref sig .tc := ⟨.hbm, 457, rfl⟩
abbrev main_v356 : Ref sig .tc := ⟨.hbm, 458, rfl⟩
abbrev main_call26_v0 : Ref sig .tc := ⟨.hbm, 459, rfl⟩
abbrev main_v357 : Ref sig .tc := ⟨.hbm, 460, rfl⟩
abbrev main_v358 : Ref sig .tc := ⟨.hbm, 461, rfl⟩
abbrev main_v359 : Ref sig .tc := ⟨.hbm, 462, rfl⟩
abbrev main_v360 : Ref sig .tc := ⟨.hbm, 463, rfl⟩
abbrev main_v361 : Ref sig .tc := ⟨.hbm, 464, rfl⟩
abbrev main_v362 : Ref sig .tc := ⟨.hbm, 465, rfl⟩
abbrev main_call27_v0 : Ref sig .tc := ⟨.hbm, 466, rfl⟩
abbrev main_v363 : Ref sig .tc := ⟨.hbm, 467, rfl⟩
abbrev main_v364 : Ref sig .tc := ⟨.hbm, 468, rfl⟩
abbrev main_v365 : Ref sig .tc := ⟨.hbm, 469, rfl⟩
abbrev main_v366 : Ref sig .tc := ⟨.hbm, 470, rfl⟩
abbrev main_v367 : Ref sig .tc := ⟨.hbm, 471, rfl⟩
abbrev main_v368 : Ref sig .tc := ⟨.hbm, 472, rfl⟩
abbrev main_call28_v0 : Ref sig .tc := ⟨.hbm, 473, rfl⟩
abbrev main_v369 : Ref sig .tc := ⟨.hbm, 474, rfl⟩
abbrev main_v370 : Ref sig .tc := ⟨.hbm, 475, rfl⟩
abbrev main_v371 : Ref sig .tc := ⟨.hbm, 476, rfl⟩
abbrev main_v372 : Ref sig .tc := ⟨.hbm, 477, rfl⟩
abbrev main_v373 : Ref sig .tc := ⟨.hbm, 478, rfl⟩
abbrev main_v374 : Ref sig .tc := ⟨.hbm, 479, rfl⟩
abbrev main_call29_v0 : Ref sig .tc := ⟨.hbm, 480, rfl⟩
abbrev main_v375 : Ref sig .tc := ⟨.hbm, 481, rfl⟩
abbrev main_v376 : Ref sig .tc := ⟨.hbm, 482, rfl⟩
abbrev main_v377 : Ref sig .tc := ⟨.hbm, 483, rfl⟩
abbrev main_v378 : Ref sig .tc := ⟨.hbm, 484, rfl⟩
abbrev main_v379 : Ref sig .tc := ⟨.hbm, 485, rfl⟩
abbrev main_v380 : Ref sig .tc := ⟨.hbm, 486, rfl⟩
abbrev main_call30_v0 : Ref sig .tc := ⟨.hbm, 487, rfl⟩
abbrev main_v381 : Ref sig .tc := ⟨.hbm, 488, rfl⟩
abbrev main_v382 : Ref sig .tc := ⟨.hbm, 489, rfl⟩
abbrev main_v383 : Ref sig .tc := ⟨.hbm, 490, rfl⟩
abbrev main_v384 : Ref sig .tc := ⟨.hbm, 491, rfl⟩
abbrev main_v385 : Ref sig .tc := ⟨.hbm, 492, rfl⟩
abbrev main_v386 : Ref sig .tc := ⟨.hbm, 493, rfl⟩
abbrev main_call31_v0 : Ref sig .tc := ⟨.hbm, 494, rfl⟩
abbrev main_v387 : Ref sig .tc := ⟨.hbm, 495, rfl⟩
abbrev main_v388 : Ref sig .tc := ⟨.hbm, 496, rfl⟩
abbrev main_v389 : Ref sig .tc := ⟨.hbm, 497, rfl⟩
abbrev main_v390 : Ref sig .tc := ⟨.hbm, 498, rfl⟩
abbrev main_v391 : Ref sig .tc := ⟨.hbm, 499, rfl⟩
abbrev main_v392 : Ref sig .tc := ⟨.hbm, 500, rfl⟩
abbrev main_call32_v0 : Ref sig .tc := ⟨.hbm, 501, rfl⟩
abbrev main_v393 : Ref sig .tc := ⟨.hbm, 502, rfl⟩
abbrev main_v394 : Ref sig .tc := ⟨.hbm, 503, rfl⟩
abbrev main_v395 : Ref sig .tc := ⟨.hbm, 504, rfl⟩
abbrev main_v396 : Ref sig .tc := ⟨.hbm, 505, rfl⟩
abbrev main_v397 : Ref sig .tc := ⟨.hbm, 506, rfl⟩
abbrev main_v398 : Ref sig .tc := ⟨.hbm, 507, rfl⟩
abbrev main_call33_v0 : Ref sig .tc := ⟨.hbm, 508, rfl⟩
abbrev main_v399 : Ref sig .tc := ⟨.hbm, 509, rfl⟩
abbrev main_v400 : Ref sig .tc := ⟨.hbm, 510, rfl⟩
abbrev main_v401 : Ref sig .tc := ⟨.hbm, 511, rfl⟩
abbrev main_v402 : Ref sig .tc := ⟨.hbm, 512, rfl⟩
abbrev main_v403 : Ref sig .tc := ⟨.hbm, 513, rfl⟩
abbrev main_v404 : Ref sig .tc := ⟨.hbm, 514, rfl⟩
abbrev main_call34_v0 : Ref sig .tc := ⟨.hbm, 515, rfl⟩
abbrev main_v405 : Ref sig .tc := ⟨.hbm, 516, rfl⟩
abbrev main_v406 : Ref sig .tc := ⟨.hbm, 517, rfl⟩
abbrev main_v407 : Ref sig .tc := ⟨.hbm, 518, rfl⟩
abbrev main_v408 : Ref sig .tc := ⟨.hbm, 519, rfl⟩
abbrev main_v409 : Ref sig .tc := ⟨.hbm, 520, rfl⟩
abbrev main_v410 : Ref sig .tc := ⟨.hbm, 521, rfl⟩
abbrev main_call35_v0 : Ref sig .tc := ⟨.hbm, 522, rfl⟩
abbrev main_v411 : Ref sig .tc := ⟨.hbm, 523, rfl⟩
abbrev main_v412 : Ref sig .tc := ⟨.hbm, 524, rfl⟩
abbrev main_v413 : Ref sig .tc := ⟨.hbm, 525, rfl⟩
abbrev main_v414 : Ref sig .tc := ⟨.hbm, 526, rfl⟩
abbrev main_v415 : Ref sig .tc := ⟨.hbm, 527, rfl⟩
abbrev main_v416 : Ref sig .tc := ⟨.hbm, 528, rfl⟩
abbrev main_call36_v0 : Ref sig .tc := ⟨.hbm, 529, rfl⟩
abbrev main_v417 : Ref sig .tc := ⟨.hbm, 530, rfl⟩
abbrev main_v418 : Ref sig .tc := ⟨.hbm, 531, rfl⟩
abbrev main_v419 : Ref sig .tc := ⟨.hbm, 532, rfl⟩
abbrev main_v420 : Ref sig .tc := ⟨.hbm, 533, rfl⟩
abbrev main_v421 : Ref sig .tc := ⟨.hbm, 534, rfl⟩
abbrev main_v422 : Ref sig .tc := ⟨.hbm, 535, rfl⟩
abbrev main_call37_v0 : Ref sig .tc := ⟨.hbm, 536, rfl⟩
abbrev main_v423 : Ref sig .tc := ⟨.hbm, 537, rfl⟩
abbrev main_v424 : Ref sig .tc := ⟨.hbm, 538, rfl⟩
abbrev main_v425 : Ref sig .tc := ⟨.hbm, 539, rfl⟩
abbrev main_v426 : Ref sig .tc := ⟨.hbm, 540, rfl⟩
abbrev main_v427 : Ref sig .tc := ⟨.hbm, 541, rfl⟩
abbrev main_v428 : Ref sig .tc := ⟨.hbm, 542, rfl⟩
abbrev main_call38_v0 : Ref sig .tc := ⟨.hbm, 543, rfl⟩
abbrev main_v429 : Ref sig .tc := ⟨.hbm, 544, rfl⟩
abbrev main_v430 : Ref sig .tc := ⟨.hbm, 545, rfl⟩
abbrev main_v431 : Ref sig .tc := ⟨.hbm, 546, rfl⟩
abbrev main_v432 : Ref sig .tc := ⟨.hbm, 547, rfl⟩
abbrev main_v433 : Ref sig .tc := ⟨.hbm, 548, rfl⟩
abbrev main_v434 : Ref sig .tc := ⟨.hbm, 549, rfl⟩
abbrev main_call39_v0 : Ref sig .tc := ⟨.hbm, 550, rfl⟩
abbrev main_v435 : Ref sig .tc := ⟨.hbm, 551, rfl⟩
abbrev main_v436 : Ref sig .tc := ⟨.hbm, 552, rfl⟩
abbrev main_v437 : Ref sig .tc := ⟨.hbm, 553, rfl⟩
abbrev main_v438 : Ref sig .tc := ⟨.hbm, 554, rfl⟩
abbrev main_v439 : Ref sig .tc := ⟨.hbm, 555, rfl⟩
abbrev main_v440 : Ref sig .tc := ⟨.hbm, 556, rfl⟩
abbrev main_call40_v0 : Ref sig .tc := ⟨.hbm, 557, rfl⟩
abbrev main_v441 : Ref sig .tc := ⟨.hbm, 558, rfl⟩
abbrev main_v442 : Ref sig .tc := ⟨.hbm, 559, rfl⟩
abbrev main_v443 : Ref sig .tc := ⟨.hbm, 560, rfl⟩
abbrev main_v444 : Ref sig .tc := ⟨.hbm, 561, rfl⟩
abbrev main_v445 : Ref sig .tc := ⟨.hbm, 562, rfl⟩
abbrev main_v446 : Ref sig .tc := ⟨.hbm, 563, rfl⟩
abbrev main_call41_v0 : Ref sig .tc := ⟨.hbm, 564, rfl⟩
abbrev main_v447 : Ref sig .tc := ⟨.hbm, 565, rfl⟩

abbrev nD : Nat := 1
abbrev τ : Topo := Topo.v7x

variable {F : FTy → Type} [FloatOps F]
-- ==== Proof.RefFrame.lean ====
/-
  The reference's frame: it runs, leaves its arguments unchanged, and has no semaphore whose counter could be other
  than zero.
-/
module

public import proofs.«01_k».proof.Proof.Gen.ReferenceIdeal
public import proofs.«01_k».proof.Proof.Gen.ReferenceIdeal.Run
public import Idealize.ShloMosaic.PureOps.Ideal
public import Idealize.ShloMosaic.Lib.Quiescent

@[expose] public section

noncomputable section

namespace Cert.Proof.RefFrame

open Idealize.ShloMosaic Idealize.SL.Sem Cert.ReferenceIdeal Cert.ReferenceIdeal.Gen

/-- The reference ends, its arguments as they were and every semaphore counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h c).2.2.2.2, sem_eq_zero_of_no_sems (by decide) _⟩)
    (Cert.ReferenceIdeal.Value.run (F := Ideal) m ρ)

end Cert.Proof.RefFrame

end
-- ==== Proof.Spec.lean ====
/-
  The target assignment in plain mathematics, one batch at a time, over extended reals: the overlap of two boxes, the
  mean and deviation of a box's overlaps over its chosen anchors, the anchors a box hits, the sides and spans, and the
  box that writes last. Both programs are read to these functions.
-/
module

public import Idealize.ShloMosaic.PureOps.Ideal
public import Idealize.ShloMosaic.Lib.Pointwise

@[expose] public section

noncomputable section

namespace Cert.Proof.Spec

open Idealize.ShloMosaic

/-- The distance of a box's centre from an anchor point. -/
def centre (q : Fin 4 → EReal) (p : Fin 2 → EReal) : EReal :=
  Ideal.sqrt
    ((Ideal.div (q 0 + q 2) (Ideal.ofBits .f32 1073741824#32) - p 0) * (Ideal.div (q 0 + q 2) (Ideal.ofBits .f32 1073741824#32) - p 0) +
      (Ideal.div (q 1 + q 3) (Ideal.ofBits .f32 1073741824#32) - p 1) * (Ideal.div (q 1 + q 3) (Ideal.ofBits .f32 1073741824#32) - p 1))

/-- The area two boxes share. -/
def inter (q a : Fin 4 → EReal) : EReal :=
  max (min (q 2) (a 2) - max (q 0) (a 0)) 0 * max (min (q 3) (a 3) - max (q 1) (a 1)) 0

/-- Intersection over union. -/
def overlap (q a : Fin 4 → EReal) : EReal :=
  Ideal.div (inter q a) ((q 2 - q 0) * (q 3 - q 1) + (a 2 - a 0) * (a 3 - a 1) - inter q a)

/-- The mean of a row over its chosen places. -/
def mean (S : Fin 5456 → BitVec 1) (v : Fin 5456 → EReal) : EReal :=
  Ideal.div (∑ x, Scalar.select (S x) (v x) 0) (Ideal.ofBits .f32 1110704128#32)

/-- The mean plus the deviation of a row over its chosen places. -/
def thresh (S : Fin 5456 → BitVec 1) (v : Fin 5456 → EReal) : EReal :=
  mean S v + Ideal.sqrt (Ideal.div (∑ x, Scalar.select (S x) ((v x - mean S v) * (v x - mean S v)) 0)
    (Ideal.ofBits .f32 1110441984#32))

/-- Whether a point lies in a box. -/
def inside (q : Fin 4 → EReal) (p : Fin 2 → EReal) : BitVec 1 :=
  IntOp.andi (IntOp.andi (BitVec.ofBool (decide (q 0 ≤ p 0))) (BitVec.ofBool (decide (p 0 ≤ q 2))))
    (IntOp.andi (BitVec.ofBool (decide (q 1 ≤ p 1))) (BitVec.ofBool (decide (p 1 ≤ q 3))))

/-- Whether a box hits an anchor: the anchor is chosen, its overlap reaches the threshold and its point lies inside. -/
def hit (S : Fin 5456 → BitVec 1) (q : Fin 4 → EReal) (pts : Fin 5456 → Fin 2 → EReal) (ab : Fin 5456 → Fin 4 → EReal)
    (x : Fin 5456) : BitVec 1 :=
  IntOp.andi
    (IntOp.andi (S x) (BitVec.ofBool (decide (thresh S (fun y => overlap q (ab y)) ≤ overlap q (ab x)))))
    (inside q (pts x))

/-- The distances of a point to a box's sides, in strides. -/
def side (q : Fin 4 → EReal) (p : Fin 2 → EReal) (s : EReal) : Fin 4 → EReal :=
  ![Ideal.div (p 0 - q 0) s, Ideal.div (p 1 - q 1) s, Ideal.div (q 2 - p 0) s, Ideal.div (q 3 - p 1) s]

/-- A coordinate brought into the image. -/
def clip (y : EReal) : EReal := min (Ideal.ofBits .f32 1140850688#32) (max 0 y)

/-- The box that four distances in strides span about a point. -/
def span (p : Fin 2 → EReal) (s : EReal) (d : Fin 4 → EReal) : Fin 4 → EReal :=
  ![clip (p 0 - d 0 * s), clip (p 1 - d 1 * s), clip (p 0 + d 2 * s), clip (p 1 + d 3 * s)]

/-- The value of the last place that is marked, `d` where none is. -/
def last : (n : ℕ) → (Fin n → BitVec 1) → (Fin n → EReal) → EReal → EReal
  | 0, _, _, d => d
  | n + 1, h, v, d => Scalar.select (h (Fin.last n)) (v (Fin.last n)) (last n (fun g => h g.castSucc) (fun g => v g.castSucc) d)

/-- The overlap of the spans of the box's own and the predicted distances. -/
def quality (q : Fin 4 → EReal) (p : Fin 2 → EReal) (s : EReal) (pd : Fin 4 → EReal) : EReal :=
  overlap (span p s (side q p s)) (span p s pd)

/-- The first result of a batch at a class and an anchor. -/
def qfl (S : Fin 16 → Fin 5456 → BitVec 1) (box : Fin 16 → Fin 4 → EReal) (pts : Fin 5456 → Fin 2 → EReal)
    (ab : Fin 5456 → Fin 4 → EReal) (st : Fin 5456 → EReal) (pd : Fin 5456 → Fin 4 → EReal) (cls : Fin 16 → BitVec 32)
    (c : Fin 80) (x : Fin 5456) : EReal :=
  last 16 (fun g => IntOp.andi (hit (S g) (box g) pts ab x) (IntOp.cmpi .eq (cls g) (BitVec.ofNat 32 c.val)))
    (fun g => quality (box g) (pts x) (st x) (pd x)) 0

/-- The second result of a batch at a side and an anchor. -/
def dfl (S : Fin 16 → Fin 5456 → BitVec 1) (box : Fin 16 → Fin 4 → EReal) (pts : Fin 5456 → Fin 2 → EReal)
    (ab : Fin 5456 → Fin 4 → EReal) (st : Fin 5456 → EReal) (k : Fin 4) (x : Fin 5456) : EReal :=
  last 16 (fun g => hit (S g) (box g) pts ab x) (fun g => side (box g) (pts x) (st x) k) (Ideal.ofBits .f32 2139095040#32)

/-! ### Marks as numbers -/

theorem bit_cases (b : BitVec 1) : b = 0#1 ∨ b = 1#1 := by
  revert b; decide

/-- A mark read as a number is one or zero. -/
theorem flag (b : BitVec 1) : FloatOps.sitofp (F := Ideal) .f32 (BitVec.setWidth 32 b) = Scalar.select b (1 : EReal) 0 := by
  have h : FloatOps.sitofp (F := Ideal) .f32 (BitVec.setWidth 32 b) = (((BitVec.setWidth 32 b).toInt : ℝ) : EReal) := rfl
  rw [h]
  rcases bit_cases b with rfl | rfl
  · have e : (BitVec.setWidth 32 (0#1)).toInt = 0 := by decide
    rw [e]; simp [Scalar.select]
  · have e : (BitVec.setWidth 32 (1#1)).toInt = 1 := by decide
    rw [e]; simp [Scalar.select]

theorem sel_one {α : Type} {c : BitVec 1} (h : c = 1#1) (a b : α) : Scalar.select c a b = a := if_pos h

theorem sel_zero {α : Type} {c : BitVec 1} (h : c ≠ 1#1) (a b : α) : Scalar.select c a b = b := if_neg h

theorem mul_flag (b : BitVec 1) (v : EReal) : v * Scalar.select b (1 : EReal) 0 = Scalar.select b v 0 := by
  rcases bit_cases b with rfl | rfl <;> simp [Scalar.select]

theorem flag_mul (b : BitVec 1) (v : EReal) : Scalar.select b (1 : EReal) 0 * v = Scalar.select b v 0 := by
  rcases bit_cases b with rfl | rfl <;> simp [Scalar.select]

theorem andi_one (a b : BitVec 1) : IntOp.andi a b = 1#1 ↔ a = 1#1 ∧ b = 1#1 := by
  revert a b; decide

theorem bool_one (b : Bool) : BitVec.ofBool b = 1#1 ↔ b = true := by
  cases b <;> decide

theorem eq_one (n : ℕ) (a b : BitVec n) : IntOp.cmpi .eq a b = 1#1 ↔ a = b := by
  have h : IntOp.cmpi .eq a b = BitVec.ofBool (decide (a = b)) := rfl
  rw [h, bool_one, decide_eq_true_eq]

/-- Two marks that are set together are equal. -/
theorem bit_ext (a b : BitVec 1) (h : a = 1#1 ↔ b = 1#1) : a = b := by
  rcases bit_cases a with rfl | rfl <;> rcases bit_cases b with rfl | rfl <;> simp_all

/-! ### The last marked place -/

theorem last_none (n : ℕ) (h : Fin n → BitVec 1) (v : Fin n → EReal) (d : EReal) (hn : ∀ g, h g ≠ 1#1) : last n h v d = d := by
  induction n with
  | zero => rfl
  | succ n ih =>
    unfold last
    rw [sel_zero (hn _), ih _ _ fun g => hn _]

theorem last_some (n : ℕ) (h : Fin n → BitVec 1) (v : Fin n → EReal) (d : EReal) (g : Fin n) (hg : h g = 1#1)
    (hl : ∀ g', g < g' → h g' ≠ 1#1) : last n h v d = v g := by
  induction n with
  | zero => exact g.elim0
  | succ n ih =>
    unfold last
    induction g using Fin.lastCases with
    | last => rw [sel_one hg]
    | cast g =>
      rw [sel_zero (hl _ (Fin.castSucc_lt_last g))]
      exact ih (fun g => h g.castSucc) (fun g => v g.castSucc) g hg fun g' hg' => hl _ (Fin.castSucc_lt_castSucc_iff.mpr hg')

/-- There is a last marked place, or none is marked. -/
theorem last_exists (n : ℕ) (h : Fin n → BitVec 1) :
    (∀ g, h g ≠ 1#1) ∨ ∃ g, h g = 1#1 ∧ ∀ g', g < g' → h g' ≠ 1#1 := by
  by_cases hn : ∀ g, h g ≠ 1#1
  · exact Or.inl hn
  · right
    rw [not_forall] at hn
    obtain ⟨g, hg⟩ := hn
    rw [not_not] at hg
    have hs : (Finset.univ.filter fun g => h g = 1#1).Nonempty := ⟨g, by simp [hg]⟩
    refine ⟨(Finset.univ.filter fun g => h g = 1#1).max' hs, ?_, ?_⟩
    · have := Finset.max'_mem _ hs
      exact (Finset.mem_filter.mp this).2
    · intro g' hl hg'
      exact absurd (Finset.le_max' _ g' (by simp [hg'])) (not_le.mpr hl)

/-- A sum of values marked at the last marked place alone is that place's value. -/
theorem sum_last (n : ℕ) (h e : Fin n → BitVec 1) (v : Fin n → EReal)
    (he : ∀ g, e g = 1#1 ↔ h g = 1#1 ∧ ∀ g', g < g' → h g' ≠ 1#1) :
    ∑ g, Scalar.select (e g) (v g) 0 = last n h v 0 := by
  rcases last_exists n h with hn | ⟨g, hg, hl⟩
  · rw [last_none n h v 0 hn]
    apply Finset.sum_eq_zero
    intro g _
    apply sel_zero
    exact fun hc => hn g ((he g).mp hc).1
  · rw [last_some n h v 0 g hg hl, Finset.sum_eq_single g]
    · exact sel_one ((he g).mpr ⟨hg, hl⟩) _ _
    · intro g' _ hne
      apply sel_zero
      intro hc
      obtain ⟨h1, h2⟩ := (he g').mp hc
      rcases lt_or_gt_of_ne hne with hlt | hgt
      · exact h2 g hlt hg
      · exact hl g' hgt h1
    · intro hc; exact absurd (Finset.mem_univ g) hc

end Cert.Proof.Spec

end
-- ==== Proof.Forms.lean ====
/-
  The kernel's way of computing what the specification states: sums weighted by marks instead of selected sums, the last
  box of a class by counting the later ones of that class, the last box of an anchor by the greatest of the hit boxes'
  numbers, and the expected distance as one quotient of two sums of exponentials.
-/
module

public import proofs.«01_k».proof.Proof.Spec

@[expose] public section

noncomputable section

namespace Cert.Proof.Forms

open Idealize.ShloMosaic Spec

/-- A sum of marks counts to zero exactly when no place is marked. -/
theorem sum_marks (n : ℕ) (e : Fin n → BitVec 1) : ∑ g, Scalar.select (e g) (1 : EReal) 0 = 0 ↔ ∀ g, e g ≠ 1#1 := by
  have hnn : ∀ g ∈ Finset.univ, (0 : EReal) ≤ Scalar.select (e g) (1 : EReal) 0 := by
    intro g _
    by_cases h : e g = 1#1
    · rw [sel_one h]; exact zero_le_one
    · rw [sel_zero h]
  rw [Finset.sum_eq_zero_iff_of_nonneg hnn]
  constructor
  · intro h g hc
    have := h g (Finset.mem_univ g)
    rw [sel_one hc] at this
    exact one_ne_zero this
  · intro h g _
    exact sel_zero (h g) _ _

theorem sgt_one (g g' : Fin 16) : IntOp.cmpi .sgt (BitVec.ofNat 32 g'.val) (BitVec.ofNat 32 g.val) = 1#1 ↔ g < g' := by
  revert g g'; decide

theorem select_select (a b : BitVec 1) (v : EReal) :
    Scalar.select a (Scalar.select b v 0) 0 = Scalar.select (IntOp.andi a b) v 0 := by
  rcases bit_cases a with rfl | rfl <;> rcases bit_cases b with rfl | rfl <;> simp [Scalar.select, IntOp.andi]

/-- The first result as the kernel sums it: over the boxes of the class, the hit ones that no later hit one of the same class
    follows. -/
theorem qfl_sum (c : Fin 80) (cls : Fin 16 → BitVec 32) (m : Fin 16 → BitVec 1) (q : Fin 16 → EReal) :
    ∑ g : Fin 16, FloatOps.sitofp (F := Ideal) .f32 (BitVec.setWidth 32 (IntOp.cmpi .eq (BitVec.ofNat 32 c.val) (cls g))) *
        (FloatOps.sitofp (F := Ideal) .f32 (BitVec.setWidth 32 (m g)) *
            FloatOps.sitofp (F := Ideal) .f32 (BitVec.setWidth 32 (BitVec.ofBool (decide
              (∑ g' : Fin 16, FloatOps.sitofp (F := Ideal) .f32 (BitVec.setWidth 32
                  (IntOp.andi (IntOp.cmpi .eq (cls g) (cls g')) (IntOp.cmpi .sgt (BitVec.ofNat 32 g'.val) (BitVec.ofNat 32 g.val)))) *
                FloatOps.sitofp (F := Ideal) .f32 (BitVec.setWidth 32 (m g')) = (0 : EReal))))) * q g)
      = last 16 (fun g => IntOp.andi (m g) (IntOp.cmpi .eq (cls g) (BitVec.ofNat 32 c.val))) q 0 := by
  simp only [flag, flag_mul, mul_flag, select_select]
  apply sum_last
  intro g
  rw [andi_one, andi_one, andi_one, bool_one, decide_eq_true_eq, sum_marks, eq_one, eq_one]
  constructor
  · rintro ⟨h1, h3, h2⟩
    refine ⟨⟨h2, h1.symm⟩, fun g' hl hc => ?_⟩
    rw [andi_one, eq_one] at hc
    refine h3 g' ?_
    rw [andi_one, andi_one, eq_one, sgt_one]
    exact ⟨hc.1, h1.symm.trans hc.2.symm, hl⟩
  · rintro ⟨⟨h2, h1⟩, h3⟩
    refine ⟨h1.symm, fun g' hc => ?_, h2⟩
    rw [andi_one, andi_one, eq_one, sgt_one] at hc
    refine h3 g' hc.2.2 ?_
    rw [andi_one, eq_one]
    exact ⟨hc.1, hc.2.1 ▸ h1⟩

/-! ### The greatest number of a hit box -/

/-- The number of the last hit box, minus one where none is hit. -/
def win (m : Fin 16 → BitVec 1) : BitVec 32 :=
  Finset.fold IntOp.maxsi (2147483648#32) (fun g : Fin 16 => Scalar.select (m g) (BitVec.ofNat 32 g.val) 4294967295#32) Finset.univ

theorem maxsi_toInt (a b : BitVec 32) : (IntOp.maxsi a b).toInt = max a.toInt b.toInt := by
  unfold IntOp.maxsi
  by_cases h : b.slt a
  · rw [if_pos h]
    rw [BitVec.slt_iff_toInt_lt] at h
    exact (max_eq_left h.le).symm
  · rw [if_neg h]
    rw [BitVec.slt_iff_toInt_lt] at h
    exact (max_eq_right (not_lt.mp h)).symm

theorem ofNat_toInt (g : Fin 16) : (BitVec.ofNat 32 g.val).toInt = (g.val : ℤ) := by
  revert g; decide

theorem win_toInt (m : Fin 16 → BitVec 1) :
    (win m).toInt = Finset.fold max (-2147483648 : ℤ) (fun g : Fin 16 => if m g = 1#1 then (g.val : ℤ) else -1) Finset.univ := by
  unfold win
  have hh := Finset.fold_hom (op := IntOp.maxsi (w := 32)) (op' := (max : ℤ → ℤ → ℤ)) (m := BitVec.toInt) (b := 2147483648#32)
    (s := (Finset.univ : Finset (Fin 16)))
    (f := fun g : Fin 16 => Scalar.select (m g) (BitVec.ofNat 32 g.val) 4294967295#32) maxsi_toInt
  rw [← hh]
  have e : (2147483648#32 : BitVec 32).toInt = -2147483648 := by decide
  rw [e]
  congr 1
  funext g
  by_cases h : m g = 1#1
  · rw [sel_one h, if_pos h]; exact ofNat_toInt g
  · rw [sel_zero h, if_neg h]; decide

theorem sge_one (a : BitVec 32) : IntOp.cmpi .sge a 0#32 = 1#1 ↔ 0 ≤ a.toInt := by
  have h : IntOp.cmpi .sge a 0#32 = BitVec.ofBool (BitVec.sle 0#32 a) := rfl
  rw [h, bool_one, BitVec.sle_iff_toInt_le]
  rfl

/-- The second result as the kernel sums it: over the boxes, at the one whose number is the greatest hit one's. -/
theorem dfl_win (m : Fin 16 → BitVec 1) (v : Fin 16 → EReal) (d : EReal) :
    Scalar.select (IntOp.cmpi .sge (win m) 0#32)
      (∑ g : Fin 16, v g * FloatOps.sitofp (F := Ideal) .f32 (BitVec.setWidth 32 (IntOp.cmpi .eq (BitVec.ofNat 32 g.val) (win m)))) d
      = last 16 m v d := by
  rcases last_exists 16 m with hn | ⟨g, hg, hl⟩
  · rw [last_none 16 m v d hn]
    apply sel_zero
    rw [Ne, sge_one, win_toInt, not_le]
    rw [Finset.fold_max_lt]
    exact ⟨by norm_num, fun g _ => by rw [if_neg (hn g)]; norm_num⟩
  · have hw : (win m).toInt = (g.val : ℤ) := by
      rw [win_toInt]
      apply le_antisymm
      · rw [Finset.fold_max_le]
        refine ⟨by omega, fun g' _ => ?_⟩
        by_cases h : m g' = 1#1
        · rw [if_pos h]
          by_contra hc
          have : g < g' := by rw [Fin.lt_def]; omega
          exact hl g' this h
        · rw [if_neg h]; omega
      · rw [Finset.le_fold_max]
        exact Or.inr ⟨g, Finset.mem_univ g, by rw [if_pos hg]⟩
    rw [last_some 16 m v d g hg hl, sel_one ((sge_one _).mpr (by rw [hw]; omega))]
    simp only [flag, mul_flag]
    rw [Finset.sum_eq_single g]
    · apply sel_one
      rw [eq_one]
      exact BitVec.eq_of_toInt_eq (by rw [hw, ofNat_toInt])
    · intro g' _ hne
      apply sel_zero
      rw [Ne, eq_one]
      intro hc
      have := congrArg BitVec.toInt hc
      rw [hw, ofNat_toInt] at this
      exact hne (Fin.ext (by omega))
    · intro hc; exact absurd (Finset.mem_univ g) hc

/-! ### The expected distance -/

/-- The expected distance as the kernel computes it: one quotient of two sums. -/
def expect (v : Fin 17 → EReal) : EReal :=
  Ideal.div (∑ k : Fin 17, FloatOps.sitofp (F := Ideal) .f32 (BitVec.ofNat 32 k.val) * Ideal.exp (v k)) (∑ k : Fin 17, Ideal.exp (v k))

theorem coe_sum (n : ℕ) (f : Fin n → ℝ) : ∑ k, ((f k : ℝ) : EReal) = ((∑ k, f k : ℝ) : EReal) := by
  classical
  induction n with
  | zero => simp
  | succ n ih => rw [Fin.sum_univ_succ, Fin.sum_univ_succ, ih, EReal.coe_add]

theorem div_pos_real (a b : ℝ) (hb : 0 < b) : Ideal.div (a : EReal) (b : EReal) = ((a / b : ℝ) : EReal) := by
  have h : (b : EReal) ≠ 0 := by
    rw [Ne, EReal.coe_eq_zero]; exact hb.ne'
  rw [Ideal.div, if_neg h, ← EReal.coe_inv, ← EReal.coe_mul, div_eq_mul_inv]

theorem sitofp_real (b : BitVec 32) : FloatOps.sitofp (F := Ideal) .f32 b = ((b.toInt : ℝ) : EReal) := rfl

theorem exp_real (r : ℝ) : Ideal.exp (r : EReal) = ((Real.exp r : ℝ) : EReal) := rfl

/-- An exponential of a prediction below plus infinity, and the one with a number subtracted, as numbers. -/
theorem exp_parts (x : EReal) (M : ℝ) (hx : x ≠ ⊤) :
    ∃ a : ℝ, 0 ≤ a ∧ (x ≠ ⊥ → 0 < a) ∧ Ideal.exp x = (a : EReal) ∧
      Ideal.exp (x - (M : EReal)) = ((a * (Real.exp M)⁻¹ : ℝ) : EReal) := by
  induction x using EReal.rec with
  | bot =>
    refine ⟨0, le_rfl, fun h => absurd rfl h, rfl, ?_⟩
    rw [EReal.bot_sub, zero_mul]
    rfl
  | coe r =>
    refine ⟨Real.exp r, (Real.exp_pos r).le, fun _ => Real.exp_pos r, rfl, ?_⟩
    rw [← EReal.coe_sub, exp_real, Real.exp_sub, div_eq_mul_inv]
  | top => exact absurd rfl hx

/-- Of predictions below plus infinity, not all of them minus infinity, the quotient of the sums is the expectation under
    the softmax with a number subtracted. -/
theorem softmax (v : Fin 17 → EReal) (M : ℝ) (ht : ∀ j, v j ≠ ⊤) (hb : ∃ j, v j ≠ ⊥) :
    expect v =
      ∑ j : Fin 17, Ideal.div (Ideal.exp (v j - (M : EReal))) (∑ j' : Fin 17, Ideal.exp (v j' - (M : EReal))) *
        FloatOps.sitofp (F := Ideal) .f32 (BitVec.ofNat 32 j.val) := by
  choose a h0 h1 h2 h3 using fun j => exp_parts (v j) M (ht j)
  obtain ⟨j0, hj0⟩ := hb
  have hp : 0 < ∑ k, a k := Finset.sum_pos' (fun k _ => h0 k) ⟨j0, Finset.mem_univ _, h1 j0 hj0⟩
  have hM := Real.exp_pos M
  have hq : 0 < ∑ k, a k * (Real.exp M)⁻¹ := by
    rw [← Finset.sum_mul]
    exact mul_pos hp (inv_pos.mpr hM)
  unfold expect
  simp only [h2, h3, sitofp_real, ← EReal.coe_mul, coe_sum, div_pos_real _ _ hp, div_pos_real _ _ hq]
  rw [EReal.coe_eq_coe_iff]
  simp only [← Finset.sum_mul]
  rw [Finset.sum_div]
  refine Finset.sum_congr rfl fun k _ => ?_
  have hM' := hM.ne'
  field_simp

/-- Of predictions that are all minus infinity both are the quotient of zeros. -/
theorem softmax_bot :
    expect (fun _ => ⊥) =
      ∑ j : Fin 17, Ideal.div (Ideal.exp ((⊥ : EReal) - ⊥)) (∑ _j' : Fin 17, Ideal.exp ((⊥ : EReal) - ⊥)) *
        FloatOps.sitofp (F := Ideal) .f32 (BitVec.ofNat 32 j.val) := by
  have e1 : Ideal.exp (⊥ : EReal) = 0 := rfl
  have e2 : Ideal.div (0 : EReal) 0 = ⊥ := by simp [Ideal.div]
  unfold expect
  simp only [EReal.bot_sub, e1, mul_zero, Finset.sum_const_zero, e2]
  rw [← Finset.add_sum_erase _ _ (Finset.mem_univ (1 : Fin 17)), sitofp_real, EReal.bot_mul_coe_of_pos (by norm_num),
    EReal.bot_add]

end Cert.Proof.Forms

end
-- ==== Proof.KPay.lean ====
/-
  The main phase's payloads read to the specification, over the values it loads.
-/
module

public import proofs.«01_k».proof.Proof.Gen.KernelIdeal.Value
public import proofs.«01_k».proof.Proof.Forms
public import Idealize.ShloMosaic.Lib.Pipeline.ValueKit
public import Idealize.ShloMosaic.Lib.Pointwise

@[expose] public section

set_option maxRecDepth 16384

noncomputable section

namespace Cert.Proof.KPay

open Idealize.ShloMosaic Idealize.SL.Sem Cert.KernelIdeal Cert.KernelIdeal.Gen

/-- The values the main phase loads: boxes, classes twice, the two scratches' words, predictions, the anchors' points and
    strides, and the anchors' boxes. -/
structure Loads where
  v8 : Vec Ideal S1x16x4 .f32
  v11 : Vec Ideal S1x16x1 .i32
  v15 : Vec Ideal S1x1x16 .i32
  v20 : Vec Ideal S16x1 .i32
  v23 : Vec Ideal S16x1 .i32
  v24 : Vec Ideal S1x4x17x5456 .f32
  v26 : Vec Ideal S1x5456 .f32
  v27 : Vec Ideal S1x5456 .f32
  v28 : Vec Ideal S1x5456 .f32
  v86 : Vec Ideal S1x5456 .f32
  v87 : Vec Ideal S1x5456 .f32
  v88 : Vec Ideal S1x5456 .f32
  v89 : Vec Ideal S1x5456 .f32

variable (L : Loads)

/-- The boxes without their leading axis. -/
def v9 : FVec Ideal S16x4 .f32 := k0_pay21 L.v8

/-- The marks of the chosen anchors. -/
def sel : IVec S16x5456 1 := k0_pay35 (v9 L) L.v20 L.v23 L.v26 L.v27

/-- The overlaps with the anchors' boxes. -/
def ov : FVec Ideal S16x5456 .f32 :=
  k0_pay37 (k0_pay31 (v9 L)) (k0_pay32 (v9 L)) (k0_pay33 (v9 L)) (k0_pay34 (v9 L)) L.v86 L.v87 L.v88 L.v89

/-- The thresholds. -/
def tg : FVec Ideal S16x1 .f32 :=
  k0_pay38 (k0_pay31 (v9 L)) (k0_pay32 (v9 L)) (k0_pay33 (v9 L)) (k0_pay34 (v9 L))
    (k0_pay36 (v9 L) L.v20 L.v23 L.v26 L.v27) L.v86 L.v87 L.v88 L.v89

/-- The marks of the hit anchors. -/
def mask : IVec S16x5456 1 :=
  k0_pay42 L.v27 (k0_pay32 (v9 L)) (k0_pay34 (v9 L)) (sel L) (ov L) (tg L) (k0_pay39 L.v26 (k0_pay31 (v9 L)))
    (k0_pay40 L.v26) (k0_pay41 (k0_pay33 (v9 L)))

/-- The expected predicted distances. -/
def pd : FVec Ideal S4x5456 .f32 :=
  k0_pay30 (k0_pay24 L.v24) k0_pay25 k0_pay26 (k0_pay27 L.v24) (k0_pay28 L.v24) (k0_pay29 L.v24)

/-- The second result's block. -/
def dfl : FVec Ideal S1x4x5456 .f32 :=
  k0_pay9 (k0_pay43 L.v26 L.v28 (k0_pay31 (v9 L))) (k0_pay44 L.v27 L.v28 (k0_pay32 (v9 L)))
    (k0_pay45 L.v26 L.v28 (k0_pay33 (v9 L))) (k0_pay46 L.v27 L.v28 (k0_pay34 (v9 L))) (k0_pay59 (mask L)) (k0_pay60 (mask L))

/-- The first result's block. -/
def qfl : FVec Ideal S1x80x5456 .f32 :=
  k0_pay58 (k0_pay22 (F := Ideal) L.v11) (k0_pay23 (F := Ideal) L.v15) (mask L)
    (k0_pay47 L.v26 L.v28 (k0_pay31 (v9 L))) (k0_pay48 L.v27 L.v28 (k0_pay32 (v9 L)))
    (k0_pay50 (k0_pay49 L.v26 L.v28 (k0_pay33 (v9 L))) (Scalar.ofBits .f32 0x00000000#32) (Scalar.ofBits .f32 0x44000000#32))
    (k0_pay51 L.v27 L.v28 (k0_pay46 L.v27 L.v28 (k0_pay34 (v9 L))))
    (k0_pay52 L.v26 L.v28 (pd L)) (k0_pay53 L.v27 L.v28 (pd L)) (k0_pay54 L.v26 L.v28 (pd L)) (k0_pay55 L.v27 L.v28 (pd L))
    (k0_pay56 L.v26 L.v28 (pd L) (k0_pay47 L.v26 L.v28 (k0_pay31 (v9 L))) (k0_pay49 L.v26 L.v28 (k0_pay33 (v9 L)))
      (Scalar.ofBits .f32 0x00000000#32) (Scalar.ofBits .f32 0x44000000#32))
    (k0_pay57 L.v27 L.v28 (pd L) (k0_pay46 L.v27 L.v28 (k0_pay34 (v9 L))))

/-- What the loads hold, in the specification's terms. -/
structure Reads (box : Fin 16 → Fin 4 → EReal) (pts : Fin 5456 → Fin 2 → EReal) (ab : Fin 5456 → Fin 4 → EReal)
    (st : Fin 5456 → EReal) (cls : Fin 16 → BitVec 32) : Prop where
  h8 : ∀ g k, L.v8 (ix3 0 g k) = box g k
  h11 : ∀ g, L.v11 (ix3 0 g 0) = cls g
  h15 : ∀ g, L.v15 (ix3 0 0 g) = cls g
  h26 : ∀ x, L.v26 (ix2 0 x) = pts x 0
  h27 : ∀ x, L.v27 (ix2 0 x) = pts x 1
  h28 : ∀ x, L.v28 (ix2 0 x) = st x
  h86 : ∀ x, L.v86 (ix2 0 x) = ab x 0
  h87 : ∀ x, L.v87 (ix2 0 x) = ab x 1
  h88 : ∀ x, L.v88 (ix2 0 x) = ab x 2
  h89 : ∀ x, L.v89 (ix2 0 x) = ab x 3

variable {L} {box : Fin 16 → Fin 4 → EReal} {pts : Fin 5456 → Fin 2 → EReal} {ab : Fin 5456 → Fin 4 → EReal}
    {st : Fin 5456 → EReal} {cls : Fin 16 → BitVec 32} (R : Reads L box pts ab st cls)
include R

theorem y1 (g : Fin 16) : k0_pay31 (v9 L) (ix2 g 0) = box g 0 := by
  rw [← R.h8]; pointwise [k0_pay31, v9, k0_pay21]
theorem x1 (g : Fin 16) : k0_pay32 (v9 L) (ix2 g 0) = box g 1 := by
  rw [← R.h8]; pointwise [k0_pay32, v9, k0_pay21]
theorem y2 (g : Fin 16) : k0_pay33 (v9 L) (ix2 g 0) = box g 2 := by
  rw [← R.h8]; pointwise [k0_pay33, v9, k0_pay21]
theorem x2 (g : Fin 16) : k0_pay34 (v9 L) (ix2 g 0) = box g 3 := by
  rw [← R.h8]; pointwise [k0_pay34, v9, k0_pay21]

theorem ov_eq (g : Fin 16) (x : Fin 5456) : ov L (ix2 g x) = Spec.overlap (box g) (ab x) := by
  pointwise [ov, k0_pay37]
  rw [y1 R, x1 R, y2 R, x2 R, R.h86, R.h87, R.h88, R.h89]
  rfl

theorem tg_eq (g : Fin 16) : tg L (ix2 g 0) = Spec.thresh (fun x => sel L (ix2 g x)) (fun x => Spec.overlap (box g) (ab x)) := by
  have h36 : ∀ x, k0_pay36 (v9 L) L.v20 L.v23 L.v26 L.v27 (ix2 g x) = Scalar.select (sel L (ix2 g x)) (1 : EReal) 0 := by
    intro x
    rw [← Spec.flag]
    pointwise [k0_pay36, sel]
  have ho : ∀ x, k0_pay37 (k0_pay31 (v9 L)) (k0_pay32 (v9 L)) (k0_pay33 (v9 L)) (k0_pay34 (v9 L)) L.v86 L.v87 L.v88 L.v89 (ix2 g x)
      = Spec.overlap (box g) (ab x) := fun x => ov_eq R g x
  pointwise [tg, k0_pay38]
  simp only [h36, ho, Spec.mul_flag]
  rfl

theorem mask_eq (g : Fin 16) (x : Fin 5456) :
    mask L (ix2 g x) = Spec.hit (fun x => sel L (ix2 g x)) (box g) pts ab x := by
  pointwise [mask, k0_pay42, k0_pay39, k0_pay40, k0_pay41]
  rw [y1 R, x1 R, y2 R, x2 R, R.h26, R.h27, tg_eq R, ov_eq R]
  rfl

theorem dfl_eq (k : Fin 4) (x : Fin 5456) :
    dfl L (ix3 0 k x) = Spec.dfl (fun g x => sel L (ix2 g x)) box pts ab st k x := by
  have h59 : ∀ (o : Fin 1) x, k0_pay59 (mask L) (ix2 o x) = Forms.win fun g => mask L (ix2 g x) := by
    intro o x
    pointwise [k0_pay59]
    rfl
  have h60 : ∀ g x, k0_pay60 (mask L) (ix2 g x) = IntOp.cmpi .eq (BitVec.ofNat 32 g.val) (Forms.win fun g => mask L (ix2 g x)) := by
    intro g x
    pointwise [k0_pay60]
    rw [h59]
  have hm : (fun g => mask L (ix2 g x)) = fun g => Spec.hit (fun x => sel L (ix2 g x)) (box g) pts ab x :=
    funext fun g => mask_eq R g x
  have e43 : ∀ g, k0_pay43 L.v26 L.v28 (k0_pay31 (v9 L)) (ix2 g x) = Spec.side (box g) (pts x) (st x) 0 := by
    intro g; pointwise [k0_pay43]; rw [y1 R, R.h26, R.h28]; rfl
  have e44 : ∀ g, k0_pay44 L.v27 L.v28 (k0_pay32 (v9 L)) (ix2 g x) = Spec.side (box g) (pts x) (st x) 1 := by
    intro g; pointwise [k0_pay44]; rw [x1 R, R.h27, R.h28]; rfl
  have e45 : ∀ g, k0_pay45 L.v26 L.v28 (k0_pay33 (v9 L)) (ix2 g x) = Spec.side (box g) (pts x) (st x) 2 := by
    intro g; pointwise [k0_pay45]; rw [y2 R, R.h26, R.h28]; rfl
  have e46 : ∀ g, k0_pay46 L.v27 L.v28 (k0_pay34 (v9 L)) (ix2 g x) = Spec.side (box g) (pts x) (st x) 3 := by
    intro g; pointwise [k0_pay46]; rw [x2 R, R.h27, R.h28]; rfl
  pointwise [dfl, k0_pay9]
  simp only [h59, h60, e43, e44, e45, e46, Forms.dfl_win, hm]
  unfold Spec.dfl
  fin_cases k <;> rfl

theorem pd_eq (k : Fin 4) (x : Fin 5456) : pd L (ix2 k x) = Forms.expect fun j => L.v24 (ix4 0 k j x) := by
  pointwise [pd, k0_pay30, k0_pay24, k0_pay25, k0_pay26, k0_pay27, k0_pay28, k0_pay29]
  fin_cases k <;> rfl

theorem qfl_eq (c : Fin 80) (x : Fin 5456) :
    qfl L (ix3 0 c x) = Spec.qfl (fun g x => sel L (ix2 g x)) box pts ab st (fun x k => pd L (ix2 k x)) cls c x := by
  have h22 : ∀ g, k0_pay22 (F := Ideal) L.v11 (ix2 g 0) = cls g := by
    intro g; rw [← R.h11]; pointwise [k0_pay22]
  have h23 : ∀ g, k0_pay23 (F := Ideal) L.v15 (ix2 0 g) = cls g := by
    intro g; rw [← R.h15]; pointwise [k0_pay23]
  have hm : ∀ g x, mask L (ix2 g x) = Spec.hit (fun x => sel L (ix2 g x)) (box g) pts ab x := fun g x => mask_eq R g x
  pointwise [qfl, k0_pay58]
  simp only [h22, h23]
  rw [Forms.qfl_sum]
  unfold Spec.qfl
  simp only [hm]
  congr 1
  funext g
  pointwise [k0_pay47, k0_pay48, k0_pay49, k0_pay50, k0_pay51, k0_pay52, k0_pay53, k0_pay54, k0_pay55, k0_pay56, k0_pay57, k0_pay46, k0_pay43, k0_pay44, k0_pay45]
  rw [y1 R, x1 R, y2 R, x2 R, R.h26, R.h27, R.h28]
  unfold Spec.quality Spec.overlap Spec.inter
  rfl

end Cert.Proof.KPay

end
-- ==== Proof.Words.lean ====
/-
  The float words the search runs over, read as numbers, and sums of zeros and ones as counts.
-/
module

public import Idealize.ShloMosaic.PureOps.Ideal

@[expose] public section

namespace Cert.Proof.Words

open Idealize.ShloMosaic Finset

/-- The number a 32-bit word denotes. -/
noncomputable def val (n : ℕ) : EReal := Ideal.ofBits .f32 (BitVec.ofNat 32 n)

private theorem below (n : ℕ) (hn : n < 2139095040) : n % 2 ^ 32 = n := Nat.mod_eq_of_lt (by norm_num; omega)

private theorem sign (n : ℕ) (hn : n < 2139095040) : ((BitVec.ofNat 32 n).extractLsb' (8 + 23) 1) = 0#1 := by
  apply BitVec.eq_of_toNat_eq
  rw [BitVec.extractLsb'_toNat, BitVec.toNat_ofNat, Nat.shiftRight_eq_div_pow, below n hn,
    Nat.div_eq_of_lt (by norm_num; omega)]
  rfl

private theorem expo (n ex : ℕ) (hn : n < 2139095040) (he : n / 8388608 = ex) (h1 : ex < 255) :
    ((BitVec.ofNat 32 n).extractLsb' 23 8).toNat = ex := by
  rw [BitVec.extractLsb'_toNat, BitVec.toNat_ofNat, Nat.shiftRight_eq_div_pow, below n hn,
    show 2 ^ 23 = 8388608 by norm_num, he]
  exact Nat.mod_eq_of_lt (by norm_num; omega)

private theorem frac (n fr : ℕ) (hn : n < 2139095040) (he : n % 8388608 = fr) :
    ((BitVec.ofNat 32 n).extractLsb' 0 23).toNat = fr := by
  rw [BitVec.extractLsb'_toNat, BitVec.toNat_ofNat, Nat.shiftRight_eq_div_pow, below n hn, pow_zero, Nat.div_one,
    show 2 ^ 23 = 8388608 by norm_num, he]

private theorem bias (ex : ℕ) : ((ex : ℤ) - (2 ^ (8 - 1) - 1) - (23 : ℕ)) = (ex : ℤ) - 150 := by norm_num; ring

/-- A word with a normal exponent field `ex` and fraction field `fr`. -/
theorem val_normal (n ex fr : ℕ) (hn : n < 2139095040) (he : n / 8388608 = ex) (hf : n % 8388608 = fr) (h0 : ex ≠ 0) :
    val n = (((8388608 + (fr : ℝ)) * (2 : ℝ) ^ ((ex : ℤ) - 150) : ℝ) : EReal) := by
  have h1 : ex < 255 := by omega
  have e0 : ((0#1 : BitVec 1) == 1#1) = false := by decide
  have hc : (((2 ^ 23 + fr : ℕ) : ℝ)) = 8388608 + (fr : ℝ) := by push_cast; norm_num
  have h255 : ¬ ex = 2 ^ 8 - 1 := by norm_num; omega
  unfold val Ideal.ofBits Ideal.ieee
  simp only [sign n hn, expo n ex hn he h1, frac n fr hn hf, e0, if_neg h255, if_neg h0, bias, hc, Bool.false_eq_true,
    if_false, one_mul]

/-- Neighbouring words of the search's range are at most `2⁻¹⁷` apart. -/
theorem val_gap (w : ℕ) (h0 : 1098907648 ≤ w) (h1 : w < 1119879168) :
    val (w + 1) ≤ val w + (((2 : ℝ) ^ (-17 : ℤ) : ℝ) : EReal) := by
  obtain ⟨ex, hex⟩ : ∃ ex, w / 8388608 = ex := ⟨_, rfl⟩
  obtain ⟨fr, hfr⟩ : ∃ fr, w % 8388608 = fr := ⟨_, rfl⟩
  have hex' : 131 ≤ ex ∧ ex ≤ 133 := by omega
  have hp : (2 : ℝ) ^ ((ex : ℤ) - 150) ≤ (2 : ℝ) ^ (-17 : ℤ) := zpow_le_zpow_right₀ (by norm_num) (by omega)
  have hnext : val (w + 1) = (((8388608 + (fr : ℝ) + 1) * (2 : ℝ) ^ ((ex : ℤ) - 150) : ℝ) : EReal) := by
    by_cases hlt : fr + 1 < 8388608
    · rw [val_normal (w + 1) ex (fr + 1) (by omega) (by omega) (by omega) (by omega)]
      push_cast
      rw [add_assoc]
    · rw [val_normal (w + 1) (ex + 1) 0 (by omega) (by omega) (by omega) (by omega)]
      have ef : (fr : ℝ) = 8388607 := by
        have : fr = 8388607 := by omega
        rw [this]; norm_num
      rw [show (((ex + 1 : ℕ) : ℤ) - 150) = ((ex : ℤ) - 150) + 1 by push_cast; ring,
        zpow_add₀ (by norm_num : (2 : ℝ) ≠ 0), ef]
      congr 1
      norm_num
      ring
  rw [hnext, val_normal w ex fr (by omega) hex hfr (by omega), ← EReal.coe_add, EReal.coe_le_coe_iff]
  nlinarith

/-- The range's first word is 16. -/
theorem val_lo : val 1098907648 = ((16 : ℝ) : EReal) := by
  rw [val_normal 1098907648 131 0 (by norm_num) (by norm_num) (by norm_num) (by norm_num)]
  congr 1; norm_num [zpow_neg]

/-- The range's last word is 96. -/
theorem val_hi : val 1119879168 = ((96 : ℝ) : EReal) := by
  rw [val_normal 1119879168 133 4194304 (by norm_num) (by norm_num) (by norm_num) (by norm_num)]
  congr 1; norm_num [zpow_neg]

/-! ### Sums of zeros and ones -/

/-- A sum of zeros and ones is the number of ones. -/
theorem sum_ind {n : ℕ} (p : Fin n → Prop) [DecidablePred p] :
    (∑ x, if p x then (1 : EReal) else 0) = (((univ.filter p).card : ℝ) : EReal) := by
  have e : ∀ x, (if p x then (1 : EReal) else 0) = (((if p x then (1 : ℝ) else 0) : ℝ) : EReal) := by
    intro x; split <;> rfl
  simp only [e]
  rw [← Finset.sum_boole (R := ℝ)]
  induction (univ : Finset (Fin n)) using Finset.induction_on with
  | empty => rfl
  | insert a s ha ih => rw [Finset.sum_insert ha, Finset.sum_insert ha, ih, EReal.coe_add]

/-- A one-bit word widened and read as a signed number is its indicator. -/
theorem ind (b : BitVec 1) : ((((b.setWidth 32).toInt : ℝ)) : EReal) = if b = 1#1 then (1 : EReal) else 0 := by
  have h : b = 0#1 ∨ b = 1#1 := by
    have := b.isLt
    rcases (by omega : b.toNat = 0 ∨ b.toNat = 1) with h | h
    · exact Or.inl (BitVec.eq_of_toNat_eq h)
    · exact Or.inr (BitVec.eq_of_toNat_eq h)
  rcases h with h | h <;> subst h
  · simp
  · simp

end Cert.Proof.Words
-- ==== Proof.Pick.lean ====
/-
  The counting behind the threshold search, with no program in sight.

  A row holds `n` distances; `σ` lists its places from near to far. A value `v` that lies from the 45th distance up to,
  and not reaching, the 46th has exactly the 45 nearest places at or below it (`bracket`, `card_bracket`). A search that
  halves an interval of words ends at the least word the test accepts (`bisect`), and the cut among the places AT the
  value, by place number, keeps all of them when as many are needed as there are (`cut_all`).
-/
module

public import Idealize.ShloMosaic.PureOps.Ideal

@[expose] public section

namespace Cert.Proof.Pick

open Finset

/-! ### Halving an interval -/

/-- One halving step: keep the lower half, its middle included, when the middle passes the test. -/
def step (P : ℕ → Prop) [DecidablePred P] (s : ℕ × ℕ) : ℕ × ℕ :=
  if P (s.1 + (s.2 - s.1) / 2) then (s.1, s.1 + (s.2 - s.1) / 2) else (s.1 + (s.2 - s.1) / 2 + 1, s.2)

/-- What every halving step keeps: the interval stays within the first, its top passes, the word below its bottom does
    not (unless it is the very bottom), and its width is halved. -/
theorem step_inv (P : ℕ → Prop) [DecidablePred P] (LO HI : ℕ) (h : LO ≤ HI) (hP : P HI) (k : ℕ) (hk : HI - LO < 2 ^ k) :
    ∀ j, j ≤ k → LO ≤ ((step P)^[j] (LO, HI)).1 ∧ ((step P)^[j] (LO, HI)).1 ≤ ((step P)^[j] (LO, HI)).2
      ∧ ((step P)^[j] (LO, HI)).2 ≤ HI ∧ P ((step P)^[j] (LO, HI)).2
      ∧ (((step P)^[j] (LO, HI)).1 = LO ∨ ¬ P (((step P)^[j] (LO, HI)).1 - 1))
      ∧ ((step P)^[j] (LO, HI)).2 - ((step P)^[j] (LO, HI)).1 < 2 ^ (k - j) := by
  intro j
  induction j with
  | zero => intro _; exact ⟨le_rfl, h, le_rfl, hP, Or.inl rfl, by simpa using hk⟩
  | succ j ih =>
    intro hj
    rw [Function.iterate_succ_apply']
    obtain ⟨h1, h2, h3, h4, h5, h6⟩ := ih (by omega)
    generalize (step P)^[j] (LO, HI) = s at h1 h2 h3 h4 h5 h6 ⊢
    obtain ⟨l, u⟩ := s
    dsimp only at h1 h2 h3 h4 h5 h6
    have e : 2 ^ (k - j) = 2 * 2 ^ (k - (j + 1)) := by
      rw [show k - j = (k - (j + 1)) + 1 by omega, pow_succ]; ring
    unfold step
    dsimp only
    by_cases hm : P (l + (u - l) / 2)
    · rw [if_pos hm]
      refine ⟨h1, ?_, ?_, hm, h5, ?_⟩ <;> dsimp only <;> omega
    · rw [if_neg hm]
      have hlt : l + (u - l) / 2 ≠ u := fun e' => hm (by rw [e']; exact h4)
      refine ⟨?_, ?_, h3, h4, Or.inr ?_, ?_⟩ <;> dsimp only
      · omega
      · omega
      · simpa using hm
      · omega

/-- After as many steps as the width has bits the interval is one word: the least that passes, or the first bottom. -/
theorem bisect (P : ℕ → Prop) [DecidablePred P] (LO HI : ℕ) (h : LO ≤ HI) (hP : P HI) (k : ℕ) (hk : HI - LO < 2 ^ k) :
    LO ≤ ((step P)^[k] (LO, HI)).1 ∧ ((step P)^[k] (LO, HI)).1 ≤ HI ∧ P ((step P)^[k] (LO, HI)).1
      ∧ (((step P)^[k] (LO, HI)).1 = LO ∨ ¬ P (((step P)^[k] (LO, HI)).1 - 1)) := by
  obtain ⟨h1, h2, h3, h4, h5, h6⟩ := step_inv P LO HI h hP k hk k le_rfl
  simp only [Nat.sub_self, pow_zero] at h6
  have e : ((step P)^[k] (LO, HI)).2 = ((step P)^[k] (LO, HI)).1 := by omega
  exact ⟨h1, by omega, e ▸ h4, h5⟩

/-! ### The nearest places -/

variable {n : ℕ}

/-- Counting through a listing of the places counts the places. -/
theorem card_comp (σ : Fin n → Fin n) (hσ : Function.Bijective σ) (p : Fin n → Prop) [DecidablePred p] :
    (univ.filter fun i => p (σ i)).card = (univ.filter p).card :=
  Finset.card_bij (fun i _ => σ i) (by simp) (fun a _ b _ h => hσ.1 h)
    (fun b hb => by obtain ⟨a, rfl⟩ := hσ.2 b; exact ⟨a, by simpa using hb, rfl⟩)

/-- The first `k` of `n` numbers are `k`. -/
theorem card_below (k : ℕ) (h : k ≤ n) : (univ.filter fun i : Fin n => i.val < k).card = k := by
  have := Fin.card_filter_val_lt (n := n) (m := k)
  omega

variable (d : Fin n → EReal) (σ : Fin n → Fin n)

/-- A value from the distance at listing place `a` up to, not reaching, the one at the next place `b`. -/
theorem bracket (hm : ∀ i j : Fin n, i < j → d (σ i) ≤ d (σ j)) (a b : Fin n) (hab : b.val = a.val + 1) (v : EReal)
    (h1 : d (σ a) ≤ v) (h2 : v < d (σ b)) (i : Fin n) : d (σ i) ≤ v ↔ i.val < b.val := by
  constructor
  · intro h
    by_contra hc
    rcases Nat.lt_or_ge b.val i.val with hlt | hge
    · exact absurd (h2.trans_le (hm b i hlt)) (not_lt.2 h)
    · have : i = b := Fin.ext (by omega)
      subst this
      exact absurd h2 (not_lt.2 h)
  · intro h
    rcases Nat.lt_or_ge i.val a.val with hlt | hge
    · exact (hm i a hlt).trans h1
    · have : i = a := Fin.ext (by omega)
      subst this
      exact h1

/-- At or below a value the distance at listing place `a` passes, there are more than `a` places. -/
theorem card_ge (hσ : Function.Bijective σ) (hm : ∀ i j : Fin n, i < j → d (σ i) ≤ d (σ j)) (a : Fin n) (v : EReal)
    (h : d (σ a) ≤ v) : a.val + 1 ≤ (univ.filter fun x => d x ≤ v).card := by
  rw [← card_comp σ hσ (fun x => d x ≤ v), ← card_below (n := n) (a.val + 1) a.isLt]
  apply Finset.card_le_card
  intro i hi
  simp only [mem_filter, mem_univ, true_and] at hi ⊢
  rcases Nat.lt_or_ge i.val a.val with hlt | hge
  · exact (hm i a hlt).trans h
  · have : i = a := Fin.ext (by omega)
    subst this
    exact h

/-- At or below a value under the distance at listing place `a` there are at most `a` places. -/
theorem card_le (hσ : Function.Bijective σ) (hm : ∀ i j : Fin n, i < j → d (σ i) ≤ d (σ j)) (a : Fin n) (v : EReal)
    (h : v < d (σ a)) : (univ.filter fun x => d x ≤ v).card ≤ a.val := by
  rw [← card_comp σ hσ (fun x => d x ≤ v), ← card_below (n := n) a.val a.isLt.le]
  apply Finset.card_le_card
  intro i hi
  simp only [mem_filter, mem_univ, true_and] at hi ⊢
  by_contra hc
  rcases Nat.lt_or_ge a.val i.val with hlt | hge
  · exact absurd (h.trans_le (hm a i hlt)) (not_lt.2 hi)
  · have : i = a := Fin.ext (by omega)
    subst this
    exact absurd h (not_lt.2 hi)

/-- The places at or below a bracketed value are the first ones of the listing. -/
theorem bracket_iff (hσ : Function.Bijective σ) (hm : ∀ i j : Fin n, i < j → d (σ i) ≤ d (σ j)) (a b : Fin n)
    (hab : b.val = a.val + 1) (v : EReal) (h1 : d (σ a) ≤ v) (h2 : v < d (σ b)) (x : Fin n) :
    d x ≤ v ↔ ∃ i : Fin n, i.val < b.val ∧ σ i = x := by
  obtain ⟨i, rfl⟩ := hσ.2 x
  rw [bracket d σ hm a b hab v h1 h2 i]
  exact ⟨fun h => ⟨i, h, rfl⟩, fun ⟨j, hj, e⟩ => hσ.1 e ▸ hj⟩

/-- Those are as many as the next listing place's number. -/
theorem card_bracket (hσ : Function.Bijective σ) (hm : ∀ i j : Fin n, i < j → d (σ i) ≤ d (σ j)) (a b : Fin n)
    (hab : b.val = a.val + 1) (v : EReal) (h1 : d (σ a) ≤ v) (h2 : v < d (σ b)) :
    (univ.filter fun x => d x ≤ v).card = b.val := by
  have := card_ge d σ hσ hm a v h1
  have := card_le d σ hσ hm b v h2
  omega

/-- Below a value, and at it: together at or below it. -/
theorem card_split (v : EReal) :
    (univ.filter fun x => d x < v).card + (univ.filter fun x => d x = v).card = (univ.filter fun x => d x ≤ v).card := by
  classical
  rw [← Finset.card_union_of_disjoint]
  · congr 1
    ext x
    simp [le_iff_lt_or_eq]
  · rw [Finset.disjoint_filter]
    exact fun x _ h e => absurd (e ▸ h) (lt_irrefl _)

/-- When the places at the value that the cut keeps are as many as all of those, the cut keeps them all. -/
theorem cut_all (v : EReal) (q : Fin n → Prop) [DecidablePred q]
    (h : (univ.filter fun x => d x = v).card ≤ (univ.filter fun x => d x = v ∧ q x).card) (x : Fin n) :
    (d x < v ∨ (d x = v ∧ q x)) ↔ d x ≤ v := by
  have e : (univ.filter fun x => d x = v ∧ q x) = univ.filter fun x => d x = v :=
    Finset.eq_of_subset_of_card_le (fun y hy => by
      simp only [mem_filter, mem_univ, true_and] at hy ⊢; exact hy.1) h
  constructor
  · rintro (h | h)
    · exact h.le
    · exact h.1.le
  · intro h
    rcases lt_or_eq_of_le h with h | h
    · exact Or.inl h
    · have : x ∈ univ.filter fun x => d x = v ∧ q x := by rw [e]; simpa using h
      exact Or.inr (by simpa using this)

/-! ### The search's threshold -/

/-- A search over words whose values step by at most `gap` ends between the distances at listing places `a` and `b`, if
    they are `gap` apart and the first lies within the values searched. -/
theorem threshold (hσ : Function.Bijective σ) (hm : ∀ i j : Fin n, i < j → d (σ i) ≤ d (σ j)) (a b : Fin n)
    (val : ℕ → EReal) (gap : EReal) (LO HI k : ℕ) (h : LO ≤ HI) (hk : HI - LO < 2 ^ k)
    (hgap : ∀ w, LO ≤ w → w < HI → val (w + 1) ≤ val w + gap)
    (hlo : val LO ≤ d (σ a)) (hhi : d (σ a) ≤ val HI) (hfin : d (σ a) ≠ ⊤) (hbot : d (σ a) ≠ ⊥) (hg0 : 0 < gap) (hg1 : gap ≠ ⊤)
    (hsep : d (σ a) + gap ≤ d (σ b))
    (P : ℕ → Prop) [DecidablePred P] (hP : ∀ w, P w ↔ a.val + 1 ≤ (univ.filter fun x => d x ≤ val w).card) :
    d (σ a) ≤ val ((step P)^[k] (LO, HI)).1 ∧ val ((step P)^[k] (LO, HI)).1 < d (σ b) := by
  obtain ⟨h1, h2, h3, h4⟩ := bisect P LO HI h ((hP HI).2 (card_ge d σ hσ hm a _ hhi)) k hk
  generalize ((step P)^[k] (LO, HI)).1 = w at h1 h2 h3 h4 ⊢
  have hge : d (σ a) ≤ val w := by
    by_contra hc
    have := card_le d σ hσ hm a (val w) (not_le.1 hc)
    have := (hP w).1 h3
    omega
  refine ⟨hge, ?_⟩
  have key : ∀ x : EReal, x < d (σ a) → x + gap < d (σ a) + gap := by
    intro x hx
    exact EReal.add_lt_add_of_lt_of_le hx le_rfl (fun e => by rw [e] at hg0; exact absurd hg0 (by simp)) hg1
  by_cases hw : w = LO
  · subst hw
    have e : val w = d (σ a) := le_antisymm hlo hge
    rw [e]
    refine lt_of_lt_of_le ?_ hsep
    have t := EReal.add_lt_add_left_coe hg0 (d (σ a)).toReal
    rwa [EReal.coe_toReal hfin hbot, add_zero] at t
  · rcases h4 with h4 | h4
    · exact absurd h4 hw
    · have hlt : val (w - 1) < d (σ a) := by
        by_contra hc
        exact h4 ((hP _).2 (card_ge d σ hσ hm a _ (not_lt.1 hc)))
      have := hgap (w - 1) (by omega) (by omega)
      rw [show w - 1 + 1 = w by omega] at this
      exact (this.trans_lt (key _ hlt)).trans_le hsep

end Cert.Proof.Pick
-- ==== Proof.Search.lean ====
/-
  The threshold phase of the kernel, over its own payloads: for every box row the value loop ends at a word whose number
  lies from the 45th distance of the row up to, not reaching, the 46th, and the place loop ends at a cut that keeps every
  place at that value. So the places the main phase selects by the two scratches are the 45 nearest ones.
-/
module

public import proofs.«01_k».proof.Proof.Gen.KernelIdeal.Value
public import proofs.«01_k».proof.Proof.Words
public import proofs.«01_k».proof.Proof.Pick
public import Idealize.ShloMosaic.Lib.Pipeline.ValueKit
public import Idealize.ShloMosaic.Lib.Pointwise

@[expose] public section

noncomputable section

namespace Cert.Proof.Search

open Idealize.ShloMosaic Cert.KernelIdeal Cert.KernelIdeal.Gen Finset

set_option maxRecDepth 16384

/-! ### Words -/

/-- The middle of two words, as the loops compute it. -/
theorem mid_toNat (lo hi : BitVec 32) (h : lo.toNat ≤ hi.toNat) (hb : hi.toNat < 2147483648) :
    (IntOp.addi lo (IntOp.shrsi .vector (IntOp.subi hi lo) 1#32)).toNat = lo.toNat + (hi.toNat - lo.toNat) / 2 := by
  have hl := lo.isLt
  have hs : (hi - lo).toNat = hi.toNat - lo.toNat := BitVec.toNat_sub_of_le (by simpa [BitVec.le_def] using h)
  have hm : (hi - lo).msb = false := by
    rw [BitVec.msb_eq_false_iff_two_mul_lt, hs]; omega
  have hsh : (IntOp.shrsi .vector (IntOp.subi hi lo) 1#32).toNat = (hi.toNat - lo.toNat) / 2 := by
    show (if (1#32 : BitVec 32).toNat < 32 then (hi - lo).sshiftRight' 1#32 else _).toNat = _
    rw [if_pos (by decide)]
    show ((hi - lo).sshiftRight 1).toNat = _
    rw [BitVec.sshiftRight_eq_of_msb_false hm, BitVec.toNat_ushiftRight, hs, Nat.shiftRight_eq_div_pow, pow_one]
  show (lo + _).toNat = _
  rw [BitVec.toNat_add, hsh, Nat.mod_eq_of_lt (by omega)]

/-- A word one above another. -/
theorem succ_toNat (x : BitVec 32) (h : x.toNat < 2147483648) : (IntOp.addi x 1#32).toNat = x.toNat + 1 := by
  show (x + 1#32).toNat = _
  rw [BitVec.toNat_add, show (1#32 : BitVec 32).toNat = 1 from rfl, Nat.mod_eq_of_lt (by omega)]

/-- A word is the number it holds. -/
theorem ofBits_eq_val (x : BitVec 32) : Ideal.ofBits .f32 x = Words.val x.toNat := by
  unfold Words.val
  rw [BitVec.ofNat_toNat, BitVec.setWidth_eq]

/-- The count the search looks for, as a number. -/
theorem val_45 : Ideal.ofBits .f32 1110704128#32 = ((45 : ℝ) : EReal) := by
  show Words.val 1110704128 = _
  rw [Words.val_normal 1110704128 132 3407872 (by norm_num) (by norm_num) (by norm_num) (by norm_num)]
  congr 1; norm_num [zpow_neg]

/-- A truth value's word is one exactly when it holds. -/
theorem ofBool_one (b : Bool) : BitVec.ofBool b = 1#1 ↔ b = true := by cases b <;> simp

/-- An indicator read as a float. -/
theorem ind_float (p : Prop) [Decidable p] :
    FloatOps.sitofp (F := Ideal) .f32 (BitVec.setWidth 32 (BitVec.ofBool (decide p))) = if p then (1 : EReal) else 0 := by
  refine (Words.ind _).trans ?_
  by_cases h : p <;> simp [h]

/-! ### The distances of a row and the two tests -/

variable (x0 : Vec Ideal S128x4 .f32) (v8 v9 : Vec Ideal S1x5456 .f32)

/-- Box row `r`'s distances to every place. -/
def dist (r : Fin 128) : Fin 5456 → EReal := fun x => k0_pay10 x0 v8 v9 (ix2 r x)

/-- The value loop's test at a word. -/
abbrev P (r : Fin 128) (w : ℕ) : Prop := 45 ≤ (univ.filter fun x => dist x0 v8 v9 r x ≤ Words.val w).card

/-- The place loop's test at a cut. -/
abbrev Q (r : Fin 128) (v : EReal) (w : ℕ) : Prop :=
  45 ≤ (univ.filter fun x => dist x0 v8 v9 r x < v).card
    + (univ.filter fun x => dist x0 v8 v9 r x = v ∧ x.val ≤ w).card

/-- The value loop's test, computed. -/
theorem test_val (lo hi : IVec S128x1 32) (r : Fin 128) (h : (lo (ix2 r 0)).toNat ≤ (hi (ix2 r 0)).toNat)
    (hb : (hi (ix2 r 0)).toNat < 2147483648) :
    k0_pay15 x0 v8 v9 lo hi (ix2 r 0) = 1#1
      ↔ P x0 v8 v9 r ((lo (ix2 r 0)).toNat + ((hi (ix2 r 0)).toNat - (lo (ix2 r 0)).toNat) / 2) := by
  have e : k0_pay15 x0 v8 v9 lo hi (ix2 r 0) = BitVec.ofBool (decide
      (Ideal.ofBits FTy.f32 1110704128#32 ≤ ∑ x, FloatOps.sitofp (F := Ideal) FTy.f32 (BitVec.setWidth 32
        (BitVec.ofBool (decide (k0_pay10 x0 v8 v9 (ix2 r x) ≤ Ideal.ofBits FTy.f32
          (IntOp.addi (lo (ix2 r 0)) (IntOp.shrsi ArithUnit.vector (IntOp.subi (hi (ix2 r 0)) (lo (ix2 r 0))) 1#32)))))))) := by
    unfold k0_pay15 k0_pay14 k0_pay11
    dsimp only
    pointwise
  rw [e, ofBool_one, decide_eq_true_eq]
  simp only [ind_float]
  rw [Words.sum_ind, val_45, ofBits_eq_val, mid_toNat _ _ h hb, EReal.coe_le_coe_iff]
  unfold P dist
  rw [show (45 : ℝ) = ((45 : ℕ) : ℝ) by norm_num, Nat.cast_le]

/-- The place loop's test, computed. -/
theorem test_idx (t lo hi : IVec S128x1 32) (r : Fin 128) (h : (lo (ix2 r 0)).toNat ≤ (hi (ix2 r 0)).toNat)
    (hb : (hi (ix2 r 0)).toNat < 2147483648) :
    k0_pay4 (iota .tc S128x5456 32 [1] iota_S128x5456_d1_w32) (k0_pay11 (F := Ideal)) (k0_pay19 x0 v8 v9 t)
        (k0_pay20 x0 v8 v9 t) lo hi (ix2 r 0) = 1#1
      ↔ Q x0 v8 v9 r (Words.val (t (ix2 r 0)).toNat)
          ((lo (ix2 r 0)).toNat + ((hi (ix2 r 0)).toNat - (lo (ix2 r 0)).toNat) / 2) := by
  have e : k0_pay4 (iota .tc S128x5456 32 [1] iota_S128x5456_d1_w32) (k0_pay11 (F := Ideal)) (k0_pay19 x0 v8 v9 t)
      (k0_pay20 x0 v8 v9 t) lo hi (ix2 r 0) = BitVec.ofBool (decide
        (Ideal.ofBits FTy.f32 1110704128#32 -
            ∑ x, FloatOps.sitofp (F := Ideal) FTy.f32 (BitVec.setWidth 32
              (BitVec.ofBool (decide (k0_pay10 x0 v8 v9 (ix2 r x) < Ideal.ofBits FTy.f32 (t (ix2 r 0)))))) ≤
          ∑ x, Scalar.select
              (IntOp.cmpi CmpIPredicate.sle (BitVec.ofNat 32 x.val)
                (IntOp.addi (lo (ix2 r 0))
                  (IntOp.shrsi ArithUnit.vector (IntOp.subi (hi (ix2 r 0)) (lo (ix2 r 0))) 1#32)))
              (FloatOps.sitofp (F := Ideal) FTy.f32 (BitVec.setWidth 32
                (BitVec.ofBool (decide (k0_pay10 x0 v8 v9 (ix2 r x) = Ideal.ofBits FTy.f32 (t (ix2 r 0)))))))
              (0 : EReal))) := by
    unfold k0_pay4 k0_pay3 k0_pay11 k0_pay19 k0_pay20 k0_pay18 k0_pay11
    dsimp only
    pointwise
  rw [e, ofBool_one, decide_eq_true_eq]
  have hsel : ∀ x : Fin 5456, Scalar.select
              (IntOp.cmpi CmpIPredicate.sle (BitVec.ofNat 32 x.val)
                (IntOp.addi (lo (ix2 r 0))
                  (IntOp.shrsi ArithUnit.vector (IntOp.subi (hi (ix2 r 0)) (lo (ix2 r 0))) 1#32)))
              (if k0_pay10 x0 v8 v9 (ix2 r x) = Ideal.ofBits FTy.f32 (t (ix2 r 0)) then (1 : EReal) else 0) (0 : EReal)
      = if dist x0 v8 v9 r x = Words.val (t (ix2 r 0)).toNat
          ∧ x.val ≤ (lo (ix2 r 0)).toNat + ((hi (ix2 r 0)).toNat - (lo (ix2 r 0)).toNat) / 2 then 1 else 0 := by
    intro x
    have hc : IntOp.cmpi CmpIPredicate.sle (BitVec.ofNat 32 x.val)
                (IntOp.addi (lo (ix2 r 0))
                  (IntOp.shrsi ArithUnit.vector (IntOp.subi (hi (ix2 r 0)) (lo (ix2 r 0))) 1#32)) = 1#1
        ↔ x.val ≤ (lo (ix2 r 0)).toNat + ((hi (ix2 r 0)).toNat - (lo (ix2 r 0)).toNat) / 2 := by
      have hx := x.isLt
      have hm := mid_toNat _ _ h hb
      generalize IntOp.addi (lo (ix2 r 0))
                  (IntOp.shrsi ArithUnit.vector (IntOp.subi (hi (ix2 r 0)) (lo (ix2 r 0))) 1#32) = y at hm ⊢
      rw [← hm]
      show BitVec.ofBool ((BitVec.ofNat 32 x.val).sle y) = 1#1 ↔ _
      rw [ofBool_one, BitVec.sle_iff_toInt_le, BitVec.toInt_eq_toNat_of_lt, BitVec.toInt_eq_toNat_of_lt]
      · rw [BitVec.toNat_ofNat, Nat.mod_eq_of_lt (by omega)]
        exact Int.ofNat_le
      · omega
      · rw [BitVec.toNat_ofNat, Nat.mod_eq_of_lt (by omega)]; omega
    unfold Scalar.select
    rw [ofBits_eq_val]
    unfold dist
    by_cases h1 : x.val ≤ (lo (ix2 r 0)).toNat + ((hi (ix2 r 0)).toNat - (lo (ix2 r 0)).toNat) / 2
    · rw [hc.2 h1]; simp only [h1, and_true]; rfl
    · have : ¬ _ := fun e => h1 (hc.1 e)
      simp [this, h1]
  simp only [ind_float, hsel]
  rw [Words.sum_ind, Words.sum_ind, val_45, ofBits_eq_val, ← EReal.coe_sub, EReal.coe_le_coe_iff]
  unfold Q dist
  rw [sub_le_iff_le_add', show (45 : ℝ) = ((45 : ℕ) : ℝ) by norm_num, ← Nat.cast_add, Nat.cast_le]

/-! ### The two loops -/

/-- One trip of the value loop. -/
def valTrip (s : IVec S128x1 32 × IVec S128x1 32) : IVec S128x1 32 × IVec S128x1 32 :=
  (k0_pay16 x0 v8 v9 s.1 s.2, k0_pay17 x0 v8 v9 s.1 s.2)

/-- The words the value loop ends with. -/
def T : IVec S128x1 32 := (valTrip x0 v8 v9)^[25] (k0_pay12, k0_pay13) |>.1

/-- One trip of the place loop. -/
def idxTrip (t : IVec S128x1 32) (s : IVec S128x1 32 × IVec S128x1 32) : IVec S128x1 32 × IVec S128x1 32 :=
  (k0_pay5 (iota .tc S128x5456 32 [1] iota_S128x5456_d1_w32) (k0_pay11 (F := Ideal)) (k0_pay19 x0 v8 v9 t)
      (k0_pay20 x0 v8 v9 t) s.1 s.2,
   k0_pay6 (iota .tc S128x5456 32 [1] iota_S128x5456_d1_w32) (k0_pay11 (F := Ideal)) (k0_pay19 x0 v8 v9 t)
      (k0_pay20 x0 v8 v9 t) s.1 s.2)

/-- The places the place loop ends with. -/
def M : IVec S128x1 32 := (idxTrip x0 v8 v9 (T x0 v8 v9))^[13] (k0_pay1 0#32, k0_pay2) |>.1

/-- A row's two words hold an interval. -/
def Holds (r : Fin 128) (s : IVec S128x1 32 × IVec S128x1 32) (p : ℕ × ℕ) : Prop :=
  (s.1 (ix2 r 0)).toNat = p.1 ∧ (s.2 (ix2 r 0)).toNat = p.2

theorem val_step (r : Fin 128) (s : IVec S128x1 32 × IVec S128x1 32) (p : ℕ × ℕ) (hs : Holds r s p) (h : p.1 ≤ p.2)
    (hb : p.2 < 2147483648) : Holds r (valTrip x0 v8 v9 s) (Pick.step (P x0 v8 v9 r) p) := by
  obtain ⟨h1, h2⟩ := hs
  have hm := mid_toNat (s.1 (ix2 r 0)) (s.2 (ix2 r 0)) (by omega) (by omega)
  have ht := test_val x0 v8 v9 s.1 s.2 r (by omega) (by omega)
  have e16 : k0_pay16 x0 v8 v9 s.1 s.2 (ix2 r 0) = if k0_pay15 x0 v8 v9 s.1 s.2 (ix2 r 0) = 1#1 then s.1 (ix2 r 0)
      else IntOp.addi (IntOp.addi (s.1 (ix2 r 0)) (IntOp.shrsi .vector (IntOp.subi (s.2 (ix2 r 0)) (s.1 (ix2 r 0))) 1#32)) 1#32 := rfl
  have e17 : k0_pay17 x0 v8 v9 s.1 s.2 (ix2 r 0) = if k0_pay15 x0 v8 v9 s.1 s.2 (ix2 r 0) = 1#1 then
      IntOp.addi (s.1 (ix2 r 0)) (IntOp.shrsi .vector (IntOp.subi (s.2 (ix2 r 0)) (s.1 (ix2 r 0))) 1#32)
      else s.2 (ix2 r 0) := rfl
  rw [h1, h2] at ht hm
  unfold Holds valTrip Pick.step
  dsimp only
  rw [e16, e17]
  by_cases hp : P x0 v8 v9 r (p.1 + (p.2 - p.1) / 2)
  · have hy := ht.2 hp
    rw [if_pos hy, if_pos hp, if_pos hy]
    exact ⟨h1, hm⟩
  · have hn := mt ht.1 hp
    rw [if_neg hn, if_neg hp, if_neg hn]
    exact ⟨by rw [succ_toNat _ (by omega), hm], h2⟩

theorem idx_step (t : IVec S128x1 32) (r : Fin 128) (s : IVec S128x1 32 × IVec S128x1 32) (p : ℕ × ℕ) (hs : Holds r s p)
    (h : p.1 ≤ p.2) (hb : p.2 < 2147483648) :
    Holds r (idxTrip x0 v8 v9 t s) (Pick.step (Q x0 v8 v9 r (Words.val (t (ix2 r 0)).toNat)) p) := by
  obtain ⟨h1, h2⟩ := hs
  have hm := mid_toNat (s.1 (ix2 r 0)) (s.2 (ix2 r 0)) (by omega) (by omega)
  have ht := test_idx x0 v8 v9 t s.1 s.2 r (by omega) (by omega)
  unfold Holds idxTrip Pick.step
  dsimp only
  rw [h1, h2] at ht hm
  have e5 : ∀ a b c d, k0_pay5 (F := Ideal) a b c d s.1 s.2 (ix2 r 0) = if k0_pay4 a b c d s.1 s.2 (ix2 r 0) = 1#1 then s.1 (ix2 r 0)
      else IntOp.addi (IntOp.addi (s.1 (ix2 r 0)) (IntOp.shrsi .vector (IntOp.subi (s.2 (ix2 r 0)) (s.1 (ix2 r 0))) 1#32)) 1#32 :=
    fun _ _ _ _ => rfl
  have e6 : ∀ a b c d, k0_pay6 (F := Ideal) a b c d s.1 s.2 (ix2 r 0) = if k0_pay4 a b c d s.1 s.2 (ix2 r 0) = 1#1 then
      IntOp.addi (s.1 (ix2 r 0)) (IntOp.shrsi .vector (IntOp.subi (s.2 (ix2 r 0)) (s.1 (ix2 r 0))) 1#32)
      else s.2 (ix2 r 0) := fun _ _ _ _ => rfl
  rw [e5, e6]
  by_cases hp : Q x0 v8 v9 r (Words.val (t (ix2 r 0)).toNat) (p.1 + (p.2 - p.1) / 2)
  · have hy := ht.2 hp
    rw [if_pos hy, if_pos hp, if_pos hy]
    exact ⟨h1, hm⟩
  · have hn := mt ht.1 hp
    rw [if_neg hn, if_neg hp, if_neg hn]
    exact ⟨by rw [succ_toNat _ (by omega), hm], h2⟩

/-- Trips that follow halving steps, from words that hold the first interval. -/
theorem follow (r : Fin 128) (f : IVec S128x1 32 × IVec S128x1 32 → IVec S128x1 32 × IVec S128x1 32)
    (R : ℕ → Prop) [DecidablePred R] (LO HI k : ℕ) (h : LO ≤ HI) (hR : R HI) (hk : HI - LO < 2 ^ k) (hH : HI < 2147483648)
    (s : IVec S128x1 32 × IVec S128x1 32) (hs : Holds r s (LO, HI))
    (hf : ∀ s p, Holds r s p → p.1 ≤ p.2 → p.2 < 2147483648 → Holds r (f s) (Pick.step R p)) :
    ∀ j, j ≤ k → Holds r (f^[j] s) ((Pick.step R)^[j] (LO, HI)) := by
  intro j
  induction j with
  | zero => intro _; exact hs
  | succ j ih =>
    intro hj
    rw [Function.iterate_succ_apply', Function.iterate_succ_apply']
    obtain ⟨_, h2, h3, _⟩ := Pick.step_inv R LO HI h hR k hk j (by omega)
    exact hf _ _ (ih (by omega)) h2 (by omega)

/-! ### What the main phase selects -/

/-- The places selected by the two scratches: the 45 nearest, when the 45th distance lies in the searched range and the
    46th is at least `2⁻¹⁷` further. -/
theorem selected (r : Fin 128) (σ : Fin 5456 → Fin 5456) (hσ : Function.Bijective σ)
    (hm : ∀ i j : Fin 5456, i < j → dist x0 v8 v9 r (σ i) ≤ dist x0 v8 v9 r (σ j))
    (hlo : ((16 : ℝ) : EReal) ≤ dist x0 v8 v9 r (σ 44)) (hhi : dist x0 v8 v9 r (σ 44) ≤ ((96 : ℝ) : EReal))
    (hsep : dist x0 v8 v9 r (σ 44) + (((2 : ℝ) ^ (-17 : ℤ) : ℝ) : EReal) ≤ dist x0 v8 v9 r (σ 45)) (x : Fin 5456) :
    (M x0 v8 v9 (ix2 r 0)).toNat ≤ 5455 ∧
    ((dist x0 v8 v9 r x < Words.val (T x0 v8 v9 (ix2 r 0)).toNat
        ∨ (dist x0 v8 v9 r x = Words.val (T x0 v8 v9 (ix2 r 0)).toNat ∧ x.val ≤ (M x0 v8 v9 (ix2 r 0)).toNat))
      ↔ ∃ i : Fin 5456, i.val < 45 ∧ σ i = x) := by
  have h44 : ((44 : Fin 5456)).val = 44 := rfl
  have h45 : ((45 : Fin 5456)).val = 45 := rfl
  have hP : P x0 v8 v9 r 1119879168 := by
    have := Pick.card_ge _ σ hσ hm 44 _ (hhi.trans_eq Words.val_hi.symm)
    exact this
  have hT := (follow r (valTrip x0 v8 v9) (P x0 v8 v9 r) 1098907648 1119879168 25 (by norm_num) hP (by norm_num)
    (by norm_num) (k0_pay12, k0_pay13) ⟨rfl, rfl⟩ (fun s p => val_step x0 v8 v9 r s p) 25 le_rfl).1
  have hth := Pick.threshold (dist x0 v8 v9 r) σ hσ hm 44 45 Words.val (((2 : ℝ) ^ (-17 : ℤ) : ℝ) : EReal)
    1098907648 1119879168 25 (by norm_num) (by norm_num) Words.val_gap (Words.val_lo.trans_le hlo)
    (hhi.trans_eq Words.val_hi.symm) (ne_top_of_le_ne_top (EReal.coe_ne_top _) hhi)
    (ne_bot_of_le_ne_bot (EReal.coe_ne_bot _) hlo) (by positivity) (EReal.coe_ne_top _) hsep
    (P x0 v8 v9 r) (fun w => Iff.rfl)
  rw [← hT] at hth
  change _ ≤ Words.val (T x0 v8 v9 (ix2 r 0)).toNat ∧ Words.val (T x0 v8 v9 (ix2 r 0)).toNat < _ at hth
  obtain ⟨g1, g2⟩ := hth
  have hcard := Pick.card_bracket _ σ hσ hm 44 45 rfl _ g1 g2
  have hsplit := Pick.card_split (dist x0 v8 v9 r) (Words.val (T x0 v8 v9 (ix2 r 0)).toNat)
  have hQ : Q x0 v8 v9 r (Words.val (T x0 v8 v9 (ix2 r 0)).toNat) 5455 := by
    have e : (univ.filter fun x => dist x0 v8 v9 r x = Words.val (T x0 v8 v9 (ix2 r 0)).toNat ∧ x.val ≤ 5455)
        = univ.filter fun x => dist x0 v8 v9 r x = Words.val (T x0 v8 v9 (ix2 r 0)).toNat := by
      apply Finset.filter_congr
      intro y _
      have := y.isLt
      exact ⟨fun h => h.1, fun h => ⟨h, by omega⟩⟩
    show 45 ≤ _ + _
    rw [e]
    omega
  have hM := (follow r (idxTrip x0 v8 v9 (T x0 v8 v9)) (Q x0 v8 v9 r (Words.val (T x0 v8 v9 (ix2 r 0)).toNat)) 0 5455 13
    (by norm_num) hQ (by norm_num) (by norm_num) (k0_pay1 0#32, k0_pay2) ⟨rfl, rfl⟩
    (fun s p => idx_step x0 v8 v9 (T x0 v8 v9) r s p) 13 le_rfl).1
  have hbi := Pick.bisect (Q x0 v8 v9 r (Words.val (T x0 v8 v9 (ix2 r 0)).toNat)) 0 5455 (by norm_num) hQ 13
    (by norm_num)
  rw [← hM] at hbi
  refine ⟨hbi.2.1, ?_⟩
  have hb := hbi.2.2.1
  change 45 ≤ _ + (univ.filter fun y => dist x0 v8 v9 r y = Words.val (T x0 v8 v9 (ix2 r 0)).toNat
    ∧ y.val ≤ (M x0 v8 v9 (ix2 r 0)).toNat).card at hb
  rw [Pick.cut_all (dist x0 v8 v9 r) (Words.val (T x0 v8 v9 (ix2 r 0)).toNat)
    (fun y => y.val ≤ (M x0 v8 v9 (ix2 r 0)).toNat) (by omega) x]
  exact Pick.bracket_iff _ σ hσ hm 44 45 rfl _ g1 g2 x

end Cert.Proof.Search
-- ==== Proof.KRead.lean ====
/-
  What the grid's points read: the windows' blocks and the loads from them, in terms of the arguments and the literal tables.
-/
module

public import proofs.«01_k».proof.Proof.Gen.KernelIdeal.Value
public import proofs.«01_k».proof.Proof.KPay
public import proofs.«01_k».proof.Proof.Search

@[expose] public section

set_option maxRecDepth 16384

noncomputable section

namespace Cert.Proof.KRead

open Idealize.ShloMosaic Idealize.SL.Sem Cert.KernelIdeal Cert.KernelIdeal.Gen

/-- Which block each window shows at a point. -/
theorem idx : ∀ t : Fin cfg0.N, win0_0.index t = ![0, 0] ∧ win0_1.index t = ![0, 0, 0] ∧ win0_2.index t = ![0, 0, 0]
    ∧ win0_3.index t = ![0, 0, 0] ∧ win0_4.index t = ![t.val - 1, 0, 0, 0] ∧ win0_5.index t = ![0, 0]
    ∧ win0_6.index t = ![0, 0] ∧ win0_7.index t = ![0, 0] ∧ win0_8.index t = ![t.val - 1, 0, 0]
    ∧ win0_9.index t = ![t.val - 1, 0, 0] :=
  (by decide +kernel : ∀ t : Fin grid0.N, _)

/-- Where the main phase's loads start. -/
theorem offs : ∀ t : Fin cfg0.N, 1 ≤ t.val → k0_off1 (grid0.coords t) = ![t.val - 1, 0, 0]
    ∧ k0_off2 (grid0.coords t) = ![t.val - 1, 0, 0] ∧ k0_off3 (grid0.coords t) = ![t.val - 1, 0, 0]
    ∧ k0_off4 (grid0.coords t) = ![16 * (t.val - 1), 0] :=
  (by decide +kernel : ∀ t : Fin grid0.N, _)

/-- The two results are written back at the main phase's points only. -/
theorem flush : ∀ t : Fin cfg0.N, ((cfg0.win 8).flush t = true → 1 ≤ t.val) ∧ ((cfg0.win 9).flush t = true → 1 ≤ t.val) :=
  (by decide +kernel : ∀ t : Fin grid0.N, _)

/-- The batch a point of the main phase works on. -/
def bat (t : Fin cfg0.N) : Fin 8 := ⟨t.val - 1, by have h : t.val < 9 := t.isLt; omega⟩

/-- The scratches' row of a batch's box. -/
def row (b : Fin 8) (g : Fin 16) : Fin 128 := ⟨16 * b.val + g.val, by omega⟩

/-- A load of a slice of a rank 3 array from the first axis's place `n`. -/
theorem ld3 {A B C a b d : ℕ} {β : EltTy} (X : Vec Ideal (⟨3, ![A, B, C]⟩ : Shape) β) (off : Fin 3 → ℕ) (n : ℕ)
    (e : off = ![n, 0, 0]) (hh) (i : Fin a) (j : Fin b) (k : Fin d) (i' : Fin A) (j' : Fin B) (k' : Fin C)
    (hi : i'.val = n + i.val) (hj : j'.val = j.val) (hk : k'.val = k.val) :
    View.ld X (Rect.unit (s := (⟨3, ![A, B, C]⟩ : Shape)) off ![a, b, d] hh) (ix3 i j k : (⟨3, ![a, b, d]⟩ : Shape).Idx)
      = X (ix3 i' j' k') := by
  subst e
  refine View.ld_unit_apply_of X _ _ _ _ _ fun z => ?_
  fin_cases z
  · exact hi
  · exact hj.trans (Nat.zero_add _).symm
  · exact hk.trans (Nat.zero_add _).symm

/-- A load of rows of a rank 2 array from row `n`. -/
theorem ld2 {A B a b : ℕ} {β : EltTy} (X : Vec Ideal (⟨2, ![A, B]⟩ : Shape) β) (off : Fin 2 → ℕ) (n : ℕ)
    (e : off = ![n, 0]) (hh) (i : Fin a) (j : Fin b) (i' : Fin A) (j' : Fin B) (hi : i'.val = n + i.val)
    (hj : j'.val = j.val) :
    View.ld X (Rect.unit (s := (⟨2, ![A, B]⟩ : Shape)) off ![a, b] hh) (ix2 i j : (⟨2, ![a, b]⟩ : Shape).Idx)
      = X (ix2 i' j') := by
  subst e
  refine View.ld_unit_apply_of X _ _ _ _ _ fun z => ?_
  fin_cases z
  · exact hi
  · exact hj.trans (Nat.zero_add _).symm

/-! ### The literal tables -/

/-- The table of points, two rows. -/
def ptsT : Vec Ideal S2x5456 .f32 := fun i => FloatOps.ofBits (F := Ideal) .f32 (lit0 (S2x5456.rowMajor i))
/-- The table of the anchors' boxes, four rows. -/
def boxT : Vec Ideal S4x5456 .f32 := fun i => FloatOps.ofBits (F := Ideal) .f32 (lit1 (S4x5456.rowMajor i))
/-- The table of strides, one row. -/
def strT : Vec Ideal S1x5456 .f32 := fun i => FloatOps.ofBits (F := Ideal) .f32 (lit2 (S1x5456.rowMajor i))

variable (m : (ℓ : Loc nD τ sig) → Buf (Elt Ideal) ℓ) (c : Dev nD)

/-- The classes. -/
def cls (b : Fin 8) (g : Fin 16) : BitVec 32 := (m ((c.tc : Thread nD τ).loc main_arg0) : Vec Ideal S8x16 .i32) (ix2 b g)
/-- The boxes. -/
def box (b : Fin 8) (g : Fin 16) (k : Fin 4) : EReal :=
  (m ((c.tc : Thread nD τ).loc main_arg1) : Vec Ideal S8x16x4 .f32) (ix3 b g k)
/-- The predictions. -/
def pred (b : Fin 8) (k : Fin 4) (j : Fin 17) (x : Fin 5456) : EReal :=
  (m ((c.tc : Thread nD τ).loc main_arg2) : Vec Ideal S8x4x17x5456 .f32) (ix4 b k j x)

/-! ### The blocks -/

theorem b1 (t : Fin cfg0.N) : (iblk m c 1 t : Vec Ideal S8x16x4 .f32) = m ((c.tc : Thread nD τ).loc main_arg1) := by
  blk_ext! [iblk, V, idx t]

theorem b5 (t : Fin cfg0.N) : (iblk m c 5 t : Vec Ideal S2x5456 .f32) = ptsT := by
  have e : (V m c main_cst : Vec Ideal S2x5456 .f32) = ptsT := by entry_read; rfl
  rw [← e]
  blk_ext! [iblk, idx t]

theorem b6 (t : Fin cfg0.N) : (iblk m c 6 t : Vec Ideal S4x5456 .f32) = boxT := by
  have e : (V m c main_cst_0 : Vec Ideal S4x5456 .f32) = boxT := by entry_read; rfl
  rw [← e]
  blk_ext! [iblk, idx t]

theorem b7 (t : Fin cfg0.N) : (iblk m c 7 t : Vec Ideal S1x5456 .f32) = strT := by
  have e : (V m c main_cst_1 : Vec Ideal S1x5456 .f32) = strT := by entry_read; rfl
  rw [← e]
  blk_ext! [iblk, idx t]

/-- The boxes as the first phase sees them: a row per batch and box. -/
def flatBox : Vec Ideal S128x4 .f32 :=
  shapeCast S128x4 (m ((c.tc : Thread nD τ).loc main_arg1) : Vec Ideal S8x16x4 .f32) shapeCasts_S8x16x4_S128x4

theorem b0 (t : Fin cfg0.N) : (iblk m c 0 t : Vec Ideal S128x4 .f32) = flatBox m c := by
  have e : (V m c main_v2 : Vec Ideal S128x4 .f32) = flatBox m c := by entry_read; rfl
  rw [← e]
  blk_ext! [iblk, idx t]

theorem flatBox_at (b : Fin 8) (g : Fin 16) (k : Fin 4) : flatBox m c (ix2 (row b g) k) = box m c b g k := by
  refine shapeCast_apply _ _ _ (ix3 b g k) ?_
  rw [Shape.rowMajor_val_three, Shape.rowMajor_val_two]
  show (b.val * 16 + g.val) * 4 + k.val = (16 * b.val + g.val) * 4 + k.val
  omega

theorem b2 (t : Fin cfg0.N) (b : Fin 8) (g : Fin 16) :
    (iblk m c 2 t : Vec Ideal S8x16x1 .i32) (ix3 b g 0) = cls m c b g := by
  have e : (V m c main_v0 : Vec Ideal S8x16x1 .i32)
      = shapeCast S8x16x1 (m ((c.tc : Thread nD τ).loc main_arg0) : Vec Ideal S8x16 .i32) shapeCasts_S8x16_S8x16x1 := by
    entry_read; rfl
  have e' : (iblk m c 2 t : Vec Ideal S8x16x1 .i32) = (V m c main_v0 : Vec Ideal S8x16x1 .i32) := by blk_ext! [iblk, idx t]
  rw [e', e]
  pointwise
  unfold cls
  blk_ext []

theorem b3 (t : Fin cfg0.N) (b : Fin 8) (g : Fin 16) :
    (iblk m c 3 t : Vec Ideal S8x1x16 .i32) (ix3 b 0 g) = cls m c b g := by
  have e : (V m c main_v1 : Vec Ideal S8x1x16 .i32)
      = shapeCast S8x1x16 (m ((c.tc : Thread nD τ).loc main_arg0) : Vec Ideal S8x16 .i32) shapeCasts_S8x16_S8x1x16 := by
    entry_read; rfl
  have e' : (iblk m c 3 t : Vec Ideal S8x1x16 .i32) = (V m c main_v1 : Vec Ideal S8x1x16 .i32) := by blk_ext! [iblk, idx t]
  rw [e', e]
  pointwise
  unfold cls
  blk_ext []

theorem b4 (t : Fin cfg0.N) (a : Fin 1) (k : Fin 4) (j : Fin 17) (x : Fin 5456) :
    (iblk m c 4 t : Vec Ideal S1x4x17x5456 .f32) (ix4 a k j x) = pred m c (bat t) k j x := by
  have hb : (bat t).val = t.val - 1 := rfl
  unfold pred
  blk_ext [iblk, V, idx t]

end Cert.Proof.KRead
-- ==== Proof.KRun.lean ====
/-
  What the grid's points compute: the scratches after the first phase, and the results' blocks after each later point.
-/
module

public import proofs.«01_k».proof.Proof.KRead

@[expose] public section

set_option maxRecDepth 16384

noncomputable section

namespace Cert.Proof.KRun

open Idealize.ShloMosaic Idealize.SL.Sem Cert.KernelIdeal Cert.KernelIdeal.Gen Cert.Proof.KRead

variable (m : (ℓ : Loc nD τ sig) → Buf (Elt Ideal) ℓ) (c : Dev nD)

/-- The anchors' first coordinates. -/
def r0 : Vec Ideal S1x5456 .f32 := View.ld ptsT (Rect.unit (s := S2x5456) ![0, 0] ![1, 5456] inb_S2x5456_S1x5456_0_0)
/-- The anchors' second coordinates. -/
def r1 : Vec Ideal S1x5456 .f32 := View.ld ptsT (Rect.unit (s := S2x5456) ![1, 0] ![1, 5456] inb_S2x5456_S1x5456_1_0)

/-- A counted loop whose body ignores the trip is the body iterated. -/
theorem fold_const {n : ℕ} {σ : Type} (f : σ → σ) (s : σ) : Scf.fold (fun (_ : Fin n) s => f s) s = f^[n] s := by
  rw [Scf.fold_eq, List.foldl_const, List.length_finRange]

theorem pay7 (v : IVec S128x1 32) : k0_pay7 v = v := by
  unfold k0_pay7
  exact shapeCast_self _ _

theorem pay8 (v : IVec S128x1 32) : k0_pay8 v = v := by
  unfold k0_pay8
  exact shapeCast_self _ _

/-- The first point leaves the thresholds' words and the tie places in the scratches. -/
theorem first (h : 0 < cfg0.N) : ((outsAt0 m c 0 h).2.2.1 : IVec S128x1 32) = Search.T (flatBox m c) r0 r1
    ∧ ((outsAt0 m c 0 h).2.2.2 : IVec S128x1 32) = Search.M (flatBox m c) r0 r1 := by
  have e := outsAt0_A m c ⟨0, h⟩ rfl (Nat.not_succ_le_zero 0)
  have eT : k0_pay7 (Scf.fold (fun (_ : Fin 25) s => Search.valTrip (flatBox m c) r0 r1 s) (k0_pay12, k0_pay13)).1
      = Search.T (flatBox m c) r0 r1 := by
    rw [pay7, fold_const, Search.T]
  have eM : k0_pay8 (Scf.fold (fun (_ : Fin 13) s => Search.idxTrip (flatBox m c) r0 r1
        (Scf.fold (fun (_ : Fin 25) s => Search.valTrip (flatBox m c) r0 r1 s) (k0_pay12, k0_pay13)).1 s)
        (k0_pay1 0#32, k0_pay2)).1 = Search.M (flatBox m c) r0 r1 := by
    rw [pay8, fold_const, fold_const, Search.M, Search.T]
  constructor
  · rw [show outsAt0 m c 0 h = _ from e]
    frame_out
    rw [b0, b5]
    exact eT
  · rw [show outsAt0 m c 0 h = _ from e]
    frame_out
    rw [b0, b5]
    exact eM

/-- Later points leave the scratches as they are. -/
theorem later (n : ℕ) (h : n + 1 < cfg0.N) :
    ((outsAt0 m c (n + 1) h).2.2.1 : IVec S128x1 32) = (outsAt0 m c n (by omega)).2.2.1
    ∧ ((outsAt0 m c (n + 1) h).2.2.2 : IVec S128x1 32) = (outsAt0 m c n (by omega)).2.2.2 := by
  have hh : n + 1 < 9 := h
  have e := outsAt0_B m c ⟨n + 1, h⟩ (by show ¬ (n + 1) % 9 = 0; omega) (by show 1 ≤ n + 1; omega)
  constructor
  · rw [show outsAt0 m c (n + 1) h = _ from e]
    rfl
  · rw [show outsAt0 m c (n + 1) h = _ from e]
    rfl

/-- The scratches after any point. -/
theorem scratch (n : ℕ) : ∀ h : n < cfg0.N, ((outsAt0 m c n h).2.2.1 : IVec S128x1 32) = Search.T (flatBox m c) r0 r1
    ∧ ((outsAt0 m c n h).2.2.2 : IVec S128x1 32) = Search.M (flatBox m c) r0 r1 := by
  induction n with
  | zero => exact first m c
  | succ n ih =>
    intro h
    obtain ⟨e1, e2⟩ := later m c n h
    obtain ⟨i1, i2⟩ := ih (by omega)
    exact ⟨e1.trans i1, e2.trans i2⟩

/-- The values a later point loads, the scratches holding `tw` and `mw`. -/
def loads (t : Fin cfg0.N) (h1 : 1 ≤ t.val) (tw mw : IVec S128x1 32) : KPay.Loads where
  v8 := View.ld (m ((c.tc : Thread nD τ).loc main_arg1) : Vec Ideal S8x16x4 .f32)
    (Rect.unit (s := S8x16x4) (k0_off1 (grid0.coords t)) ![1, 16, 4] (k0_off1_inb (grid0.coords t) ((hcond0_1 t).mpr h1)))
  v11 := View.ld (iblk m c 2 t : Vec Ideal S8x16x1 .i32)
    (Rect.unit (s := S8x16x1) (k0_off2 (grid0.coords t)) ![1, 16, 1] (k0_off2_inb (grid0.coords t) ((hcond0_1 t).mpr h1)))
  v15 := View.ld (iblk m c 3 t : Vec Ideal S8x1x16 .i32)
    (Rect.unit (s := S8x1x16) (k0_off3 (grid0.coords t)) ![1, 1, 16] (k0_off3_inb (grid0.coords t) ((hcond0_1 t).mpr h1)))
  v20 := View.ld (tw : Vec Ideal S128x1 .i32)
    (Rect.unit (s := S128x1) (k0_off4 (grid0.coords t)) ![16, 1] (k0_off4_inb (grid0.coords t) ((hcond0_1 t).mpr h1)))
  v23 := View.ld (mw : Vec Ideal S128x1 .i32)
    (Rect.unit (s := S128x1) (k0_off4 (grid0.coords t)) ![16, 1] (k0_off4_inb (grid0.coords t) ((hcond0_1 t).mpr h1)))
  v24 := iblk m c 4 t
  v26 := r0
  v27 := r1
  v28 := strT
  v86 := View.ld boxT (Rect.unit (s := S4x5456) ![0, 0] ![1, 5456] inb_S4x5456_S1x5456_0_0)
  v87 := View.ld boxT (Rect.unit (s := S4x5456) ![1, 0] ![1, 5456] inb_S4x5456_S1x5456_1_0)
  v88 := View.ld boxT (Rect.unit (s := S4x5456) ![2, 0] ![1, 5456] inb_S4x5456_S1x5456_2_0)
  v89 := View.ld boxT (Rect.unit (s := S4x5456) ![3, 0] ![1, 5456] inb_S4x5456_S1x5456_3_0)

/-- The first result's block after a later point. -/
theorem out8 (t : Fin cfg0.N) (h1 : 1 ≤ t.val) : (outsAt0 m c t.val t.isLt).1 = KPay.qfl
    (loads m c t h1 (Search.T (flatBox m c) r0 r1) (Search.M (flatBox m c) r0 r1)) := by
  have hh : t.val < 9 := t.isLt
  obtain ⟨i1, i2⟩ := scratch m c (t.val - 1) (Nat.lt_of_le_of_lt (Nat.sub_le _ _) t.isLt)
  rw [outsAt0_B m c t (by omega) h1]
  frame_out
  have u0 := fun X => Memref.IsWhole.read_unread (Val := Elt Ideal) (Memref.isWhole_whole cc0_scratch0) X
  have u1 := fun X => Memref.IsWhole.read_unread (Val := Elt Ideal) (Memref.isWhole_whole cc0_scratch1) X
  simp only [Memref.view_whole] at u0 u1
  rw [b1, b5, b6, b7, i1, i2]
  rw [u0, u1]
  generalize Search.T (flatBox m c) r0 r1 = tw
  generalize Search.M (flatBox m c) r0 r1 = mw
  rfl

/-- The second result's block after a later point. -/
theorem out9 (t : Fin cfg0.N) (h1 : 1 ≤ t.val) : (outsAt0 m c t.val t.isLt).2.1 = KPay.dfl
    (loads m c t h1 (Search.T (flatBox m c) r0 r1) (Search.M (flatBox m c) r0 r1)) := by
  have hh : t.val < 9 := t.isLt
  obtain ⟨i1, i2⟩ := scratch m c (t.val - 1) (Nat.lt_of_le_of_lt (Nat.sub_le _ _) t.isLt)
  rw [outsAt0_B m c t (by omega) h1]
  frame_out
  have u0 := fun X => Memref.IsWhole.read_unread (Val := Elt Ideal) (Memref.isWhole_whole cc0_scratch0) X
  have u1 := fun X => Memref.IsWhole.read_unread (Val := Elt Ideal) (Memref.isWhole_whole cc0_scratch1) X
  simp only [Memref.view_whole] at u0 u1
  rw [b1, b5, b6, b7, i1, i2]
  rw [u0, u1]
  generalize Search.T (flatBox m c) r0 r1 = tw
  generalize Search.M (flatBox m c) r0 r1 = mw
  rfl

/-- What a later point's loads hold. -/
theorem reads (t : Fin cfg0.N) (h1 : 1 ≤ t.val) (tw mw : IVec S128x1 32) :
    KPay.Reads (loads m c t h1 tw mw) (box m c (bat t)) (fun x k => ptsT (ix2 k x))
    (fun x k => boxT (ix2 k x)) (fun x => strT (ix2 0 x)) (cls m c (bat t)) := by
  obtain ⟨o1, o2, o3, o4⟩ := offs t h1
  have hb : (bat t).val = t.val - 1 := rfl
  constructor
  · intro g k; exact ld3 _ _ _ o1 _ _ _ _ (bat t) g k rfl rfl rfl
  · intro g; exact (ld3 _ _ _ o2 _ _ _ _ (bat t) g 0 rfl rfl rfl).trans (b2 m c t _ _)
  · intro g; exact (ld3 _ _ _ o3 _ _ _ _ (bat t) 0 g rfl rfl rfl).trans (b3 m c t _ _)
  · intro x; exact ld2 ptsT _ 0 rfl _ (0 : Fin 1) x (0 : Fin 2) x rfl rfl
  · intro x; exact ld2 ptsT _ 1 rfl _ (0 : Fin 1) x (1 : Fin 2) x rfl rfl
  · intro x; rfl
  · intro x; exact ld2 boxT _ 0 rfl _ (0 : Fin 1) x (0 : Fin 4) x rfl rfl
  · intro x; exact ld2 boxT _ 1 rfl _ (0 : Fin 1) x (1 : Fin 4) x rfl rfl
  · intro x; exact ld2 boxT _ 2 rfl _ (0 : Fin 1) x (2 : Fin 4) x rfl rfl
  · intro x; exact ld2 boxT _ 3 rfl _ (0 : Fin 1) x (3 : Fin 4) x rfl rfl

/-- The scratches' words a later point loads. -/
theorem words (t : Fin cfg0.N) (h1 : 1 ≤ t.val) (tw mw : IVec S128x1 32) (g : Fin 16) :
    (loads m c t h1 tw mw).v20 (ix2 g 0) = tw (ix2 (row (bat t) g) 0)
    ∧ (loads m c t h1 tw mw).v23 (ix2 g 0) = mw (ix2 (row (bat t) g) 0) := by
  obtain ⟨o1, o2, o3, o4⟩ := offs t h1
  constructor
  · exact ld2 (β := .i32) tw _ _ o4 _ g (0 : Fin 1) (row (bat t) g) 0 rfl rfl
  · exact ld2 (β := .i32) mw _ _ o4 _ g (0 : Fin 1) (row (bat t) g) 0 rfl rfl

end Cert.Proof.KRun
-- ==== Proof.Sel.lean ====
/-
  The main phase marks the 45 nearest anchors of each box.
-/
module

public import proofs.«01_k».proof.Proof.KRun

@[expose] public section
set_option maxRecDepth 16384
noncomputable section
namespace Cert.Proof.Sel
open Idealize.ShloMosaic Idealize.SL.Sem Cert.KernelIdeal Cert.KernelIdeal.Gen Cert.Proof.KRead Cert.Proof.KRun

theorem ori_one (a b : BitVec 1) : IntOp.ori a b = 1#1 ↔ a = 1#1 ∨ b = 1#1 := by
  revert a b; decide

/-- A signed comparison of a place with a small word. -/
theorem sle_place (x : Fin 5456) (w : BitVec 32) (hw : w.toNat ≤ 5455) :
    IntOp.cmpi .sle (BitVec.ofNat 32 x.val) w = 1#1 ↔ x.val ≤ w.toNat := by
  have h : IntOp.cmpi .sle (BitVec.ofNat 32 x.val) w = BitVec.ofBool ((BitVec.ofNat 32 x.val).sle w) := rfl
  have hx := x.isLt
  have e : (BitVec.ofNat 32 x.val).toNat = x.val := by
    rw [BitVec.toNat_ofNat]; exact Nat.mod_eq_of_lt (by omega)
  rw [h, Spec.bool_one, BitVec.sle_eq_decide, decide_eq_true_eq, BitVec.toInt_eq_toNat_of_lt (by rw [e]; omega),
    BitVec.toInt_eq_toNat_of_lt (by omega), e]
  exact Nat.cast_le

/-- What marks an anchor in the main phase. -/
theorem sel_read {L : KPay.Loads} {box : Fin 16 → Fin 4 → EReal} {pts : Fin 5456 → Fin 2 → EReal} {ab : Fin 5456 → Fin 4 → EReal}
    {st : Fin 5456 → EReal} {cls : Fin 16 → BitVec 32} (R : KPay.Reads L box pts ab st cls) (g : Fin 16) (x : Fin 5456)
    (hw : (L.v23 (ix2 g 0)).toNat ≤ 5455) :
    KPay.sel L (ix2 g x) = 1#1 ↔ (Spec.centre (box g) (pts x) < Words.val (L.v20 (ix2 g 0)).toNat
      ∨ (Spec.centre (box g) (pts x) = Words.val (L.v20 (ix2 g 0)).toNat ∧ x.val ≤ (L.v23 (ix2 g 0)).toNat)) := by
  have e : KPay.sel L (ix2 g x) = IntOp.ori (BitVec.ofBool (decide (Spec.centre (box g) (pts x) < Ideal.ofBits .f32 (L.v20 (ix2 g 0)))))
      (IntOp.andi (BitVec.ofBool (decide (Spec.centre (box g) (pts x) = Ideal.ofBits .f32 (L.v20 (ix2 g 0)))))
        (IntOp.cmpi .sle (BitVec.ofNat 32 x.val) (L.v23 (ix2 g 0)))) := by
    pointwise [KPay.sel, k0_pay35]
    rw [KPay.y1 R, KPay.x1 R, KPay.y2 R, KPay.x2 R, R.h26, R.h27]
    rfl
  rw [e, ori_one, Spec.andi_one, Spec.bool_one, Spec.bool_one, decide_eq_true_eq, decide_eq_true_eq, sle_place _ _ hw,
    Search.ofBits_eq_val]

variable (m : (ℓ : Loc nD τ sig) → Buf (Elt Ideal) ℓ) (c : Dev nD)

/-- The first phase's distances. -/
theorem dist_eq (b : Fin 8) (g : Fin 16) (x : Fin 5456) :
    Search.dist (flatBox m c) r0 r1 (row b g) x = Spec.centre (box m c b g) (fun k => ptsT (ix2 k x)) := by
  have e0 : r0 (ix2 0 x) = ptsT (ix2 0 x) := ld2 ptsT _ 0 rfl _ (0 : Fin 1) x (0 : Fin 2) x rfl rfl
  have e1 : r1 (ix2 0 x) = ptsT (ix2 1 x) := ld2 ptsT _ 1 rfl _ (0 : Fin 1) x (1 : Fin 2) x rfl rfl
  have f := fun k => flatBox_at m c b g k
  generalize row b g = r at f
  unfold Search.dist Spec.centre
  dsimp only
  rw [← f, ← f, ← f, ← f, ← e0, ← e1]
  pointwise [k0_pay10]

/-- The main phase marks a box's 45 nearest anchors. -/
theorem chosen (t : Fin cfg0.N) (h1 : 1 ≤ t.val) (g : Fin 16) (x : Fin 5456) (σ : Fin 5456 → Fin 5456)
    (hσ : Function.Bijective σ) (D : Fin 5456 → EReal)
    (hD : ∀ x, D x = Spec.centre (box m c (bat t) g) (fun k => ptsT (ix2 k x)))
    (hm : ∀ i j : Fin 5456, i < j → D (σ i) ≤ D (σ j)) (hlo : ((16 : ℝ) : EReal) ≤ D (σ 44))
    (hhi : D (σ 44) ≤ ((96 : ℝ) : EReal)) (hsep : D (σ 44) + (((2 : ℝ) ^ (-17 : ℤ) : ℝ) : EReal) ≤ D (σ 45)) :
    KPay.sel (loads m c t h1 (Search.T (flatBox m c) r0 r1) (Search.M (flatBox m c) r0 r1)) (ix2 g x) = 1#1
      ↔ ∃ i : Fin 5456, i.val < 45 ∧ σ i = x := by
  have hd : Search.dist (flatBox m c) r0 r1 (row (bat t) g) = D := by
    funext x; rw [dist_eq, hD]
  have hs := Search.selected (flatBox m c) r0 r1 (row (bat t) g) σ hσ
  rw [hd] at hs
  obtain ⟨hM, hs⟩ := hs hm hlo hhi hsep x
  obtain ⟨w1, w2⟩ := words m c t h1 (Search.T (flatBox m c) r0 r1) (Search.M (flatBox m c) r0 r1) g
  have hr := sel_read (reads m c t h1 (Search.T (flatBox m c) r0 r1) (Search.M (flatBox m c) r0 r1)) g x
  rw [w2, w1, ← hD] at hr
  exact (hr hM).trans hs

end Cert.Proof.Sel
-- ==== Proof.RefRead.lean ====
/-
  The reference's operations read to the specification.
-/
module

public import proofs.«01_k».proof.Proof.Gen.ReferenceIdeal.Run
public import proofs.«01_k».proof.Proof.Spec
public import Idealize.ShloMosaic.Lib.Pipeline.ValueKit
public import Idealize.ShloMosaic.Lib.Pointwise
public import Idealize.ShloMosaic.PureOps.Ideal
public import Idealize.ShloMosaic.Adequacy
public import Idealize.ShloMosaic.Lib.Tactic.CleanTypes

@[expose] public section

set_option maxRecDepth 16384

noncomputable section

namespace Cert.Proof.RefRead

open Idealize.ShloMosaic Idealize.ShloMosaic.StableHlo Idealize.SL.Sem Cert.ReferenceIdeal Cert.ReferenceIdeal.Gen Cert.ReferenceIdeal.Value

variable (V0 : Valuation τ sig (Elt Ideal))

/-- The classes of a batch's boxes. -/
def cls (b : Fin 8) (g : Fin 16) : BitVec 32 := (V0 (Proc.devRef .tc main_arg0) : Vec Ideal S8x16 .i32) (ix2 b g)
/-- A batch's boxes. -/
def box (b : Fin 8) (g : Fin 16) (k : Fin 4) : EReal := (V0 (Proc.devRef .tc main_arg1) : Vec Ideal S8x16x4 .f32) (ix3 b g k)
/-- A batch's predictions. -/
def pred (b : Fin 8) (k : Fin 4) (j : Fin 17) (x : Fin 5456) : EReal :=
  (V0 (Proc.devRef .tc main_arg2) : Vec Ideal S8x4x17x5456 .f32) (ix4 b k j x)
/-- The anchor points. -/
def pts (x : Fin 5456) (k : Fin 2) : EReal := (res_main_cst V0 : Vec Ideal S5456x2 .f32) (ix2 x k)
/-- The anchor boxes. -/
def ab (x : Fin 5456) (k : Fin 4) : EReal := (res_main_cst_0 V0 : Vec Ideal S5456x4 .f32) (ix2 x k)
/-- The anchor strides. -/
def st (x : Fin 5456) : EReal := (res_main_cst_1 V0 : Vec Ideal S5456 .f32) (ix1 x)
/-- The marks of the chosen anchors. -/
def sel (b : Fin 8) (g : Fin 16) (x : Fin 5456) : BitVec 1 := (res_main_v34 V0 : IVec S8x16x5456 1) (ix3 b g x)
/-- The expected predicted distances. -/
def pd (b : Fin 8) (x : Fin 5456) (k : Fin 4) : EReal := (res_main_v13 V0 : Vec Ideal S8x4x5456 .f32) (ix3 b k x)

theorem h35 (b : Fin 8) (g : Fin 16) : res_main_v35 V0 (ix3 b g 0) = box V0 b g 0 := by
  clean_types; pointwise [res_main_v35, box]
theorem h36 (b : Fin 8) (g : Fin 16) : res_main_v36 V0 (ix3 b g 0) = box V0 b g 1 := by
  clean_types; pointwise [res_main_v36, box]
theorem h37 (b : Fin 8) (g : Fin 16) : res_main_v37 V0 (ix3 b g 0) = box V0 b g 2 := by
  clean_types; pointwise [res_main_v37, box]
theorem h38 (b : Fin 8) (g : Fin 16) : res_main_v38 V0 (ix3 b g 0) = box V0 b g 3 := by
  clean_types; pointwise [res_main_v38, box]
theorem h40 (x : Fin 5456) : res_main_v40 V0 (ix1 x) = pts V0 x 0 := by
  clean_types; pointwise [res_main_v40, pts]
theorem h42 (x : Fin 5456) : res_main_v42 V0 (ix1 x) = pts V0 x 1 := by
  clean_types; pointwise [res_main_v42, pts]
theorem h44 (x : Fin 5456) : res_main_v44 V0 (ix1 x) = ab V0 x 0 := by
  clean_types; pointwise [res_main_v44, ab]
theorem h46 (x : Fin 5456) : res_main_v46 V0 (ix1 x) = ab V0 x 1 := by
  clean_types; pointwise [res_main_v46, ab]
theorem h48 (x : Fin 5456) : res_main_v48 V0 (ix1 x) = ab V0 x 2 := by
  clean_types; pointwise [res_main_v48, ab]
theorem h50 (x : Fin 5456) : res_main_v50 V0 (ix1 x) = ab V0 x 3 := by
  clean_types; pointwise [res_main_v50, ab]

theorem h73 (b : Fin 8) (g : Fin 16) (x : Fin 5456) : res_main_v73 V0 (ix3 b g x) = Spec.inter (box V0 b g) (ab V0 x) := by
  clean_types; pointwise [res_main_v73]
  erw [h35, h36, h37, h38, h44, h46, h48, h50]
  rfl

theorem h85 (b : Fin 8) (g : Fin 16) (x : Fin 5456) : res_main_v85 V0 (ix3 b g x) = Spec.overlap (box V0 b g) (ab V0 x) := by
  clean_types; pointwise [res_main_v85]
  erw [h73, h35, h36, h37, h38, h44, h46, h48, h50]
  rfl

theorem h90 (b : Fin 8) (g : Fin 16) :
    res_main_v90 V0 (ix3 b g 0) = Spec.mean (sel V0 b g) (fun x => Spec.overlap (box V0 b g) (ab V0 x)) := by
  unfold res_main_v90
  clean_types; simp only [id_eq]; pointwise
  simp only [h85]
  rfl

theorem andi_four (a b c d : BitVec 1) :
    IntOp.andi (IntOp.andi (IntOp.andi a b) c) d = IntOp.andi (IntOp.andi a b) (IntOp.andi c d) := by
  revert a b c d; decide

theorem h125 (b : Fin 8) (g : Fin 16) (x : Fin 5456) :
    res_main_v125 V0 (ix3 b g x) = Spec.hit (sel V0 b g) (box V0 b g) (pts V0) (ab V0) x := by
  unfold res_main_v125
  clean_types; simp only [id_eq]; pointwise
  rw [andi_four]
  simp only [h85, h90, h35, h36, h37, h38, h40, h42]
  rfl

theorem h132 (b : Fin 8) (g : Fin 16) (x : Fin 5456) :
    res_main_v132 V0 (ix3 b g x) = Spec.side (box V0 b g) (pts V0 x) (st V0 x) 0 := by
  clean_types; pointwise [res_main_v132]
  erw [h35, h40]; rfl
theorem h139 (b : Fin 8) (g : Fin 16) (x : Fin 5456) :
    res_main_v139 V0 (ix3 b g x) = Spec.side (box V0 b g) (pts V0 x) (st V0 x) 1 := by
  clean_types; pointwise [res_main_v139]
  erw [h36, h42]; rfl
theorem h146 (b : Fin 8) (g : Fin 16) (x : Fin 5456) :
    res_main_v146 V0 (ix3 b g x) = Spec.side (box V0 b g) (pts V0 x) (st V0 x) 2 := by
  clean_types; pointwise [res_main_v146]
  erw [h37, h40]; rfl
theorem h153 (b : Fin 8) (g : Fin 16) (x : Fin 5456) :
    res_main_v153 V0 (ix3 b g x) = Spec.side (box V0 b g) (pts V0 x) (st V0 x) 3 := by
  clean_types; pointwise [res_main_v153]
  erw [h38, h42]; rfl
theorem h160 (b : Fin 8) (g : Fin 16) (x : Fin 5456) :
    res_main_v160 V0 (ix3 b g x) = Spec.span (pts V0 x) (st V0 x) (Spec.side (box V0 b g) (pts V0 x) (st V0 x)) 0 := by
  unfold res_main_v160
  clean_types; simp only [id_eq]; pointwise
  simp only [h40, h132]; rfl
theorem h167 (b : Fin 8) (g : Fin 16) (x : Fin 5456) :
    res_main_v167 V0 (ix3 b g x) = Spec.span (pts V0 x) (st V0 x) (Spec.side (box V0 b g) (pts V0 x) (st V0 x)) 1 := by
  unfold res_main_v167
  clean_types; simp only [id_eq]; pointwise
  simp only [h42, h139]; rfl
theorem h174 (b : Fin 8) (g : Fin 16) (x : Fin 5456) :
    res_main_v174 V0 (ix3 b g x) = Spec.span (pts V0 x) (st V0 x) (Spec.side (box V0 b g) (pts V0 x) (st V0 x)) 2 := by
  unfold res_main_v174
  clean_types; simp only [id_eq]; pointwise
  simp only [h40, h146]; rfl
theorem h181 (b : Fin 8) (g : Fin 16) (x : Fin 5456) :
    res_main_v181 V0 (ix3 b g x) = Spec.span (pts V0 x) (st V0 x) (Spec.side (box V0 b g) (pts V0 x) (st V0 x)) 3 := by
  unfold res_main_v181
  clean_types; simp only [id_eq]; pointwise
  simp only [h42, h153]; rfl
theorem h192 (b : Fin 8) (x : Fin 5456) :
    res_main_v192 V0 (ix3 b 0 x) = Spec.span (pts V0 x) (st V0 x) (pd V0 b x) 0 := by
  unfold res_main_v192
  clean_types; simp only [id_eq]; pointwise
  simp only [h40]; rfl
theorem h199 (b : Fin 8) (x : Fin 5456) :
    res_main_v199 V0 (ix3 b 0 x) = Spec.span (pts V0 x) (st V0 x) (pd V0 b x) 1 := by
  unfold res_main_v199
  clean_types; simp only [id_eq]; pointwise
  simp only [h42]; rfl
theorem h206 (b : Fin 8) (x : Fin 5456) :
    res_main_v206 V0 (ix3 b 0 x) = Spec.span (pts V0 x) (st V0 x) (pd V0 b x) 2 := by
  unfold res_main_v206
  clean_types; simp only [id_eq]; pointwise
  simp only [h40]; rfl
theorem h213 (b : Fin 8) (x : Fin 5456) :
    res_main_v213 V0 (ix3 b 0 x) = Spec.span (pts V0 x) (st V0 x) (pd V0 b x) 3 := by
  unfold res_main_v213
  clean_types; simp only [id_eq]; pointwise
  simp only [h42]; rfl

theorem h228 (b : Fin 8) (g : Fin 16) (x : Fin 5456) :
    res_main_v228 V0 (ix3 b g x) = Spec.inter (Spec.span (pts V0 x) (st V0 x) (Spec.side (box V0 b g) (pts V0 x) (st V0 x)))
      (Spec.span (pts V0 x) (st V0 x) (pd V0 b x)) := by
  unfold res_main_v228
  clean_types; pointwise
  simp only [h160, h167, h174, h181, h192, h199, h206, h213]; rfl

theorem h238 (b : Fin 8) (g : Fin 16) (x : Fin 5456) :
    res_main_v238 V0 (ix3 b g x) = Spec.quality (box V0 b g) (pts V0 x) (st V0 x) (pd V0 b x) := by
  unfold res_main_v238
  clean_types; pointwise
  simp only [h228, h160, h167, h174, h181, h192, h199, h206, h213]; rfl

theorem h248 (b : Fin 8) (g : Fin 16) (c : Fin 80) (x : Fin 5456) :
    res_main_v248 V0 (ix4 b g c x) =
      IntOp.andi (Spec.hit (sel V0 b g) (box V0 b g) (pts V0) (ab V0) x) (IntOp.cmpi .eq (cls V0 b g) (BitVec.ofNat 32 c.val)) := by
  unfold res_main_v248
  clean_types; pointwise
  simp only [h125]; rfl

theorem h253 (b : Fin 8) (g : Fin 16) (k : Fin 4) (x : Fin 5456) :
    res_main_v253 V0 (ix4 b g k x) = Spec.side (box V0 b g) (pts V0 x) (st V0 x) k := by
  unfold res_main_v253
  clean_types; pointwise
  simp only [h132, h139, h146, h153]
  fin_cases k <;> rfl

/-- The first result over the device's contents at the launch. -/
def G0 (V0 : Valuation τ sig (Elt Ideal)) : Vec Ideal S8x80x5456 .f32 := fun j =>
  Spec.qfl (sel V0 (j 0)) (box V0 (j 0)) (pts V0) (ab V0) (st V0) (pd V0 (j 0)) (cls V0 (j 0)) (j 1) (j 2)

/-- The second result over the device's contents at the launch. -/
def G1 (V0 : Valuation τ sig (Elt Ideal)) : Vec Ideal S8x4x5456 .f32 := fun j =>
  Spec.dfl (sel V0 (j 0)) (box V0 (j 0)) (pts V0) (ab V0) (st V0) (j 1) (j 2)

/-- The reference's run: its results are the specification's. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v441) = G0 (launchContents m c)
      ∧ r.2.mem ((c.tc : Thread nD τ).loc main_v447) = G1 (launchContents m c)
      ∧ r.2.mem ((c.tc : Thread nD τ).loc main_cst) = res_main_cst (launchContents m c)
      ∧ r.2.mem ((c.tc : Thread nD τ).loc main_cst_1) = res_main_cst_1 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2⟩) (Value.run m ρ)
  · generalize launchContents m c = V0
    unfold res_main_v357
    clean_types
    ext j
    obtain ⟨b, k, x, rfl⟩ : ∃ (b : Fin 8) (k : Fin 80) (x : Fin 5456), j = ix3 b k x := ⟨_, _, _, eq_ix3 j⟩
    pointwise
    simp only [h248, h238]
    rfl
  · generalize launchContents m c = V0
    unfold res_main_v375
    clean_types
    ext j
    obtain ⟨b, k, x, rfl⟩ : ∃ (b : Fin 8) (k : Fin 4) (x : Fin 5456), j = ix3 b k x := ⟨_, _, _, eq_ix3 j⟩
    pointwise
    simp only [h125, h253]
    rfl

end Cert.Proof.RefRead

end
-- ==== Proof.Top.lean ====
/-
  The order in which the reference takes the anchors of a box: the greatest negated distance first.
-/
module

public import Idealize.ShloMosaic.PureOps.Ideal
public import Idealize.ShloMosaic.Lib.Pointwise
public import Idealize.ShloMosaic.Lib.Pipeline.ValueKit
public import Idealize.ShloMosaic.Lib.SortFacts

@[expose] public section

set_option maxRecDepth 16384

noncomputable section

namespace Cert.Proof.Top

open Idealize.ShloMosaic

/-- The place that stands at a position once a row is ordered, greatest first. -/
def ord (f : Fin 5456 → EReal) : Fin 5456 → Fin 5456 :=
  sortedFrom (fun k k' => FloatOps.cmpfTotal (F := Ideal) (φ := .f32) CmpDirection.gt (f k) (f k') == 1#1)

theorem before_iff (a b : EReal) :
    (FloatOps.cmpfTotal (F := Ideal) (φ := .f32) CmpDirection.gt a b == 1#1) = true ↔ b < a := by
  have h : FloatOps.cmpfTotal (F := Ideal) (φ := .f32) CmpDirection.gt a b = BitVec.ofBool (decide (b < a)) := rfl
  rw [h]
  by_cases hl : b < a
  · simp [hl]
  · simp [hl]

theorem ord_bijective (f : Fin 5456 → EReal) : Function.Bijective (ord f) :=
  ⟨sortedFrom_injective _, sortedFrom_surjective _⟩

theorem ord_mono (f : Fin 5456 → EReal) (i j : Fin 5456) (h : i < j) : f (ord f j) ≤ f (ord f i) := by
  have hn := sortedFrom_noInversion
    (fun k k' => FloatOps.cmpfTotal (F := Ideal) (φ := .f32) CmpDirection.gt (f k) (f k') == 1#1)
    (fun k k' => FloatOps.cmpfTotal (F := Ideal) (φ := .f32) CmpDirection.gt (f k) (f k') == 1#1)
    (fun a b hab => by
      rw [before_iff] at hab
      rw [← Bool.not_eq_true, before_iff]
      exact hab.asymm)
    (fun _ _ hab => hab)
    (fun a b c hab hbc => by
      rw [← Bool.not_eq_true, before_iff, not_lt] at hab hbc ⊢
      exact hab.trans hbc) i j h
  rw [← Bool.not_eq_true, before_iff, not_lt] at hn
  exact hn

theorem along_last (b : Fin 8) (g : Fin 16) (x k : Fin 5456) :
    (ix3 b g x : (⟨3, ![8, 16, 5456]⟩ : Shape).Idx).along 2 k = ix3 b g k := by
  funext a
  fin_cases a <;> rfl

/-- The values taken, for any number of them. -/
theorem topK_fst (n : ℕ) (hn : n ≤ 5456) (v : FVec Ideal ⟨3, ![8, 16, 5456]⟩ .f32)
    (h : (⟨3, ![8, 16, 5456]⟩ : Shape).Slices (fun _ => 0) ⟨3, ![8, 16, n]⟩) (b : Fin 8) (g : Fin 16) (i : Fin n) :
    (Host.topK ⟨3, ![8, 16, n]⟩ 2 (FloatOps.cmpfTotal .gt) v h).1 (ix3 b g i)
      = v (ix3 b g (ord (fun x => v (ix3 b g x)) ⟨i.val, i.isLt.trans_le hn⟩)) := by
  unfold Host.topK Host.sort2 ord
  pointwise
  simp only [along_last]

/-- The places taken, for any number of them. -/
theorem topK_snd (n : ℕ) (hn : n ≤ 5456) (v : FVec Ideal ⟨3, ![8, 16, 5456]⟩ .f32)
    (h : (⟨3, ![8, 16, 5456]⟩ : Shape).Slices (fun _ => 0) ⟨3, ![8, 16, n]⟩) (b : Fin 8) (g : Fin 16) (i : Fin n) :
    (Host.topK ⟨3, ![8, 16, n]⟩ 2 (FloatOps.cmpfTotal .gt) v h).2 (ix3 b g i)
      = BitVec.ofNat 32 (ord (fun x => v (ix3 b g x)) ⟨i.val, i.isLt.trans_le hn⟩).val := by
  unfold Host.topK Host.sort2 ord
  pointwise
  simp only [along_last, ix3_2]

end Cert.Proof.Top

end
-- ==== Proof.RefSel.lean ====
/-
  The reference's chosen anchors and expected distances: the marks say whether an anchor stands among the first 45 of a
  box's anchors in order of distance, and of predictions below plus infinity the softmax's expectation is one quotient of sums.
-/
module

public import proofs.«01_k».proof.Proof.RefRead
public import proofs.«01_k».proof.Proof.Top
public import proofs.«01_k».proof.Proof.Forms
public import Idealize.ShloMosaic.Lib.Routing.OpsOrder

@[expose] public section

set_option maxRecDepth 16384

noncomputable section

namespace Cert.Proof.RefSel

open Idealize.ShloMosaic Idealize.ShloMosaic.StableHlo Idealize.SL.Sem Cert.ReferenceIdeal Cert.ReferenceIdeal.Gen Cert.ReferenceIdeal.Value RefRead

variable (V0 : Valuation τ sig (Elt Ideal))

/-- The negated distances of a box from the anchors. -/
def near (b : Fin 8) (g : Fin 16) (x : Fin 5456) : EReal := -Spec.centre (box V0 b g) (pts V0 x)

theorem h27 (b : Fin 8) (g : Fin 16) (x : Fin 5456) : res_main_v27 V0 (ix3 b g x) = near V0 b g x := by
  unfold res_main_v27
  clean_types; pointwise [res_main_v23]
  rw [Fin.sum_univ_two]
  rfl

/-- Whether an anchor is chosen. -/
theorem sel_iff (b : Fin 8) (g : Fin 16) (x : Fin 5456) :
    sel V0 b g x = 1#1 ↔ ∃ i : Fin 5456, i.val < 45 ∧ Top.ord (near V0 b g) i = x := by
  have hf : (fun x => (res_main_v27 V0 : FVec Ideal S8x16x5456 .f32) (ix3 b g x)) = near V0 b g := funext fun x => h27 V0 b g x
  unfold sel res_main_v34
  clean_types
  rw [Host.reduce_eq_fold_single _ _ _ _ (by decide : S8x16x45x5456.Reduces [2] S8x16x5456)]
  have e : constantI S_ 1 0#1 (Shape.Idx.first h_S_) = 0#1 := rfl
  rw [e, Routing.fold_ori]
  generalize hp : cmpi CmpIPredicate.eq (_ : IVec S8x16x45x5456 32) (_ : IVec S8x16x45x5456 32) = p
  have key : ∀ (b' : Fin 8) (g' : Fin 16) (i : Fin 45) (x' : Fin 5456), p (ix4 b' g' i x')
      = IntOp.cmpi .eq ((Host.topK S8x16x45 2 (FloatOps.cmpfTotal CmpDirection.gt) (res_main_v27 V0)
                sliceFits_S8x16x5456_S8x16x45).2 (ix3 b' g' i)) (BitVec.ofNat 32 x'.val) := by
    intro b' g' i x'
    rw [← hp]
    pointwise
  have hl : ∀ i : Fin 45, (by decide : S8x16x45x5456.Reduces [2] S8x16x5456).lift (ix3 b g x) i = ix4 b g i x := by
    intro i
    funext a
    fin_cases a <;> rfl
  have hv : ∀ i : Fin 45, (p ∘ (by decide : S8x16x45x5456.Reduces [2] S8x16x5456).lift (ix3 b g x)) i = 1#1 ↔
      Top.ord (near V0 b g) ⟨i.val, i.isLt.trans (by decide)⟩ = x := by
    intro i
    have h1 : (p ∘ (by decide : S8x16x45x5456.Reduces [2] S8x16x5456).lift (ix3 b g x)) i = p (ix4 b g i x) :=
      congrArg p (hl i)
    rw [h1, key, Spec.eq_one, Top.topK_snd 45 (by decide), hf]
    generalize Top.ord (near V0 b g) ⟨i.val, _⟩ = y
    constructor
    · intro h
      have h2 := congrArg BitVec.toNat h
      rw [BitVec.toNat_ofNat, BitVec.toNat_ofNat, Nat.mod_eq_of_lt (y.isLt.trans (by norm_num)),
        Nat.mod_eq_of_lt (x.isLt.trans (by norm_num))] at h2
      exact Fin.ext h2
    · rintro rfl; rfl
  constructor
  · rintro ⟨i, -, hi⟩
    exact ⟨⟨i.val, i.isLt.trans (by decide)⟩, i.isLt, (hv i).mp hi⟩
  · rintro ⟨i, hi, hx⟩
    exact ⟨⟨i.val, hi⟩, Finset.mem_univ _, (hv ⟨i.val, hi⟩).mpr hx⟩

/-- The greatest of a row of predictions. -/
def top (b : Fin 8) (k : Fin 4) (x : Fin 5456) : EReal := Finset.fold max (⊥ : EReal) (fun j => pred V0 b k j x) Finset.univ

theorem bot_bits : Ideal.ofBits .f32 4286578688#32 = (⊥ : EReal) := by
  simp [Ideal.ofBits, Ideal.ieee]

theorem reduce_top (P : FVec Ideal S8x4x17x5456 .f32) (b : Fin 8) (k : Fin 4) (x : Fin 5456) :
    Host.reduce FloatOps.maximumf P (constant S_ .f32 0xFF800000#32) reducesTo_S8x4x17x5456_S8x4x5456_d2 h_S_ (ix3 b k x)
      = Finset.fold max (⊥ : EReal) (fun j : Fin 17 => P (ix4 b k j x)) Finset.univ := by
  have hl : ∀ i : Fin 17, (by decide : S8x4x17x5456.Reduces [2] S8x4x5456).lift (ix3 b k x) i = ix4 b k i x := by
    intro i
    funext a
    fin_cases a <;> rfl
  have e : constant (F := Ideal) S_ .f32 0xFF800000#32 (Shape.Idx.first h_S_) = (⊥ : EReal) := bot_bits
  have hm : (FloatOps.maximumf (F := Ideal) (φ := .f32)) = (max : EReal → EReal → EReal) := rfl
  rw [Host.reduce_eq_fold_single _ _ _ _ (by decide : S8x4x17x5456.Reduces [2] S8x4x5456), e]
  exact congrArg (fun f => Finset.fold max (⊥ : EReal) f Finset.univ) (funext fun i => congrArg P (hl i))

theorem h4 (b : Fin 8) (k : Fin 4) (j : Fin 17) (x : Fin 5456) :
    res_main_v4 V0 (ix4 b k j x) = Ideal.exp (pred V0 b k j x - top V0 b k x) := by
  have hr := reduce_top (V0 (Proc.devRef .tc main_arg2)) b k x
  unfold res_main_v4
  clean_types
  generalize Host.reduce (FloatOps.maximumf (F := Ideal) (φ := .f32)) _ _ _ _ = q at hr ⊢
  pointwise
  rw [hr]
  rfl

theorem top_lt (b : Fin 8) (k : Fin 4) (x : Fin 5456) (ht : ∀ j, pred V0 b k j x ≠ ⊤) : top V0 b k x < ⊤ := by
  unfold top
  rw [Finset.fold_max_lt]
  exact ⟨bot_lt_top, fun j _ => lt_top_iff_ne_top.mpr (ht j)⟩

theorem bot_lt_top_of (b : Fin 8) (k : Fin 4) (x : Fin 5456) (j : Fin 17) (hj : pred V0 b k j x ≠ ⊥) : ⊥ < top V0 b k x := by
  unfold top
  rw [Finset.lt_fold_max]
  exact Or.inr ⟨j, Finset.mem_univ _, bot_lt_iff_ne_bot.mpr hj⟩

/-- Of predictions below plus infinity the expected distance is one quotient of sums. -/
theorem pd_eq (b : Fin 8) (x : Fin 5456) (k : Fin 4) (ht : ∀ j, pred V0 b k j x ≠ ⊤) :
    pd V0 b x k = Forms.expect (fun j => pred V0 b k j x) := by
  have hl : pd V0 b x k = ∑ j : Fin 17, Ideal.div (Ideal.exp (pred V0 b k j x - top V0 b k x))
      (∑ j' : Fin 17, Ideal.exp (pred V0 b k j' x - top V0 b k x)) * FloatOps.sitofp (F := Ideal) .f32 (BitVec.ofNat 32 j.val) := by
    unfold pd res_main_v13
    clean_types; pointwise
    simp only [h4]
  rw [hl]
  by_cases hb : ∃ j, pred V0 b k j x ≠ ⊥
  · obtain ⟨j, hj⟩ := hb
    have hM : top V0 b k x = ((top V0 b k x).toReal : EReal) :=
      (EReal.coe_toReal (top_lt V0 b k x ht).ne (bot_lt_top_of V0 b k x j hj).ne').symm
    rw [hM, Forms.softmax _ _ ht ⟨j, hj⟩]
  · have hv : ∀ j, pred V0 b k j x = ⊥ := fun j => by_contra fun h => hb ⟨j, h⟩
    have hM : top V0 b k x = ⊥ := by
      unfold top
      simp only [hv]
      refine le_bot_iff.mp (Finset.fold_max_le _ |>.mpr ⟨le_rfl, fun _ _ => le_rfl⟩)
    simp only [hv, hM]
    exact Forms.softmax_bot.symm

end Cert.Proof.RefSel

end
-- ==== Proof.Pre.lean ====
/-
  What the precondition says: no prediction is plus infinity, and for every box the distance of its 45th nearest anchor
  is at most 96 and the 46th nearest is at least a 2 to the minus 17 farther.
-/
module

public import proofs.«01_k».proof.Proof.Gen.Pre_separated
public import proofs.«01_k».proof.Proof.Top
public import proofs.«01_k».proof.Proof.Spec
public import proofs.«01_k».proof.Proof.Words
public import Idealize.ShloMosaic.Lib.Pipeline.ValueKit
public import Idealize.ShloMosaic.Lib.Pointwise
public import Idealize.ShloMosaic.PureOps.Ideal
public import Idealize.ShloMosaic.Lib.Tactic.CleanTypes

@[expose] public section

set_option maxRecDepth 16384

noncomputable section

namespace Cert.Proof.Pre

open Idealize.ShloMosaic Cert.Pre_separated Cert.Pre_separated.Gen

/-- A conjunction over a finite set that comes out one has every member one. -/
theorem fold_andi {ι : Type} [DecidableEq ι] (s : Finset ι) (p : ι → BitVec 1)
    (h : Finset.fold IntOp.andi (1#1) p s = 1#1) : ∀ x ∈ s, p x = 1#1 := by
  induction s using Finset.induction_on with
  | empty => intro x hx; exact absurd hx (Finset.notMem_empty _)
  | insert a s ha ih =>
    rw [Finset.fold_insert ha, Spec.andi_one] at h
    intro x hx
    rcases Finset.mem_insert.mp hx with rfl | hx
    · exact h.1
    · exact ih h.2 x hx

theorem all_of_reduce {s : Shape} {axes : List (Fin s.rank)} (p : IVec s 1) (h : s.ReducesTo axes S_) (hu : 0 < S_.numel) (j : S_.Idx)
    (h1 : Host.reduce IntOp.andi p (constantI S_ 1 1#1) h hu j = 1#1) (i : s.Idx) : p i = 1#1 := by
  rw [Host.reduce_eq_fold] at h1
  have e : constantI S_ 1 1#1 (Shape.Idx.first hu) = 1#1 := rfl
  rw [e] at h1
  refine fold_andi _ p h1 i ?_
  rw [Finset.mem_filter]
  exact ⟨Finset.mem_univ _, funext fun a => a.elim0⟩

/-- The anchor points of the precondition. -/
def pts (x : Fin 5456) (k : Fin 2) : EReal := FloatOps.ofBits (F := Ideal) .f32 (lit0 (S5456x2.rowMajor (ix2 x k)))

theorem top_bits : Ideal.ofBits .f32 2139095040#32 = (⊤ : EReal) := by
  simp [Ideal.ofBits, Ideal.ieee]

theorem hi_bits : Ideal.ofBits .f32 1119879168#32 = ((96 : ℝ) : EReal) := Words.val_hi

theorem gap_bits : Ideal.ofBits .f32 922746880#32 = (((2 : ℝ) ^ (-17 : ℤ) : ℝ) : EReal) := by
  have h := Words.val_normal 922746880 110 0 (by norm_num) (by norm_num) (by norm_num) (by norm_num)
  have h' : Ideal.ofBits .f32 922746880#32 = Words.val 922746880 := rfl
  rw [h', h]
  congr 1; norm_num [zpow_neg]

variable (a0 : IVec S8x16 32) (a1 : FVec Ideal S8x16x4 .f32) (a2 : FVec Ideal S8x4x17x5456 .f32)

/-- The negated distances of a box from the anchors. -/
def near (b : Fin 8) (g : Fin 16) (x : Fin 5456) : EReal := -Spec.centre (fun k => a1 (ix3 b g k)) (pts x)

theorem read (h : fn (F := Ideal) a0 a1 a2 = fun _ => 1#1) :
    (∀ b k j x, a2 (ix4 b k j x) ≠ (⊤ : EReal)) ∧
    ∀ b g, -near a1 b g (Top.ord (near a1 b g) 44) ≤ ((96 : ℝ) : EReal) ∧
      -near a1 b g (Top.ord (near a1 b g) 44) + (((2 : ℝ) ^ (-17 : ℤ) : ℝ) : EReal) ≤ -near a1 b g (Top.ord (near a1 b g) 45) := by
  have h0 := congrFun h ix0
  unfold fn at h0
  dsimp only at h0
  generalize hv : Host.negf (Host.sqrt (_ : FVec Ideal S8x16x5456 .f32)) = v at h0
  unfold fn_part1 at h0
  dsimp only at h0
  have hv' : ∀ b g x, v (ix3 b g x) = near a1 b g x := by
    intro b g x
    rw [← hv]
    pointwise
    rw [Fin.sum_univ_two]
    rfl
  have hx : IntOp.andi _ _ = 1#1 := h0
  rw [Spec.andi_one] at hx
  obtain ⟨hA, hB⟩ := hx
  have hA' := all_of_reduce _ _ _ _ hA
  have hB' := all_of_reduce _ _ _ _ hB
  constructor
  · intro b k j x
    have := hA' (ix4 b k j x)
    pointwise at this
    rw [top_bits, Spec.bool_one, decide_eq_true_eq] at this
    exact this.ne
  · intro b g
    have := hB' (ix2 b g)
    clear hA hB hA' hB'
    pointwise at this
    have hf : (fun x => v (ix3 b g x)) = near a1 b g := funext fun x => hv' b g x
    have e : ∀ (h : S8x16x5456.Slices (fun _ => 0) S8x16x46) (i : Fin 46) (y : Fin 5456), y.val = i.val →
        (Host.topK S8x16x46 2 (FloatOps.cmpfTotal .gt) v h).1 (ix3 b g i) = near a1 b g (Top.ord (near a1 b g) y) := by
      intro h i y hy
      have h1 := Top.topK_fst 46 (by decide) v h b g i
      rw [hf, hv'] at h1
      have h2 : (⟨i.val, i.isLt.trans_le (by decide)⟩ : Fin 5456) = y := Fin.ext hy.symm
      rw [h2] at h1
      exact h1
    rw [e _ 44 44 rfl, e _ 45 45 rfl, hi_bits, gap_bits] at this
    rw [Spec.andi_one, Spec.bool_one, Spec.bool_one, decide_eq_true_eq, decide_eq_true_eq] at this
    exact this

end Cert.Proof.Pre

end
-- ==== Proof.TabPts.lean ====
/-
  The kernel's table of anchor points is the reference's, transposed.
-/
module

public import proofs.«01_k».proof.KernelIdeal
public import proofs.«01_k».proof.ReferenceIdeal

@[expose] public section

set_option maxRecDepth 16384

namespace Cert.Proof.TabPts

theorem pts0 : ∀ x : Fin 5456, Cert.KernelIdeal.lit0 ⟨0 * 5456 + x.val, by show _ < 10912; omega⟩
    = Cert.ReferenceIdeal.lit0 ⟨x.val * 2 + 0, by show _ < 10912; omega⟩ := by
  decide +kernel

theorem pts1 : ∀ x : Fin 5456, Cert.KernelIdeal.lit0 ⟨1 * 5456 + x.val, by show _ < 10912; omega⟩
    = Cert.ReferenceIdeal.lit0 ⟨x.val * 2 + 1, by show _ < 10912; omega⟩ := by
  decide +kernel

end Cert.Proof.TabPts
-- ==== Proof.TabBoxA.lean ====
/-
  The first two rows of the kernel's table of anchor boxes are the reference's columns.
-/
module

public import proofs.«01_k».proof.KernelIdeal
public import proofs.«01_k».proof.ReferenceIdeal

@[expose] public section

set_option maxRecDepth 16384

namespace Cert.Proof.TabBoxA

theorem box0 : ∀ x : Fin 5456, Cert.KernelIdeal.lit1 ⟨0 * 5456 + x.val, by show _ < 21824; omega⟩
    = Cert.ReferenceIdeal.lit1 ⟨x.val * 4 + 0, by show _ < 21824; omega⟩ := by
  decide +kernel

theorem box1 : ∀ x : Fin 5456, Cert.KernelIdeal.lit1 ⟨1 * 5456 + x.val, by show _ < 21824; omega⟩
    = Cert.ReferenceIdeal.lit1 ⟨x.val * 4 + 1, by show _ < 21824; omega⟩ := by
  decide +kernel

end Cert.Proof.TabBoxA
-- ==== Proof.TabBoxB.lean ====
/-
  The last two rows of the kernel's table of anchor boxes are the reference's columns.
-/
module

public import proofs.«01_k».proof.KernelIdeal
public import proofs.«01_k».proof.ReferenceIdeal

@[expose] public section

set_option maxRecDepth 16384

namespace Cert.Proof.TabBoxB

theorem box2 : ∀ x : Fin 5456, Cert.KernelIdeal.lit1 ⟨2 * 5456 + x.val, by show _ < 21824; omega⟩
    = Cert.ReferenceIdeal.lit1 ⟨x.val * 4 + 2, by show _ < 21824; omega⟩ := by
  decide +kernel

theorem box3 : ∀ x : Fin 5456, Cert.KernelIdeal.lit1 ⟨3 * 5456 + x.val, by show _ < 21824; omega⟩
    = Cert.ReferenceIdeal.lit1 ⟨x.val * 4 + 3, by show _ < 21824; omega⟩ := by
  decide +kernel

end Cert.Proof.TabBoxB
-- ==== Proof.Tables.lean ====
/-
  The literal tables of the kernel, the reference and the precondition hold the same words.
-/
module

public import proofs.«01_k».proof.Proof.KRun
public import proofs.«01_k».proof.Proof.RefRead
public import proofs.«01_k».proof.Proof.Pre
public import proofs.«01_k».proof.Proof.TabPts
public import proofs.«01_k».proof.Proof.TabBoxA
public import proofs.«01_k».proof.Proof.TabBoxB

@[expose] public section

set_option maxRecDepth 16384

noncomputable section

namespace Cert.Proof.Tables

open Idealize.ShloMosaic Idealize.SL.Sem

theorem pre_words : Cert.Pre_separated.lit0t = Cert.ReferenceIdeal.lit0t := rfl
theorem str_words : Cert.KernelIdeal.lit2t = Cert.ReferenceIdeal.lit2t := rfl
theorem out_pts_words : Cert.KernelIdeal.lit3t = Cert.ReferenceIdeal.lit0t := rfl
theorem out_str_words : Cert.KernelIdeal.lit4t = Cert.ReferenceIdeal.lit2t := rfl

variable (V0 : Valuation Cert.ReferenceIdeal.τ Cert.ReferenceIdeal.sig (Elt Ideal))

/-- A place of a matrix, counted row by row. -/
theorem place {a b : ℕ} (i : Fin a) (j : Fin b) (n : ℕ) (h : i.val * b + j.val < n) (hn : (⟨2, ![a, b]⟩ : Shape).numel = n) :
    Fin.cast hn ((⟨2, ![a, b]⟩ : Shape).rowMajor (ix2 i j)) = (⟨i.val * b + j.val, h⟩ : Fin n) := by
  apply Fin.ext
  rw [Fin.val_cast, Shape.rowMajor_val_two]
  rfl

theorem pts_at (x : Fin 5456) (k : Fin 2) (h : x.val * 2 + k.val < 10912) :
    RefRead.pts V0 x k = Ideal.ofBits .f32 (Cert.ReferenceIdeal.lit0 ⟨x.val * 2 + k.val, h⟩) :=
  congrArg (fun i : Fin 10912 => Ideal.ofBits .f32 (Cert.ReferenceIdeal.lit0 i)) (place x k 10912 h rfl)

theorem ab_at (x : Fin 5456) (k : Fin 4) (h : x.val * 4 + k.val < 21824) :
    RefRead.ab V0 x k = Ideal.ofBits .f32 (Cert.ReferenceIdeal.lit1 ⟨x.val * 4 + k.val, h⟩) :=
  congrArg (fun i : Fin 21824 => Ideal.ofBits .f32 (Cert.ReferenceIdeal.lit1 i)) (place x k 21824 h rfl)

theorem ptsT_at (x : Fin 5456) (k : Fin 2) (h : k.val * 5456 + x.val < 10912) :
    KRead.ptsT (ix2 k x) = Ideal.ofBits .f32 (Cert.KernelIdeal.lit0 ⟨k.val * 5456 + x.val, h⟩) :=
  congrArg (fun i : Fin 10912 => Ideal.ofBits .f32 (Cert.KernelIdeal.lit0 i)) (place k x 10912 h rfl)

theorem boxT_at (x : Fin 5456) (k : Fin 4) (h : k.val * 5456 + x.val < 21824) :
    KRead.boxT (ix2 k x) = Ideal.ofBits .f32 (Cert.KernelIdeal.lit1 ⟨k.val * 5456 + x.val, h⟩) :=
  congrArg (fun i : Fin 21824 => Ideal.ofBits .f32 (Cert.KernelIdeal.lit1 i)) (place k x 21824 h rfl)

/-- The points. -/
theorem pts_eq (x : Fin 5456) (k : Fin 2) : KRead.ptsT (ix2 k x) = RefRead.pts V0 x k := by
  rw [ptsT_at x k (by omega), pts_at V0 x k (by omega)]
  congr 1
  match k with
  | 0 => exact TabPts.pts0 x
  | 1 => exact TabPts.pts1 x

/-- The anchors' boxes. -/
theorem ab_eq (x : Fin 5456) (k : Fin 4) : KRead.boxT (ix2 k x) = RefRead.ab V0 x k := by
  rw [boxT_at x k (by omega), ab_at V0 x k (by omega)]
  congr 1
  match k with
  | 0 => exact TabBoxA.box0 x
  | 1 => exact TabBoxA.box1 x
  | 2 => exact TabBoxB.box2 x
  | 3 => exact TabBoxB.box3 x

/-- The strides. -/
theorem st_eq (x : Fin 5456) : KRead.strT (ix2 0 x) = RefRead.st V0 x := by
  have h1 : (Cert.KernelIdeal.S1x5456.rowMajor (ix2 0 x)).val = x.val := by
    rw [Shape.rowMajor_val_two]; show 0 * 5456 + x.val = x.val; omega
  have h2 : (Cert.ReferenceIdeal.S5456.rowMajor (ix1 x)).val = x.val := by
    rw [Shape.rowMajor_val_one]; rfl
  have e1 : KRead.strT (ix2 0 x) = Ideal.ofBits .f32 (Cert.KernelIdeal.lit2t (Cert.KernelIdeal.S1x5456.rowMajor (ix2 0 x)).val) := rfl
  have e2 : RefRead.st V0 x = Ideal.ofBits .f32 (Cert.ReferenceIdeal.lit2t (Cert.ReferenceIdeal.S5456.rowMajor (ix1 x)).val) := rfl
  rw [e1, e2, h1, h2, str_words]

/-- The precondition's points. -/
theorem pre_eq (x : Fin 5456) (k : Fin 2) : Pre.pts x k = RefRead.pts V0 x k := by
  have e1 : Pre.pts x k = Ideal.ofBits .f32 (Cert.Pre_separated.lit0t (Cert.Pre_separated.S5456x2.rowMajor (ix2 x k)).val) := rfl
  rw [e1, pre_words]
  rfl

/-- The third result. -/
theorem out_pts : (fun i => FloatOps.ofBits (F := Ideal) .f32 (Cert.KernelIdeal.lit3 (Cert.KernelIdeal.S5456x2.rowMajor i)) :
      Vec Ideal Cert.KernelIdeal.S5456x2 .f32) = Cert.ReferenceIdeal.Value.res_main_cst V0 := by
  have e : ∀ i, FloatOps.ofBits (F := Ideal) .f32 (Cert.KernelIdeal.lit3 (Cert.KernelIdeal.S5456x2.rowMajor i))
      = FloatOps.ofBits (F := Ideal) .f32 (Cert.KernelIdeal.lit3t (Cert.KernelIdeal.S5456x2.rowMajor i).val) := fun i => rfl
  simp only [e, out_pts_words]
  rfl

/-- The fourth result. -/
theorem out_str : (fun i => FloatOps.ofBits (F := Ideal) .f32 (Cert.KernelIdeal.lit4 (Cert.KernelIdeal.S5456.rowMajor i)) :
      Vec Ideal Cert.KernelIdeal.S5456 .f32) = Cert.ReferenceIdeal.Value.res_main_cst_1 V0 := by
  have e : ∀ i, FloatOps.ofBits (F := Ideal) .f32 (Cert.KernelIdeal.lit4 (Cert.KernelIdeal.S5456.rowMajor i))
      = FloatOps.ofBits (F := Ideal) .f32 (Cert.KernelIdeal.lit4t (Cert.KernelIdeal.S5456.rowMajor i).val) := fun i => rfl
  simp only [e, out_str_words]
  rfl

end Cert.Proof.Tables
-- ==== Proof.Arr.lean ====
/-
  The run of the kernel: what its four results hold at the end, from the blocks the points leave.
-/
module

public import proofs.«01_k».proof.Proof.KRun

@[expose] public section
set_option maxRecDepth 16384
noncomputable section
namespace Cert.Proof.Arr
open Idealize.ShloMosaic Idealize.SL.Sem Cert.KernelIdeal Cert.KernelIdeal.Gen Cert.Proof.KRead Cert.Proof.KRun

variable (m : (ℓ : Loc nD τ sig) → Buf (Elt Ideal) ℓ) (c : Dev nD)

/-- The first result at the end, from the blocks of the later points. -/
theorem arr8 (G : Vec Ideal S8x80x5456 .f32)
    (hG : ∀ (t : Fin cfg0.N) (h1 : 1 ≤ t.val) (k : Fin 80) (x : Fin 5456),
      KPay.qfl (loads m c t h1 (Search.T (flatBox m c) r0 r1) (Search.M (flatBox m c) r0 r1)) (ix3 0 k x) = G (ix3 (bat t) k x)) :
    (dats m 0 c).arrAt 8 cfg0.N = G := by
  refine (dats m 0 c).arrAt_eq_of_covers 8 G (by decide +kernel) fun t hf y => ?_
  have h1 := (flush t).1 hf
  have hb : (bat t).val = t.val - 1 := rfl
  blk_simp
  rw [after0_8, out8 m c t h1]
  obtain ⟨a, k, x, rfl⟩ : ∃ (a : Fin 1) (k : Fin 80) (x : Fin 5456), y = ix3 a k x := ⟨_, _, _, eq_ix3 y⟩
  obtain rfl : a = 0 := Subsingleton.elim _ _
  refine (hG t h1 k x).trans ?_
  blk_ext [idx t]

/-- The second result at the end, from the blocks of the later points. -/
theorem arr9 (G : Vec Ideal S8x4x5456 .f32)
    (hG : ∀ (t : Fin cfg0.N) (h1 : 1 ≤ t.val) (k : Fin 4) (x : Fin 5456),
      KPay.dfl (loads m c t h1 (Search.T (flatBox m c) r0 r1) (Search.M (flatBox m c) r0 r1)) (ix3 0 k x) = G (ix3 (bat t) k x)) :
    (dats m 0 c).arrAt 9 cfg0.N = G := by
  refine (dats m 0 c).arrAt_eq_of_covers 9 G (by decide +kernel) fun t hf y => ?_
  have h1 := (flush t).2 hf
  have hb : (bat t).val = t.val - 1 := rfl
  blk_simp
  rw [after0_9, out9 m c t h1]
  obtain ⟨a, k, x, rfl⟩ : ∃ (a : Fin 1) (k : Fin 4) (x : Fin 5456), y = ix3 a k x := ⟨_, _, _, eq_ix3 y⟩
  obtain rfl : a = 0 := Subsingleton.elim _ _
  refine (hG t h1 k x).trans ?_
  blk_ext [idx t]

/-- The run: the two computed results are the written blocks, the other two the literal tables. -/
theorem out (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0) = (dats m 0 c).arrAt 8 cfg0.N
      ∧ r.2.mem ((c.tc : Thread nD τ).loc main_v3_1) = (dats m 0 c).arrAt 9 cfg0.N
      ∧ r.2.mem ((c.tc : Thread nD τ).loc main_cst_2)
          = (fun i => FloatOps.ofBits (F := Ideal) .f32 (lit3 (S5456x2.rowMajor i)) : Vec Ideal S5456x2 .f32)
      ∧ r.2.mem ((c.tc : Thread nD τ).loc main_cst_3)
          = (fun i => FloatOps.ofBits (F := Ideal) .f32 (lit4 (S5456.rowMajor i)) : Vec Ideal S5456 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main m ρ)
  have e2 : r.2.mem ((c.tc : Thread nD τ).loc main_cst_2) = V m c main_cst_2 :=
    (h c).2 main_cst_2 (Pipeline.mem_restRefs_of main_cst_2 (by decide) (by decide))
  have e3 : r.2.mem ((c.tc : Thread nD τ).loc main_cst_3) = V m c main_cst_3 :=
    (h c).2 main_cst_3 (Pipeline.mem_restRefs_of main_cst_3 (by decide) (by decide))
  refine ⟨Value.post8 m r h c, Value.post9 m r h c, ?_, ?_,
    Value.kept_main_arg0 m r h c, Value.kept_main_arg1 m r h c, Value.kept_main_arg2 m r h c⟩
  · rw [e2]; entry_read; rfl
  · rw [e3]; entry_read; rfl

end Cert.Proof.Arr
-- ==== Proof.TabNear.lean ====
/-
  The anchor points of the reference's table are whole numbers, given by the anchor's place in its grid.
-/
module

public import proofs.«01_k».proof.ReferenceIdeal

@[expose] public section

set_option maxRecDepth 16384

namespace Cert.Proof.TabNear

/-- The first coordinate of an anchor point. -/
def row (x : Nat) : Nat :=
  if x < 4096 then x / 64 * 8 + 4
  else if x < 5120 then (x - 4096) / 32 * 16 + 8
  else if x < 5376 then (x - 5120) / 16 * 32 + 16
  else if x < 5440 then (x - 5376) / 8 * 64 + 32
  else (x - 5440) / 4 * 128 + 64

/-- The second coordinate of an anchor point. -/
def clm (x : Nat) : Nat :=
  if x < 4096 then x % 64 * 8 + 4
  else if x < 5120 then (x - 4096) % 32 * 16 + 8
  else if x < 5376 then (x - 5120) % 16 * 32 + 16
  else if x < 5440 then (x - 5376) % 8 * 64 + 32
  else (x - 5440) % 4 * 128 + 64

/-- The word of a whole number. -/
def word (n : Nat) : Nat := (127 + n.log2) * 8388608 + (n - 2 ^ n.log2) * 2 ^ (23 - n.log2)

theorem rows : ∀ x : Fin 5456, (Cert.ReferenceIdeal.lit0 ⟨x.val * 2 + 0, by show _ < 10912; omega⟩).toNat = word (row x.val) := by
  decide +kernel

theorem clms : ∀ x : Fin 5456, (Cert.ReferenceIdeal.lit0 ⟨x.val * 2 + 1, by show _ < 10912; omega⟩).toNat = word (clm x.val) := by
  decide +kernel

end Cert.Proof.TabNear
-- ==== Proof.Near.lean ====
/-
  Fewer than 45 anchors lie nearer than 16 to any point: of the anchors of one grid those with equal places modulo the
  grid's number of cells in 32 are at least 32 apart. So the 45th nearest anchor is at a distance of at least 16.
-/
module

public import proofs.«01_k».proof.Proof.Tables
public import proofs.«01_k».proof.Proof.TabNear
public import proofs.«01_k».proof.Proof.Words

@[expose] public section

set_option maxRecDepth 16384

noncomputable section

namespace Cert.Proof.Near

open Idealize.ShloMosaic Idealize.SL.Sem TabNear

/-- The word of a whole number denotes it. -/
theorem val_word (n : ℕ) (h0 : n ≠ 0) (h1 : n < 8388608) : Words.val (word n) = ((n : ℝ) : EReal) := by
  obtain ⟨e, he⟩ : ∃ e, n.log2 = e := ⟨_, rfl⟩
  have hlo : 2 ^ e ≤ n := he ▸ Nat.log2_self_le h0
  have hhi : n < 2 ^ (e + 1) := he ▸ Nat.lt_log2_self
  have he23 : e < 23 := by
    have : 2 ^ e < 2 ^ 23 := hlo.trans_lt (h1.trans_eq (by norm_num))
    exact (Nat.pow_lt_pow_iff_right (by norm_num)).mp this
  have hw : word n = (127 + e) * 8388608 + (n - 2 ^ e) * 2 ^ (23 - e) := by rw [word, he]
  have hfr : (n - 2 ^ e) * 2 ^ (23 - e) < 8388608 := by
    have h : n - 2 ^ e < 2 ^ e := by rw [pow_succ] at hhi; omega
    calc (n - 2 ^ e) * 2 ^ (23 - e) < 2 ^ e * 2 ^ (23 - e) := Nat.mul_lt_mul_of_pos_right h (by positivity)
      _ = 8388608 := by rw [← pow_add, Nat.add_sub_cancel' he23.le]; norm_num
  rw [hw, Words.val_normal _ (127 + e) ((n - 2 ^ e) * 2 ^ (23 - e)) (by omega) (by omega) (by omega) (by omega)]
  congr 1
  have h23 : (8388608 : ℝ) = 2 ^ e * 2 ^ (23 - e) := by rw [← pow_add, Nat.add_sub_cancel' he23.le]; norm_num
  have hz : (2 : ℝ) ^ (((127 + e : ℕ) : ℤ) - 150) = (2 ^ (23 - e))⁻¹ := by
    rw [← zpow_natCast, ← zpow_neg]
    congr 1
    omega
  rw [hz, h23]
  push_cast [hlo]
  field_simp
  ring

theorem row_pos (x : ℕ) (hx : x < 5456) : row x ≠ 0 ∧ row x < 8388608 := by
  unfold row; split_ifs <;> omega

theorem clm_pos (x : ℕ) : clm x ≠ 0 ∧ clm x < 8388608 := by
  unfold clm; split_ifs <;> omega

variable (V0 : Valuation Cert.ReferenceIdeal.τ Cert.ReferenceIdeal.sig (Elt Ideal))

theorem of_word (w : BitVec 32) (n : ℕ) (h : w.toNat = word n) : Ideal.ofBits .f32 w = Words.val (word n) := by
  rw [Words.val, ← h, BitVec.ofNat_toNat, BitVec.setWidth_eq]

theorem pts_row (x : Fin 5456) : RefRead.pts V0 x 0 = ((row x.val : ℝ) : EReal) := by
  rw [Tables.pts_at V0 x 0 (by show _ + 0 < _; omega), ← val_word _ (row_pos _ x.isLt).1 (row_pos _ x.isLt).2]
  exact of_word _ _ (rows x)

theorem pts_clm (x : Fin 5456) : RefRead.pts V0 x 1 = ((clm x.val : ℝ) : EReal) := by
  rw [Tables.pts_at V0 x 1 (by show _ + 1 < _; omega), ← val_word _ (clm_pos _).1 (clm_pos _).2]
  exact of_word _ _ (clms x)

theorem mul_self_nonneg (d : EReal) : 0 ≤ d * d := by
  induction d using EReal.rec with
  | bot => rw [EReal.bot_mul_bot]; exact le_top
  | coe r => rw [← EReal.coe_mul]; exact EReal.coe_nonneg.mpr (_root_.mul_self_nonneg r)
  | top => rw [EReal.top_mul_top]; exact le_top

/-- Below 16 a root's argument is below 256. -/
theorem sqrt_lt (s : EReal) (h0 : 0 ≤ s) (h : Ideal.sqrt s < ((16 : ℝ) : EReal)) : s < ((256 : ℝ) : EReal) := by
  induction s using EReal.rec with
  | bot => exact EReal.bot_lt_coe _
  | coe r =>
    have hr : 0 ≤ r := EReal.coe_nonneg.mp h0
    have e : Ideal.sqrt (r : EReal) = if r < 0 then (⊥ : EReal) else ((Real.sqrt r : ℝ) : EReal) := rfl
    rw [e, if_neg hr.not_gt, EReal.coe_lt_coe_iff, Real.sqrt_lt' (by norm_num)] at h
    rw [EReal.coe_lt_coe_iff]
    linarith
  | top => exact absurd h (not_lt.mpr le_top)

/-- Of a difference with a small square the first term is a number near the second. -/
theorem near_of_sq (c : EReal) (p : ℝ) (h : (c - (p : EReal)) * (c - (p : EReal)) < ((256 : ℝ) : EReal)) :
    ∃ r : ℝ, c = (r : EReal) ∧ |r - p| < 16 := by
  induction c using EReal.rec with
  | bot => rw [EReal.bot_sub, EReal.bot_mul_bot] at h; exact absurd h (not_lt.mpr le_top)
  | coe r =>
    rw [← EReal.coe_sub, ← EReal.coe_mul, EReal.coe_lt_coe_iff] at h
    exact ⟨r, rfl, abs_lt_of_sq_lt_sq (by nlinarith) (by norm_num)⟩
  | top => rw [EReal.top_sub_coe, EReal.top_mul_top] at h; exact absurd h (not_lt.mpr le_top)

/-- A centre nearer than 16 to a point is nearer than 16 in both coordinates. -/
theorem both (q : Fin 4 → EReal) (p : Fin 2 → EReal) (p0 p1 : ℝ) (h0 : p 0 = (p0 : EReal)) (h1 : p 1 = (p1 : EReal))
    (h : Spec.centre q p < ((16 : ℝ) : EReal)) :
    (∃ r : ℝ, Ideal.div (q 0 + q 2) (Ideal.ofBits .f32 1073741824#32) = (r : EReal) ∧ |r - p0| < 16) ∧
      ∃ r : ℝ, Ideal.div (q 1 + q 3) (Ideal.ofBits .f32 1073741824#32) = (r : EReal) ∧ |r - p1| < 16 := by
  unfold Spec.centre at h
  rw [h0, h1] at h
  have hs := sqrt_lt _ (add_nonneg (mul_self_nonneg _) (mul_self_nonneg _)) h
  exact ⟨near_of_sq _ _ ((le_add_of_nonneg_right (mul_self_nonneg _)).trans_lt hs),
    near_of_sq _ _ ((le_add_of_nonneg_left (mul_self_nonneg _)).trans_lt hs)⟩

/-- An anchor's grid and its place there modulo the number of cells in 32. -/
def cell (x : ℕ) : ℕ :=
  if x < 4096 then x / 64 % 4 * 4 + x % 4
  else if x < 5120 then 16 + (x - 4096) / 32 % 2 * 2 + (x - 4096) % 2
  else if x < 5376 then 20
  else if x < 5440 then 21
  else 22

theorem cell_lt (x : ℕ) : cell x < 23 := by
  unfold cell; split_ifs <;> omega

/-- Two anchors of a cell nearer than 32 to one another in both coordinates are one. -/
theorem cell_inj (x y : ℕ) (hx : x < 5456) (hy : y < 5456) (hc : cell x = cell y) (h1 : row x < row y + 32)
    (h2 : row y < row x + 32) (h3 : clm x < clm y + 32) (h4 : clm y < clm x + 32) : x = y := by
  unfold cell at hc
  unfold row at h1 h2
  unfold clm at h3 h4
  split_ifs at hc h1 h2 h3 h4 <;> omega

theorem close {r : ℝ} {a b : ℕ} (h1 : |r - a| < 16) (h2 : |r - b| < 16) : a < b + 32 := by
  rw [abs_lt] at h1 h2
  have : (a : ℝ) < b + 32 := by linarith
  exact_mod_cast this

/-- The 45th nearest anchor is at a distance of at least 16. -/
theorem far (q : Fin 4 → EReal) (σ : Fin 5456 → Fin 5456) (hσ : Function.Bijective σ)
    (hm : ∀ i j : Fin 5456, i < j → Spec.centre q (RefRead.pts V0 (σ i)) ≤ Spec.centre q (RefRead.pts V0 (σ j))) :
    ((16 : ℝ) : EReal) ≤ Spec.centre q (RefRead.pts V0 (σ 44)) := by
  by_contra hn
  rw [not_le] at hn
  have h44 : ((44 : Fin 5456)).val = 44 := rfl
  have hall : ∀ i : Fin 24, Spec.centre q (RefRead.pts V0 (σ ⟨i.val, by omega⟩)) < ((16 : ℝ) : EReal) := fun i =>
    (hm ⟨i.val, by omega⟩ 44 (by rw [Fin.lt_def, h44]; show i.val < 44; omega)).trans_lt hn
  obtain ⟨i, j, hij, he⟩ := Fintype.exists_ne_map_eq_of_card_lt
    (fun i : Fin 24 => (⟨cell (σ ⟨i.val, by omega⟩).val, cell_lt _⟩ : Fin 23)) (by simp)
  have hb := fun i : Fin 24 => both q _ _ _ (pts_row V0 _) (pts_clm V0 _) (hall i)
  obtain ⟨⟨r, hr, h1⟩, s, hs, h2⟩ := hb i
  obtain ⟨⟨r', hr', h1'⟩, s', hs', h2'⟩ := hb j
  obtain rfl : r = r' := EReal.coe_injective (hr.symm.trans hr')
  obtain rfl : s = s' := EReal.coe_injective (hs.symm.trans hs')
  have hx := cell_inj _ _ (σ ⟨i.val, by omega⟩).isLt (σ ⟨j.val, by omega⟩).isLt (congrArg Fin.val he) (close h1 h1')
    (close h1' h1) (close h2 h2') (close h2' h2)
  have := hσ.1 (Fin.ext hx)
  exact hij (Fin.ext (Fin.mk.inj this))

end Cert.Proof.Near

end
-- ==== Proof.Glue.lean ====
/-
  Kernel and reference compute the same values, from the same arguments, under the precondition.
-/
module

public import proofs.«01_k».proof.Proof.Sel
public import proofs.«01_k».proof.Proof.RefSel
public import proofs.«01_k».proof.Proof.Tables
public import proofs.«01_k».proof.Proof.Arr
public import proofs.«01_k».proof.Proof.Near

@[expose] public section

set_option maxRecDepth 16384

noncomputable section

namespace Cert.Proof.Glue

open Idealize.ShloMosaic Idealize.SL.Sem

variable (m : (ℓ : Loc Cert.KernelIdeal.nD Cert.KernelIdeal.τ Cert.KernelIdeal.sig) → Buf (Elt Ideal) ℓ)
  (c : Dev Cert.KernelIdeal.nD) (V0 : Valuation Cert.ReferenceIdeal.τ Cert.ReferenceIdeal.sig (Elt Ideal))

/-- The kernel's first argument. -/
abbrev a0 : Vec Ideal Cert.KernelIdeal.S8x16 .i32 :=
  m ((c.tc : Thread Cert.KernelIdeal.nD Cert.KernelIdeal.τ).loc Cert.KernelIdeal.main_arg0)
/-- The kernel's second argument. -/
abbrev a1 : Vec Ideal Cert.KernelIdeal.S8x16x4 .f32 :=
  m ((c.tc : Thread Cert.KernelIdeal.nD Cert.KernelIdeal.τ).loc Cert.KernelIdeal.main_arg1)
/-- The kernel's third argument. -/
abbrev a2 : Vec Ideal Cert.KernelIdeal.S8x4x17x5456 .f32 :=
  m ((c.tc : Thread Cert.KernelIdeal.nD Cert.KernelIdeal.τ).loc Cert.KernelIdeal.main_arg2)

/-- The two programs hold the same arguments. -/
structure Same : Prop where
  h0 : (V0 (Proc.devRef .tc Cert.ReferenceIdeal.main_arg0) : Vec Ideal Cert.KernelIdeal.S8x16 .i32) = a0 m c
  h1 : (V0 (Proc.devRef .tc Cert.ReferenceIdeal.main_arg1) : Vec Ideal Cert.KernelIdeal.S8x16x4 .f32) = a1 m c
  h2 : (V0 (Proc.devRef .tc Cert.ReferenceIdeal.main_arg2) : Vec Ideal Cert.KernelIdeal.S8x4x17x5456 .f32) = a2 m c

variable {m c V0} (S : Same m c V0)
include S

theorem cls_eq (b : Fin 8) : KRead.cls m c b = RefRead.cls V0 b := funext fun g => (congrFun S.h0 (ix2 b g)).symm
theorem box_eq (b : Fin 8) (g : Fin 16) : KRead.box m c b g = RefRead.box V0 b g :=
  funext fun k => (congrFun S.h1 (ix3 b g k)).symm
theorem pred_eq (b : Fin 8) (k : Fin 4) (j : Fin 17) (x : Fin 5456) : KRead.pred m c b k j x = RefRead.pred V0 b k j x :=
  (congrFun S.h2 (ix4 b k j x)).symm

/-- The precondition's distances are the reference's. -/
theorem near_eq (b : Fin 8) (g : Fin 16) : Pre.near (a1 m c) b g = RefSel.near V0 b g := by
  funext x
  have e1 : (fun k => a1 m c (ix3 b g k)) = RefRead.box V0 b g := box_eq S b g
  have e2 : Pre.pts x = RefRead.pts V0 x := funext fun k => Tables.pre_eq V0 x k
  unfold Pre.near RefSel.near
  rw [e1, e2]

variable (hp : Cert.Pre_separated.fn (F := Ideal) (a0 m c) (a1 m c) (a2 m c) = fun _ => 1#1)
include hp

open Cert.KernelIdeal Cert.KernelIdeal.Gen in
/-- Both mark the same anchors. -/
theorem sel_eq (t : Fin cfg0.N) (h1 : 1 ≤ t.val) (g : Fin 16) (x : Fin 5456) :
    KPay.sel (KRun.loads m c t h1 (Search.T (KRead.flatBox m c) KRun.r0 KRun.r1) (Search.M (KRead.flatBox m c) KRun.r0 KRun.r1))
      (ix2 g x) = RefRead.sel V0 (KRead.bat t) g x := by
  obtain ⟨-, hr⟩ := Pre.read _ _ _ hp
  obtain ⟨hhi, hsep⟩ := hr (KRead.bat t) g
  rw [near_eq S] at hhi hsep
  have hmono := fun (i j : Fin 5456) (hij : i < j) =>
    EReal.neg_le_neg_iff.mpr (Top.ord_mono (RefSel.near V0 (KRead.bat t) g) i j hij)
  have hlo : ((16 : ℝ) : EReal) ≤ -RefSel.near V0 (KRead.bat t) g (Top.ord (RefSel.near V0 (KRead.bat t) g) 44) := by
    have h := Near.far V0 (RefRead.box V0 (KRead.bat t) g) _ (Top.ord_bijective (RefSel.near V0 (KRead.bat t) g)) fun i j hij => by
      have := hmono i j hij
      simp only [RefSel.near, neg_neg] at this ⊢
      exact this
    exact h.trans_eq (neg_neg _).symm
  refine Spec.bit_ext _ _ ((Sel.chosen m c t h1 g x (Top.ord (RefSel.near V0 (KRead.bat t) g)) (Top.ord_bijective _)
    (fun x => -RefSel.near V0 (KRead.bat t) g x) (fun x => ?_) (fun i j hij => ?_) hlo hhi hsep).trans
    (RefSel.sel_iff V0 (KRead.bat t) g x).symm)
  · have e2 : (fun k => KRead.ptsT (ix2 k x)) = RefRead.pts V0 x := funext fun k => Tables.pts_eq V0 x k
    rw [box_eq S, e2]
    exact neg_neg _
  · exact hmono i j hij

open Cert.KernelIdeal Cert.KernelIdeal.Gen in
/-- Both expect the same predicted distances. -/
theorem pd_eq (t : Fin cfg0.N) (h1 : 1 ≤ t.val) (tw mw : IVec S128x1 32) (x : Fin 5456) (k : Fin 4) :
    KPay.pd (KRun.loads m c t h1 tw mw) (ix2 k x) = RefRead.pd V0 (KRead.bat t) x k := by
  obtain ⟨hf, -⟩ := Pre.read _ _ _ hp
  rw [KPay.pd_eq (KRun.reads m c t h1 tw mw), RefSel.pd_eq V0 (KRead.bat t) x k fun j => by
    rw [← pred_eq S]; exact hf _ _ _ _]
  congr 1
  funext j
  rw [← pred_eq S]
  exact KRead.b4 m c t 0 k j x

open Cert.KernelIdeal Cert.KernelIdeal.Gen in
/-- The first result. -/
theorem first : (dats m 0 c).arrAt 8 cfg0.N = RefRead.G0 V0 := by
  refine Arr.arr8 m c (RefRead.G0 V0) fun t h1 k x => ?_
  rw [KPay.qfl_eq (KRun.reads m c t h1 _ _)]
  have e1 := funext fun g => funext fun x => sel_eq S hp t h1 g x
  have e2 := funext fun x => funext fun k => pd_eq S hp t h1 (Search.T (KRead.flatBox m c) KRun.r0 KRun.r1)
    (Search.M (KRead.flatBox m c) KRun.r0 KRun.r1) x k
  have e3 : KRead.box m c (KRead.bat t) = RefRead.box V0 (KRead.bat t) := funext fun g => box_eq S _ g
  have e4 : (fun (x : Fin 5456) (k : Fin 2) => KRead.ptsT (ix2 k x)) = RefRead.pts V0 :=
    funext fun x => funext fun k => Tables.pts_eq V0 x k
  have e5 : (fun (x : Fin 5456) (k : Fin 4) => KRead.boxT (ix2 k x)) = RefRead.ab V0 :=
    funext fun x => funext fun k => Tables.ab_eq V0 x k
  have e6 : (fun (x : Fin 5456) => KRead.strT (ix2 0 x)) = RefRead.st V0 := funext fun x => Tables.st_eq V0 x
  rw [e1, e2, e3, e4, e5, e6, cls_eq S]
  rfl

open Cert.KernelIdeal Cert.KernelIdeal.Gen in
/-- The second result. -/
theorem second : (dats m 0 c).arrAt 9 cfg0.N = RefRead.G1 V0 := by
  refine Arr.arr9 m c (RefRead.G1 V0) fun t h1 k x => ?_
  rw [KPay.dfl_eq (KRun.reads m c t h1 _ _)]
  have e1 := funext fun g => funext fun x => sel_eq S hp t h1 g x
  have e3 : KRead.box m c (KRead.bat t) = RefRead.box V0 (KRead.bat t) := funext fun g => box_eq S _ g
  have e4 : (fun (x : Fin 5456) (k : Fin 2) => KRead.ptsT (ix2 k x)) = RefRead.pts V0 :=
    funext fun x => funext fun k => Tables.pts_eq V0 x k
  have e5 : (fun (x : Fin 5456) (k : Fin 4) => KRead.boxT (ix2 k x)) = RefRead.ab V0 :=
    funext fun x => funext fun k => Tables.ab_eq V0 x k
  have e6 : (fun (x : Fin 5456) => KRead.strT (ix2 0 x)) = RefRead.st V0 := funext fun x => Tables.st_eq V0 x
  rw [e1, e3, e4, e5, e6]
  rfl

end Cert.Proof.Glue
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_separated
public import Idealize.ShloMosaic.Adequacy
public import Idealize.ShloMosaic.Init
public import proofs.«01_k».proof.Proof.RefFrame
public import proofs.«01_k».proof.Proof.Glue

@[expose] public section

noncomputable section

namespace Cert.Proof

open Idealize.ShloMosaic Idealize.SL.Sem Cert.Kernel

/-- Under the precondition the kernel and the reference leave the same four results. -/
theorem value : algebraic_KernelIdeal_ReferenceIdeal_pre_separated (hKernelIdeal := Cert.KernelIdeal.Gen.facts)
    (hReferenceIdeal := Cert.ReferenceIdeal.Gen.facts) (hPre_separated := Cert.Pre_separated.Gen.facts) := by
  intro m g m' g' hpre hsame
  refine ⟨fun c => RefRead.G0 (StableHlo.launchContents m' c), fun c => RefRead.G1 (StableHlo.launchContents m' c),
    fun c => Cert.ReferenceIdeal.Value.res_main_cst (StableHlo.launchContents m' c),
    fun c => Cert.ReferenceIdeal.Value.res_main_cst_1 (StableHlo.launchContents m' c), ?_, RefRead.run m' g'⟩
  refine (θ_run Cert.KernelIdeal.defs _ _).mono (fun r h c => ?_) (Arr.out m g)
  obtain ⟨s0, s1, s2⟩ := hsame c
  have S : Glue.Same m c (StableHlo.launchContents m' c) := ⟨s0, s1, s2⟩
  obtain ⟨h0, h1, h2, h3, hk⟩ := h c
  exact ⟨h0.trans (Glue.first S (hpre c)), h1.trans (Glue.second S (hpre c)), h2.trans (Tables.out_pts _),
    h3.trans (Tables.out_str _), hk⟩

theorem claim : Cert.Claim :=
  ⟨Cert.Kernel.Gen.facts, Cert.KernelIdeal.Gen.facts, Cert.ReferenceIdeal.Gen.facts, Cert.Pre_separated.Gen.facts,
    fun m ρ _ => Cert.Kernel.Gen.frame m ρ, fun m ρ _ => Cert.KernelIdeal.Gen.frame m ρ,
    fun m ρ _ => Cert.KernelIdeal.Gen.frame m ρ, fun m ρ _ => RefFrame.frame m ρ, fun m ρ _ => RefFrame.frame m ρ,
    trivial, value⟩

end Cert.Proof

end
